-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S4096x8192 : Shape := ⟨2, ![4096, 8192]⟩
abbrev S4x64x8192 : Shape := ⟨3, ![4, 64, 8192]⟩
abbrev S4x2 : Shape := ⟨2, ![4, 2]⟩
abbrev S_ : Shape := ⟨0, ![]⟩
abbrev S4 : Shape := ⟨1, ![4]⟩
abbrev S2x2x64x8192 : Shape := ⟨4, ![2, 2, 64, 8192]⟩
abbrev S1 : Shape := ⟨1, ![1]⟩
abbrev S128x128 : Shape := ⟨2, ![128, 128]⟩
abbrev S64x8192 : Shape := ⟨2, ![64, 8192]⟩
abbrev S1x64x8192 : Shape := ⟨3, ![1, 64, 8192]⟩
abbrev S64x128 : Shape := ⟨2, ![64, 128]⟩
abbrev S1x1x64x8192 : Shape := ⟨4, ![1, 1, 64, 8192]⟩
abbrev S1x1 : Shape := ⟨2, ![1, 1]⟩
abbrev S1x32x8192 : Shape := ⟨3, ![1, 32, 8192]⟩
abbrev S32x8192 : Shape := ⟨2, ![32, 8192]⟩
abbrev S1x1x32x8192 : Shape := ⟨4, ![1, 1, 32, 8192]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S4096x8192, .f32⟩
  | .local _ .vmem, ⟨0, _⟩ => ⟨S4096x128, .bf16⟩
  | .local _ .vmem, ⟨1, _⟩ => ⟨S128x8192, .bf16⟩
  | .local _ .vmem, ⟨2, _⟩ => ⟨S4x64x8192, .bf16⟩
  | .local _ .vmem, ⟨3, _⟩ => ⟨S4x64x8192, .bf16⟩
  | .local _ .vmem, ⟨4, _⟩ => ⟨S2x2x64x8192, .f32⟩
  | .local _ .vmem, ⟨5, _⟩ => ⟨S4x64x8192, .f32⟩
  | .local _ .smem, ⟨0, _⟩ => ⟨S32, .i32⟩
  | .local _ .smem, ⟨1, _⟩ => ⟨S32, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 3 40 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch9 : Ref sig .tc := ⟨.vmem, 4, rfl⟩
abbrev cc0_scratch10 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c32_i32_2 : BitVec 32 := 32#32
  let v9 : BitVec 32 := Scalar.addi v4 c32_i32_2
  let c1_i32_3 : BitVec 32 := 1#32
  let v10 : BitVec 32 := Scalar.subi v9 c1_i32_3
  let c32_i32_4 : BitVec 32 := 32#32
  let v11 : BitVec 32 := Scalar.remsi v10 c32_i32_4
  let v12 : Index := Scalar.indexCast v11
  ![v12.toNat]
def k0_dev1 (v13 : BitVec 32) : Nat :=
  let c0_i32 : BitVec 32 := 0#32
  let c1_i32_6 : BitVec 32 := 1#32
  let v15 : BitVec 32 := Scalar.muli v13 c1_i32_6
  let v16 : BitVec 32 := Scalar.addi c0_i32 v15
  v16.toNat

def k0_dev2 (v8 : BitVec 32) : Nat :=
  let c0_i32_9 : BitVec 32 := 0#32
  let c1_i32_8 : BitVec 32 := 1#32
  let v17 : BitVec 32 := Scalar.muli v8 c1_i32_8
  let v18 : BitVec 32 := Scalar.addi c0_i32_9 v17
  v18.toNat

def k0_off4 (v4 : BitVec 32) : Fin 2 → Nat :=
  let c128_i32 : BitVec 32 := 128#32
  let v19 : BitVec 32 := Scalar.muli v4 c128_i32
  let v20 : Index := Scalar.indexCast v19
  let c0 : Index := 0#32
  ![v20.toNat, 0]
def k0_off5 (v4 : BitVec 32) (c1_i32_18 : BitVec 32) : Fin 2 → Nat :=
  let v36 : BitVec 32 := Scalar.subi v4 c1_i32_18
  let c64_i32 : BitVec 32 := 64#32
  let v37 : BitVec 32 := Scalar.addi v36 c64_i32
  let c32_i32_19 : BitVec 32 := 32#32
  let v38 : BitVec 32 := Scalar.remsi v37 c32_i32_19
  let c128_i32_20 : BitVec 32 := 128#32
  let v39 : BitVec 32 := Scalar.muli v38 c128_i32_20
  let c0_i32_21 : BitVec 32 := 0#32
  let v40 : BitVec 32 := Scalar.addi v39 c0_i32_21
  let v41 : Index := Scalar.indexCast v40
  let c0_22 : Index := 0#32
  ![v41.toNat, 0]
def k0_off6 (v4 : BitVec 32) (c1_i32_30 : BitVec 32) : Fin 2 → Nat :=
  let v50 : BitVec 32 := Scalar.addi v4 c1_i32_30
  let c32_i32_31 : BitVec 32 := 32#32
  let v51 : BitVec 32 := Scalar.remsi v50 c32_i32_31
  let c128_i32_32 : BitVec 32 := 128#32
  let v52 : BitVec 32 := Scalar.muli v51 c128_i32_32
  let c64_i32_33 : BitVec 32 := 64#32
  let v53 : BitVec 32 := Scalar.addi v52 c64_i32_33
  let v54 : Index := Scalar.indexCast v53
  let c0_34 : Index := 0#32
  ![v54.toNat, 0]
def k0_dev3 (v8 : BitVec 32) : Nat :=
  let c0_i32_48 : BitVec 32 := 0#32
  let c1_i32_47 : BitVec 32 := 1#32
  let v63 : BitVec 32 := Scalar.muli v8 c1_i32_47
  let v64 : BitVec 32 := Scalar.addi c0_i32_48 v63
  v64.toNat
def k0_dev4 (v13 : BitVec 32) : Nat :=
  let c0_i32_60 : BitVec 32 := 0#32
  let c1_i32_59 : BitVec 32 := 1#32
  let v73 : BitVec 32 := Scalar.muli v13 c1_i32_59
  let v74 : BitVec 32 := Scalar.addi c0_i32_60 v73
  v74.toNat
def k0_dev5 (v8 : BitVec 32) : Nat :=
  let c0_i32_72 : BitVec 32 := 0#32
  let c1_i32_71 : BitVec 32 := 1#32
  let v83 : BitVec 32 := Scalar.muli v8 c1_i32_71
  let v84 : BitVec 32 := Scalar.addi c0_i32_72 v83
  v84.toNat
def k0_dev6 (v13 : BitVec 32) : Nat :=
  let c0_i32_84 : BitVec 32 := 0#32
  let c1_i32_83 : BitVec 32 := 1#32
  let v93 : BitVec 32 := Scalar.muli v13 c1_i32_83
  let v94 : BitVec 32 := Scalar.addi c0_i32_84 v93
  v94.toNat
def k0_dev7 (v8 : BitVec 32) : Nat :=
  let c0_i32_187 : BitVec 32 := 0#32
  let c1_i32_186 : BitVec 32 := 1#32
  let v178 : BitVec 32 := Scalar.muli v8 c1_i32_186
  let v179 : BitVec 32 := Scalar.addi c0_i32_187 v178
  v179.toNat
def k0_dev8 (v13 : BitVec 32) : Nat :=
  let c0_i32_199 : BitVec 32 := 0#32
  let c1_i32_198 : BitVec 32 := 1#32
  let v188 : BitVec 32 := Scalar.muli v13 c1_i32_198
  let v189 : BitVec 32 := Scalar.addi c0_i32_199 v188
  v189.toNat
def k0_dev9 (v8 : BitVec 32) : Nat :=
  let c0_i32_276 : BitVec 32 := 0#32
  let c1_i32_275 : BitVec 32 := 1#32
  let v246 : BitVec 32 := Scalar.muli v8 c1_i32_275
  let v247 : BitVec 32 := Scalar.addi c0_i32_276 v246
  v247.toNat
def k0_dev10 (v13 : BitVec 32) : Nat :=
  let c0_i32_288 : BitVec 32 := 0#32
  let c1_i32_287 : BitVec 32 := 1#32
  let v256 : BitVec 32 := Scalar.muli v13 c1_i32_287
  let v257 : BitVec 32 := Scalar.addi c0_i32_288 v256
  v257.toNat
def k0_dev11 (v13 : BitVec 32) : Nat :=
  let c0_i32_295 : BitVec 32 := 0#32
  let c1_i32_294 : BitVec 32 := 1#32
  let v266 : BitVec 32 := Scalar.muli v13 c1_i32_294
  let v267 : BitVec 32 := Scalar.addi c0_i32_295 v266
  v267.toNat
def k0_dev12 (v8 : BitVec 32) : Nat :=
  let c0_i32_298 : BitVec 32 := 0#32
  let c1_i32_297 : BitVec 32 := 1#32
  let v268 : BitVec 32 := Scalar.muli v8 c1_i32_297
  let v269 : BitVec 32 := Scalar.addi c0_i32_298 v268
  v269.toNat
def k0_dev13 (v8 : BitVec 32) : Nat :=
  let c0_i32_395 : BitVec 32 := 0#32
  let c1_i32_394 : BitVec 32 := 1#32
  let v345 : BitVec 32 := Scalar.muli v8 c1_i32_394
  let v346 : BitVec 32 := Scalar.addi c0_i32_395 v345
  v346.toNat
def k0_dev14 (v13 : BitVec 32) : Nat :=
  let c0_i32_407 : BitVec 32 := 0#32
  let c1_i32_406 : BitVec 32 := 1#32
  let v355 : BitVec 32 := Scalar.muli v13 c1_i32_406
  let v356 : BitVec 32 := Scalar.addi c0_i32_407 v355
  v356.toNat
def k0_dev15 (v8 : BitVec 32) : Nat :=
  let c0_i32_485 : BitVec 32 := 0#32
  let c1_i32_484 : BitVec 32 := 1#32
  let v413 : BitVec 32 := Scalar.muli v8 c1_i32_484
  let v414 : BitVec 32 := Scalar.addi c0_i32_485 v413
  v414.toNat
def k0_dev16 (v13 : BitVec 32) : Nat :=
  let c0_i32_497 : BitVec 32 := 0#32
  let c1_i32_496 : BitVec 32 := 1#32
  let v423 : BitVec 32 := Scalar.muli v13 c1_i32_496
  let v424 : BitVec 32 := Scalar.addi c0_i32_497 v423
  v424.toNat
def k0_dev17 (v13 : BitVec 32) : Nat :=
  let c0_i32_504 : BitVec 32 := 0#32
  let c1_i32_503 : BitVec 32 := 1#32
  let v433 : BitVec 32 := Scalar.muli v13 c1_i32_503
  let v434 : BitVec 32 := Scalar.addi c0_i32_504 v433
  v434.toNat
def k0_dev18 (v8 : BitVec 32) : Nat :=
  let c0_i32_507 : BitVec 32 := 0#32
  let c1_i32_506 : BitVec 32 := 1#32
  let v435 : BitVec 32 := Scalar.muli v8 c1_i32_506
  let v436 : BitVec 32 := Scalar.addi c0_i32_507 v435
  v436.toNat
def k0_dev19 (v8 : BitVec 32) : Nat :=
  let c0_i32_608 : BitVec 32 := 0#32
  let c1_i32_607 : BitVec 32 := 1#32
  let v512 : BitVec 32 := Scalar.muli v8 c1_i32_607
  let v513 : BitVec 32 := Scalar.addi c0_i32_608 v512
  v513.toNat
def k0_dev20 (v13 : BitVec 32) : Nat :=
  let c0_i32_620 : BitVec 32 := 0#32
  let c1_i32_619 : BitVec 32 := 1#32
  let v522 : BitVec 32 := Scalar.muli v13 c1_i32_619
  let v523 : BitVec 32 := Scalar.addi c0_i32_620 v522
  v523.toNat
def k0_dev21 (v8 : BitVec 32) : Nat :=
  let c0_i32_698 : BitVec 32 := 0#32
  let c1_i32_697 : BitVec 32 := 1#32
  let v580 : BitVec 32 := Scalar.muli v8 c1_i32_697
  let v581 : BitVec 32 := Scalar.addi c0_i32_698 v580
  v581.toNat
def k0_dev22 (v13 : BitVec 32) : Nat :=
  let c0_i32_710 : BitVec 32 := 0#32
  let c1_i32_709 : BitVec 32 := 1#32
  let v590 : BitVec 32 := Scalar.muli v13 c1_i32_709
  let v591 : BitVec 32 := Scalar.addi c0_i32_710 v590
  v591.toNat
def k0_dev23 (v13 : BitVec 32) : Nat :=
  let c0_i32_717 : BitVec 32 := 0#32
  let c1_i32_716 : BitVec 32 := 1#32
  let v600 : BitVec 32 := Scalar.muli v13 c1_i32_716
  let v601 : BitVec 32 := Scalar.addi c0_i32_717 v600
  v601.toNat
def k0_dev24 (v8 : BitVec 32) : Nat :=
  let c0_i32_720 : BitVec 32 := 0#32
  let c1_i32_719 : BitVec 32 := 1#32
  let v602 : BitVec 32 := Scalar.muli v8 c1_i32_719
  let v603 : BitVec 32 := Scalar.addi c0_i32_720 v602
  v603.toNat
def k0_dev25 (v8 : BitVec 32) : Nat :=
  let c0_i32_822 : BitVec 32 := 0#32
  let c1_i32_821 : BitVec 32 := 1#32
  let v679 : BitVec 32 := Scalar.muli v8 c1_i32_821
  let v680 : BitVec 32 := Scalar.addi c0_i32_822 v679
  v680.toNat
def k0_dev26 (v13 : BitVec 32) : Nat :=
  let c0_i32_834 : BitVec 32 := 0#32
  let c1_i32_833 : BitVec 32 := 1#32
  let v689 : BitVec 32 := Scalar.muli v13 c1_i32_833
  let v690 : BitVec 32 := Scalar.addi c0_i32_834 v689
  v690.toNat
def k0_dev27 (v8 : BitVec 32) : Nat :=
  let c0_i32_912 : BitVec 32 := 0#32
  let c1_i32_911 : BitVec 32 := 1#32
  let v747 : BitVec 32 := Scalar.muli v8 c1_i32_911
  let v748 : BitVec 32 := Scalar.addi c0_i32_912 v747
  v748.toNat
def k0_dev28 (v13 : BitVec 32) : Nat :=
  let c0_i32_924 : BitVec 32 := 0#32
  let c1_i32_923 : BitVec 32 := 1#32
  let v757 : BitVec 32 := Scalar.muli v13 c1_i32_923
  let v758 : BitVec 32 := Scalar.addi c0_i32_924 v757
  v758.toNat
def k0_dev29 (v13 : BitVec 32) : Nat :=
  let c0_i32_931 : BitVec 32 := 0#32
  let c1_i32_930 : BitVec 32 := 1#32
  let v767 : BitVec 32 := Scalar.muli v13 c1_i32_930
  let v768 : BitVec 32 := Scalar.addi c0_i32_931 v767
  v768.toNat
def k0_dev30 (v8 : BitVec 32) : Nat :=
  let c0_i32_934 : BitVec 32 := 0#32
  let c1_i32_933 : BitVec 32 := 1#32
  let v769 : BitVec 32 := Scalar.muli v8 c1_i32_933
  let v770 : BitVec 32 := Scalar.addi c0_i32_934 v769
  v770.toNat
def k0_dev31 (v8 : BitVec 32) : Nat :=
  let c0_i32_1036 : BitVec 32 := 0#32
  let c1_i32_1035 : BitVec 32 := 1#32
  let v846 : BitVec 32 := Scalar.muli v8 c1_i32_1035
  let v847 : BitVec 32 := Scalar.addi c0_i32_1036 v846
  v847.toNat
def k0_dev32 (v13 : BitVec 32) : Nat :=
  let c0_i32_1048 : BitVec 32 := 0#32
  let c1_i32_1047 : BitVec 32 := 1#32
  let v856 : BitVec 32 := Scalar.muli v13 c1_i32_1047
  let v857 : BitVec 32 := Scalar.addi c0_i32_1048 v856
  v857.toNat
def k0_dev33 (v8 : BitVec 32) : Nat :=
  let c0_i32_1126 : BitVec 32 := 0#32
  let c1_i32_1125 : BitVec 32 := 1#32
  let v914 : BitVec 32 := Scalar.muli v8 c1_i32_1125
  let v915 : BitVec 32 := Scalar.addi c0_i32_1126 v914
  v915.toNat
def k0_dev34 (v13 : BitVec 32) : Nat :=
  let c0_i32_1138 : BitVec 32 := 0#32
  let c1_i32_1137 : BitVec 32 := 1#32
  let v924 : BitVec 32 := Scalar.muli v13 c1_i32_1137
  let v925 : BitVec 32 := Scalar.addi c0_i32_1138 v924
  v925.toNat
def k0_dev35 (v13 : BitVec 32) : Nat :=
  let c0_i32_1145 : BitVec 32 := 0#32
  let c1_i32_1144 : BitVec 32 := 1#32
  let v934 : BitVec 32 := Scalar.muli v13 c1_i32_1144
  let v935 : BitVec 32 := Scalar.addi c0_i32_1145 v934
  v935.toNat
def k0_dev36 (v8 : BitVec 32) : Nat :=
  let c0_i32_1148 : BitVec 32 := 0#32
  let c1_i32_1147 : BitVec 32 := 1#32
  let v936 : BitVec 32 := Scalar.muli v8 c1_i32_1147
  let v937 : BitVec 32 := Scalar.addi c0_i32_1148 v936
  v937.toNat
def k0_dev37 (v8 : BitVec 32) : Nat :=
  let c0_i32_1250 : BitVec 32 := 0#32
  let c1_i32_1249 : BitVec 32 := 1#32
  let v1013 : BitVec 32 := Scalar.muli v8 c1_i32_1249
  let v1014 : BitVec 32 := Scalar.addi c0_i32_1250 v1013
  v1014.toNat
def k0_dev38 (v13 : BitVec 32) : Nat :=
  let c0_i32_1262 : BitVec 32 := 0#32
  let c1_i32_1261 : BitVec 32 := 1#32
  let v1023 : BitVec 32 := Scalar.muli v13 c1_i32_1261
  let v1024 : BitVec 32 := Scalar.addi c0_i32_1262 v1023
  v1024.toNat
def k0_dev39 (v8 : BitVec 32) : Nat :=
  let c0_i32_1340 : BitVec 32 := 0#32
  let c1_i32_1339 : BitVec 32 := 1#32
  let v1081 : BitVec 32 := Scalar.muli v8 c1_i32_1339
  let v1082 : BitVec 32 := Scalar.addi c0_i32_1340 v1081
  v1082.toNat
def k0_dev40 (v13 : BitVec 32) : Nat :=
  let c0_i32_1352 : BitVec 32 := 0#32
  let c1_i32_1351 : BitVec 32 := 1#32
  let v1091 : BitVec 32 := Scalar.muli v13 c1_i32_1351
  let v1092 : BitVec 32 := Scalar.addi c0_i32_1352 v1091
  v1092.toNat
def k0_dev41 (v13 : BitVec 32) : Nat :=
  let c0_i32_1359 : BitVec 32 := 0#32
  let c1_i32_1358 : BitVec 32 := 1#32
  let v1101 : BitVec 32 := Scalar.muli v13 c1_i32_1358
  let v1102 : BitVec 32 := Scalar.addi c0_i32_1359 v1101
  v1102.toNat
def k0_dev42 (v8 : BitVec 32) : Nat :=
  let c0_i32_1362 : BitVec 32 := 0#32
  let c1_i32_1361 : BitVec 32 := 1#32
  let v1103 : BitVec 32 := Scalar.muli v8 c1_i32_1361
  let v1104 : BitVec 32 := Scalar.addi c0_i32_1362 v1103
  v1104.toNat
def k0_dev43 (v8 : BitVec 32) : Nat :=
  let c0_i32_1464 : BitVec 32 := 0#32
  let c1_i32_1463 : BitVec 32 := 1#32
  let v1180 : BitVec 32 := Scalar.muli v8 c1_i32_1463
  let v1181 : BitVec 32 := Scalar.addi c0_i32_1464 v1180
  v1181.toNat
def k0_dev44 (v13 : BitVec 32) : Nat :=
  let c0_i32_1476 : BitVec 32 := 0#32
  let c1_i32_1475 : BitVec 32 := 1#32
  let v1190 : BitVec 32 := Scalar.muli v13 c1_i32_1475
  let v1191 : BitVec 32 := Scalar.addi c0_i32_1476 v1190
  v1191.toNat
def k0_dev45 (v8 : BitVec 32) : Nat :=
  let c0_i32_1554 : BitVec 32 := 0#32
  let c1_i32_1553 : BitVec 32 := 1#32
  let v1248 : BitVec 32 := Scalar.muli v8 c1_i32_1553
  let v1249 : BitVec 32 := Scalar.addi c0_i32_1554 v1248
  v1249.toNat
def k0_dev46 (v13 : BitVec 32) : Nat :=
  let c0_i32_1566 : BitVec 32 := 0#32
  let c1_i32_1565 : BitVec 32 := 1#32
  let v1258 : BitVec 32 := Scalar.muli v13 c1_i32_1565
  let v1259 : BitVec 32 := Scalar.addi c0_i32_1566 v1258
  v1259.toNat
def k0_dev47 (v13 : BitVec 32) : Nat :=
  let c0_i32_1573 : BitVec 32 := 0#32
  let c1_i32_1572 : BitVec 32 := 1#32
  let v1268 : BitVec 32 := Scalar.muli v13 c1_i32_1572
  let v1269 : BitVec 32 := Scalar.addi c0_i32_1573 v1268
  v1269.toNat
def k0_dev48 (v8 : BitVec 32) : Nat :=
  let c0_i32_1576 : BitVec 32 := 0#32
  let c1_i32_1575 : BitVec 32 := 1#32
  let v1270 : BitVec 32 := Scalar.muli v8 c1_i32_1575
  let v1271 : BitVec 32 := Scalar.addi c0_i32_1576 v1270
  v1271.toNat
def k0_dev49 (v8 : BitVec 32) : Nat :=
  let c0_i32_1678 : BitVec 32 := 0#32
  let c1_i32_1677 : BitVec 32 := 1#32
  let v1347 : BitVec 32 := Scalar.muli v8 c1_i32_1677
  let v1348 : BitVec 32 := Scalar.addi c0_i32_1678 v1347
  v1348.toNat
def k0_dev50 (v13 : BitVec 32) : Nat :=
  let c0_i32_1690 : BitVec 32 := 0#32
  let c1_i32_1689 : BitVec 32 := 1#32
  let v1357 : BitVec 32 := Scalar.muli v13 c1_i32_1689
  let v1358 : BitVec 32 := Scalar.addi c0_i32_1690 v1357
  v1358.toNat
def k0_dev51 (v8 : BitVec 32) : Nat :=
  let c0_i32_1768 : BitVec 32 := 0#32
  let c1_i32_1767 : BitVec 32 := 1#32
  let v1415 : BitVec 32 := Scalar.muli v8 c1_i32_1767
  let v1416 : BitVec 32 := Scalar.addi c0_i32_1768 v1415
  v1416.toNat
def k0_dev52 (v13 : BitVec 32) : Nat :=
  let c0_i32_1780 : BitVec 32 := 0#32
  let c1_i32_1779 : BitVec 32 := 1#32
  let v1425 : BitVec 32 := Scalar.muli v13 c1_i32_1779
  let v1426 : BitVec 32 := Scalar.addi c0_i32_1780 v1425
  v1426.toNat
def k0_dev53 (v13 : BitVec 32) : Nat :=
  let c0_i32_1787 : BitVec 32 := 0#32
  let c1_i32_1786 : BitVec 32 := 1#32
  let v1435 : BitVec 32 := Scalar.muli v13 c1_i32_1786
  let v1436 : BitVec 32 := Scalar.addi c0_i32_1787 v1435
  v1436.toNat
def k0_dev54 (v8 : BitVec 32) : Nat :=
  let c0_i32_1790 : BitVec 32 := 0#32
  let c1_i32_1789 : BitVec 32 := 1#32
  let v1437 : BitVec 32 := Scalar.muli v8 c1_i32_1789
  let v1438 : BitVec 32 := Scalar.addi c0_i32_1790 v1437
  v1438.toNat
def k0_dev55 (v8 : BitVec 32) : Nat :=
  let c0_i32_1892 : BitVec 32 := 0#32
  let c1_i32_1891 : BitVec 32 := 1#32
  let v1514 : BitVec 32 := Scalar.muli v8 c1_i32_1891
  let v1515 : BitVec 32 := Scalar.addi c0_i32_1892 v1514
  v1515.toNat
def k0_dev56 (v13 : BitVec 32) : Nat :=
  let c0_i32_1904 : BitVec 32 := 0#32
  let c1_i32_1903 : BitVec 32 := 1#32
  let v1524 : BitVec 32 := Scalar.muli v13 c1_i32_1903
  let v1525 : BitVec 32 := Scalar.addi c0_i32_1904 v1524
  v1525.toNat
def k0_dev57 (v8 : BitVec 32) : Nat :=
  let c0_i32_1982 : BitVec 32 := 0#32
  let c1_i32_1981 : BitVec 32 := 1#32
  let v1582 : BitVec 32 := Scalar.muli v8 c1_i32_1981
  let v1583 : BitVec 32 := Scalar.addi c0_i32_1982 v1582
  v1583.toNat
def k0_dev58 (v13 : BitVec 32) : Nat :=
  let c0_i32_1994 : BitVec 32 := 0#32
  let c1_i32_1993 : BitVec 32 := 1#32
  let v1592 : BitVec 32 := Scalar.muli v13 c1_i32_1993
  let v1593 : BitVec 32 := Scalar.addi c0_i32_1994 v1592
  v1593.toNat
def k0_dev59 (v13 : BitVec 32) : Nat :=
  let c0_i32_2001 : BitVec 32 := 0#32
  let c1_i32_2000 : BitVec 32 := 1#32
  let v1602 : BitVec 32 := Scalar.muli v13 c1_i32_2000
  let v1603 : BitVec 32 := Scalar.addi c0_i32_2001 v1602
  v1603.toNat
def k0_dev60 (v8 : BitVec 32) : Nat :=
  let c0_i32_2004 : BitVec 32 := 0#32
  let c1_i32_2003 : BitVec 32 := 1#32
  let v1604 : BitVec 32 := Scalar.muli v8 c1_i32_2003
  let v1605 : BitVec 32 := Scalar.addi c0_i32_2004 v1604
  v1605.toNat
def k0_dev61 (v8 : BitVec 32) : Nat :=
  let c0_i32_2106 : BitVec 32 := 0#32
  let c1_i32_2105 : BitVec 32 := 1#32
  let v1681 : BitVec 32 := Scalar.muli v8 c1_i32_2105
  let v1682 : BitVec 32 := Scalar.addi c0_i32_2106 v1681
  v1682.toNat
def k0_dev62 (v13 : BitVec 32) : Nat :=
  let c0_i32_2118 : BitVec 32 := 0#32
  let c1_i32_2117 : BitVec 32 := 1#32
  let v1691 : BitVec 32 := Scalar.muli v13 c1_i32_2117
  let v1692 : BitVec 32 := Scalar.addi c0_i32_2118 v1691
  v1692.toNat
def k0_dev63 (v8 : BitVec 32) : Nat :=
  let c0_i32_2196 : BitVec 32 := 0#32
  let c1_i32_2195 : BitVec 32 := 1#32
  let v1749 : BitVec 32 := Scalar.muli v8 c1_i32_2195
  let v1750 : BitVec 32 := Scalar.addi c0_i32_2196 v1749
  v1750.toNat
def k0_dev64 (v13 : BitVec 32) : Nat :=
  let c0_i32_2208 : BitVec 32 := 0#32
  let c1_i32_2207 : BitVec 32 := 1#32
  let v1759 : BitVec 32 := Scalar.muli v13 c1_i32_2207
  let v1760 : BitVec 32 := Scalar.addi c0_i32_2208 v1759
  v1760.toNat
def k0_dev65 (v13 : BitVec 32) : Nat :=
  let c0_i32_2215 : BitVec 32 := 0#32
  let c1_i32_2214 : BitVec 32 := 1#32
  let v1769 : BitVec 32 := Scalar.muli v13 c1_i32_2214
  let v1770 : BitVec 32 := Scalar.addi c0_i32_2215 v1769
  v1770.toNat
def k0_dev66 (v8 : BitVec 32) : Nat :=
  let c0_i32_2218 : BitVec 32 := 0#32
  let c1_i32_2217 : BitVec 32 := 1#32
  let v1771 : BitVec 32 := Scalar.muli v8 c1_i32_2217
  let v1772 : BitVec 32 := Scalar.addi c0_i32_2218 v1771
  v1772.toNat
def k0_dev67 (v8 : BitVec 32) : Nat :=
  let c0_i32_2320 : BitVec 32 := 0#32
  let c1_i32_2319 : BitVec 32 := 1#32
  let v1848 : BitVec 32 := Scalar.muli v8 c1_i32_2319
  let v1849 : BitVec 32 := Scalar.addi c0_i32_2320 v1848
  v1849.toNat
def k0_dev68 (v13 : BitVec 32) : Nat :=
  let c0_i32_2332 : BitVec 32 := 0#32
  let c1_i32_2331 : BitVec 32 := 1#32
  let v1858 : BitVec 32 := Scalar.muli v13 c1_i32_2331
  let v1859 : BitVec 32 := Scalar.addi c0_i32_2332 v1858
  v1859.toNat
def k0_dev69 (v8 : BitVec 32) : Nat :=
  let c0_i32_2410 : BitVec 32 := 0#32
  let c1_i32_2409 : BitVec 32 := 1#32
  let v1916 : BitVec 32 := Scalar.muli v8 c1_i32_2409
  let v1917 : BitVec 32 := Scalar.addi c0_i32_2410 v1916
  v1917.toNat
def k0_dev70 (v13 : BitVec 32) : Nat :=
  let c0_i32_2422 : BitVec 32 := 0#32
  let c1_i32_2421 : BitVec 32 := 1#32
  let v1926 : BitVec 32 := Scalar.muli v13 c1_i32_2421
  let v1927 : BitVec 32 := Scalar.addi c0_i32_2422 v1926
  v1927.toNat
def k0_dev71 (v13 : BitVec 32) : Nat :=
  let c0_i32_2429 : BitVec 32 := 0#32
  let c1_i32_2428 : BitVec 32 := 1#32
  let v1936 : BitVec 32 := Scalar.muli v13 c1_i32_2428
  let v1937 : BitVec 32 := Scalar.addi c0_i32_2429 v1936
  v1937.toNat
def k0_dev72 (v8 : BitVec 32) : Nat :=
  let c0_i32_2432 : BitVec 32 := 0#32
  let c1_i32_2431 : BitVec 32 := 1#32
  let v1938 : BitVec 32 := Scalar.muli v8 c1_i32_2431
  let v1939 : BitVec 32 := Scalar.addi c0_i32_2432 v1938
  v1939.toNat
def k0_dev73 (v8 : BitVec 32) : Nat :=
  let c0_i32_2534 : BitVec 32 := 0#32
  let c1_i32_2533 : BitVec 32 := 1#32
  let v2015 : BitVec 32 := Scalar.muli v8 c1_i32_2533
  let v2016 : BitVec 32 := Scalar.addi c0_i32_2534 v2015
  v2016.toNat
def k0_dev74 (v13 : BitVec 32) : Nat :=
  let c0_i32_2546 : BitVec 32 := 0#32
  let c1_i32_2545 : BitVec 32 := 1#32
  let v2025 : BitVec 32 := Scalar.muli v13 c1_i32_2545
  let v2026 : BitVec 32 := Scalar.addi c0_i32_2546 v2025
  v2026.toNat
def k0_dev75 (v8 : BitVec 32) : Nat :=
  let c0_i32_2624 : BitVec 32 := 0#32
  let c1_i32_2623 : BitVec 32 := 1#32
  let v2083 : BitVec 32 := Scalar.muli v8 c1_i32_2623
  let v2084 : BitVec 32 := Scalar.addi c0_i32_2624 v2083
  v2084.toNat
def k0_dev76 (v13 : BitVec 32) : Nat :=
  let c0_i32_2636 : BitVec 32 := 0#32
  let c1_i32_2635 : BitVec 32 := 1#32
  let v2093 : BitVec 32 := Scalar.muli v13 c1_i32_2635
  let v2094 : BitVec 32 := Scalar.addi c0_i32_2636 v2093
  v2094.toNat
def k0_dev77 (v13 : BitVec 32) : Nat :=
  let c0_i32_2643 : BitVec 32 := 0#32
  let c1_i32_2642 : BitVec 32 := 1#32
  let v2103 : BitVec 32 := Scalar.muli v13 c1_i32_2642
  let v2104 : BitVec 32 := Scalar.addi c0_i32_2643 v2103
  v2104.toNat
def k0_dev78 (v8 : BitVec 32) : Nat :=
  let c0_i32_2646 : BitVec 32 := 0#32
  let c1_i32_2645 : BitVec 32 := 1#32
  let v2105 : BitVec 32 := Scalar.muli v8 c1_i32_2645
  let v2106 : BitVec 32 := Scalar.addi c0_i32_2646 v2105
  v2106.toNat
def k0_dev79 (v8 : BitVec 32) : Nat :=
  let c0_i32_2748 : BitVec 32 := 0#32
  let c1_i32_2747 : BitVec 32 := 1#32
  let v2182 : BitVec 32 := Scalar.muli v8 c1_i32_2747
  let v2183 : BitVec 32 := Scalar.addi c0_i32_2748 v2182
  v2183.toNat
def k0_dev80 (v13 : BitVec 32) : Nat :=
  let c0_i32_2760 : BitVec 32 := 0#32
  let c1_i32_2759 : BitVec 32 := 1#32
  let v2192 : BitVec 32 := Scalar.muli v13 c1_i32_2759
  let v2193 : BitVec 32 := Scalar.addi c0_i32_2760 v2192
  v2193.toNat
def k0_dev81 (v8 : BitVec 32) : Nat :=
  let c0_i32_2838 : BitVec 32 := 0#32
  let c1_i32_2837 : BitVec 32 := 1#32
  let v2250 : BitVec 32 := Scalar.muli v8 c1_i32_2837
  let v2251 : BitVec 32 := Scalar.addi c0_i32_2838 v2250
  v2251.toNat
def k0_dev82 (v13 : BitVec 32) : Nat :=
  let c0_i32_2850 : BitVec 32 := 0#32
  let c1_i32_2849 : BitVec 32 := 1#32
  let v2260 : BitVec 32 := Scalar.muli v13 c1_i32_2849
  let v2261 : BitVec 32 := Scalar.addi c0_i32_2850 v2260
  v2261.toNat
def k0_dev83 (v13 : BitVec 32) : Nat :=
  let c0_i32_2857 : BitVec 32 := 0#32
  let c1_i32_2856 : BitVec 32 := 1#32
  let v2270 : BitVec 32 := Scalar.muli v13 c1_i32_2856
  let v2271 : BitVec 32 := Scalar.addi c0_i32_2857 v2270
  v2271.toNat
def k0_dev84 (v8 : BitVec 32) : Nat :=
  let c0_i32_2860 : BitVec 32 := 0#32
  let c1_i32_2859 : BitVec 32 := 1#32
  let v2272 : BitVec 32 := Scalar.muli v8 c1_i32_2859
  let v2273 : BitVec 32 := Scalar.addi c0_i32_2860 v2272
  v2273.toNat
def k0_dev85 (v8 : BitVec 32) : Nat :=
  let c0_i32_2962 : BitVec 32 := 0#32
  let c1_i32_2961 : BitVec 32 := 1#32
  let v2349 : BitVec 32 := Scalar.muli v8 c1_i32_2961
  let v2350 : BitVec 32 := Scalar.addi c0_i32_2962 v2349
  v2350.toNat
def k0_dev86 (v13 : BitVec 32) : Nat :=
  let c0_i32_2974 : BitVec 32 := 0#32
  let c1_i32_2973 : BitVec 32 := 1#32
  let v2359 : BitVec 32 := Scalar.muli v13 c1_i32_2973
  let v2360 : BitVec 32 := Scalar.addi c0_i32_2974 v2359
  v2360.toNat
def k0_dev87 (v8 : BitVec 32) : Nat :=
  let c0_i32_3052 : BitVec 32 := 0#32
  let c1_i32_3051 : BitVec 32 := 1#32
  let v2417 : BitVec 32 := Scalar.muli v8 c1_i32_3051
  let v2418 : BitVec 32 := Scalar.addi c0_i32_3052 v2417
  v2418.toNat
def k0_dev88 (v13 : BitVec 32) : Nat :=
  let c0_i32_3064 : BitVec 32 := 0#32
  let c1_i32_3063 : BitVec 32 := 1#32
  let v2427 : BitVec 32 := Scalar.muli v13 c1_i32_3063
  let v2428 : BitVec 32 := Scalar.addi c0_i32_3064 v2427
  v2428.toNat
def k0_dev89 (v13 : BitVec 32) : Nat :=
  let c0_i32_3071 : BitVec 32 := 0#32
  let c1_i32_3070 : BitVec 32 := 1#32
  let v2437 : BitVec 32 := Scalar.muli v13 c1_i32_3070
  let v2438 : BitVec 32 := Scalar.addi c0_i32_3071 v2437
  v2438.toNat
def k0_dev90 (v8 : BitVec 32) : Nat :=
  let c0_i32_3074 : BitVec 32 := 0#32
  let c1_i32_3073 : BitVec 32 := 1#32
  let v2439 : BitVec 32 := Scalar.muli v8 c1_i32_3073
  let v2440 : BitVec 32 := Scalar.addi c0_i32_3074 v2439
  v2440.toNat
def k0_dev91 (v8 : BitVec 32) : Nat :=
  let c0_i32_3176 : BitVec 32 := 0#32
  let c1_i32_3175 : BitVec 32 := 1#32
  let v2516 : BitVec 32 := Scalar.muli v8 c1_i32_3175
  let v2517 : BitVec 32 := Scalar.addi c0_i32_3176 v2516
  v2517.toNat
def k0_dev92 (v13 : BitVec 32) : Nat :=
  let c0_i32_3188 : BitVec 32 := 0#32
  let c1_i32_3187 : BitVec 32 := 1#32
  let v2526 : BitVec 32 := Scalar.muli v13 c1_i32_3187
  let v2527 : BitVec 32 := Scalar.addi c0_i32_3188 v2526
  v2527.toNat
def k0_dev93 (v8 : BitVec 32) : Nat :=
  let c0_i32_3266 : BitVec 32 := 0#32
  let c1_i32_3265 : BitVec 32 := 1#32
  let v2584 : BitVec 32 := Scalar.muli v8 c1_i32_3265
  let v2585 : BitVec 32 := Scalar.addi c0_i32_3266 v2584
  v2585.toNat
def k0_dev94 (v13 : BitVec 32) : Nat :=
  let c0_i32_3278 : BitVec 32 := 0#32
  let c1_i32_3277 : BitVec 32 := 1#32
  let v2594 : BitVec 32 := Scalar.muli v13 c1_i32_3277
  let v2595 : BitVec 32 := Scalar.addi c0_i32_3278 v2594
  v2595.toNat
def k0_dev95 (v13 : BitVec 32) : Nat :=
  let c0_i32_3285 : BitVec 32 := 0#32
  let c1_i32_3284 : BitVec 32 := 1#32
  let v2604 : BitVec 32 := Scalar.muli v13 c1_i32_3284
  let v2605 : BitVec 32 := Scalar.addi c0_i32_3285 v2604
  v2605.toNat
def k0_dev96 (v8 : BitVec 32) : Nat :=
  let c0_i32_3288 : BitVec 32 := 0#32
  let c1_i32_3287 : BitVec 32 := 1#32
  let v2606 : BitVec 32 := Scalar.muli v8 c1_i32_3287
  let v2607 : BitVec 32 := Scalar.addi c0_i32_3288 v2606
  v2607.toNat
def k0_dev97 (v8 : BitVec 32) : Nat :=
  let c0_i32_3390 : BitVec 32 := 0#32
  let c1_i32_3389 : BitVec 32 := 1#32
  let v2683 : BitVec 32 := Scalar.muli v8 c1_i32_3389
  let v2684 : BitVec 32 := Scalar.addi c0_i32_3390 v2683
  v2684.toNat
def k0_dev98 (v13 : BitVec 32) : Nat :=
  let c0_i32_3402 : BitVec 32 := 0#32
  let c1_i32_3401 : BitVec 32 := 1#32
  let v2693 : BitVec 32 := Scalar.muli v13 c1_i32_3401
  let v2694 : BitVec 32 := Scalar.addi c0_i32_3402 v2693
  v2694.toNat
def k0_dev99 (v8 : BitVec 32) : Nat :=
  let c0_i32_3480 : BitVec 32 := 0#32
  let c1_i32_3479 : BitVec 32 := 1#32
  let v2751 : BitVec 32 := Scalar.muli v8 c1_i32_3479
  let v2752 : BitVec 32 := Scalar.addi c0_i32_3480 v2751
  v2752.toNat
def k0_dev100 (v13 : BitVec 32) : Nat :=
  let c0_i32_3492 : BitVec 32 := 0#32
  let c1_i32_3491 : BitVec 32 := 1#32
  let v2761 : BitVec 32 := Scalar.muli v13 c1_i32_3491
  let v2762 : BitVec 32 := Scalar.addi c0_i32_3492 v2761
  v2762.toNat
def k0_dev101 (v13 : BitVec 32) : Nat :=
  let c0_i32_3499 : BitVec 32 := 0#32
  let c1_i32_3498 : BitVec 32 := 1#32
  let v2771 : BitVec 32 := Scalar.muli v13 c1_i32_3498
  let v2772 : BitVec 32 := Scalar.addi c0_i32_3499 v2771
  v2772.toNat
def k0_dev102 (v8 : BitVec 32) : Nat :=
  let c0_i32_3502 : BitVec 32 := 0#32
  let c1_i32_3501 : BitVec 32 := 1#32
  let v2773 : BitVec 32 := Scalar.muli v8 c1_i32_3501
  let v2774 : BitVec 32 := Scalar.addi c0_i32_3502 v2773
  v2774.toNat
def k0_dev103 (v8 : BitVec 32) : Nat :=
  let c0_i32_3604 : BitVec 32 := 0#32
  let c1_i32_3603 : BitVec 32 := 1#32
  let v2850 : BitVec 32 := Scalar.muli v8 c1_i32_3603
  let v2851 : BitVec 32 := Scalar.addi c0_i32_3604 v2850
  v2851.toNat
def k0_dev104 (v13 : BitVec 32) : Nat :=
  let c0_i32_3616 : BitVec 32 := 0#32
  let c1_i32_3615 : BitVec 32 := 1#32
  let v2860 : BitVec 32 := Scalar.muli v13 c1_i32_3615
  let v2861 : BitVec 32 := Scalar.addi c0_i32_3616 v2860
  v2861.toNat
def k0_dev105 (v8 : BitVec 32) : Nat :=
  let c0_i32_3694 : BitVec 32 := 0#32
  let c1_i32_3693 : BitVec 32 := 1#32
  let v2918 : BitVec 32 := Scalar.muli v8 c1_i32_3693
  let v2919 : BitVec 32 := Scalar.addi c0_i32_3694 v2918
  v2919.toNat
def k0_dev106 (v13 : BitVec 32) : Nat :=
  let c0_i32_3706 : BitVec 32 := 0#32
  let c1_i32_3705 : BitVec 32 := 1#32
  let v2928 : BitVec 32 := Scalar.muli v13 c1_i32_3705
  let v2929 : BitVec 32 := Scalar.addi c0_i32_3706 v2928
  v2929.toNat
def k0_dev107 (v13 : BitVec 32) : Nat :=
  let c0_i32_3713 : BitVec 32 := 0#32
  let c1_i32_3712 : BitVec 32 := 1#32
  let v2938 : BitVec 32 := Scalar.muli v13 c1_i32_3712
  let v2939 : BitVec 32 := Scalar.addi c0_i32_3713 v2938
  v2939.toNat
def k0_dev108 (v8 : BitVec 32) : Nat :=
  let c0_i32_3716 : BitVec 32 := 0#32
  let c1_i32_3715 : BitVec 32 := 1#32
  let v2940 : BitVec 32 := Scalar.muli v8 c1_i32_3715
  let v2941 : BitVec 32 := Scalar.addi c0_i32_3716 v2940
  v2941.toNat
def k0_dev109 (v8 : BitVec 32) : Nat :=
  let c0_i32_3818 : BitVec 32 := 0#32
  let c1_i32_3817 : BitVec 32 := 1#32
  let v3017 : BitVec 32 := Scalar.muli v8 c1_i32_3817
  let v3018 : BitVec 32 := Scalar.addi c0_i32_3818 v3017
  v3018.toNat
def k0_dev110 (v13 : BitVec 32) : Nat :=
  let c0_i32_3830 : BitVec 32 := 0#32
  let c1_i32_3829 : BitVec 32 := 1#32
  let v3027 : BitVec 32 := Scalar.muli v13 c1_i32_3829
  let v3028 : BitVec 32 := Scalar.addi c0_i32_3830 v3027
  v3028.toNat
def k0_dev111 (v8 : BitVec 32) : Nat :=
  let c0_i32_3908 : BitVec 32 := 0#32
  let c1_i32_3907 : BitVec 32 := 1#32
  let v3085 : BitVec 32 := Scalar.muli v8 c1_i32_3907
  let v3086 : BitVec 32 := Scalar.addi c0_i32_3908 v3085
  v3086.toNat
def k0_dev112 (v13 : BitVec 32) : Nat :=
  let c0_i32_3920 : BitVec 32 := 0#32
  let c1_i32_3919 : BitVec 32 := 1#32
  let v3095 : BitVec 32 := Scalar.muli v13 c1_i32_3919
  let v3096 : BitVec 32 := Scalar.addi c0_i32_3920 v3095
  v3096.toNat
def k0_dev113 (v13 : BitVec 32) : Nat :=
  let c0_i32_3927 : BitVec 32 := 0#32
  let c1_i32_3926 : BitVec 32 := 1#32
  let v3105 : BitVec 32 := Scalar.muli v13 c1_i32_3926
  let v3106 : BitVec 32 := Scalar.addi c0_i32_3927 v3105
  v3106.toNat
def k0_dev114 (v8 : BitVec 32) : Nat :=
  let c0_i32_3930 : BitVec 32 := 0#32
  let c1_i32_3929 : BitVec 32 := 1#32
  let v3107 : BitVec 32 := Scalar.muli v8 c1_i32_3929
  let v3108 : BitVec 32 := Scalar.addi c0_i32_3930 v3107
  v3108.toNat
def k0_dev115 (v8 : BitVec 32) : Nat :=
  let c0_i32_4032 : BitVec 32 := 0#32
  let c1_i32_4031 : BitVec 32 := 1#32
  let v3184 : BitVec 32 := Scalar.muli v8 c1_i32_4031
  let v3185 : BitVec 32 := Scalar.addi c0_i32_4032 v3184
  v3185.toNat
def k0_dev116 (v13 : BitVec 32) : Nat :=
  let c0_i32_4044 : BitVec 32 := 0#32
  let c1_i32_4043 : BitVec 32 := 1#32
  let v3194 : BitVec 32 := Scalar.muli v13 c1_i32_4043
  let v3195 : BitVec 32 := Scalar.addi c0_i32_4044 v3194
  v3195.toNat
def k0_dev117 (v8 : BitVec 32) : Nat :=
  let c0_i32_4122 : BitVec 32 := 0#32
  let c1_i32_4121 : BitVec 32 := 1#32
  let v3252 : BitVec 32 := Scalar.muli v8 c1_i32_4121
  let v3253 : BitVec 32 := Scalar.addi c0_i32_4122 v3252
  v3253.toNat
def k0_dev118 (v13 : BitVec 32) : Nat :=
  let c0_i32_4134 : BitVec 32 := 0#32
  let c1_i32_4133 : BitVec 32 := 1#32
  let v3262 : BitVec 32 := Scalar.muli v13 c1_i32_4133
  let v3263 : BitVec 32 := Scalar.addi c0_i32_4134 v3262
  v3263.toNat
def k0_dev119 (v13 : BitVec 32) : Nat :=
  let c0_i32_4141 : BitVec 32 := 0#32
  let c1_i32_4140 : BitVec 32 := 1#32
  let v3272 : BitVec 32 := Scalar.muli v13 c1_i32_4140
  let v3273 : BitVec 32 := Scalar.addi c0_i32_4141 v3272
  v3273.toNat
def k0_dev120 (v8 : BitVec 32) : Nat :=
  let c0_i32_4144 : BitVec 32 := 0#32
  let c1_i32_4143 : BitVec 32 := 1#32
  let v3274 : BitVec 32 := Scalar.muli v8 c1_i32_4143
  let v3275 : BitVec 32 := Scalar.addi c0_i32_4144 v3274
  v3275.toNat
def k0_dev121 (v8 : BitVec 32) : Nat :=
  let c0_i32_4246 : BitVec 32 := 0#32
  let c1_i32_4245 : BitVec 32 := 1#32
  let v3351 : BitVec 32 := Scalar.muli v8 c1_i32_4245
  let v3352 : BitVec 32 := Scalar.addi c0_i32_4246 v3351
  v3352.toNat
def k0_dev122 (v13 : BitVec 32) : Nat :=
  let c0_i32_4258 : BitVec 32 := 0#32
  let c1_i32_4257 : BitVec 32 := 1#32
  let v3361 : BitVec 32 := Scalar.muli v13 c1_i32_4257
  let v3362 : BitVec 32 := Scalar.addi c0_i32_4258 v3361
  v3362.toNat
def k0_dev123 (v8 : BitVec 32) : Nat :=
  let c0_i32_4336 : BitVec 32 := 0#32
  let c1_i32_4335 : BitVec 32 := 1#32
  let v3419 : BitVec 32 := Scalar.muli v8 c1_i32_4335
  let v3420 : BitVec 32 := Scalar.addi c0_i32_4336 v3419
  v3420.toNat
def k0_dev124 (v13 : BitVec 32) : Nat :=
  let c0_i32_4348 : BitVec 32 := 0#32
  let c1_i32_4347 : BitVec 32 := 1#32
  let v3429 : BitVec 32 := Scalar.muli v13 c1_i32_4347
  let v3430 : BitVec 32 := Scalar.addi c0_i32_4348 v3429
  v3430.toNat
def k0_dev125 (v13 : BitVec 32) : Nat :=
  let c0_i32_4355 : BitVec 32 := 0#32
  let c1_i32_4354 : BitVec 32 := 1#32
  let v3439 : BitVec 32 := Scalar.muli v13 c1_i32_4354
  let v3440 : BitVec 32 := Scalar.addi c0_i32_4355 v3439
  v3440.toNat
def k0_dev126 (v8 : BitVec 32) : Nat :=
  let c0_i32_4358 : BitVec 32 := 0#32
  let c1_i32_4357 : BitVec 32 := 1#32
  let v3441 : BitVec 32 := Scalar.muli v8 c1_i32_4357
  let v3442 : BitVec 32 := Scalar.addi c0_i32_4358 v3441
  v3442.toNat
def k0_dev127 (v8 : BitVec 32) : Nat :=
  let c0_i32_4460 : BitVec 32 := 0#32
  let c1_i32_4459 : BitVec 32 := 1#32
  let v3518 : BitVec 32 := Scalar.muli v8 c1_i32_4459
  let v3519 : BitVec 32 := Scalar.addi c0_i32_4460 v3518
  v3519.toNat
def k0_dev128 (v13 : BitVec 32) : Nat :=
  let c0_i32_4472 : BitVec 32 := 0#32
  let c1_i32_4471 : BitVec 32 := 1#32
  let v3528 : BitVec 32 := Scalar.muli v13 c1_i32_4471
  let v3529 : BitVec 32 := Scalar.addi c0_i32_4472 v3528
  v3529.toNat
def k0_dev129 (v8 : BitVec 32) : Nat :=
  let c0_i32_4550 : BitVec 32 := 0#32
  let c1_i32_4549 : BitVec 32 := 1#32
  let v3586 : BitVec 32 := Scalar.muli v8 c1_i32_4549
  let v3587 : BitVec 32 := Scalar.addi c0_i32_4550 v3586
  v3587.toNat
def k0_dev130 (v13 : BitVec 32) : Nat :=
  let c0_i32_4562 : BitVec 32 := 0#32
  let c1_i32_4561 : BitVec 32 := 1#32
  let v3596 : BitVec 32 := Scalar.muli v13 c1_i32_4561
  let v3597 : BitVec 32 := Scalar.addi c0_i32_4562 v3596
  v3597.toNat
def k0_dev131 (v13 : BitVec 32) : Nat :=
  let c0_i32_4569 : BitVec 32 := 0#32
  let c1_i32_4568 : BitVec 32 := 1#32
  let v3606 : BitVec 32 := Scalar.muli v13 c1_i32_4568
  let v3607 : BitVec 32 := Scalar.addi c0_i32_4569 v3606
  v3607.toNat
def k0_dev132 (v8 : BitVec 32) : Nat :=
  let c0_i32_4572 : BitVec 32 := 0#32
  let c1_i32_4571 : BitVec 32 := 1#32
  let v3608 : BitVec 32 := Scalar.muli v8 c1_i32_4571
  let v3609 : BitVec 32 := Scalar.addi c0_i32_4572 v3608
  v3609.toNat
def k0_dev133 (v8 : BitVec 32) : Nat :=
  let c0_i32_4674 : BitVec 32 := 0#32
  let c1_i32_4673 : BitVec 32 := 1#32
  let v3685 : BitVec 32 := Scalar.muli v8 c1_i32_4673
  let v3686 : BitVec 32 := Scalar.addi c0_i32_4674 v3685
  v3686.toNat
def k0_dev134 (v13 : BitVec 32) : Nat :=
  let c0_i32_4686 : BitVec 32 := 0#32
  let c1_i32_4685 : BitVec 32 := 1#32
  let v3695 : BitVec 32 := Scalar.muli v13 c1_i32_4685
  let v3696 : BitVec 32 := Scalar.addi c0_i32_4686 v3695
  v3696.toNat
def k0_dev135 (v8 : BitVec 32) : Nat :=
  let c0_i32_4764 : BitVec 32 := 0#32
  let c1_i32_4763 : BitVec 32 := 1#32
  let v3753 : BitVec 32 := Scalar.muli v8 c1_i32_4763
  let v3754 : BitVec 32 := Scalar.addi c0_i32_4764 v3753
  v3754.toNat
def k0_dev136 (v13 : BitVec 32) : Nat :=
  let c0_i32_4776 : BitVec 32 := 0#32
  let c1_i32_4775 : BitVec 32 := 1#32
  let v3763 : BitVec 32 := Scalar.muli v13 c1_i32_4775
  let v3764 : BitVec 32 := Scalar.addi c0_i32_4776 v3763
  v3764.toNat
def k0_dev137 (v13 : BitVec 32) : Nat :=
  let c0_i32_4783 : BitVec 32 := 0#32
  let c1_i32_4782 : BitVec 32 := 1#32
  let v3773 : BitVec 32 := Scalar.muli v13 c1_i32_4782
  let v3774 : BitVec 32 := Scalar.addi c0_i32_4783 v3773
  v3774.toNat
def k0_dev138 (v8 : BitVec 32) : Nat :=
  let c0_i32_4786 : BitVec 32 := 0#32
  let c1_i32_4785 : BitVec 32 := 1#32
  let v3775 : BitVec 32 := Scalar.muli v8 c1_i32_4785
  let v3776 : BitVec 32 := Scalar.addi c0_i32_4786 v3775
  v3776.toNat
def k0_dev139 (v8 : BitVec 32) : Nat :=
  let c0_i32_4888 : BitVec 32 := 0#32
  let c1_i32_4887 : BitVec 32 := 1#32
  let v3852 : BitVec 32 := Scalar.muli v8 c1_i32_4887
  let v3853 : BitVec 32 := Scalar.addi c0_i32_4888 v3852
  v3853.toNat
def k0_dev140 (v13 : BitVec 32) : Nat :=
  let c0_i32_4900 : BitVec 32 := 0#32
  let c1_i32_4899 : BitVec 32 := 1#32
  let v3862 : BitVec 32 := Scalar.muli v13 c1_i32_4899
  let v3863 : BitVec 32 := Scalar.addi c0_i32_4900 v3862
  v3863.toNat
def k0_dev141 (v8 : BitVec 32) : Nat :=
  let c0_i32_4978 : BitVec 32 := 0#32
  let c1_i32_4977 : BitVec 32 := 1#32
  let v3920 : BitVec 32 := Scalar.muli v8 c1_i32_4977
  let v3921 : BitVec 32 := Scalar.addi c0_i32_4978 v3920
  v3921.toNat
def k0_dev142 (v13 : BitVec 32) : Nat :=
  let c0_i32_4990 : BitVec 32 := 0#32
  let c1_i32_4989 : BitVec 32 := 1#32
  let v3930 : BitVec 32 := Scalar.muli v13 c1_i32_4989
  let v3931 : BitVec 32 := Scalar.addi c0_i32_4990 v3930
  v3931.toNat
def k0_dev143 (v13 : BitVec 32) : Nat :=
  let c0_i32_4997 : BitVec 32 := 0#32
  let c1_i32_4996 : BitVec 32 := 1#32
  let v3940 : BitVec 32 := Scalar.muli v13 c1_i32_4996
  let v3941 : BitVec 32 := Scalar.addi c0_i32_4997 v3940
  v3941.toNat
def k0_dev144 (v8 : BitVec 32) : Nat :=
  let c0_i32_5000 : BitVec 32 := 0#32
  let c1_i32_4999 : BitVec 32 := 1#32
  let v3942 : BitVec 32 := Scalar.muli v8 c1_i32_4999
  let v3943 : BitVec 32 := Scalar.addi c0_i32_5000 v3942
  v3943.toNat
def k0_dev145 (v8 : BitVec 32) : Nat :=
  let c0_i32_5102 : BitVec 32 := 0#32
  let c1_i32_5101 : BitVec 32 := 1#32
  let v4019 : BitVec 32 := Scalar.muli v8 c1_i32_5101
  let v4020 : BitVec 32 := Scalar.addi c0_i32_5102 v4019
  v4020.toNat
def k0_dev146 (v13 : BitVec 32) : Nat :=
  let c0_i32_5114 : BitVec 32 := 0#32
  let c1_i32_5113 : BitVec 32 := 1#32
  let v4029 : BitVec 32 := Scalar.muli v13 c1_i32_5113
  let v4030 : BitVec 32 := Scalar.addi c0_i32_5114 v4029
  v4030.toNat
def k0_dev147 (v8 : BitVec 32) : Nat :=
  let c0_i32_5192 : BitVec 32 := 0#32
  let c1_i32_5191 : BitVec 32 := 1#32
  let v4087 : BitVec 32 := Scalar.muli v8 c1_i32_5191
  let v4088 : BitVec 32 := Scalar.addi c0_i32_5192 v4087
  v4088.toNat
def k0_dev148 (v13 : BitVec 32) : Nat :=
  let c0_i32_5204 : BitVec 32 := 0#32
  let c1_i32_5203 : BitVec 32 := 1#32
  let v4097 : BitVec 32 := Scalar.muli v13 c1_i32_5203
  let v4098 : BitVec 32 := Scalar.addi c0_i32_5204 v4097
  v4098.toNat
def k0_dev149 (v13 : BitVec 32) : Nat :=
  let c0_i32_5211 : BitVec 32 := 0#32
  let c1_i32_5210 : BitVec 32 := 1#32
  let v4107 : BitVec 32 := Scalar.muli v13 c1_i32_5210
  let v4108 : BitVec 32 := Scalar.addi c0_i32_5211 v4107
  v4108.toNat
def k0_dev150 (v8 : BitVec 32) : Nat :=
  let c0_i32_5214 : BitVec 32 := 0#32
  let c1_i32_5213 : BitVec 32 := 1#32
  let v4109 : BitVec 32 := Scalar.muli v8 c1_i32_5213
  let v4110 : BitVec 32 := Scalar.addi c0_i32_5214 v4109
  v4110.toNat
def k0_dev151 (v8 : BitVec 32) : Nat :=
  let c0_i32_5316 : BitVec 32 := 0#32
  let c1_i32_5315 : BitVec 32 := 1#32
  let v4186 : BitVec 32 := Scalar.muli v8 c1_i32_5315
  let v4187 : BitVec 32 := Scalar.addi c0_i32_5316 v4186
  v4187.toNat
def k0_dev152 (v13 : BitVec 32) : Nat :=
  let c0_i32_5328 : BitVec 32 := 0#32
  let c1_i32_5327 : BitVec 32 := 1#32
  let v4196 : BitVec 32 := Scalar.muli v13 c1_i32_5327
  let v4197 : BitVec 32 := Scalar.addi c0_i32_5328 v4196
  v4197.toNat
def k0_dev153 (v8 : BitVec 32) : Nat :=
  let c0_i32_5406 : BitVec 32 := 0#32
  let c1_i32_5405 : BitVec 32 := 1#32
  let v4254 : BitVec 32 := Scalar.muli v8 c1_i32_5405
  let v4255 : BitVec 32 := Scalar.addi c0_i32_5406 v4254
  v4255.toNat
def k0_dev154 (v13 : BitVec 32) : Nat :=
  let c0_i32_5418 : BitVec 32 := 0#32
  let c1_i32_5417 : BitVec 32 := 1#32
  let v4264 : BitVec 32 := Scalar.muli v13 c1_i32_5417
  let v4265 : BitVec 32 := Scalar.addi c0_i32_5418 v4264
  v4265.toNat
def k0_dev155 (v13 : BitVec 32) : Nat :=
  let c0_i32_5425 : BitVec 32 := 0#32
  let c1_i32_5424 : BitVec 32 := 1#32
  let v4274 : BitVec 32 := Scalar.muli v13 c1_i32_5424
  let v4275 : BitVec 32 := Scalar.addi c0_i32_5425 v4274
  v4275.toNat
def k0_dev156 (v8 : BitVec 32) : Nat :=
  let c0_i32_5428 : BitVec 32 := 0#32
  let c1_i32_5427 : BitVec 32 := 1#32
  let v4276 : BitVec 32 := Scalar.muli v8 c1_i32_5427
  let v4277 : BitVec 32 := Scalar.addi c0_i32_5428 v4276
  v4277.toNat
def k0_dev157 (v8 : BitVec 32) : Nat :=
  let c0_i32_5530 : BitVec 32 := 0#32
  let c1_i32_5529 : BitVec 32 := 1#32
  let v4353 : BitVec 32 := Scalar.muli v8 c1_i32_5529
  let v4354 : BitVec 32 := Scalar.addi c0_i32_5530 v4353
  v4354.toNat
def k0_dev158 (v13 : BitVec 32) : Nat :=
  let c0_i32_5542 : BitVec 32 := 0#32
  let c1_i32_5541 : BitVec 32 := 1#32
  let v4363 : BitVec 32 := Scalar.muli v13 c1_i32_5541
  let v4364 : BitVec 32 := Scalar.addi c0_i32_5542 v4363
  v4364.toNat
def k0_dev159 (v8 : BitVec 32) : Nat :=
  let c0_i32_5620 : BitVec 32 := 0#32
  let c1_i32_5619 : BitVec 32 := 1#32
  let v4421 : BitVec 32 := Scalar.muli v8 c1_i32_5619
  let v4422 : BitVec 32 := Scalar.addi c0_i32_5620 v4421
  v4422.toNat
def k0_dev160 (v13 : BitVec 32) : Nat :=
  let c0_i32_5632 : BitVec 32 := 0#32
  let c1_i32_5631 : BitVec 32 := 1#32
  let v4431 : BitVec 32 := Scalar.muli v13 c1_i32_5631
  let v4432 : BitVec 32 := Scalar.addi c0_i32_5632 v4431
  v4432.toNat
def k0_dev161 (v13 : BitVec 32) : Nat :=
  let c0_i32_5639 : BitVec 32 := 0#32
  let c1_i32_5638 : BitVec 32 := 1#32
  let v4441 : BitVec 32 := Scalar.muli v13 c1_i32_5638
  let v4442 : BitVec 32 := Scalar.addi c0_i32_5639 v4441
  v4442.toNat
def k0_dev162 (v8 : BitVec 32) : Nat :=
  let c0_i32_5642 : BitVec 32 := 0#32
  let c1_i32_5641 : BitVec 32 := 1#32
  let v4443 : BitVec 32 := Scalar.muli v8 c1_i32_5641
  let v4444 : BitVec 32 := Scalar.addi c0_i32_5642 v4443
  v4444.toNat
def k0_dev163 (v8 : BitVec 32) : Nat :=
  let c0_i32_5744 : BitVec 32 := 0#32
  let c1_i32_5743 : BitVec 32 := 1#32
  let v4520 : BitVec 32 := Scalar.muli v8 c1_i32_5743
  let v4521 : BitVec 32 := Scalar.addi c0_i32_5744 v4520
  v4521.toNat
def k0_dev164 (v13 : BitVec 32) : Nat :=
  let c0_i32_5756 : BitVec 32 := 0#32
  let c1_i32_5755 : BitVec 32 := 1#32
  let v4530 : BitVec 32 := Scalar.muli v13 c1_i32_5755
  let v4531 : BitVec 32 := Scalar.addi c0_i32_5756 v4530
  v4531.toNat
def k0_dev165 (v8 : BitVec 32) : Nat :=
  let c0_i32_5834 : BitVec 32 := 0#32
  let c1_i32_5833 : BitVec 32 := 1#32
  let v4588 : BitVec 32 := Scalar.muli v8 c1_i32_5833
  let v4589 : BitVec 32 := Scalar.addi c0_i32_5834 v4588
  v4589.toNat
def k0_dev166 (v13 : BitVec 32) : Nat :=
  let c0_i32_5846 : BitVec 32 := 0#32
  let c1_i32_5845 : BitVec 32 := 1#32
  let v4598 : BitVec 32 := Scalar.muli v13 c1_i32_5845
  let v4599 : BitVec 32 := Scalar.addi c0_i32_5846 v4598
  v4599.toNat
def k0_dev167 (v13 : BitVec 32) : Nat :=
  let c0_i32_5853 : BitVec 32 := 0#32
  let c1_i32_5852 : BitVec 32 := 1#32
  let v4608 : BitVec 32 := Scalar.muli v13 c1_i32_5852
  let v4609 : BitVec 32 := Scalar.addi c0_i32_5853 v4608
  v4609.toNat
def k0_dev168 (v8 : BitVec 32) : Nat :=
  let c0_i32_5856 : BitVec 32 := 0#32
  let c1_i32_5855 : BitVec 32 := 1#32
  let v4610 : BitVec 32 := Scalar.muli v8 c1_i32_5855
  let v4611 : BitVec 32 := Scalar.addi c0_i32_5856 v4610
  v4611.toNat
def k0_dev169 (v8 : BitVec 32) : Nat :=
  let c0_i32_5958 : BitVec 32 := 0#32
  let c1_i32_5957 : BitVec 32 := 1#32
  let v4687 : BitVec 32 := Scalar.muli v8 c1_i32_5957
  let v4688 : BitVec 32 := Scalar.addi c0_i32_5958 v4687
  v4688.toNat
def k0_dev170 (v13 : BitVec 32) : Nat :=
  let c0_i32_5970 : BitVec 32 := 0#32
  let c1_i32_5969 : BitVec 32 := 1#32
  let v4697 : BitVec 32 := Scalar.muli v13 c1_i32_5969
  let v4698 : BitVec 32 := Scalar.addi c0_i32_5970 v4697
  v4698.toNat
def k0_dev171 (v8 : BitVec 32) : Nat :=
  let c0_i32_6048 : BitVec 32 := 0#32
  let c1_i32_6047 : BitVec 32 := 1#32
  let v4755 : BitVec 32 := Scalar.muli v8 c1_i32_6047
  let v4756 : BitVec 32 := Scalar.addi c0_i32_6048 v4755
  v4756.toNat
def k0_dev172 (v13 : BitVec 32) : Nat :=
  let c0_i32_6060 : BitVec 32 := 0#32
  let c1_i32_6059 : BitVec 32 := 1#32
  let v4765 : BitVec 32 := Scalar.muli v13 c1_i32_6059
  let v4766 : BitVec 32 := Scalar.addi c0_i32_6060 v4765
  v4766.toNat
def k0_dev173 (v13 : BitVec 32) : Nat :=
  let c0_i32_6067 : BitVec 32 := 0#32
  let c1_i32_6066 : BitVec 32 := 1#32
  let v4775 : BitVec 32 := Scalar.muli v13 c1_i32_6066
  let v4776 : BitVec 32 := Scalar.addi c0_i32_6067 v4775
  v4776.toNat
def k0_dev174 (v8 : BitVec 32) : Nat :=
  let c0_i32_6070 : BitVec 32 := 0#32
  let c1_i32_6069 : BitVec 32 := 1#32
  let v4777 : BitVec 32 := Scalar.muli v8 c1_i32_6069
  let v4778 : BitVec 32 := Scalar.addi c0_i32_6070 v4777
  v4778.toNat
def k0_dev175 (v8 : BitVec 32) : Nat :=
  let c0_i32_6172 : BitVec 32 := 0#32
  let c1_i32_6171 : BitVec 32 := 1#32
  let v4854 : BitVec 32 := Scalar.muli v8 c1_i32_6171
  let v4855 : BitVec 32 := Scalar.addi c0_i32_6172 v4854
  v4855.toNat
def k0_dev176 (v13 : BitVec 32) : Nat :=
  let c0_i32_6184 : BitVec 32 := 0#32
  let c1_i32_6183 : BitVec 32 := 1#32
  let v4864 : BitVec 32 := Scalar.muli v13 c1_i32_6183
  let v4865 : BitVec 32 := Scalar.addi c0_i32_6184 v4864
  v4865.toNat
def k0_dev177 (v8 : BitVec 32) : Nat :=
  let c0_i32_6262 : BitVec 32 := 0#32
  let c1_i32_6261 : BitVec 32 := 1#32
  let v4922 : BitVec 32 := Scalar.muli v8 c1_i32_6261
  let v4923 : BitVec 32 := Scalar.addi c0_i32_6262 v4922
  v4923.toNat
def k0_dev178 (v13 : BitVec 32) : Nat :=
  let c0_i32_6274 : BitVec 32 := 0#32
  let c1_i32_6273 : BitVec 32 := 1#32
  let v4932 : BitVec 32 := Scalar.muli v13 c1_i32_6273
  let v4933 : BitVec 32 := Scalar.addi c0_i32_6274 v4932
  v4933.toNat
def k0_dev179 (v13 : BitVec 32) : Nat :=
  let c0_i32_6281 : BitVec 32 := 0#32
  let c1_i32_6280 : BitVec 32 := 1#32
  let v4942 : BitVec 32 := Scalar.muli v13 c1_i32_6280
  let v4943 : BitVec 32 := Scalar.addi c0_i32_6281 v4942
  v4943.toNat
def k0_dev180 (v8 : BitVec 32) : Nat :=
  let c0_i32_6284 : BitVec 32 := 0#32
  let c1_i32_6283 : BitVec 32 := 1#32
  let v4944 : BitVec 32 := Scalar.muli v8 c1_i32_6283
  let v4945 : BitVec 32 := Scalar.addi c0_i32_6284 v4944
  v4945.toNat
def k0_dev181 (v8 : BitVec 32) : Nat :=
  let c0_i32_6386 : BitVec 32 := 0#32
  let c1_i32_6385 : BitVec 32 := 1#32
  let v5021 : BitVec 32 := Scalar.muli v8 c1_i32_6385
  let v5022 : BitVec 32 := Scalar.addi c0_i32_6386 v5021
  v5022.toNat
def k0_dev182 (v13 : BitVec 32) : Nat :=
  let c0_i32_6398 : BitVec 32 := 0#32
  let c1_i32_6397 : BitVec 32 := 1#32
  let v5031 : BitVec 32 := Scalar.muli v13 c1_i32_6397
  let v5032 : BitVec 32 := Scalar.addi c0_i32_6398 v5031
  v5032.toNat
def k0_dev183 (v8 : BitVec 32) : Nat :=
  let c0_i32_6476 : BitVec 32 := 0#32
  let c1_i32_6475 : BitVec 32 := 1#32
  let v5089 : BitVec 32 := Scalar.muli v8 c1_i32_6475
  let v5090 : BitVec 32 := Scalar.addi c0_i32_6476 v5089
  v5090.toNat
def k0_dev184 (v13 : BitVec 32) : Nat :=
  let c0_i32_6488 : BitVec 32 := 0#32
  let c1_i32_6487 : BitVec 32 := 1#32
  let v5099 : BitVec 32 := Scalar.muli v13 c1_i32_6487
  let v5100 : BitVec 32 := Scalar.addi c0_i32_6488 v5099
  v5100.toNat
def k0_dev185 (v13 : BitVec 32) : Nat :=
  let c0_i32_6495 : BitVec 32 := 0#32
  let c1_i32_6494 : BitVec 32 := 1#32
  let v5109 : BitVec 32 := Scalar.muli v13 c1_i32_6494
  let v5110 : BitVec 32 := Scalar.addi c0_i32_6495 v5109
  v5110.toNat
def k0_dev186 (v8 : BitVec 32) : Nat :=
  let c0_i32_6498 : BitVec 32 := 0#32
  let c1_i32_6497 : BitVec 32 := 1#32
  let v5111 : BitVec 32 := Scalar.muli v8 c1_i32_6497
  let v5112 : BitVec 32 := Scalar.addi c0_i32_6498 v5111
  v5112.toNat
def k0_dev187 (v8 : BitVec 32) : Nat :=
  let c0_i32_6576 : BitVec 32 := 0#32
  let c1_i32_6575 : BitVec 32 := 1#32
  let v5161 : BitVec 32 := Scalar.muli v8 c1_i32_6575
  let v5162 : BitVec 32 := Scalar.addi c0_i32_6576 v5161
  v5162.toNat
def k0_dev188 (v13 : BitVec 32) : Nat :=
  let c0_i32_6588 : BitVec 32 := 0#32
  let c1_i32_6587 : BitVec 32 := 1#32
  let v5171 : BitVec 32 := Scalar.muli v13 c1_i32_6587
  let v5172 : BitVec 32 := Scalar.addi c0_i32_6588 v5171
  v5172.toNat
def k0_dev189 (v8 : BitVec 32) : Nat :=
  let c0_i32_6666 : BitVec 32 := 0#32
  let c1_i32_6665 : BitVec 32 := 1#32
  let v5229 : BitVec 32 := Scalar.muli v8 c1_i32_6665
  let v5230 : BitVec 32 := Scalar.addi c0_i32_6666 v5229
  v5230.toNat
def k0_dev190 (v13 : BitVec 32) : Nat :=
  let c0_i32_6678 : BitVec 32 := 0#32
  let c1_i32_6677 : BitVec 32 := 1#32
  let v5239 : BitVec 32 := Scalar.muli v13 c1_i32_6677
  let v5240 : BitVec 32 := Scalar.addi c0_i32_6678 v5239
  v5240.toNat
def k0_dev191 (v13 : BitVec 32) : Nat :=
  let c0_i32_6685 : BitVec 32 := 0#32
  let c1_i32_6684 : BitVec 32 := 1#32
  let v5249 : BitVec 32 := Scalar.muli v13 c1_i32_6684
  let v5250 : BitVec 32 := Scalar.addi c0_i32_6685 v5249
  v5250.toNat
def k0_dev192 (v8 : BitVec 32) : Nat :=
  let c0_i32_6688 : BitVec 32 := 0#32
  let c1_i32_6687 : BitVec 32 := 1#32
  let v5251 : BitVec 32 := Scalar.muli v8 c1_i32_6687
  let v5252 : BitVec 32 := Scalar.addi c0_i32_6688 v5251
  v5252.toNat
def k0_off7 (v4 : BitVec 32) (c1_i32_6689 : BitVec 32) (c0_i32_6699 : BitVec 32) : Fin 2 → Nat :=
  let v5253 : BitVec 32 := Scalar.addi v4 c1_i32_6689
  let c32_i32_6690 : BitVec 32 := 32#32
  let v5254 : BitVec 32 := Scalar.remsi v5253 c32_i32_6690
  let c128_i32_6698 : BitVec 32 := 128#32
  let v5263 : BitVec 32 := Scalar.muli v5254 c128_i32_6698
  let v5264 : BitVec 32 := Scalar.addi v5263 c0_i32_6699
  let c0_i32_6702 : BitVec 32 := 0#32
  ![v5264.toNat, 0]
def k0_off7_at (r : Fin 32) : BitVec 32 × BitVec 32 :=
  if r.val < 16 then
    if r.val < 8 then
      if r.val < 4 then
        if r.val < 2 then
          if r.val < 1 then
            (1#32, 0#32)
          else
            (0#32, 64#32)
        else
          if r.val < 3 then
            (1#32, 64#32)
          else
            (2#32, 64#32)
      else
        if r.val < 6 then
          if r.val < 5 then
            (3#32, 64#32)
          else
            (4#32, 64#32)
        else
          if r.val < 7 then
            (5#32, 64#32)
          else
            (6#32, 64#32)
    else
      if r.val < 12 then
        if r.val < 10 then
          if r.val < 9 then
            (7#32, 64#32)
          else
            (8#32, 64#32)
        else
          if r.val < 11 then
            (9#32, 64#32)
          else
            (10#32, 64#32)
      else
        if r.val < 14 then
          if r.val < 13 then
            (11#32, 64#32)
          else
            (12#32, 64#32)
        else
          if r.val < 15 then
            (13#32, 64#32)
          else
            (14#32, 64#32)
  else
    if r.val < 24 then
      if r.val < 20 then
        if r.val < 18 then
          if r.val < 17 then
            (15#32, 64#32)
          else
            (16#32, 64#32)
        else
          if r.val < 19 then
            (17#32, 64#32)
          else
            (18#32, 64#32)
      else
        if r.val < 22 then
          if r.val < 21 then
            (19#32, 64#32)
          else
            (20#32, 64#32)
        else
          if r.val < 23 then
            (21#32, 64#32)
          else
            (22#32, 64#32)
    else
      if r.val < 28 then
        if r.val < 26 then
          if r.val < 25 then
            (23#32, 64#32)
          else
            (24#32, 64#32)
        else
          if r.val < 27 then
            (25#32, 64#32)
          else
            (26#32, 64#32)
      else
        if r.val < 30 then
          if r.val < 29 then
            (27#32, 64#32)
          else
            (28#32, 64#32)
        else
          if r.val < 31 then
            (29#32, 64#32)
          else
            (30#32, 64#32)
def k0_off8 (v4 : BitVec 32) : Fin 2 → Nat :=
  let c32_i32_6705 : BitVec 32 := 32#32
  let v5270 : BitVec 32 := Scalar.addi v4 c32_i32_6705
  let c1_i32_6706 : BitVec 32 := 1#32
  let v5271 : BitVec 32 := Scalar.subi v5270 c1_i32_6706
  let c32_i32_6707 : BitVec 32 := 32#32
  let v5272 : BitVec 32 := Scalar.remsi v5271 c32_i32_6707
  let c128_i32_6715 : BitVec 32 := 128#32
  let v5281 : BitVec 32 := Scalar.muli v5272 c128_i32_6715
  let c64_i32_6716 : BitVec 32 := 64#32
  let v5282 : BitVec 32 := Scalar.addi v5281 c64_i32_6716
  let c0_i32_6719 : BitVec 32 := 0#32
  ![v5282.toNat, 0]
def k0_dev193 (v8 : BitVec 32) : Nat :=
  let c0_i32_6779 : BitVec 32 := 0#32
  let c1_i32_6778 : BitVec 32 := 1#32
  let v5316 : BitVec 32 := Scalar.muli v8 c1_i32_6778
  let v5317 : BitVec 32 := Scalar.addi c0_i32_6779 v5316
  v5317.toNat
def k0_dev194 (v13 : BitVec 32) : Nat :=
  let c0_i32_6791 : BitVec 32 := 0#32
  let c1_i32_6790 : BitVec 32 := 1#32
  let v5326 : BitVec 32 := Scalar.muli v13 c1_i32_6790
  let v5327 : BitVec 32 := Scalar.addi c0_i32_6791 v5326
  v5327.toNat
def k0_dev195 (v8 : BitVec 32) : Nat :=
  let c0_i32_6849 : BitVec 32 := 0#32
  let c1_i32_6848 : BitVec 32 := 1#32
  let v5364 : BitVec 32 := Scalar.muli v8 c1_i32_6848
  let v5365 : BitVec 32 := Scalar.addi c0_i32_6849 v5364
  v5365.toNat
def k0_dev196 (v13 : BitVec 32) : Nat :=
  let c0_i32_6861 : BitVec 32 := 0#32
  let c1_i32_6860 : BitVec 32 := 1#32
  let v5374 : BitVec 32 := Scalar.muli v13 c1_i32_6860
  let v5375 : BitVec 32 := Scalar.addi c0_i32_6861 v5374
  v5375.toNat
def k0_dev197 (v13 : BitVec 32) : Nat :=
  let c0_i32_6868 : BitVec 32 := 0#32
  let c1_i32_6867 : BitVec 32 := 1#32
  let v5384 : BitVec 32 := Scalar.muli v13 c1_i32_6867
  let v5385 : BitVec 32 := Scalar.addi c0_i32_6868 v5384
  v5385.toNat
def k0_dev198 (v8 : BitVec 32) : Nat :=
  let c0_i32_6871 : BitVec 32 := 0#32
  let c1_i32_6870 : BitVec 32 := 1#32
  let v5386 : BitVec 32 := Scalar.muli v8 c1_i32_6870
  let v5387 : BitVec 32 := Scalar.addi c0_i32_6871 v5386
  v5387.toNat
def k0_off9 (v4 : BitVec 32) (c0_i32_6872 : BitVec 32) : Fin 2 → Nat :=
  let v5388 : BitVec 32 := Scalar.subi v4 c0_i32_6872
  let c64_i32_6873 : BitVec 32 := 64#32
  let v5389 : BitVec 32 := Scalar.addi v5388 c64_i32_6873
  let c32_i32_6874 : BitVec 32 := 32#32
  let v5390 : BitVec 32 := Scalar.remsi v5389 c32_i32_6874
  let c128_i32_6882 : BitVec 32 := 128#32
  let v5399 : BitVec 32 := Scalar.muli v5390 c128_i32_6882
  let c0_i32_6883 : BitVec 32 := 0#32
  let v5400 : BitVec 32 := Scalar.addi v5399 c0_i32_6883
  let c0_i32_6886 : BitVec 32 := 0#32
  ![v5400.toNat, 0]

def k0_chk1 (v4 : BitVec 32) : Prop :=
  (∀ a, (k0_off2 v4) a + S1.size a ≤ S32.size a) ∧
  (∀ a, (k0_off3 v4) a + S1.size a ≤ S32.size a) ∧
  (∀ a, (k0_off4 v4) a + S128x128.size a ≤ S4096x128.size a) ∧
  (∀ (r : Fin 31), ∀ a, (k0_off5 v4 (BitVec.ofNat 32 (1 + r.val))) a + S64x128.size a ≤ S4096x128.size a) ∧
  (∀ (r : Fin 31), ∀ a, (k0_off6 v4 (BitVec.ofNat 32 (1 + r.val))) a + S64x128.size a ≤ S4096x128.size a) ∧
  (∀ (r : Fin 32), ∀ a, (k0_off7 v4 (k0_off7_at r).1 (k0_off7_at r).2) a + S64x8192.size a ≤ S4096x8192.size a) ∧
  (∀ a, (k0_off8 v4) a + S64x8192.size a ≤ S4096x8192.size a) ∧
  (∀ (r : Fin 31), ∀ a, (k0_off9 v4 (BitVec.ofNat 32 r.val)) a + S64x8192.size a ≤ S4096x8192.size a)
theorem k0_off2_inb : ∀ (v4 : BitVec 32) (k0_hw1 : k0_chk1 v4), ∀ a, (k0_off2 v4) a + S1.size a ≤ S32.size a := fun v4 k0_hw1 => k0_hw1.1
theorem k0_off3_inb : ∀ (v4 : BitVec 32) (k0_hw1 : k0_chk1 v4), ∀ a, (k0_off3 v4) a + S1.size a ≤ S32.size a := fun v4 k0_hw1 => k0_hw1.2.1
theorem k0_off4_inb : ∀ (v4 : BitVec 32) (k0_hw1 : k0_chk1 v4), ∀ a, (k0_off4 v4) a + S128x128.size a ≤ S4096x128.size a := fun v4 k0_hw1 => k0_hw1.2.2.1
theorem k0_off5_inb : ∀ (v4 : BitVec 32) (k0_hw1 : k0_chk1 v4), ∀ (r : Fin 31), ∀ a, (k0_off5 v4 (BitVec.ofNat 32 (1 + r.val))) a + S64x128.size a ≤ S4096x128.size a := fun v4 k0_hw1 r => k0_hw1.2.2.2.1 r
theorem k0_off6_inb : ∀ (v4 : BitVec 32) (k0_hw1 : k0_chk1 v4), ∀ (r : Fin 31), ∀ a, (k0_off6 v4 (BitVec.ofNat 32 (1 + r.val))) a + S64x128.size a ≤ S4096x128.size a := fun v4 k0_hw1 r => k0_hw1.2.2.2.2.1 r
theorem k0_off7_inb : ∀ (v4 : BitVec 32) (k0_hw1 : k0_chk1 v4), ∀ (r : Fin 32), ∀ a, (k0_off7 v4 (k0_off7_at r).1 (k0_off7_at r).2) a + S64x8192.size a ≤ S4096x8192.size a := fun v4 k0_hw1 r => k0_hw1.2.2.2.2.2.1 r
theorem k0_off8_inb : ∀ (v4 : BitVec 32) (k0_hw1 : k0_chk1 v4), ∀ a, (k0_off8 v4) a + S64x8192.size a ≤ S4096x8192.size a := fun v4 k0_hw1 => k0_hw1.2.2.2.2.2.2.1
theorem k0_off9_inb : ∀ (v4 : BitVec 32) (k0_hw1 : k0_chk1 v4), ∀ (r : Fin 31), ∀ a, (k0_off9 v4 (BitVec.ofNat 32 r.val)) a + S64x8192.size a ≤ S4096x8192.size a := fun v4 k0_hw1 r => k0_hw1.2.2.2.2.2.2.2 r

def k0_dev199 (v8 : BitVec 32) : Nat :=
  let c0_i32_6962 : BitVec 32 := 0#32
  let c1_i32_6961 : BitVec 32 := 1#32
  let v5451 : BitVec 32 := Scalar.muli v8 c1_i32_6961
  let v5452 : BitVec 32 := Scalar.addi c0_i32_6962 v5451
  v5452.toNat
def k0_dev200 (v13 : BitVec 32) : Nat :=
  let c0_i32_6974 : BitVec 32 := 0#32
  let c1_i32_6973 : BitVec 32 := 1#32
  let v5461 : BitVec 32 := Scalar.muli v13 c1_i32_6973
  let v5462 : BitVec 32 := Scalar.addi c0_i32_6974 v5461
  v5462.toNat
def k0_dev201 (v8 : BitVec 32) : Nat :=
  let c0_i32_7032 : BitVec 32 := 0#32
  let c1_i32_7031 : BitVec 32 := 1#32
  let v5499 : BitVec 32 := Scalar.muli v8 c1_i32_7031
  let v5500 : BitVec 32 := Scalar.addi c0_i32_7032 v5499
  v5500.toNat
def k0_dev202 (v13 : BitVec 32) : Nat :=
  let c0_i32_7044 : BitVec 32 := 0#32
  let c1_i32_7043 : BitVec 32 := 1#32
  let v5509 : BitVec 32 := Scalar.muli v13 c1_i32_7043
  let v5510 : BitVec 32 := Scalar.addi c0_i32_7044 v5509
  v5510.toNat
def k0_dev203 (v13 : BitVec 32) : Nat :=
  let c0_i32_7051 : BitVec 32 := 0#32
  let c1_i32_7050 : BitVec 32 := 1#32
  let v5519 : BitVec 32 := Scalar.muli v13 c1_i32_7050
  let v5520 : BitVec 32 := Scalar.addi c0_i32_7051 v5519
  v5520.toNat
def k0_dev204 (v8 : BitVec 32) : Nat :=
  let c0_i32_7054 : BitVec 32 := 0#32
  let c1_i32_7053 : BitVec 32 := 1#32
  let v5521 : BitVec 32 := Scalar.muli v8 c1_i32_7053
  let v5522 : BitVec 32 := Scalar.addi c0_i32_7054 v5521
  v5522.toNat
def k0_dev205 (v8 : BitVec 32) : Nat :=
  let c0_i32_7155 : BitVec 32 := 0#32
  let c1_i32_7154 : BitVec 32 := 1#32
  let v5596 : BitVec 32 := Scalar.muli v8 c1_i32_7154
  let v5597 : BitVec 32 := Scalar.addi c0_i32_7155 v5596
  v5597.toNat
def k0_dev206 (v13 : BitVec 32) : Nat :=
  let c0_i32_7167 : BitVec 32 := 0#32
  let c1_i32_7166 : BitVec 32 := 1#32
  let v5606 : BitVec 32 := Scalar.muli v13 c1_i32_7166
  let v5607 : BitVec 32 := Scalar.addi c0_i32_7167 v5606
  v5607.toNat
def k0_dev207 (v8 : BitVec 32) : Nat :=
  let c0_i32_7225 : BitVec 32 := 0#32
  let c1_i32_7224 : BitVec 32 := 1#32
  let v5644 : BitVec 32 := Scalar.muli v8 c1_i32_7224
  let v5645 : BitVec 32 := Scalar.addi c0_i32_7225 v5644
  v5645.toNat
def k0_dev208 (v13 : BitVec 32) : Nat :=
  let c0_i32_7237 : BitVec 32 := 0#32
  let c1_i32_7236 : BitVec 32 := 1#32
  let v5654 : BitVec 32 := Scalar.muli v13 c1_i32_7236
  let v5655 : BitVec 32 := Scalar.addi c0_i32_7237 v5654
  v5655.toNat
def k0_dev209 (v13 : BitVec 32) : Nat :=
  let c0_i32_7244 : BitVec 32 := 0#32
  let c1_i32_7243 : BitVec 32 := 1#32
  let v5664 : BitVec 32 := Scalar.muli v13 c1_i32_7243
  let v5665 : BitVec 32 := Scalar.addi c0_i32_7244 v5664
  v5665.toNat
def k0_dev210 (v8 : BitVec 32) : Nat :=
  let c0_i32_7247 : BitVec 32 := 0#32
  let c1_i32_7246 : BitVec 32 := 1#32
  let v5666 : BitVec 32 := Scalar.muli v8 c1_i32_7246
  let v5667 : BitVec 32 := Scalar.addi c0_i32_7247 v5666
  v5667.toNat
def k0_dev211 (v8 : BitVec 32) : Nat :=
  let c0_i32_7348 : BitVec 32 := 0#32
  let c1_i32_7347 : BitVec 32 := 1#32
  let v5741 : BitVec 32 := Scalar.muli v8 c1_i32_7347
  let v5742 : BitVec 32 := Scalar.addi c0_i32_7348 v5741
  v5742.toNat
def k0_dev212 (v13 : BitVec 32) : Nat :=
  let c0_i32_7360 : BitVec 32 := 0#32
  let c1_i32_7359 : BitVec 32 := 1#32
  let v5751 : BitVec 32 := Scalar.muli v13 c1_i32_7359
  let v5752 : BitVec 32 := Scalar.addi c0_i32_7360 v5751
  v5752.toNat
def k0_dev213 (v8 : BitVec 32) : Nat :=
  let c0_i32_7418 : BitVec 32 := 0#32
  let c1_i32_7417 : BitVec 32 := 1#32
  let v5789 : BitVec 32 := Scalar.muli v8 c1_i32_7417
  let v5790 : BitVec 32 := Scalar.addi c0_i32_7418 v5789
  v5790.toNat
def k0_dev214 (v13 : BitVec 32) : Nat :=
  let c0_i32_7430 : BitVec 32 := 0#32
  let c1_i32_7429 : BitVec 32 := 1#32
  let v5799 : BitVec 32 := Scalar.muli v13 c1_i32_7429
  let v5800 : BitVec 32 := Scalar.addi c0_i32_7430 v5799
  v5800.toNat
def k0_dev215 (v13 : BitVec 32) : Nat :=
  let c0_i32_7437 : BitVec 32 := 0#32
  let c1_i32_7436 : BitVec 32 := 1#32
  let v5809 : BitVec 32 := Scalar.muli v13 c1_i32_7436
  let v5810 : BitVec 32 := Scalar.addi c0_i32_7437 v5809
  v5810.toNat
def k0_dev216 (v8 : BitVec 32) : Nat :=
  let c0_i32_7440 : BitVec 32 := 0#32
  let c1_i32_7439 : BitVec 32 := 1#32
  let v5811 : BitVec 32 := Scalar.muli v8 c1_i32_7439
  let v5812 : BitVec 32 := Scalar.addi c0_i32_7440 v5811
  v5812.toNat
def k0_dev217 (v8 : BitVec 32) : Nat :=
  let c0_i32_7541 : BitVec 32 := 0#32
  let c1_i32_7540 : BitVec 32 := 1#32
  let v5886 : BitVec 32 := Scalar.muli v8 c1_i32_7540
  let v5887 : BitVec 32 := Scalar.addi c0_i32_7541 v5886
  v5887.toNat
def k0_dev218 (v13 : BitVec 32) : Nat :=
  let c0_i32_7553 : BitVec 32 := 0#32
  let c1_i32_7552 : BitVec 32 := 1#32
  let v5896 : BitVec 32 := Scalar.muli v13 c1_i32_7552
  let v5897 : BitVec 32 := Scalar.addi c0_i32_7553 v5896
  v5897.toNat
def k0_dev219 (v8 : BitVec 32) : Nat :=
  let c0_i32_7611 : BitVec 32 := 0#32
  let c1_i32_7610 : BitVec 32 := 1#32
  let v5934 : BitVec 32 := Scalar.muli v8 c1_i32_7610
  let v5935 : BitVec 32 := Scalar.addi c0_i32_7611 v5934
  v5935.toNat
def k0_dev220 (v13 : BitVec 32) : Nat :=
  let c0_i32_7623 : BitVec 32 := 0#32
  let c1_i32_7622 : BitVec 32 := 1#32
  let v5944 : BitVec 32 := Scalar.muli v13 c1_i32_7622
  let v5945 : BitVec 32 := Scalar.addi c0_i32_7623 v5944
  v5945.toNat
def k0_dev221 (v13 : BitVec 32) : Nat :=
  let c0_i32_7630 : BitVec 32 := 0#32
  let c1_i32_7629 : BitVec 32 := 1#32
  let v5954 : BitVec 32 := Scalar.muli v13 c1_i32_7629
  let v5955 : BitVec 32 := Scalar.addi c0_i32_7630 v5954
  v5955.toNat
def k0_dev222 (v8 : BitVec 32) : Nat :=
  let c0_i32_7633 : BitVec 32 := 0#32
  let c1_i32_7632 : BitVec 32 := 1#32
  let v5956 : BitVec 32 := Scalar.muli v8 c1_i32_7632
  let v5957 : BitVec 32 := Scalar.addi c0_i32_7633 v5956
  v5957.toNat
def k0_dev223 (v8 : BitVec 32) : Nat :=
  let c0_i32_7734 : BitVec 32 := 0#32
  let c1_i32_7733 : BitVec 32 := 1#32
  let v6031 : BitVec 32 := Scalar.muli v8 c1_i32_7733
  let v6032 : BitVec 32 := Scalar.addi c0_i32_7734 v6031
  v6032.toNat
def k0_dev224 (v13 : BitVec 32) : Nat :=
  let c0_i32_7746 : BitVec 32 := 0#32
  let c1_i32_7745 : BitVec 32 := 1#32
  let v6041 : BitVec 32 := Scalar.muli v13 c1_i32_7745
  let v6042 : BitVec 32 := Scalar.addi c0_i32_7746 v6041
  v6042.toNat
def k0_dev225 (v8 : BitVec 32) : Nat :=
  let c0_i32_7804 : BitVec 32 := 0#32
  let c1_i32_7803 : BitVec 32 := 1#32
  let v6079 : BitVec 32 := Scalar.muli v8 c1_i32_7803
  let v6080 : BitVec 32 := Scalar.addi c0_i32_7804 v6079
  v6080.toNat
def k0_dev226 (v13 : BitVec 32) : Nat :=
  let c0_i32_7816 : BitVec 32 := 0#32
  let c1_i32_7815 : BitVec 32 := 1#32
  let v6089 : BitVec 32 := Scalar.muli v13 c1_i32_7815
  let v6090 : BitVec 32 := Scalar.addi c0_i32_7816 v6089
  v6090.toNat
def k0_dev227 (v13 : BitVec 32) : Nat :=
  let c0_i32_7823 : BitVec 32 := 0#32
  let c1_i32_7822 : BitVec 32 := 1#32
  let v6099 : BitVec 32 := Scalar.muli v13 c1_i32_7822
  let v6100 : BitVec 32 := Scalar.addi c0_i32_7823 v6099
  v6100.toNat
def k0_dev228 (v8 : BitVec 32) : Nat :=
  let c0_i32_7826 : BitVec 32 := 0#32
  let c1_i32_7825 : BitVec 32 := 1#32
  let v6101 : BitVec 32 := Scalar.muli v8 c1_i32_7825
  let v6102 : BitVec 32 := Scalar.addi c0_i32_7826 v6101
  v6102.toNat
def k0_dev229 (v8 : BitVec 32) : Nat :=
  let c0_i32_7927 : BitVec 32 := 0#32
  let c1_i32_7926 : BitVec 32 := 1#32
  let v6176 : BitVec 32 := Scalar.muli v8 c1_i32_7926
  let v6177 : BitVec 32 := Scalar.addi c0_i32_7927 v6176
  v6177.toNat
def k0_dev230 (v13 : BitVec 32) : Nat :=
  let c0_i32_7939 : BitVec 32 := 0#32
  let c1_i32_7938 : BitVec 32 := 1#32
  let v6186 : BitVec 32 := Scalar.muli v13 c1_i32_7938
  let v6187 : BitVec 32 := Scalar.addi c0_i32_7939 v6186
  v6187.toNat
def k0_dev231 (v8 : BitVec 32) : Nat :=
  let c0_i32_7997 : BitVec 32 := 0#32
  let c1_i32_7996 : BitVec 32 := 1#32
  let v6224 : BitVec 32 := Scalar.muli v8 c1_i32_7996
  let v6225 : BitVec 32 := Scalar.addi c0_i32_7997 v6224
  v6225.toNat
def k0_dev232 (v13 : BitVec 32) : Nat :=
  let c0_i32_8009 : BitVec 32 := 0#32
  let c1_i32_8008 : BitVec 32 := 1#32
  let v6234 : BitVec 32 := Scalar.muli v13 c1_i32_8008
  let v6235 : BitVec 32 := Scalar.addi c0_i32_8009 v6234
  v6235.toNat
def k0_dev233 (v13 : BitVec 32) : Nat :=
  let c0_i32_8016 : BitVec 32 := 0#32
  let c1_i32_8015 : BitVec 32 := 1#32
  let v6244 : BitVec 32 := Scalar.muli v13 c1_i32_8015
  let v6245 : BitVec 32 := Scalar.addi c0_i32_8016 v6244
  v6245.toNat
def k0_dev234 (v8 : BitVec 32) : Nat :=
  let c0_i32_8019 : BitVec 32 := 0#32
  let c1_i32_8018 : BitVec 32 := 1#32
  let v6246 : BitVec 32 := Scalar.muli v8 c1_i32_8018
  let v6247 : BitVec 32 := Scalar.addi c0_i32_8019 v6246
  v6247.toNat
def k0_dev235 (v8 : BitVec 32) : Nat :=
  let c0_i32_8120 : BitVec 32 := 0#32
  let c1_i32_8119 : BitVec 32 := 1#32
  let v6321 : BitVec 32 := Scalar.muli v8 c1_i32_8119
  let v6322 : BitVec 32 := Scalar.addi c0_i32_8120 v6321
  v6322.toNat
def k0_dev236 (v13 : BitVec 32) : Nat :=
  let c0_i32_8132 : BitVec 32 := 0#32
  let c1_i32_8131 : BitVec 32 := 1#32
  let v6331 : BitVec 32 := Scalar.muli v13 c1_i32_8131
  let v6332 : BitVec 32 := Scalar.addi c0_i32_8132 v6331
  v6332.toNat
def k0_dev237 (v8 : BitVec 32) : Nat :=
  let c0_i32_8190 : BitVec 32 := 0#32
  let c1_i32_8189 : BitVec 32 := 1#32
  let v6369 : BitVec 32 := Scalar.muli v8 c1_i32_8189
  let v6370 : BitVec 32 := Scalar.addi c0_i32_8190 v6369
  v6370.toNat
def k0_dev238 (v13 : BitVec 32) : Nat :=
  let c0_i32_8202 : BitVec 32 := 0#32
  let c1_i32_8201 : BitVec 32 := 1#32
  let v6379 : BitVec 32 := Scalar.muli v13 c1_i32_8201
  let v6380 : BitVec 32 := Scalar.addi c0_i32_8202 v6379
  v6380.toNat
def k0_dev239 (v13 : BitVec 32) : Nat :=
  let c0_i32_8209 : BitVec 32 := 0#32
  let c1_i32_8208 : BitVec 32 := 1#32
  let v6389 : BitVec 32 := Scalar.muli v13 c1_i32_8208
  let v6390 : BitVec 32 := Scalar.addi c0_i32_8209 v6389
  v6390.toNat
def k0_dev240 (v8 : BitVec 32) : Nat :=
  let c0_i32_8212 : BitVec 32 := 0#32
  let c1_i32_8211 : BitVec 32 := 1#32
  let v6391 : BitVec 32 := Scalar.muli v8 c1_i32_8211
  let v6392 : BitVec 32 := Scalar.addi c0_i32_8212 v6391
  v6392.toNat
def k0_dev241 (v8 : BitVec 32) : Nat :=
  let c0_i32_8313 : BitVec 32 := 0#32
  let c1_i32_8312 : BitVec 32 := 1#32
  let v6466 : BitVec 32 := Scalar.muli v8 c1_i32_8312
  let v6467 : BitVec 32 := Scalar.addi c0_i32_8313 v6466
  v6467.toNat
def k0_dev242 (v13 : BitVec 32) : Nat :=
  let c0_i32_8325 : BitVec 32 := 0#32
  let c1_i32_8324 : BitVec 32 := 1#32
  let v6476 : BitVec 32 := Scalar.muli v13 c1_i32_8324
  let v6477 : BitVec 32 := Scalar.addi c0_i32_8325 v6476
  v6477.toNat
def k0_dev243 (v8 : BitVec 32) : Nat :=
  let c0_i32_8383 : BitVec 32 := 0#32
  let c1_i32_8382 : BitVec 32 := 1#32
  let v6514 : BitVec 32 := Scalar.muli v8 c1_i32_8382
  let v6515 : BitVec 32 := Scalar.addi c0_i32_8383 v6514
  v6515.toNat
def k0_dev244 (v13 : BitVec 32) : Nat :=
  let c0_i32_8395 : BitVec 32 := 0#32
  let c1_i32_8394 : BitVec 32 := 1#32
  let v6524 : BitVec 32 := Scalar.muli v13 c1_i32_8394
  let v6525 : BitVec 32 := Scalar.addi c0_i32_8395 v6524
  v6525.toNat
def k0_dev245 (v13 : BitVec 32) : Nat :=
  let c0_i32_8402 : BitVec 32 := 0#32
  let c1_i32_8401 : BitVec 32 := 1#32
  let v6534 : BitVec 32 := Scalar.muli v13 c1_i32_8401
  let v6535 : BitVec 32 := Scalar.addi c0_i32_8402 v6534
  v6535.toNat
def k0_dev246 (v8 : BitVec 32) : Nat :=
  let c0_i32_8405 : BitVec 32 := 0#32
  let c1_i32_8404 : BitVec 32 := 1#32
  let v6536 : BitVec 32 := Scalar.muli v8 c1_i32_8404
  let v6537 : BitVec 32 := Scalar.addi c0_i32_8405 v6536
  v6537.toNat
def k0_dev247 (v8 : BitVec 32) : Nat :=
  let c0_i32_8506 : BitVec 32 := 0#32
  let c1_i32_8505 : BitVec 32 := 1#32
  let v6611 : BitVec 32 := Scalar.muli v8 c1_i32_8505
  let v6612 : BitVec 32 := Scalar.addi c0_i32_8506 v6611
  v6612.toNat
def k0_dev248 (v13 : BitVec 32) : Nat :=
  let c0_i32_8518 : BitVec 32 := 0#32
  let c1_i32_8517 : BitVec 32 := 1#32
  let v6621 : BitVec 32 := Scalar.muli v13 c1_i32_8517
  let v6622 : BitVec 32 := Scalar.addi c0_i32_8518 v6621
  v6622.toNat
def k0_dev249 (v8 : BitVec 32) : Nat :=
  let c0_i32_8576 : BitVec 32 := 0#32
  let c1_i32_8575 : BitVec 32 := 1#32
  let v6659 : BitVec 32 := Scalar.muli v8 c1_i32_8575
  let v6660 : BitVec 32 := Scalar.addi c0_i32_8576 v6659
  v6660.toNat
def k0_dev250 (v13 : BitVec 32) : Nat :=
  let c0_i32_8588 : BitVec 32 := 0#32
  let c1_i32_8587 : BitVec 32 := 1#32
  let v6669 : BitVec 32 := Scalar.muli v13 c1_i32_8587
  let v6670 : BitVec 32 := Scalar.addi c0_i32_8588 v6669
  v6670.toNat
def k0_dev251 (v13 : BitVec 32) : Nat :=
  let c0_i32_8595 : BitVec 32 := 0#32
  let c1_i32_8594 : BitVec 32 := 1#32
  let v6679 : BitVec 32 := Scalar.muli v13 c1_i32_8594
  let v6680 : BitVec 32 := Scalar.addi c0_i32_8595 v6679
  v6680.toNat
def k0_dev252 (v8 : BitVec 32) : Nat :=
  let c0_i32_8598 : BitVec 32 := 0#32
  let c1_i32_8597 : BitVec 32 := 1#32
  let v6681 : BitVec 32 := Scalar.muli v8 c1_i32_8597
  let v6682 : BitVec 32 := Scalar.addi c0_i32_8598 v6681
  v6682.toNat
def k0_dev253 (v8 : BitVec 32) : Nat :=
  let c0_i32_8699 : BitVec 32 := 0#32
  let c1_i32_8698 : BitVec 32 := 1#32
  let v6756 : BitVec 32 := Scalar.muli v8 c1_i32_8698
  let v6757 : BitVec 32 := Scalar.addi c0_i32_8699 v6756
  v6757.toNat
def k0_dev254 (v13 : BitVec 32) : Nat :=
  let c0_i32_8711 : BitVec 32 := 0#32
  let c1_i32_8710 : BitVec 32 := 1#32
  let v6766 : BitVec 32 := Scalar.muli v13 c1_i32_8710
  let v6767 : BitVec 32 := Scalar.addi c0_i32_8711 v6766
  v6767.toNat
def k0_dev255 (v8 : BitVec 32) : Nat :=
  let c0_i32_8769 : BitVec 32 := 0#32
  let c1_i32_8768 : BitVec 32 := 1#32
  let v6804 : BitVec 32 := Scalar.muli v8 c1_i32_8768
  let v6805 : BitVec 32 := Scalar.addi c0_i32_8769 v6804
  v6805.toNat
def k0_dev256 (v13 : BitVec 32) : Nat :=
  let c0_i32_8781 : BitVec 32 := 0#32
  let c1_i32_8780 : BitVec 32 := 1#32
  let v6814 : BitVec 32 := Scalar.muli v13 c1_i32_8780
  let v6815 : BitVec 32 := Scalar.addi c0_i32_8781 v6814
  v6815.toNat
def k0_dev257 (v13 : BitVec 32) : Nat :=
  let c0_i32_8788 : BitVec 32 := 0#32
  let c1_i32_8787 : BitVec 32 := 1#32
  let v6824 : BitVec 32 := Scalar.muli v13 c1_i32_8787
  let v6825 : BitVec 32 := Scalar.addi c0_i32_8788 v6824
  v6825.toNat
def k0_dev258 (v8 : BitVec 32) : Nat :=
  let c0_i32_8791 : BitVec 32 := 0#32
  let c1_i32_8790 : BitVec 32 := 1#32
  let v6826 : BitVec 32 := Scalar.muli v8 c1_i32_8790
  let v6827 : BitVec 32 := Scalar.addi c0_i32_8791 v6826
  v6827.toNat
def k0_dev259 (v8 : BitVec 32) : Nat :=
  let c0_i32_8892 : BitVec 32 := 0#32
  let c1_i32_8891 : BitVec 32 := 1#32
  let v6901 : BitVec 32 := Scalar.muli v8 c1_i32_8891
  let v6902 : BitVec 32 := Scalar.addi c0_i32_8892 v6901
  v6902.toNat
def k0_dev260 (v13 : BitVec 32) : Nat :=
  let c0_i32_8904 : BitVec 32 := 0#32
  let c1_i32_8903 : BitVec 32 := 1#32
  let v6911 : BitVec 32 := Scalar.muli v13 c1_i32_8903
  let v6912 : BitVec 32 := Scalar.addi c0_i32_8904 v6911
  v6912.toNat
def k0_dev261 (v8 : BitVec 32) : Nat :=
  let c0_i32_8962 : BitVec 32 := 0#32
  let c1_i32_8961 : BitVec 32 := 1#32
  let v6949 : BitVec 32 := Scalar.muli v8 c1_i32_8961
  let v6950 : BitVec 32 := Scalar.addi c0_i32_8962 v6949
  v6950.toNat
def k0_dev262 (v13 : BitVec 32) : Nat :=
  let c0_i32_8974 : BitVec 32 := 0#32
  let c1_i32_8973 : BitVec 32 := 1#32
  let v6959 : BitVec 32 := Scalar.muli v13 c1_i32_8973
  let v6960 : BitVec 32 := Scalar.addi c0_i32_8974 v6959
  v6960.toNat
def k0_dev263 (v13 : BitVec 32) : Nat :=
  let c0_i32_8981 : BitVec 32 := 0#32
  let c1_i32_8980 : BitVec 32 := 1#32
  let v6969 : BitVec 32 := Scalar.muli v13 c1_i32_8980
  let v6970 : BitVec 32 := Scalar.addi c0_i32_8981 v6969
  v6970.toNat
def k0_dev264 (v8 : BitVec 32) : Nat :=
  let c0_i32_8984 : BitVec 32 := 0#32
  let c1_i32_8983 : BitVec 32 := 1#32
  let v6971 : BitVec 32 := Scalar.muli v8 c1_i32_8983
  let v6972 : BitVec 32 := Scalar.addi c0_i32_8984 v6971
  v6972.toNat
def k0_dev265 (v8 : BitVec 32) : Nat :=
  let c0_i32_9085 : BitVec 32 := 0#32
  let c1_i32_9084 : BitVec 32 := 1#32
  let v7046 : BitVec 32 := Scalar.muli v8 c1_i32_9084
  let v7047 : BitVec 32 := Scalar.addi c0_i32_9085 v7046
  v7047.toNat
def k0_dev266 (v13 : BitVec 32) : Nat :=
  let c0_i32_9097 : BitVec 32 := 0#32
  let c1_i32_9096 : BitVec 32 := 1#32
  let v7056 : BitVec 32 := Scalar.muli v13 c1_i32_9096
  let v7057 : BitVec 32 := Scalar.addi c0_i32_9097 v7056
  v7057.toNat
def k0_dev267 (v8 : BitVec 32) : Nat :=
  let c0_i32_9155 : BitVec 32 := 0#32
  let c1_i32_9154 : BitVec 32 := 1#32
  let v7094 : BitVec 32 := Scalar.muli v8 c1_i32_9154
  let v7095 : BitVec 32 := Scalar.addi c0_i32_9155 v7094
  v7095.toNat
def k0_dev268 (v13 : BitVec 32) : Nat :=
  let c0_i32_9167 : BitVec 32 := 0#32
  let c1_i32_9166 : BitVec 32 := 1#32
  let v7104 : BitVec 32 := Scalar.muli v13 c1_i32_9166
  let v7105 : BitVec 32 := Scalar.addi c0_i32_9167 v7104
  v7105.toNat
def k0_dev269 (v13 : BitVec 32) : Nat :=
  let c0_i32_9174 : BitVec 32 := 0#32
  let c1_i32_9173 : BitVec 32 := 1#32
  let v7114 : BitVec 32 := Scalar.muli v13 c1_i32_9173
  let v7115 : BitVec 32 := Scalar.addi c0_i32_9174 v7114
  v7115.toNat
def k0_dev270 (v8 : BitVec 32) : Nat :=
  let c0_i32_9177 : BitVec 32 := 0#32
  let c1_i32_9176 : BitVec 32 := 1#32
  let v7116 : BitVec 32 := Scalar.muli v8 c1_i32_9176
  let v7117 : BitVec 32 := Scalar.addi c0_i32_9177 v7116
  v7117.toNat
def k0_dev271 (v8 : BitVec 32) : Nat :=
  let c0_i32_9278 : BitVec 32 := 0#32
  let c1_i32_9277 : BitVec 32 := 1#32
  let v7191 : BitVec 32 := Scalar.muli v8 c1_i32_9277
  let v7192 : BitVec 32 := Scalar.addi c0_i32_9278 v7191
  v7192.toNat
def k0_dev272 (v13 : BitVec 32) : Nat :=
  let c0_i32_9290 : BitVec 32 := 0#32
  let c1_i32_9289 : BitVec 32 := 1#32
  let v7201 : BitVec 32 := Scalar.muli v13 c1_i32_9289
  let v7202 : BitVec 32 := Scalar.addi c0_i32_9290 v7201
  v7202.toNat
def k0_dev273 (v8 : BitVec 32) : Nat :=
  let c0_i32_9348 : BitVec 32 := 0#32
  let c1_i32_9347 : BitVec 32 := 1#32
  let v7239 : BitVec 32 := Scalar.muli v8 c1_i32_9347
  let v7240 : BitVec 32 := Scalar.addi c0_i32_9348 v7239
  v7240.toNat
def k0_dev274 (v13 : BitVec 32) : Nat :=
  let c0_i32_9360 : BitVec 32 := 0#32
  let c1_i32_9359 : BitVec 32 := 1#32
  let v7249 : BitVec 32 := Scalar.muli v13 c1_i32_9359
  let v7250 : BitVec 32 := Scalar.addi c0_i32_9360 v7249
  v7250.toNat
def k0_dev275 (v13 : BitVec 32) : Nat :=
  let c0_i32_9367 : BitVec 32 := 0#32
  let c1_i32_9366 : BitVec 32 := 1#32
  let v7259 : BitVec 32 := Scalar.muli v13 c1_i32_9366
  let v7260 : BitVec 32 := Scalar.addi c0_i32_9367 v7259
  v7260.toNat
def k0_dev276 (v8 : BitVec 32) : Nat :=
  let c0_i32_9370 : BitVec 32 := 0#32
  let c1_i32_9369 : BitVec 32 := 1#32
  let v7261 : BitVec 32 := Scalar.muli v8 c1_i32_9369
  let v7262 : BitVec 32 := Scalar.addi c0_i32_9370 v7261
  v7262.toNat
def k0_dev277 (v8 : BitVec 32) : Nat :=
  let c0_i32_9471 : BitVec 32 := 0#32
  let c1_i32_9470 : BitVec 32 := 1#32
  let v7336 : BitVec 32 := Scalar.muli v8 c1_i32_9470
  let v7337 : BitVec 32 := Scalar.addi c0_i32_9471 v7336
  v7337.toNat
def k0_dev278 (v13 : BitVec 32) : Nat :=
  let c0_i32_9483 : BitVec 32 := 0#32
  let c1_i32_9482 : BitVec 32 := 1#32
  let v7346 : BitVec 32 := Scalar.muli v13 c1_i32_9482
  let v7347 : BitVec 32 := Scalar.addi c0_i32_9483 v7346
  v7347.toNat
def k0_dev279 (v8 : BitVec 32) : Nat :=
  let c0_i32_9541 : BitVec 32 := 0#32
  let c1_i32_9540 : BitVec 32 := 1#32
  let v7384 : BitVec 32 := Scalar.muli v8 c1_i32_9540
  let v7385 : BitVec 32 := Scalar.addi c0_i32_9541 v7384
  v7385.toNat
def k0_dev280 (v13 : BitVec 32) : Nat :=
  let c0_i32_9553 : BitVec 32 := 0#32
  let c1_i32_9552 : BitVec 32 := 1#32
  let v7394 : BitVec 32 := Scalar.muli v13 c1_i32_9552
  let v7395 : BitVec 32 := Scalar.addi c0_i32_9553 v7394
  v7395.toNat
def k0_dev281 (v13 : BitVec 32) : Nat :=
  let c0_i32_9560 : BitVec 32 := 0#32
  let c1_i32_9559 : BitVec 32 := 1#32
  let v7404 : BitVec 32 := Scalar.muli v13 c1_i32_9559
  let v7405 : BitVec 32 := Scalar.addi c0_i32_9560 v7404
  v7405.toNat
def k0_dev282 (v8 : BitVec 32) : Nat :=
  let c0_i32_9563 : BitVec 32 := 0#32
  let c1_i32_9562 : BitVec 32 := 1#32
  let v7406 : BitVec 32 := Scalar.muli v8 c1_i32_9562
  let v7407 : BitVec 32 := Scalar.addi c0_i32_9563 v7406
  v7407.toNat
def k0_dev283 (v8 : BitVec 32) : Nat :=
  let c0_i32_9664 : BitVec 32 := 0#32
  let c1_i32_9663 : BitVec 32 := 1#32
  let v7481 : BitVec 32 := Scalar.muli v8 c1_i32_9663
  let v7482 : BitVec 32 := Scalar.addi c0_i32_9664 v7481
  v7482.toNat
def k0_dev284 (v13 : BitVec 32) : Nat :=
  let c0_i32_9676 : BitVec 32 := 0#32
  let c1_i32_9675 : BitVec 32 := 1#32
  let v7491 : BitVec 32 := Scalar.muli v13 c1_i32_9675
  let v7492 : BitVec 32 := Scalar.addi c0_i32_9676 v7491
  v7492.toNat
def k0_dev285 (v8 : BitVec 32) : Nat :=
  let c0_i32_9734 : BitVec 32 := 0#32
  let c1_i32_9733 : BitVec 32 := 1#32
  let v7529 : BitVec 32 := Scalar.muli v8 c1_i32_9733
  let v7530 : BitVec 32 := Scalar.addi c0_i32_9734 v7529
  v7530.toNat
def k0_dev286 (v13 : BitVec 32) : Nat :=
  let c0_i32_9746 : BitVec 32 := 0#32
  let c1_i32_9745 : BitVec 32 := 1#32
  let v7539 : BitVec 32 := Scalar.muli v13 c1_i32_9745
  let v7540 : BitVec 32 := Scalar.addi c0_i32_9746 v7539
  v7540.toNat
def k0_dev287 (v13 : BitVec 32) : Nat :=
  let c0_i32_9753 : BitVec 32 := 0#32
  let c1_i32_9752 : BitVec 32 := 1#32
  let v7549 : BitVec 32 := Scalar.muli v13 c1_i32_9752
  let v7550 : BitVec 32 := Scalar.addi c0_i32_9753 v7549
  v7550.toNat
def k0_dev288 (v8 : BitVec 32) : Nat :=
  let c0_i32_9756 : BitVec 32 := 0#32
  let c1_i32_9755 : BitVec 32 := 1#32
  let v7551 : BitVec 32 := Scalar.muli v8 c1_i32_9755
  let v7552 : BitVec 32 := Scalar.addi c0_i32_9756 v7551
  v7552.toNat
def k0_dev289 (v8 : BitVec 32) : Nat :=
  let c0_i32_9857 : BitVec 32 := 0#32
  let c1_i32_9856 : BitVec 32 := 1#32
  let v7626 : BitVec 32 := Scalar.muli v8 c1_i32_9856
  let v7627 : BitVec 32 := Scalar.addi c0_i32_9857 v7626
  v7627.toNat
def k0_dev290 (v13 : BitVec 32) : Nat :=
  let c0_i32_9869 : BitVec 32 := 0#32
  let c1_i32_9868 : BitVec 32 := 1#32
  let v7636 : BitVec 32 := Scalar.muli v13 c1_i32_9868
  let v7637 : BitVec 32 := Scalar.addi c0_i32_9869 v7636
  v7637.toNat
def k0_dev291 (v8 : BitVec 32) : Nat :=
  let c0_i32_9927 : BitVec 32 := 0#32
  let c1_i32_9926 : BitVec 32 := 1#32
  let v7674 : BitVec 32 := Scalar.muli v8 c1_i32_9926
  let v7675 : BitVec 32 := Scalar.addi c0_i32_9927 v7674
  v7675.toNat
def k0_dev292 (v13 : BitVec 32) : Nat :=
  let c0_i32_9939 : BitVec 32 := 0#32
  let c1_i32_9938 : BitVec 32 := 1#32
  let v7684 : BitVec 32 := Scalar.muli v13 c1_i32_9938
  let v7685 : BitVec 32 := Scalar.addi c0_i32_9939 v7684
  v7685.toNat
def k0_dev293 (v13 : BitVec 32) : Nat :=
  let c0_i32_9946 : BitVec 32 := 0#32
  let c1_i32_9945 : BitVec 32 := 1#32
  let v7694 : BitVec 32 := Scalar.muli v13 c1_i32_9945
  let v7695 : BitVec 32 := Scalar.addi c0_i32_9946 v7694
  v7695.toNat
def k0_dev294 (v8 : BitVec 32) : Nat :=
  let c0_i32_9949 : BitVec 32 := 0#32
  let c1_i32_9948 : BitVec 32 := 1#32
  let v7696 : BitVec 32 := Scalar.muli v8 c1_i32_9948
  let v7697 : BitVec 32 := Scalar.addi c0_i32_9949 v7696
  v7697.toNat
def k0_dev295 (v8 : BitVec 32) : Nat :=
  let c0_i32_10050 : BitVec 32 := 0#32
  let c1_i32_10049 : BitVec 32 := 1#32
  let v7771 : BitVec 32 := Scalar.muli v8 c1_i32_10049
  let v7772 : BitVec 32 := Scalar.addi c0_i32_10050 v7771
  v7772.toNat
def k0_dev296 (v13 : BitVec 32) : Nat :=
  let c0_i32_10062 : BitVec 32 := 0#32
  let c1_i32_10061 : BitVec 32 := 1#32
  let v7781 : BitVec 32 := Scalar.muli v13 c1_i32_10061
  let v7782 : BitVec 32 := Scalar.addi c0_i32_10062 v7781
  v7782.toNat
def k0_dev297 (v8 : BitVec 32) : Nat :=
  let c0_i32_10120 : BitVec 32 := 0#32
  let c1_i32_10119 : BitVec 32 := 1#32
  let v7819 : BitVec 32 := Scalar.muli v8 c1_i32_10119
  let v7820 : BitVec 32 := Scalar.addi c0_i32_10120 v7819
  v7820.toNat
def k0_dev298 (v13 : BitVec 32) : Nat :=
  let c0_i32_10132 : BitVec 32 := 0#32
  let c1_i32_10131 : BitVec 32 := 1#32
  let v7829 : BitVec 32 := Scalar.muli v13 c1_i32_10131
  let v7830 : BitVec 32 := Scalar.addi c0_i32_10132 v7829
  v7830.toNat
def k0_dev299 (v13 : BitVec 32) : Nat :=
  let c0_i32_10139 : BitVec 32 := 0#32
  let c1_i32_10138 : BitVec 32 := 1#32
  let v7839 : BitVec 32 := Scalar.muli v13 c1_i32_10138
  let v7840 : BitVec 32 := Scalar.addi c0_i32_10139 v7839
  v7840.toNat
def k0_dev300 (v8 : BitVec 32) : Nat :=
  let c0_i32_10142 : BitVec 32 := 0#32
  let c1_i32_10141 : BitVec 32 := 1#32
  let v7841 : BitVec 32 := Scalar.muli v8 c1_i32_10141
  let v7842 : BitVec 32 := Scalar.addi c0_i32_10142 v7841
  v7842.toNat
def k0_dev301 (v8 : BitVec 32) : Nat :=
  let c0_i32_10243 : BitVec 32 := 0#32
  let c1_i32_10242 : BitVec 32 := 1#32
  let v7916 : BitVec 32 := Scalar.muli v8 c1_i32_10242
  let v7917 : BitVec 32 := Scalar.addi c0_i32_10243 v7916
  v7917.toNat
def k0_dev302 (v13 : BitVec 32) : Nat :=
  let c0_i32_10255 : BitVec 32 := 0#32
  let c1_i32_10254 : BitVec 32 := 1#32
  let v7926 : BitVec 32 := Scalar.muli v13 c1_i32_10254
  let v7927 : BitVec 32 := Scalar.addi c0_i32_10255 v7926
  v7927.toNat
def k0_dev303 (v8 : BitVec 32) : Nat :=
  let c0_i32_10313 : BitVec 32 := 0#32
  let c1_i32_10312 : BitVec 32 := 1#32
  let v7964 : BitVec 32 := Scalar.muli v8 c1_i32_10312
  let v7965 : BitVec 32 := Scalar.addi c0_i32_10313 v7964
  v7965.toNat
def k0_dev304 (v13 : BitVec 32) : Nat :=
  let c0_i32_10325 : BitVec 32 := 0#32
  let c1_i32_10324 : BitVec 32 := 1#32
  let v7974 : BitVec 32 := Scalar.muli v13 c1_i32_10324
  let v7975 : BitVec 32 := Scalar.addi c0_i32_10325 v7974
  v7975.toNat
def k0_dev305 (v13 : BitVec 32) : Nat :=
  let c0_i32_10332 : BitVec 32 := 0#32
  let c1_i32_10331 : BitVec 32 := 1#32
  let v7984 : BitVec 32 := Scalar.muli v13 c1_i32_10331
  let v7985 : BitVec 32 := Scalar.addi c0_i32_10332 v7984
  v7985.toNat
def k0_dev306 (v8 : BitVec 32) : Nat :=
  let c0_i32_10335 : BitVec 32 := 0#32
  let c1_i32_10334 : BitVec 32 := 1#32
  let v7986 : BitVec 32 := Scalar.muli v8 c1_i32_10334
  let v7987 : BitVec 32 := Scalar.addi c0_i32_10335 v7986
  v7987.toNat
def k0_dev307 (v8 : BitVec 32) : Nat :=
  let c0_i32_10436 : BitVec 32 := 0#32
  let c1_i32_10435 : BitVec 32 := 1#32
  let v8061 : BitVec 32 := Scalar.muli v8 c1_i32_10435
  let v8062 : BitVec 32 := Scalar.addi c0_i32_10436 v8061
  v8062.toNat
def k0_dev308 (v13 : BitVec 32) : Nat :=
  let c0_i32_10448 : BitVec 32 := 0#32
  let c1_i32_10447 : BitVec 32 := 1#32
  let v8071 : BitVec 32 := Scalar.muli v13 c1_i32_10447
  let v8072 : BitVec 32 := Scalar.addi c0_i32_10448 v8071
  v8072.toNat
def k0_dev309 (v8 : BitVec 32) : Nat :=
  let c0_i32_10506 : BitVec 32 := 0#32
  let c1_i32_10505 : BitVec 32 := 1#32
  let v8109 : BitVec 32 := Scalar.muli v8 c1_i32_10505
  let v8110 : BitVec 32 := Scalar.addi c0_i32_10506 v8109
  v8110.toNat
def k0_dev310 (v13 : BitVec 32) : Nat :=
  let c0_i32_10518 : BitVec 32 := 0#32
  let c1_i32_10517 : BitVec 32 := 1#32
  let v8119 : BitVec 32 := Scalar.muli v13 c1_i32_10517
  let v8120 : BitVec 32 := Scalar.addi c0_i32_10518 v8119
  v8120.toNat
def k0_dev311 (v13 : BitVec 32) : Nat :=
  let c0_i32_10525 : BitVec 32 := 0#32
  let c1_i32_10524 : BitVec 32 := 1#32
  let v8129 : BitVec 32 := Scalar.muli v13 c1_i32_10524
  let v8130 : BitVec 32 := Scalar.addi c0_i32_10525 v8129
  v8130.toNat
def k0_dev312 (v8 : BitVec 32) : Nat :=
  let c0_i32_10528 : BitVec 32 := 0#32
  let c1_i32_10527 : BitVec 32 := 1#32
  let v8131 : BitVec 32 := Scalar.muli v8 c1_i32_10527
  let v8132 : BitVec 32 := Scalar.addi c0_i32_10528 v8131
  v8132.toNat
def k0_dev313 (v8 : BitVec 32) : Nat :=
  let c0_i32_10629 : BitVec 32 := 0#32
  let c1_i32_10628 : BitVec 32 := 1#32
  let v8206 : BitVec 32 := Scalar.muli v8 c1_i32_10628
  let v8207 : BitVec 32 := Scalar.addi c0_i32_10629 v8206
  v8207.toNat
def k0_dev314 (v13 : BitVec 32) : Nat :=
  let c0_i32_10641 : BitVec 32 := 0#32
  let c1_i32_10640 : BitVec 32 := 1#32
  let v8216 : BitVec 32 := Scalar.muli v13 c1_i32_10640
  let v8217 : BitVec 32 := Scalar.addi c0_i32_10641 v8216
  v8217.toNat
def k0_dev315 (v8 : BitVec 32) : Nat :=
  let c0_i32_10699 : BitVec 32 := 0#32
  let c1_i32_10698 : BitVec 32 := 1#32
  let v8254 : BitVec 32 := Scalar.muli v8 c1_i32_10698
  let v8255 : BitVec 32 := Scalar.addi c0_i32_10699 v8254
  v8255.toNat
def k0_dev316 (v13 : BitVec 32) : Nat :=
  let c0_i32_10711 : BitVec 32 := 0#32
  let c1_i32_10710 : BitVec 32 := 1#32
  let v8264 : BitVec 32 := Scalar.muli v13 c1_i32_10710
  let v8265 : BitVec 32 := Scalar.addi c0_i32_10711 v8264
  v8265.toNat
def k0_dev317 (v13 : BitVec 32) : Nat :=
  let c0_i32_10718 : BitVec 32 := 0#32
  let c1_i32_10717 : BitVec 32 := 1#32
  let v8274 : BitVec 32 := Scalar.muli v13 c1_i32_10717
  let v8275 : BitVec 32 := Scalar.addi c0_i32_10718 v8274
  v8275.toNat
def k0_dev318 (v8 : BitVec 32) : Nat :=
  let c0_i32_10721 : BitVec 32 := 0#32
  let c1_i32_10720 : BitVec 32 := 1#32
  let v8276 : BitVec 32 := Scalar.muli v8 c1_i32_10720
  let v8277 : BitVec 32 := Scalar.addi c0_i32_10721 v8276
  v8277.toNat
def k0_dev319 (v8 : BitVec 32) : Nat :=
  let c0_i32_10822 : BitVec 32 := 0#32
  let c1_i32_10821 : BitVec 32 := 1#32
  let v8351 : BitVec 32 := Scalar.muli v8 c1_i32_10821
  let v8352 : BitVec 32 := Scalar.addi c0_i32_10822 v8351
  v8352.toNat
def k0_dev320 (v13 : BitVec 32) : Nat :=
  let c0_i32_10834 : BitVec 32 := 0#32
  let c1_i32_10833 : BitVec 32 := 1#32
  let v8361 : BitVec 32 := Scalar.muli v13 c1_i32_10833
  let v8362 : BitVec 32 := Scalar.addi c0_i32_10834 v8361
  v8362.toNat
def k0_dev321 (v8 : BitVec 32) : Nat :=
  let c0_i32_10892 : BitVec 32 := 0#32
  let c1_i32_10891 : BitVec 32 := 1#32
  let v8399 : BitVec 32 := Scalar.muli v8 c1_i32_10891
  let v8400 : BitVec 32 := Scalar.addi c0_i32_10892 v8399
  v8400.toNat
def k0_dev322 (v13 : BitVec 32) : Nat :=
  let c0_i32_10904 : BitVec 32 := 0#32
  let c1_i32_10903 : BitVec 32 := 1#32
  let v8409 : BitVec 32 := Scalar.muli v13 c1_i32_10903
  let v8410 : BitVec 32 := Scalar.addi c0_i32_10904 v8409
  v8410.toNat
def k0_dev323 (v13 : BitVec 32) : Nat :=
  let c0_i32_10911 : BitVec 32 := 0#32
  let c1_i32_10910 : BitVec 32 := 1#32
  let v8419 : BitVec 32 := Scalar.muli v13 c1_i32_10910
  let v8420 : BitVec 32 := Scalar.addi c0_i32_10911 v8419
  v8420.toNat
def k0_dev324 (v8 : BitVec 32) : Nat :=
  let c0_i32_10914 : BitVec 32 := 0#32
  let c1_i32_10913 : BitVec 32 := 1#32
  let v8421 : BitVec 32 := Scalar.muli v8 c1_i32_10913
  let v8422 : BitVec 32 := Scalar.addi c0_i32_10914 v8421
  v8422.toNat
def k0_dev325 (v8 : BitVec 32) : Nat :=
  let c0_i32_11015 : BitVec 32 := 0#32
  let c1_i32_11014 : BitVec 32 := 1#32
  let v8496 : BitVec 32 := Scalar.muli v8 c1_i32_11014
  let v8497 : BitVec 32 := Scalar.addi c0_i32_11015 v8496
  v8497.toNat
def k0_dev326 (v13 : BitVec 32) : Nat :=
  let c0_i32_11027 : BitVec 32 := 0#32
  let c1_i32_11026 : BitVec 32 := 1#32
  let v8506 : BitVec 32 := Scalar.muli v13 c1_i32_11026
  let v8507 : BitVec 32 := Scalar.addi c0_i32_11027 v8506
  v8507.toNat
def k0_dev327 (v8 : BitVec 32) : Nat :=
  let c0_i32_11085 : BitVec 32 := 0#32
  let c1_i32_11084 : BitVec 32 := 1#32
  let v8544 : BitVec 32 := Scalar.muli v8 c1_i32_11084
  let v8545 : BitVec 32 := Scalar.addi c0_i32_11085 v8544
  v8545.toNat
def k0_dev328 (v13 : BitVec 32) : Nat :=
  let c0_i32_11097 : BitVec 32 := 0#32
  let c1_i32_11096 : BitVec 32 := 1#32
  let v8554 : BitVec 32 := Scalar.muli v13 c1_i32_11096
  let v8555 : BitVec 32 := Scalar.addi c0_i32_11097 v8554
  v8555.toNat
def k0_dev329 (v13 : BitVec 32) : Nat :=
  let c0_i32_11104 : BitVec 32 := 0#32
  let c1_i32_11103 : BitVec 32 := 1#32
  let v8564 : BitVec 32 := Scalar.muli v13 c1_i32_11103
  let v8565 : BitVec 32 := Scalar.addi c0_i32_11104 v8564
  v8565.toNat
def k0_dev330 (v8 : BitVec 32) : Nat :=
  let c0_i32_11107 : BitVec 32 := 0#32
  let c1_i32_11106 : BitVec 32 := 1#32
  let v8566 : BitVec 32 := Scalar.muli v8 c1_i32_11106
  let v8567 : BitVec 32 := Scalar.addi c0_i32_11107 v8566
  v8567.toNat
def k0_dev331 (v8 : BitVec 32) : Nat :=
  let c0_i32_11208 : BitVec 32 := 0#32
  let c1_i32_11207 : BitVec 32 := 1#32
  let v8641 : BitVec 32 := Scalar.muli v8 c1_i32_11207
  let v8642 : BitVec 32 := Scalar.addi c0_i32_11208 v8641
  v8642.toNat
def k0_dev332 (v13 : BitVec 32) : Nat :=
  let c0_i32_11220 : BitVec 32 := 0#32
  let c1_i32_11219 : BitVec 32 := 1#32
  let v8651 : BitVec 32 := Scalar.muli v13 c1_i32_11219
  let v8652 : BitVec 32 := Scalar.addi c0_i32_11220 v8651
  v8652.toNat
def k0_dev333 (v8 : BitVec 32) : Nat :=
  let c0_i32_11278 : BitVec 32 := 0#32
  let c1_i32_11277 : BitVec 32 := 1#32
  let v8689 : BitVec 32 := Scalar.muli v8 c1_i32_11277
  let v8690 : BitVec 32 := Scalar.addi c0_i32_11278 v8689
  v8690.toNat
def k0_dev334 (v13 : BitVec 32) : Nat :=
  let c0_i32_11290 : BitVec 32 := 0#32
  let c1_i32_11289 : BitVec 32 := 1#32
  let v8699 : BitVec 32 := Scalar.muli v13 c1_i32_11289
  let v8700 : BitVec 32 := Scalar.addi c0_i32_11290 v8699
  v8700.toNat
def k0_dev335 (v13 : BitVec 32) : Nat :=
  let c0_i32_11297 : BitVec 32 := 0#32
  let c1_i32_11296 : BitVec 32 := 1#32
  let v8709 : BitVec 32 := Scalar.muli v13 c1_i32_11296
  let v8710 : BitVec 32 := Scalar.addi c0_i32_11297 v8709
  v8710.toNat
def k0_dev336 (v8 : BitVec 32) : Nat :=
  let c0_i32_11300 : BitVec 32 := 0#32
  let c1_i32_11299 : BitVec 32 := 1#32
  let v8711 : BitVec 32 := Scalar.muli v8 c1_i32_11299
  let v8712 : BitVec 32 := Scalar.addi c0_i32_11300 v8711
  v8712.toNat
def k0_dev337 (v8 : BitVec 32) : Nat :=
  let c0_i32_11401 : BitVec 32 := 0#32
  let c1_i32_11400 : BitVec 32 := 1#32
  let v8786 : BitVec 32 := Scalar.muli v8 c1_i32_11400
  let v8787 : BitVec 32 := Scalar.addi c0_i32_11401 v8786
  v8787.toNat
def k0_dev338 (v13 : BitVec 32) : Nat :=
  let c0_i32_11413 : BitVec 32 := 0#32
  let c1_i32_11412 : BitVec 32 := 1#32
  let v8796 : BitVec 32 := Scalar.muli v13 c1_i32_11412
  let v8797 : BitVec 32 := Scalar.addi c0_i32_11413 v8796
  v8797.toNat
def k0_dev339 (v8 : BitVec 32) : Nat :=
  let c0_i32_11471 : BitVec 32 := 0#32
  let c1_i32_11470 : BitVec 32 := 1#32
  let v8834 : BitVec 32 := Scalar.muli v8 c1_i32_11470
  let v8835 : BitVec 32 := Scalar.addi c0_i32_11471 v8834
  v8835.toNat
def k0_dev340 (v13 : BitVec 32) : Nat :=
  let c0_i32_11483 : BitVec 32 := 0#32
  let c1_i32_11482 : BitVec 32 := 1#32
  let v8844 : BitVec 32 := Scalar.muli v13 c1_i32_11482
  let v8845 : BitVec 32 := Scalar.addi c0_i32_11483 v8844
  v8845.toNat
def k0_dev341 (v13 : BitVec 32) : Nat :=
  let c0_i32_11490 : BitVec 32 := 0#32
  let c1_i32_11489 : BitVec 32 := 1#32
  let v8854 : BitVec 32 := Scalar.muli v13 c1_i32_11489
  let v8855 : BitVec 32 := Scalar.addi c0_i32_11490 v8854
  v8855.toNat
def k0_dev342 (v8 : BitVec 32) : Nat :=
  let c0_i32_11493 : BitVec 32 := 0#32
  let c1_i32_11492 : BitVec 32 := 1#32
  let v8856 : BitVec 32 := Scalar.muli v8 c1_i32_11492
  let v8857 : BitVec 32 := Scalar.addi c0_i32_11493 v8856
  v8857.toNat
def k0_dev343 (v8 : BitVec 32) : Nat :=
  let c0_i32_11594 : BitVec 32 := 0#32
  let c1_i32_11593 : BitVec 32 := 1#32
  let v8931 : BitVec 32 := Scalar.muli v8 c1_i32_11593
  let v8932 : BitVec 32 := Scalar.addi c0_i32_11594 v8931
  v8932.toNat
def k0_dev344 (v13 : BitVec 32) : Nat :=
  let c0_i32_11606 : BitVec 32 := 0#32
  let c1_i32_11605 : BitVec 32 := 1#32
  let v8941 : BitVec 32 := Scalar.muli v13 c1_i32_11605
  let v8942 : BitVec 32 := Scalar.addi c0_i32_11606 v8941
  v8942.toNat
def k0_dev345 (v8 : BitVec 32) : Nat :=
  let c0_i32_11664 : BitVec 32 := 0#32
  let c1_i32_11663 : BitVec 32 := 1#32
  let v8979 : BitVec 32 := Scalar.muli v8 c1_i32_11663
  let v8980 : BitVec 32 := Scalar.addi c0_i32_11664 v8979
  v8980.toNat
def k0_dev346 (v13 : BitVec 32) : Nat :=
  let c0_i32_11676 : BitVec 32 := 0#32
  let c1_i32_11675 : BitVec 32 := 1#32
  let v8989 : BitVec 32 := Scalar.muli v13 c1_i32_11675
  let v8990 : BitVec 32 := Scalar.addi c0_i32_11676 v8989
  v8990.toNat
def k0_dev347 (v13 : BitVec 32) : Nat :=
  let c0_i32_11683 : BitVec 32 := 0#32
  let c1_i32_11682 : BitVec 32 := 1#32
  let v8999 : BitVec 32 := Scalar.muli v13 c1_i32_11682
  let v9000 : BitVec 32 := Scalar.addi c0_i32_11683 v8999
  v9000.toNat
def k0_dev348 (v8 : BitVec 32) : Nat :=
  let c0_i32_11686 : BitVec 32 := 0#32
  let c1_i32_11685 : BitVec 32 := 1#32
  let v9001 : BitVec 32 := Scalar.muli v8 c1_i32_11685
  let v9002 : BitVec 32 := Scalar.addi c0_i32_11686 v9001
  v9002.toNat
def k0_dev349 (v8 : BitVec 32) : Nat :=
  let c0_i32_11787 : BitVec 32 := 0#32
  let c1_i32_11786 : BitVec 32 := 1#32
  let v9076 : BitVec 32 := Scalar.muli v8 c1_i32_11786
  let v9077 : BitVec 32 := Scalar.addi c0_i32_11787 v9076
  v9077.toNat
def k0_dev350 (v13 : BitVec 32) : Nat :=
  let c0_i32_11799 : BitVec 32 := 0#32
  let c1_i32_11798 : BitVec 32 := 1#32
  let v9086 : BitVec 32 := Scalar.muli v13 c1_i32_11798
  let v9087 : BitVec 32 := Scalar.addi c0_i32_11799 v9086
  v9087.toNat
def k0_dev351 (v8 : BitVec 32) : Nat :=
  let c0_i32_11857 : BitVec 32 := 0#32
  let c1_i32_11856 : BitVec 32 := 1#32
  let v9124 : BitVec 32 := Scalar.muli v8 c1_i32_11856
  let v9125 : BitVec 32 := Scalar.addi c0_i32_11857 v9124
  v9125.toNat
def k0_dev352 (v13 : BitVec 32) : Nat :=
  let c0_i32_11869 : BitVec 32 := 0#32
  let c1_i32_11868 : BitVec 32 := 1#32
  let v9134 : BitVec 32 := Scalar.muli v13 c1_i32_11868
  let v9135 : BitVec 32 := Scalar.addi c0_i32_11869 v9134
  v9135.toNat
def k0_dev353 (v13 : BitVec 32) : Nat :=
  let c0_i32_11876 : BitVec 32 := 0#32
  let c1_i32_11875 : BitVec 32 := 1#32
  let v9144 : BitVec 32 := Scalar.muli v13 c1_i32_11875
  let v9145 : BitVec 32 := Scalar.addi c0_i32_11876 v9144
  v9145.toNat
def k0_dev354 (v8 : BitVec 32) : Nat :=
  let c0_i32_11879 : BitVec 32 := 0#32
  let c1_i32_11878 : BitVec 32 := 1#32
  let v9146 : BitVec 32 := Scalar.muli v8 c1_i32_11878
  let v9147 : BitVec 32 := Scalar.addi c0_i32_11879 v9146
  v9147.toNat
def k0_dev355 (v8 : BitVec 32) : Nat :=
  let c0_i32_11980 : BitVec 32 := 0#32
  let c1_i32_11979 : BitVec 32 := 1#32
  let v9221 : BitVec 32 := Scalar.muli v8 c1_i32_11979
  let v9222 : BitVec 32 := Scalar.addi c0_i32_11980 v9221
  v9222.toNat
def k0_dev356 (v13 : BitVec 32) : Nat :=
  let c0_i32_11992 : BitVec 32 := 0#32
  let c1_i32_11991 : BitVec 32 := 1#32
  let v9231 : BitVec 32 := Scalar.muli v13 c1_i32_11991
  let v9232 : BitVec 32 := Scalar.addi c0_i32_11992 v9231
  v9232.toNat
def k0_dev357 (v8 : BitVec 32) : Nat :=
  let c0_i32_12050 : BitVec 32 := 0#32
  let c1_i32_12049 : BitVec 32 := 1#32
  let v9269 : BitVec 32 := Scalar.muli v8 c1_i32_12049
  let v9270 : BitVec 32 := Scalar.addi c0_i32_12050 v9269
  v9270.toNat
def k0_dev358 (v13 : BitVec 32) : Nat :=
  let c0_i32_12062 : BitVec 32 := 0#32
  let c1_i32_12061 : BitVec 32 := 1#32
  let v9279 : BitVec 32 := Scalar.muli v13 c1_i32_12061
  let v9280 : BitVec 32 := Scalar.addi c0_i32_12062 v9279
  v9280.toNat
def k0_dev359 (v13 : BitVec 32) : Nat :=
  let c0_i32_12069 : BitVec 32 := 0#32
  let c1_i32_12068 : BitVec 32 := 1#32
  let v9289 : BitVec 32 := Scalar.muli v13 c1_i32_12068
  let v9290 : BitVec 32 := Scalar.addi c0_i32_12069 v9289
  v9290.toNat
def k0_dev360 (v8 : BitVec 32) : Nat :=
  let c0_i32_12072 : BitVec 32 := 0#32
  let c1_i32_12071 : BitVec 32 := 1#32
  let v9291 : BitVec 32 := Scalar.muli v8 c1_i32_12071
  let v9292 : BitVec 32 := Scalar.addi c0_i32_12072 v9291
  v9292.toNat
def k0_dev361 (v8 : BitVec 32) : Nat :=
  let c0_i32_12173 : BitVec 32 := 0#32
  let c1_i32_12172 : BitVec 32 := 1#32
  let v9366 : BitVec 32 := Scalar.muli v8 c1_i32_12172
  let v9367 : BitVec 32 := Scalar.addi c0_i32_12173 v9366
  v9367.toNat
def k0_dev362 (v13 : BitVec 32) : Nat :=
  let c0_i32_12185 : BitVec 32 := 0#32
  let c1_i32_12184 : BitVec 32 := 1#32
  let v9376 : BitVec 32 := Scalar.muli v13 c1_i32_12184
  let v9377 : BitVec 32 := Scalar.addi c0_i32_12185 v9376
  v9377.toNat
def k0_dev363 (v8 : BitVec 32) : Nat :=
  let c0_i32_12243 : BitVec 32 := 0#32
  let c1_i32_12242 : BitVec 32 := 1#32
  let v9414 : BitVec 32 := Scalar.muli v8 c1_i32_12242
  let v9415 : BitVec 32 := Scalar.addi c0_i32_12243 v9414
  v9415.toNat
def k0_dev364 (v13 : BitVec 32) : Nat :=
  let c0_i32_12255 : BitVec 32 := 0#32
  let c1_i32_12254 : BitVec 32 := 1#32
  let v9424 : BitVec 32 := Scalar.muli v13 c1_i32_12254
  let v9425 : BitVec 32 := Scalar.addi c0_i32_12255 v9424
  v9425.toNat
def k0_dev365 (v8 : BitVec 32) : Nat :=
  let c0_i32_12360 : BitVec 32 := 0#32
  let c1_i32_12359 : BitVec 32 := 1#32
  let v9507 : BitVec 32 := Scalar.muli v8 c1_i32_12359
  let v9508 : BitVec 32 := Scalar.addi c0_i32_12360 v9507
  v9508.toNat
def k0_dev366 (v13 : BitVec 32) : Nat :=
  let c0_i32_12372 : BitVec 32 := 0#32
  let c1_i32_12371 : BitVec 32 := 1#32
  let v9517 : BitVec 32 := Scalar.muli v13 c1_i32_12371
  let v9518 : BitVec 32 := Scalar.addi c0_i32_12372 v9517
  v9518.toNat
def k0_dev367 (v8 : BitVec 32) : Nat :=
  let c0_i32_12430 : BitVec 32 := 0#32
  let c1_i32_12429 : BitVec 32 := 1#32
  let v9555 : BitVec 32 := Scalar.muli v8 c1_i32_12429
  let v9556 : BitVec 32 := Scalar.addi c0_i32_12430 v9555
  v9556.toNat

def k0_chk3_0 (v8 : BitVec 32) : Prop :=
  ((k0_dev2 v8) < nD) ∧
  ((k0_dev3 v8) < nD) ∧
  ((k0_dev5 v8) < nD) ∧
  ((k0_dev7 v8) < nD) ∧
  ((k0_dev9 v8) < nD) ∧
  ((k0_dev12 v8) < nD) ∧
  ((k0_dev13 v8) < nD) ∧
  ((k0_dev15 v8) < nD) ∧
  ((k0_dev18 v8) < nD) ∧
  ((k0_dev19 v8) < nD) ∧
  ((k0_dev21 v8) < nD) ∧
  ((k0_dev24 v8) < nD) ∧
  ((k0_dev25 v8) < nD) ∧
  ((k0_dev27 v8) < nD) ∧
  ((k0_dev30 v8) < nD) ∧
  ((k0_dev31 v8) < nD) ∧
  ((k0_dev33 v8) < nD) ∧
  ((k0_dev36 v8) < nD) ∧
  ((k0_dev37 v8) < nD) ∧
  ((k0_dev39 v8) < nD) ∧
  ((k0_dev42 v8) < nD) ∧
  ((k0_dev43 v8) < nD) ∧
  ((k0_dev45 v8) < nD) ∧
  ((k0_dev48 v8) < nD) ∧
  ((k0_dev49 v8) < nD) ∧
  ((k0_dev51 v8) < nD) ∧
  ((k0_dev54 v8) < nD) ∧
  ((k0_dev55 v8) < nD) ∧
  ((k0_dev57 v8) < nD) ∧
  ((k0_dev60 v8) < nD) ∧
  ((k0_dev61 v8) < nD) ∧
  ((k0_dev63 v8) < nD)
def k0_chk3_1 (v8 : BitVec 32) : Prop :=
  ((k0_dev66 v8) < nD) ∧
  ((k0_dev67 v8) < nD) ∧
  ((k0_dev69 v8) < nD) ∧
  ((k0_dev72 v8) < nD) ∧
  ((k0_dev73 v8) < nD) ∧
  ((k0_dev75 v8) < nD) ∧
  ((k0_dev78 v8) < nD) ∧
  ((k0_dev79 v8) < nD) ∧
  ((k0_dev81 v8) < nD) ∧
  ((k0_dev84 v8) < nD) ∧
  ((k0_dev85 v8) < nD) ∧
  ((k0_dev87 v8) < nD) ∧
  ((k0_dev90 v8) < nD) ∧
  ((k0_dev91 v8) < nD) ∧
  ((k0_dev93 v8) < nD) ∧
  ((k0_dev96 v8) < nD) ∧
  ((k0_dev97 v8) < nD) ∧
  ((k0_dev99 v8) < nD) ∧
  ((k0_dev102 v8) < nD) ∧
  ((k0_dev103 v8) < nD) ∧
  ((k0_dev105 v8) < nD) ∧
  ((k0_dev108 v8) < nD) ∧
  ((k0_dev109 v8) < nD) ∧
  ((k0_dev111 v8) < nD) ∧
  ((k0_dev114 v8) < nD) ∧
  ((k0_dev115 v8) < nD) ∧
  ((k0_dev117 v8) < nD) ∧
  ((k0_dev120 v8) < nD) ∧
  ((k0_dev121 v8) < nD) ∧
  ((k0_dev123 v8) < nD) ∧
  ((k0_dev126 v8) < nD) ∧
  ((k0_dev127 v8) < nD)
def k0_chk3_2 (v8 : BitVec 32) : Prop :=
  ((k0_dev129 v8) < nD) ∧
  ((k0_dev132 v8) < nD) ∧
  ((k0_dev133 v8) < nD) ∧
  ((k0_dev135 v8) < nD) ∧
  ((k0_dev138 v8) < nD) ∧
  ((k0_dev139 v8) < nD) ∧
  ((k0_dev141 v8) < nD) ∧
  ((k0_dev144 v8) < nD) ∧
  ((k0_dev145 v8) < nD) ∧
  ((k0_dev147 v8) < nD) ∧
  ((k0_dev150 v8) < nD) ∧
  ((k0_dev151 v8) < nD) ∧
  ((k0_dev153 v8) < nD) ∧
  ((k0_dev156 v8) < nD) ∧
  ((k0_dev157 v8) < nD) ∧
  ((k0_dev159 v8) < nD) ∧
  ((k0_dev162 v8) < nD) ∧
  ((k0_dev163 v8) < nD) ∧
  ((k0_dev165 v8) < nD) ∧
  ((k0_dev168 v8) < nD) ∧
  ((k0_dev169 v8) < nD) ∧
  ((k0_dev171 v8) < nD) ∧
  ((k0_dev174 v8) < nD) ∧
  ((k0_dev175 v8) < nD) ∧
  ((k0_dev177 v8) < nD) ∧
  ((k0_dev180 v8) < nD) ∧
  ((k0_dev181 v8) < nD) ∧
  ((k0_dev183 v8) < nD) ∧
  ((k0_dev186 v8) < nD) ∧
  ((k0_dev187 v8) < nD) ∧
  ((k0_dev189 v8) < nD) ∧
  ((k0_dev192 v8) < nD)
def k0_chk3_3 (v8 : BitVec 32) : Prop :=
  ((k0_dev193 v8) < nD) ∧
  ((k0_dev195 v8) < nD) ∧
  ((k0_dev198 v8) < nD) ∧
  ((k0_dev199 v8) < nD) ∧
  ((k0_dev201 v8) < nD) ∧
  ((k0_dev204 v8) < nD) ∧
  ((k0_dev205 v8) < nD) ∧
  ((k0_dev207 v8) < nD) ∧
  ((k0_dev210 v8) < nD) ∧
  ((k0_dev211 v8) < nD) ∧
  ((k0_dev213 v8) < nD) ∧
  ((k0_dev216 v8) < nD) ∧
  ((k0_dev217 v8) < nD) ∧
  ((k0_dev219 v8) < nD) ∧
  ((k0_dev222 v8) < nD) ∧
  ((k0_dev223 v8) < nD) ∧
  ((k0_dev225 v8) < nD) ∧
  ((k0_dev228 v8) < nD) ∧
  ((k0_dev229 v8) < nD) ∧
  ((k0_dev231 v8) < nD) ∧
  ((k0_dev234 v8) < nD) ∧
  ((k0_dev235 v8) < nD) ∧
  ((k0_dev237 v8) < nD) ∧
  ((k0_dev240 v8) < nD) ∧
  ((k0_dev241 v8) < nD) ∧
  ((k0_dev243 v8) < nD) ∧
  ((k0_dev246 v8) < nD) ∧
  ((k0_dev247 v8) < nD) ∧
  ((k0_dev249 v8) < nD) ∧
  ((k0_dev252 v8) < nD) ∧
  ((k0_dev253 v8) < nD) ∧
  ((k0_dev255 v8) < nD)
def k0_chk3_4 (v8 : BitVec 32) : Prop :=
  ((k0_dev258 v8) < nD) ∧
  ((k0_dev259 v8) < nD) ∧
  ((k0_dev261 v8) < nD) ∧
  ((k0_dev264 v8) < nD) ∧
  ((k0_dev265 v8) < nD) ∧
  ((k0_dev267 v8) < nD) ∧
  ((k0_dev270 v8) < nD) ∧
  ((k0_dev271 v8) < nD) ∧
  ((k0_dev273 v8) < nD) ∧
  ((k0_dev276 v8) < nD) ∧
  ((k0_dev277 v8) < nD) ∧
  ((k0_dev279 v8) < nD) ∧
  ((k0_dev282 v8) < nD) ∧
  ((k0_dev283 v8) < nD) ∧
  ((k0_dev285 v8) < nD) ∧
  ((k0_dev288 v8) < nD) ∧
  ((k0_dev289 v8) < nD) ∧
  ((k0_dev291 v8) < nD) ∧
  ((k0_dev294 v8) < nD) ∧
  ((k0_dev295 v8) < nD) ∧
  ((k0_dev297 v8) < nD) ∧
  ((k0_dev300 v8) < nD) ∧
  ((k0_dev301 v8) < nD) ∧
  ((k0_dev303 v8) < nD) ∧
  ((k0_dev306 v8) < nD) ∧
  ((k0_dev307 v8) < nD) ∧
  ((k0_dev309 v8) < nD) ∧
  ((k0_dev312 v8) < nD) ∧
  ((k0_dev313 v8) < nD) ∧
  ((k0_dev315 v8) < nD) ∧
  ((k0_dev318 v8) < nD) ∧
  ((k0_dev319 v8) < nD)
def k0_chk3_5 (v8 : BitVec 32) : Prop :=
  ((k0_dev321 v8) < nD) ∧
  ((k0_dev324 v8) < nD) ∧
  ((k0_dev325 v8) < nD) ∧
  ((k0_dev327 v8) < nD) ∧
  ((k0_dev330 v8) < nD) ∧
  ((k0_dev331 v8) < nD) ∧
  ((k0_dev333 v8) < nD) ∧
  ((k0_dev336 v8) < nD) ∧
  ((k0_dev337 v8) < nD) ∧
  ((k0_dev339 v8) < nD) ∧
  ((k0_dev342 v8) < nD) ∧
  ((k0_dev343 v8) < nD) ∧
  ((k0_dev345 v8) < nD) ∧
  ((k0_dev348 v8) < nD) ∧
  ((k0_dev349 v8) < nD) ∧
  ((k0_dev351 v8) < nD) ∧
  ((k0_dev354 v8) < nD) ∧
  ((k0_dev355 v8) < nD) ∧
  ((k0_dev357 v8) < nD) ∧
  ((k0_dev360 v8) < nD) ∧
  ((k0_dev361 v8) < nD) ∧
  ((k0_dev363 v8) < nD) ∧
  ((k0_dev365 v8) < nD) ∧
  ((k0_dev367 v8) < nD)
def k0_chk3 (v8 : BitVec 32) : Prop :=
  k0_chk3_0 v8 ∧
  k0_chk3_1 v8 ∧
  k0_chk3_2 v8 ∧
  k0_chk3_3 v8 ∧
  k0_chk3_4 v8 ∧
  k0_chk3_5 v8
theorem k0_dev2_lt : ∀ (v8 : BitVec 32) (k0_hw3 : k0_chk3 v8), (k0_dev2 v8) < nD := fun v8 k0_hw3 => k0_hw3.1.1
theorem k0_dev3_lt : ∀ (v8 : BitVec 32) (k0_hw3 : k0_chk3 v8), (k0_dev3 v8) < nD := fun v8 k0_hw3 => k0_hw3.1.2.1
theorem k0_dev5_lt : ∀ (v8 : BitVec 32) (k0_hw3 : k0_chk3 v8), (k0_dev5 v8) < nD := fun v8 k0_hw3 => k0_hw3.1.2.2.1
theorem k0_dev7_lt : ∀ (v8 : BitVec 32) (k0_hw3 : k0_chk3 v8), (k0_dev7 v8) < nD := fun v8 k0_hw3 => k0_hw3.1.2.2.2.1
theorem k0_dev9_lt : ∀ (v8 : BitVec 32) (k0_hw3 : k0_chk3 v8), (k0_dev9 v8) < nD := fun v8 k0_hw3 => k0_hw3.1.2.2.2.2.1
theorem k0_dev12_lt : ∀ (v8 : BitVec 32) (k0_hw3 : k0_chk3 v8), (k0_dev12 v8) < nD := fun v8 k0_hw3 => k0_hw3.1.2.2.2.2.2.1
theorem k0_dev13_lt : ∀ (v8 : BitVec 32) (k0_hw3 : k0_chk3 v8), (k0_dev13 v8) < nD := fun v8 k0_hw3 => k0_hw3.1.2.2.2.2.2.2.1
theorem k0_dev15_lt : ∀ (v8 : BitVec 32) (k0_hw3 : k0_chk3 v8), (k0_dev15 v8) < nD := fun v8 k0_hw3 => k0_hw3.1.2.2.2.2.2.2.2.1
theorem k0_dev18_lt : ∀ (v8 : BitVec 32) (k0_hw3 : k0_chk3 v8), (k0_dev18 v8) < nD := fun v8 k0_hw3 => k0_hw3.1.2.2.2.2.2.2.2.2.1
theorem k0_dev19_lt : ∀ (v8 : BitVec 32) (k0_hw3 : k0_chk3 v8), (k0_dev19 v8) < nD := fun v8 k0_hw3 => k0_hw3.1.2.2.2.2.2.2.2.2.2.1
theorem k0_dev21_lt : ∀ (v8 : BitVec 32) (k0_hw3 : k0_chk3 v8), (k0_dev21 v8) < nD := fun v8 k0_hw3 => k0_hw3.1.2.2.2.2.2.2.2.2.2.2.1
theorem k0_dev24_lt : ∀ (v8 : BitVec 32) (k0_hw3 : k0_chk3 v8), (k0_dev24 v8) < nD := fun v8 k0_hw3 => k0_hw3.1.2.2.2.2.2.2.2.2.2.2.2.1
theorem k0_dev25_lt : ∀ (v8 : BitVec 32) (k0_hw3 : k0_chk3 v8), (k0_dev25 v8) < nD := fun v8 k0_hw3 => k0_hw3.1.2.2.2.2.2.2.2.2.2.2.2.2.1
theorem k0_dev27_lt : ∀ (v8 : BitVec 32) (k0_hw3 : k0_chk3 v8), (k0_dev27 v8) < nD := fun v8 k0_hw3 => k0_hw3.1.2.2.2.2.2.2.2.2.2.2.2.2.2.1
theorem k0_dev30_lt : ∀ (v8 : BitVec 32) (k0_hw3 : k0_chk3 v8), (k0_dev30 v8) < nD := fun v8 k0_hw3 => k0_hw3.1.2.2.2.2.2.2.2.2.2.2.2.2.2.2.1
theorem k0_dev31_lt : ∀ (v8 : BitVec 32) (k0_hw3 : k0_chk3 v8), (k0_dev31 v8) < nD := fun v8 k0_hw3 => k0_hw3.1.2.2.2.2.2.2.2.2.2.2.2.2.2.2.2.1
theorem k0_dev33_lt : ∀ (v8 : BitVec 32) (k0_hw3 : k0_chk3 v8), (k0_dev33 v8) < nD := fun v8 k0_hw3 => k0_hw3.1.2.2.2.2.2.2.2.2.2.2.2.2.2.2.2.2.1
theorem k0_dev36_lt : ∀ (v8 : BitVec 32) (k0_hw3 : k0_chk3 v8), (k0_dev36 v8) < nD := fun v8 k0_hw3 => k0_hw3.1.2.2.2.2.2.2.2.2.2.2.2.2.2.2.2.2.2.1
theorem k0_dev37_lt : ∀ (v8 : BitVec 32) (k0_hw3 : k0_chk3 v8), (k0_dev37 v8) < nD := fun v8 k0_hw3 => k0_hw3.1.2.2.2.2.2.2.2.2.2.2.2.2.2.2.2.2.2.2.1
theorem k0_dev39_lt : ∀ (v8 : BitVec 32) (k0_hw3 : k0_chk3 v8), (k0_dev39 v8) < nD := fun v8 k0_hw3 => k0_hw3.1.2.2.2.2.2.2.2.2.2.2.2.2.2.2.2.2.2.2.2.1
theorem k0_dev42_lt : ∀ (v8 : BitVec 32) (k0_hw3 : k0_chk3 v8), (k0_dev42 v8) < nD := fun v8 k0_hw3 => k0_hw3.1.2.2.2.2.2.2.2.2.2.2.2.2.2.2.2.2.2.2.2.2.1
theorem k0_dev43_lt : ∀ (v8 : BitVec 32) (k0_hw3 : k0_chk3 v8), (k0_dev43 v8) < nD := fun v8 k0_hw3 => k0_hw3.1.2.2.2.2.2.2.2.2.2.2.2.2.2.2.2.2.2.2.2.2.2.1
theorem k0_dev45_lt : ∀ (v8 : BitVec 32) (k0_hw3 : k0_chk3 v8), (k0_dev45 v8) < nD := fun v8 k0_hw3 => k0_hw3.1.2.2.2.2.2.2.2.2.2.2.2.2.2.2.2.2.2.2.2.2.2.2.1
theorem k0_dev48_lt : ∀ (v8 : BitVec 32) (k0_hw3 : k0_chk3 v8), (k0_dev48 v8) < nD := fun v8 k0_hw3 => k0_hw3.1.2.2.2.2.2.2.2.2.2.2.2.2.2.2.2.2.2.2.2.2.2.2.2.1
theorem k0_dev49_lt : ∀ (v8 : BitVec 32) (k0_hw3 : k0_chk3 v8), (k0_dev49 v8) < nD := fun v8 k0_hw3 => k0_hw3.1.2.2.2.2.2.2.2.2.2.2.2.2.2.2.2.2.2.2.2.2.2.2.2.2.1
theorem k0_dev51_lt : ∀ (v8 : BitVec 32) (k0_hw3 : k0_chk3 v8), (k0_dev51 v8) < nD := fun v8 k0_hw3 => k0_hw3.1.2.2.2.2.2.2.2.2.2.2.2.2.2.2.2.2.2.2.2.2.2.2.2.2.2.1
theorem k0_dev54_lt : ∀ (v8 : BitVec 32) (k0_hw3 : k0_chk3 v8), (k0_dev54 v8) < nD := fun v8 k0_hw3 => k0_hw3.1.2.2.2.2.2.2.2.2.2.2.2.2.2.2.2.2.2.2.2.2.2.2.2.2.2.2.1
theorem k0_dev55_lt : ∀ (v8 : BitVec 32) (k0_hw3 : k0_chk3 v8), (k0_dev55 v8) < nD := fun v8 k0_hw3 => k0_hw3.1.2.2.2.2.2.2.2.2.2.2.2.2.2.2.2.2.2.2.2.2.2.2.2.2.2.2.2.1
theorem k0_dev57_lt : ∀ (v8 : BitVec 32) (k0_hw3 : k0_chk3 v8), (k0_dev57 v8) < nD := fun v8 k0_hw3 => k0_hw3.1.2.2.2.2.2.2.2.2.2.2.2.2.2.2.2.2.2.2.2.2.2.2.2.2.2.2.2.2.1
theorem k0_dev60_lt : ∀ (v8 : BitVec 32) (k0_hw3 : k0_chk3 v8), (k0_dev60 v8) < nD := fun v8 k0_hw3 => k0_hw3.1.2.2.2.2.2.2.2.2.2.2.2.2.2.2.2.2.2.2.2.2.2.2.2.2.2.2.2.2.2.1
theorem k0_dev61_lt : ∀ (v8 : BitVec 32) (k0_hw3 : k0_chk3 v8), (k0_dev61 v8) < nD := fun v8 k0_hw3 => k0_hw3.1.2.2.2.2.2.2.2.2.2.2.2.2.2.2.2.2.2.2.2.2.2.2.2.2.2.2.2.2.2.2.1
theorem k0_dev63_lt : ∀ (v8 : BitVec 32) (k0_hw3 : k0_chk3 v8), (k0_dev63 v8) < nD := fun v8 k0_hw3 => k0_hw3.1.2.2.2.2.2.2.2.2.2.2.2.2.2.2.2.2.2.2.2.2.2.2.2.2.2.2.2.2.2.2.2
theorem k0_dev66_lt : ∀ (v8 : BitVec 32) (k0_hw3 : k0_chk3 v8), (k0_dev66 v8) < nD := fun v8 k0_hw3 => k0_hw3.2.1.1
theorem k0_dev67_lt : ∀ (v8 : BitVec 32) (k0_hw3 : k0_chk3 v8), (k0_dev67 v8) < nD := fun v8 k0_hw3 => k0_hw3.2.1.2.1
theorem k0_dev69_lt : ∀ (v8 : BitVec 32) (k0_hw3 : k0_chk3 v8), (k0_dev69 v8) < nD := fun v8 k0_hw3 => k0_hw3.2.1.2.2.1
theorem k0_dev72_lt : ∀ (v8 : BitVec 32) (k0_hw3 : k0_chk3 v8), (k0_dev72 v8) < nD := fun v8 k0_hw3 => k0_hw3.2.1.2.2.2.1
theorem k0_dev73_lt : ∀ (v8 : BitVec 32) (k0_hw3 : k0_chk3 v8), (k0_dev73 v8) < nD := fun v8 k0_hw3 => k0_hw3.2.1.2.2.2.2.1
theorem k0_dev75_lt : ∀ (v8 : BitVec 32) (k0_hw3 : k0_chk3 v8), (k0_dev75 v8) < nD := fun v8 k0_hw3 => k0_hw3.2.1.2.2.2.2.2.1
theorem k0_dev78_lt : ∀ (v8 : BitVec 32) (k0_hw3 : k0_chk3 v8), (k0_dev78 v8) < nD := fun v8 k0_hw3 => k0_hw3.2.1.2.2.2.2.2.2.1
theorem k0_dev79_lt : ∀ (v8 : BitVec 32) (k0_hw3 : k0_chk3 v8), (k0_dev79 v8) < nD := fun v8 k0_hw3 => k0_hw3.2.1.2.2.2.2.2.2.2.1
theorem k0_dev81_lt : ∀ (v8 : BitVec 32) (k0_hw3 : k0_chk3 v8), (k0_dev81 v8) < nD := fun v8 k0_hw3 => k0_hw3.2.1.2.2.2.2.2.2.2.2.1
theorem k0_dev84_lt : ∀ (v8 : BitVec 32) (k0_hw3 : k0_chk3 v8), (k0_dev84 v8) < nD := fun v8 k0_hw3 => k0_hw3.2.1.2.2.2.2.2.2.2.2.2.1
theorem k0_dev85_lt : ∀ (v8 : BitVec 32) (k0_hw3 : k0_chk3 v8), (k0_dev85 v8) < nD := fun v8 k0_hw3 => k0_hw3.2.1.2.2.2.2.2.2.2.2.2.2.1
theorem k0_dev87_lt : ∀ (v8 : BitVec 32) (k0_hw3 : k0_chk3 v8), (k0_dev87 v8) < nD := fun v8 k0_hw3 => k0_hw3.2.1.2.2.2.2.2.2.2.2.2.2.2.1
theorem k0_dev90_lt : ∀ (v8 : BitVec 32) (k0_hw3 : k0_chk3 v8), (k0_dev90 v8) < nD := fun v8 k0_hw3 => k0_hw3.2.1.2.2.2.2.2.2.2.2.2.2.2.2.1
theorem k0_dev91_lt : ∀ (v8 : BitVec 32) (k0_hw3 : k0_chk3 v8), (k0_dev91 v8) < nD := fun v8 k0_hw3 => k0_hw3.2.1.2.2.2.2.2.2.2.2.2.2.2.2.2.1
theorem k0_dev93_lt : ∀ (v8 : BitVec 32) (k0_hw3 : k0_chk3 v8), (k0_dev93 v8) < nD := fun v8 k0_hw3 => k0_hw3.2.1.2.2.2.2.2.2.2.2.2.2.2.2.2.2.1
theorem k0_dev96_lt : ∀ (v8 : BitVec 32) (k0_hw3 : k0_chk3 v8), (k0_dev96 v8) < nD := fun v8 k0_hw3 => k0_hw3.2.1.2.2.2.2.2.2.2.2.2.2.2.2.2.2.2.1
theorem k0_dev97_lt : ∀ (v8 : BitVec 32) (k0_hw3 : k0_chk3 v8), (k0_dev97 v8) < nD := fun v8 k0_hw3 => k0_hw3.2.1.2.2.2.2.2.2.2.2.2.2.2.2.2.2.2.2.1
theorem k0_dev99_lt : ∀ (v8 : BitVec 32) (k0_hw3 : k0_chk3 v8), (k0_dev99 v8) < nD := fun v8 k0_hw3 => k0_hw3.2.1.2.2.2.2.2.2.2.2.2.2.2.2.2.2.2.2.2.1
theorem k0_dev102_lt : ∀ (v8 : BitVec 32) (k0_hw3 : k0_chk3 v8), (k0_dev102 v8) < nD := fun v8 k0_hw3 => k0_hw3.2.1.2.2.2.2.2.2.2.2.2.2.2.2.2.2.2.2.2.2.1
theorem k0_dev103_lt : ∀ (v8 : BitVec 32) (k0_hw3 : k0_chk3 v8), (k0_dev103 v8) < nD := fun v8 k0_hw3 => k0_hw3.2.1.2.2.2.2.2.2.2.2.2.2.2.2.2.2.2.2.2.2.2.1
theorem k0_dev105_lt : ∀ (v8 : BitVec 32) (k0_hw3 : k0_chk3 v8), (k0_dev105 v8) < nD := fun v8 k0_hw3 => k0_hw3.2.1.2.2.2.2.2.2.2.2.2.2.2.2.2.2.2.2.2.2.2.2.1
theorem k0_dev108_lt : ∀ (v8 : BitVec 32) (k0_hw3 : k0_chk3 v8), (k0_dev108 v8) < nD := fun v8 k0_hw3 => k0_hw3.2.1.2.2.2.2.2.2.2.2.2.2.2.2.2.2.2.2.2.2.2.2.2.1
theorem k0_dev109_lt : ∀ (v8 : BitVec 32) (k0_hw3 : k0_chk3 v8), (k0_dev109 v8) < nD := fun v8 k0_hw3 => k0_hw3.2.1.2.2.2.2.2.2.2.2.2.2.2.2.2.2.2.2.2.2.2.2.2.2.1
theorem k0_dev111_lt : ∀ (v8 : BitVec 32) (k0_hw3 : k0_chk3 v8), (k0_dev111 v8) < nD := fun v8 k0_hw3 => k0_hw3.2.1.2.2.2.2.2.2.2.2.2.2.2.2.2.2.2.2.2.2.2.2.2.2.2.1
theorem k0_dev114_lt : ∀ (v8 : BitVec 32) (k0_hw3 : k0_chk3 v8), (k0_dev114 v8) < nD := fun v8 k0_hw3 => k0_hw3.2.1.2.2.2.2.2.2.2.2.2.2.2.2.2.2.2.2.2.2.2.2.2.2.2.2.1
theorem k0_dev115_lt : ∀ (v8 : BitVec 32) (k0_hw3 : k0_chk3 v8), (k0_dev115 v8) < nD := fun v8 k0_hw3 => k0_hw3.2.1.2.2.2.2.2.2.2.2.2.2.2.2.2.2.2.2.2.2.2.2.2.2.2.2.2.1
theorem k0_dev117_lt : ∀ (v8 : BitVec 32) (k0_hw3 : k0_chk3 v8), (k0_dev117 v8) < nD := fun v8 k0_hw3 => k0_hw3.2.1.2.2.2.2.2.2.2.2.2.2.2.2.2.2.2.2.2.2.2.2.2.2.2.2.2.2.1
theorem k0_dev120_lt : ∀ (v8 : BitVec 32) (k0_hw3 : k0_chk3 v8), (k0_dev120 v8) < nD := fun v8 k0_hw3 => k0_hw3.2.1.2.2.2.2.2.2.2.2.2.2.2.2.2.2.2.2.2.2.2.2.2.2.2.2.2.2.2.1
theorem k0_dev121_lt : ∀ (v8 : BitVec 32) (k0_hw3 : k0_chk3 v8), (k0_dev121 v8) < nD := fun v8 k0_hw3 => k0_hw3.2.1.2.2.2.2.2.2.2.2.2.2.2.2.2.2.2.2.2.2.2.2.2.2.2.2.2.2.2.2.1
theorem k0_dev123_lt : ∀ (v8 : BitVec 32) (k0_hw3 : k0_chk3 v8), (k0_dev123 v8) < nD := fun v8 k0_hw3 => k0_hw3.2.1.2.2.2.2.2.2.2.2.2.2.2.2.2.2.2.2.2.2.2.2.2.2.2.2.2.2.2.2.2.1
theorem k0_dev126_lt : ∀ (v8 : BitVec 32) (k0_hw3 : k0_chk3 v8), (k0_dev126 v8) < nD := fun v8 k0_hw3 => k0_hw3.2.1.2.2.2.2.2.2.2.2.2.2.2.2.2.2.2.2.2.2.2.2.2.2.2.2.2.2.2.2.2.2.1
theorem k0_dev127_lt : ∀ (v8 : BitVec 32) (k0_hw3 : k0_chk3 v8), (k0_dev127 v8) < nD := fun v8 k0_hw3 => k0_hw3.2.1.2.2.2.2.2.2.2.2.2.2.2.2.2.2.2.2.2.2.2.2.2.2.2.2.2.2.2.2.2.2.2
theorem k0_dev129_lt : ∀ (v8 : BitVec 32) (k0_hw3 : k0_chk3 v8), (k0_dev129 v8) < nD := fun v8 k0_hw3 => k0_hw3.2.2.1.1
theorem k0_dev132_lt : ∀ (v8 : BitVec 32) (k0_hw3 : k0_chk3 v8), (k0_dev132 v8) < nD := fun v8 k0_hw3 => k0_hw3.2.2.1.2.1
theorem k0_dev133_lt : ∀ (v8 : BitVec 32) (k0_hw3 : k0_chk3 v8), (k0_dev133 v8) < nD := fun v8 k0_hw3 => k0_hw3.2.2.1.2.2.1
theorem k0_dev135_lt : ∀ (v8 : BitVec 32) (k0_hw3 : k0_chk3 v8), (k0_dev135 v8) < nD := fun v8 k0_hw3 => k0_hw3.2.2.1.2.2.2.1
theorem k0_dev138_lt : ∀ (v8 : BitVec 32) (k0_hw3 : k0_chk3 v8), (k0_dev138 v8) < nD := fun v8 k0_hw3 => k0_hw3.2.2.1.2.2.2.2.1
theorem k0_dev139_lt : ∀ (v8 : BitVec 32) (k0_hw3 : k0_chk3 v8), (k0_dev139 v8) < nD := fun v8 k0_hw3 => k0_hw3.2.2.1.2.2.2.2.2.1
theorem k0_dev141_lt : ∀ (v8 : BitVec 32) (k0_hw3 : k0_chk3 v8), (k0_dev141 v8) < nD := fun v8 k0_hw3 => k0_hw3.2.2.1.2.2.2.2.2.2.1
theorem k0_dev144_lt : ∀ (v8 : BitVec 32) (k0_hw3 : k0_chk3 v8), (k0_dev144 v8) < nD := fun v8 k0_hw3 => k0_hw3.2.2.1.2.2.2.2.2.2.2.1
theorem k0_dev145_lt : ∀ (v8 : BitVec 32) (k0_hw3 : k0_chk3 v8), (k0_dev145 v8) < nD := fun v8 k0_hw3 => k0_hw3.2.2.1.2.2.2.2.2.2.2.2.1
theorem k0_dev147_lt : ∀ (v8 : BitVec 32) (k0_hw3 : k0_chk3 v8), (k0_dev147 v8) < nD := fun v8 k0_hw3 => k0_hw3.2.2.1.2.2.2.2.2.2.2.2.2.1
theorem k0_dev150_lt : ∀ (v8 : BitVec 32) (k0_hw3 : k0_chk3 v8), (k0_dev150 v8) < nD := fun v8 k0_hw3 => k0_hw3.2.2.1.2.2.2.2.2.2.2.2.2.2.1
theorem k0_dev151_lt : ∀ (v8 : BitVec 32) (k0_hw3 : k0_chk3 v8), (k0_dev151 v8) < nD := fun v8 k0_hw3 => k0_hw3.2.2.1.2.2.2.2.2.2.2.2.2.2.2.1
theorem k0_dev153_lt : ∀ (v8 : BitVec 32) (k0_hw3 : k0_chk3 v8), (k0_dev153 v8) < nD := fun v8 k0_hw3 => k0_hw3.2.2.1.2.2.2.2.2.2.2.2.2.2.2.2.1
theorem k0_dev156_lt : ∀ (v8 : BitVec 32) (k0_hw3 : k0_chk3 v8), (k0_dev156 v8) < nD := fun v8 k0_hw3 => k0_hw3.2.2.1.2.2.2.2.2.2.2.2.2.2.2.2.2.1
theorem k0_dev157_lt : ∀ (v8 : BitVec 32) (k0_hw3 : k0_chk3 v8), (k0_dev157 v8) < nD := fun v8 k0_hw3 => k0_hw3.2.2.1.2.2.2.2.2.2.2.2.2.2.2.2.2.2.1
theorem k0_dev159_lt : ∀ (v8 : BitVec 32) (k0_hw3 : k0_chk3 v8), (k0_dev159 v8) < nD := fun v8 k0_hw3 => k0_hw3.2.2.1.2.2.2.2.2.2.2.2.2.2.2.2.2.2.2.1
theorem k0_dev162_lt : ∀ (v8 : BitVec 32) (k0_hw3 : k0_chk3 v8), (k0_dev162 v8) < nD := fun v8 k0_hw3 => k0_hw3.2.2.1.2.2.2.2.2.2.2.2.2.2.2.2.2.2.2.2.1
theorem k0_dev163_lt : ∀ (v8 : BitVec 32) (k0_hw3 : k0_chk3 v8), (k0_dev163 v8) < nD := fun v8 k0_hw3 => k0_hw3.2.2.1.2.2.2.2.2.2.2.2.2.2.2.2.2.2.2.2.2.1
theorem k0_dev165_lt : ∀ (v8 : BitVec 32) (k0_hw3 : k0_chk3 v8), (k0_dev165 v8) < nD := fun v8 k0_hw3 => k0_hw3.2.2.1.2.2.2.2.2.2.2.2.2.2.2.2.2.2.2.2.2.2.1
theorem k0_dev168_lt : ∀ (v8 : BitVec 32) (k0_hw3 : k0_chk3 v8), (k0_dev168 v8) < nD := fun v8 k0_hw3 => k0_hw3.2.2.1.2.2.2.2.2.2.2.2.2.2.2.2.2.2.2.2.2.2.2.1
theorem k0_dev169_lt : ∀ (v8 : BitVec 32) (k0_hw3 : k0_chk3 v8), (k0_dev169 v8) < nD := fun v8 k0_hw3 => k0_hw3.2.2.1.2.2.2.2.2.2.2.2.2.2.2.2.2.2.2.2.2.2.2.2.1
theorem k0_dev171_lt : ∀ (v8 : BitVec 32) (k0_hw3 : k0_chk3 v8), (k0_dev171 v8) < nD := fun v8 k0_hw3 => k0_hw3.2.2.1.2.2.2.2.2.2.2.2.2.2.2.2.2.2.2.2.2.2.2.2.2.1
theorem k0_dev174_lt : ∀ (v8 : BitVec 32) (k0_hw3 : k0_chk3 v8), (k0_dev174 v8) < nD := fun v8 k0_hw3 => k0_hw3.2.2.1.2.2.2.2.2.2.2.2.2.2.2.2.2.2.2.2.2.2.2.2.2.2.1
theorem k0_dev175_lt : ∀ (v8 : BitVec 32) (k0_hw3 : k0_chk3 v8), (k0_dev175 v8) < nD := fun v8 k0_hw3 => k0_hw3.2.2.1.2.2.2.2.2.2.2.2.2.2.2.2.2.2.2.2.2.2.2.2.2.2.2.1
theorem k0_dev177_lt : ∀ (v8 : BitVec 32) (k0_hw3 : k0_chk3 v8), (k0_dev177 v8) < nD := fun v8 k0_hw3 => k0_hw3.2.2.1.2.2.2.2.2.2.2.2.2.2.2.2.2.2.2.2.2.2.2.2.2.2.2.2.1
theorem k0_dev180_lt : ∀ (v8 : BitVec 32) (k0_hw3 : k0_chk3 v8), (k0_dev180 v8) < nD := fun v8 k0_hw3 => k0_hw3.2.2.1.2.2.2.2.2.2.2.2.2.2.2.2.2.2.2.2.2.2.2.2.2.2.2.2.2.1
theorem k0_dev181_lt : ∀ (v8 : BitVec 32) (k0_hw3 : k0_chk3 v8), (k0_dev181 v8) < nD := fun v8 k0_hw3 => k0_hw3.2.2.1.2.2.2.2.2.2.2.2.2.2.2.2.2.2.2.2.2.2.2.2.2.2.2.2.2.2.1
theorem k0_dev183_lt : ∀ (v8 : BitVec 32) (k0_hw3 : k0_chk3 v8), (k0_dev183 v8) < nD := fun v8 k0_hw3 => k0_hw3.2.2.1.2.2.2.2.2.2.2.2.2.2.2.2.2.2.2.2.2.2.2.2.2.2.2.2.2.2.2.1
theorem k0_dev186_lt : ∀ (v8 : BitVec 32) (k0_hw3 : k0_chk3 v8), (k0_dev186 v8) < nD := fun v8 k0_hw3 => k0_hw3.2.2.1.2.2.2.2.2.2.2.2.2.2.2.2.2.2.2.2.2.2.2.2.2.2.2.2.2.2.2.2.1
theorem k0_dev187_lt : ∀ (v8 : BitVec 32) (k0_hw3 : k0_chk3 v8), (k0_dev187 v8) < nD := fun v8 k0_hw3 => k0_hw3.2.2.1.2.2.2.2.2.2.2.2.2.2.2.2.2.2.2.2.2.2.2.2.2.2.2.2.2.2.2.2.2.1
theorem k0_dev189_lt : ∀ (v8 : BitVec 32) (k0_hw3 : k0_chk3 v8), (k0_dev189 v8) < nD := fun v8 k0_hw3 => k0_hw3.2.2.1.2.2.2.2.2.2.2.2.2.2.2.2.2.2.2.2.2.2.2.2.2.2.2.2.2.2.2.2.2.2.1
theorem k0_dev192_lt : ∀ (v8 : BitVec 32) (k0_hw3 : k0_chk3 v8), (k0_dev192 v8) < nD := fun v8 k0_hw3 => k0_hw3.2.2.1.2.2.2.2.2.2.2.2.2.2.2.2.2.2.2.2.2.2.2.2.2.2.2.2.2.2.2.2.2.2.2
theorem k0_dev193_lt : ∀ (v8 : BitVec 32) (k0_hw3 : k0_chk3 v8), (k0_dev193 v8) < nD := fun v8 k0_hw3 => k0_hw3.2.2.2.1.1
theorem k0_dev195_lt : ∀ (v8 : BitVec 32) (k0_hw3 : k0_chk3 v8), (k0_dev195 v8) < nD := fun v8 k0_hw3 => k0_hw3.2.2.2.1.2.1
theorem k0_dev198_lt : ∀ (v8 : BitVec 32) (k0_hw3 : k0_chk3 v8), (k0_dev198 v8) < nD := fun v8 k0_hw3 => k0_hw3.2.2.2.1.2.2.1
theorem k0_dev199_lt : ∀ (v8 : BitVec 32) (k0_hw3 : k0_chk3 v8), (k0_dev199 v8) < nD := fun v8 k0_hw3 => k0_hw3.2.2.2.1.2.2.2.1
theorem k0_dev201_lt : ∀ (v8 : BitVec 32) (k0_hw3 : k0_chk3 v8), (k0_dev201 v8) < nD := fun v8 k0_hw3 => k0_hw3.2.2.2.1.2.2.2.2.1
theorem k0_dev204_lt : ∀ (v8 : BitVec 32) (k0_hw3 : k0_chk3 v8), (k0_dev204 v8) < nD := fun v8 k0_hw3 => k0_hw3.2.2.2.1.2.2.2.2.2.1
theorem k0_dev205_lt : ∀ (v8 : BitVec 32) (k0_hw3 : k0_chk3 v8), (k0_dev205 v8) < nD := fun v8 k0_hw3 => k0_hw3.2.2.2.1.2.2.2.2.2.2.1
theorem k0_dev207_lt : ∀ (v8 : BitVec 32) (k0_hw3 : k0_chk3 v8), (k0_dev207 v8) < nD := fun v8 k0_hw3 => k0_hw3.2.2.2.1.2.2.2.2.2.2.2.1
theorem k0_dev210_lt : ∀ (v8 : BitVec 32) (k0_hw3 : k0_chk3 v8), (k0_dev210 v8) < nD := fun v8 k0_hw3 => k0_hw3.2.2.2.1.2.2.2.2.2.2.2.2.1
theorem k0_dev211_lt : ∀ (v8 : BitVec 32) (k0_hw3 : k0_chk3 v8), (k0_dev211 v8) < nD := fun v8 k0_hw3 => k0_hw3.2.2.2.1.2.2.2.2.2.2.2.2.2.1
theorem k0_dev213_lt : ∀ (v8 : BitVec 32) (k0_hw3 : k0_chk3 v8), (k0_dev213 v8) < nD := fun v8 k0_hw3 => k0_hw3.2.2.2.1.2.2.2.2.2.2.2.2.2.2.1
theorem k0_dev216_lt : ∀ (v8 : BitVec 32) (k0_hw3 : k0_chk3 v8), (k0_dev216 v8) < nD := fun v8 k0_hw3 => k0_hw3.2.2.2.1.2.2.2.2.2.2.2.2.2.2.2.1
theorem k0_dev217_lt : ∀ (v8 : BitVec 32) (k0_hw3 : k0_chk3 v8), (k0_dev217 v8) < nD := fun v8 k0_hw3 => k0_hw3.2.2.2.1.2.2.2.2.2.2.2.2.2.2.2.2.1
theorem k0_dev219_lt : ∀ (v8 : BitVec 32) (k0_hw3 : k0_chk3 v8), (k0_dev219 v8) < nD := fun v8 k0_hw3 => k0_hw3.2.2.2.1.2.2.2.2.2.2.2.2.2.2.2.2.2.1
theorem k0_dev222_lt : ∀ (v8 : BitVec 32) (k0_hw3 : k0_chk3 v8), (k0_dev222 v8) < nD := fun v8 k0_hw3 => k0_hw3.2.2.2.1.2.2.2.2.2.2.2.2.2.2.2.2.2.2.1
theorem k0_dev223_lt : ∀ (v8 : BitVec 32) (k0_hw3 : k0_chk3 v8), (k0_dev223 v8) < nD := fun v8 k0_hw3 => k0_hw3.2.2.2.1.2.2.2.2.2.2.2.2.2.2.2.2.2.2.2.1
theorem k0_dev225_lt : ∀ (v8 : BitVec 32) (k0_hw3 : k0_chk3 v8), (k0_dev225 v8) < nD := fun v8 k0_hw3 => k0_hw3.2.2.2.1.2.2.2.2.2.2.2.2.2.2.2.2.2.2.2.2.1
theorem k0_dev228_lt : ∀ (v8 : BitVec 32) (k0_hw3 : k0_chk3 v8), (k0_dev228 v8) < nD := fun v8 k0_hw3 => k0_hw3.2.2.2.1.2.2.2.2.2.2.2.2.2.2.2.2.2.2.2.2.2.1
theorem k0_dev229_lt : ∀ (v8 : BitVec 32) (k0_hw3 : k0_chk3 v8), (k0_dev229 v8) < nD := fun v8 k0_hw3 => k0_hw3.2.2.2.1.2.2.2.2.2.2.2.2.2.2.2.2.2.2.2.2.2.2.1
theorem k0_dev231_lt : ∀ (v8 : BitVec 32) (k0_hw3 : k0_chk3 v8), (k0_dev231 v8) < nD := fun v8 k0_hw3 => k0_hw3.2.2.2.1.2.2.2.2.2.2.2.2.2.2.2.2.2.2.2.2.2.2.2.1
theorem k0_dev234_lt : ∀ (v8 : BitVec 32) (k0_hw3 : k0_chk3 v8), (k0_dev234 v8) < nD := fun v8 k0_hw3 => k0_hw3.2.2.2.1.2.2.2.2.2.2.2.2.2.2.2.2.2.2.2.2.2.2.2.2.1
theorem k0_dev235_lt : ∀ (v8 : BitVec 32) (k0_hw3 : k0_chk3 v8), (k0_dev235 v8) < nD := fun v8 k0_hw3 => k0_hw3.2.2.2.1.2.2.2.2.2.2.2.2.2.2.2.2.2.2.2.2.2.2.2.2.2.1
theorem k0_dev237_lt : ∀ (v8 : BitVec 32) (k0_hw3 : k0_chk3 v8), (k0_dev237 v8) < nD := fun v8 k0_hw3 => k0_hw3.2.2.2.1.2.2.2.2.2.2.2.2.2.2.2.2.2.2.2.2.2.2.2.2.2.2.1
theorem k0_dev240_lt : ∀ (v8 : BitVec 32) (k0_hw3 : k0_chk3 v8), (k0_dev240 v8) < nD := fun v8 k0_hw3 => k0_hw3.2.2.2.1.2.2.2.2.2.2.2.2.2.2.2.2.2.2.2.2.2.2.2.2.2.2.2.1
theorem k0_dev241_lt : ∀ (v8 : BitVec 32) (k0_hw3 : k0_chk3 v8), (k0_dev241 v8) < nD := fun v8 k0_hw3 => k0_hw3.2.2.2.1.2.2.2.2.2.2.2.2.2.2.2.2.2.2.2.2.2.2.2.2.2.2.2.2.1
theorem k0_dev243_lt : ∀ (v8 : BitVec 32) (k0_hw3 : k0_chk3 v8), (k0_dev243 v8) < nD := fun v8 k0_hw3 => k0_hw3.2.2.2.1.2.2.2.2.2.2.2.2.2.2.2.2.2.2.2.2.2.2.2.2.2.2.2.2.2.1
theorem k0_dev246_lt : ∀ (v8 : BitVec 32) (k0_hw3 : k0_chk3 v8), (k0_dev246 v8) < nD := fun v8 k0_hw3 => k0_hw3.2.2.2.1.2.2.2.2.2.2.2.2.2.2.2.2.2.2.2.2.2.2.2.2.2.2.2.2.2.2.1
theorem k0_dev247_lt : ∀ (v8 : BitVec 32) (k0_hw3 : k0_chk3 v8), (k0_dev247 v8) < nD := fun v8 k0_hw3 => k0_hw3.2.2.2.1.2.2.2.2.2.2.2.2.2.2.2.2.2.2.2.2.2.2.2.2.2.2.2.2.2.2.2.1
theorem k0_dev249_lt : ∀ (v8 : BitVec 32) (k0_hw3 : k0_chk3 v8), (k0_dev249 v8) < nD := fun v8 k0_hw3 => k0_hw3.2.2.2.1.2.2.2.2.2.2.2.2.2.2.2.2.2.2.2.2.2.2.2.2.2.2.2.2.2.2.2.2.1
theorem k0_dev252_lt : ∀ (v8 : BitVec 32) (k0_hw3 : k0_chk3 v8), (k0_dev252 v8) < nD := fun v8 k0_hw3 => k0_hw3.2.2.2.1.2.2.2.2.2.2.2.2.2.2.2.2.2.2.2.2.2.2.2.2.2.2.2.2.2.2.2.2.2.1
theorem k0_dev253_lt : ∀ (v8 : BitVec 32) (k0_hw3 : k0_chk3 v8), (k0_dev253 v8) < nD := fun v8 k0_hw3 => k0_hw3.2.2.2.1.2.2.2.2.2.2.2.2.2.2.2.2.2.2.2.2.2.2.2.2.2.2.2.2.2.2.2.2.2.2.1
theorem k0_dev255_lt : ∀ (v8 : BitVec 32) (k0_hw3 : k0_chk3 v8), (k0_dev255 v8) < nD := fun v8 k0_hw3 => k0_hw3.2.2.2.1.2.2.2.2.2.2.2.2.2.2.2.2.2.2.2.2.2.2.2.2.2.2.2.2.2.2.2.2.2.2.2
theorem k0_dev258_lt : ∀ (v8 : BitVec 32) (k0_hw3 : k0_chk3 v8), (k0_dev258 v8) < nD := fun v8 k0_hw3 => k0_hw3.2.2.2.2.1.1
theorem k0_dev259_lt : ∀ (v8 : BitVec 32) (k0_hw3 : k0_chk3 v8), (k0_dev259 v8) < nD := fun v8 k0_hw3 => k0_hw3.2.2.2.2.1.2.1
theorem k0_dev261_lt : ∀ (v8 : BitVec 32) (k0_hw3 : k0_chk3 v8), (k0_dev261 v8) < nD := fun v8 k0_hw3 => k0_hw3.2.2.2.2.1.2.2.1
theorem k0_dev264_lt : ∀ (v8 : BitVec 32) (k0_hw3 : k0_chk3 v8), (k0_dev264 v8) < nD := fun v8 k0_hw3 => k0_hw3.2.2.2.2.1.2.2.2.1
theorem k0_dev265_lt : ∀ (v8 : BitVec 32) (k0_hw3 : k0_chk3 v8), (k0_dev265 v8) < nD := fun v8 k0_hw3 => k0_hw3.2.2.2.2.1.2.2.2.2.1
theorem k0_dev267_lt : ∀ (v8 : BitVec 32) (k0_hw3 : k0_chk3 v8), (k0_dev267 v8) < nD := fun v8 k0_hw3 => k0_hw3.2.2.2.2.1.2.2.2.2.2.1
theorem k0_dev270_lt : ∀ (v8 : BitVec 32) (k0_hw3 : k0_chk3 v8), (k0_dev270 v8) < nD := fun v8 k0_hw3 => k0_hw3.2.2.2.2.1.2.2.2.2.2.2.1
theorem k0_dev271_lt : ∀ (v8 : BitVec 32) (k0_hw3 : k0_chk3 v8), (k0_dev271 v8) < nD := fun v8 k0_hw3 => k0_hw3.2.2.2.2.1.2.2.2.2.2.2.2.1
theorem k0_dev273_lt : ∀ (v8 : BitVec 32) (k0_hw3 : k0_chk3 v8), (k0_dev273 v8) < nD := fun v8 k0_hw3 => k0_hw3.2.2.2.2.1.2.2.2.2.2.2.2.2.1
theorem k0_dev276_lt : ∀ (v8 : BitVec 32) (k0_hw3 : k0_chk3 v8), (k0_dev276 v8) < nD := fun v8 k0_hw3 => k0_hw3.2.2.2.2.1.2.2.2.2.2.2.2.2.2.1
theorem k0_dev277_lt : ∀ (v8 : BitVec 32) (k0_hw3 : k0_chk3 v8), (k0_dev277 v8) < nD := fun v8 k0_hw3 => k0_hw3.2.2.2.2.1.2.2.2.2.2.2.2.2.2.2.1
theorem k0_dev279_lt : ∀ (v8 : BitVec 32) (k0_hw3 : k0_chk3 v8), (k0_dev279 v8) < nD := fun v8 k0_hw3 => k0_hw3.2.2.2.2.1.2.2.2.2.2.2.2.2.2.2.2.1
theorem k0_dev282_lt : ∀ (v8 : BitVec 32) (k0_hw3 : k0_chk3 v8), (k0_dev282 v8) < nD := fun v8 k0_hw3 => k0_hw3.2.2.2.2.1.2.2.2.2.2.2.2.2.2.2.2.2.1
theorem k0_dev283_lt : ∀ (v8 : BitVec 32) (k0_hw3 : k0_chk3 v8), (k0_dev283 v8) < nD := fun v8 k0_hw3 => k0_hw3.2.2.2.2.1.2.2.2.2.2.2.2.2.2.2.2.2.2.1
theorem k0_dev285_lt : ∀ (v8 : BitVec 32) (k0_hw3 : k0_chk3 v8), (k0_dev285 v8) < nD := fun v8 k0_hw3 => k0_hw3.2.2.2.2.1.2.2.2.2.2.2.2.2.2.2.2.2.2.2.1
theorem k0_dev288_lt : ∀ (v8 : BitVec 32) (k0_hw3 : k0_chk3 v8), (k0_dev288 v8) < nD := fun v8 k0_hw3 => k0_hw3.2.2.2.2.1.2.2.2.2.2.2.2.2.2.2.2.2.2.2.2.1
theorem k0_dev289_lt : ∀ (v8 : BitVec 32) (k0_hw3 : k0_chk3 v8), (k0_dev289 v8) < nD := fun v8 k0_hw3 => k0_hw3.2.2.2.2.1.2.2.2.2.2.2.2.2.2.2.2.2.2.2.2.2.1
theorem k0_dev291_lt : ∀ (v8 : BitVec 32) (k0_hw3 : k0_chk3 v8), (k0_dev291 v8) < nD := fun v8 k0_hw3 => k0_hw3.2.2.2.2.1.2.2.2.2.2.2.2.2.2.2.2.2.2.2.2.2.2.1
theorem k0_dev294_lt : ∀ (v8 : BitVec 32) (k0_hw3 : k0_chk3 v8), (k0_dev294 v8) < nD := fun v8 k0_hw3 => k0_hw3.2.2.2.2.1.2.2.2.2.2.2.2.2.2.2.2.2.2.2.2.2.2.2.1
theorem k0_dev295_lt : ∀ (v8 : BitVec 32) (k0_hw3 : k0_chk3 v8), (k0_dev295 v8) < nD := fun v8 k0_hw3 => k0_hw3.2.2.2.2.1.2.2.2.2.2.2.2.2.2.2.2.2.2.2.2.2.2.2.2.1
theorem k0_dev297_lt : ∀ (v8 : BitVec 32) (k0_hw3 : k0_chk3 v8), (k0_dev297 v8) < nD := fun v8 k0_hw3 => k0_hw3.2.2.2.2.1.2.2.2.2.2.2.2.2.2.2.2.2.2.2.2.2.2.2.2.2.1
theorem k0_dev300_lt : ∀ (v8 : BitVec 32) (k0_hw3 : k0_chk3 v8), (k0_dev300 v8) < nD := fun v8 k0_hw3 => k0_hw3.2.2.2.2.1.2.2.2.2.2.2.2.2.2.2.2.2.2.2.2.2.2.2.2.2.2.1
theorem k0_dev301_lt : ∀ (v8 : BitVec 32) (k0_hw3 : k0_chk3 v8), (k0_dev301 v8) < nD := fun v8 k0_hw3 => k0_hw3.2.2.2.2.1.2.2.2.2.2.2.2.2.2.2.2.2.2.2.2.2.2.2.2.2.2.2.1
theorem k0_dev303_lt : ∀ (v8 : BitVec 32) (k0_hw3 : k0_chk3 v8), (k0_dev303 v8) < nD := fun v8 k0_hw3 => k0_hw3.2.2.2.2.1.2.2.2.2.2.2.2.2.2.2.2.2.2.2.2.2.2.2.2.2.2.2.2.1
theorem k0_dev306_lt : ∀ (v8 : BitVec 32) (k0_hw3 : k0_chk3 v8), (k0_dev306 v8) < nD := fun v8 k0_hw3 => k0_hw3.2.2.2.2.1.2.2.2.2.2.2.2.2.2.2.2.2.2.2.2.2.2.2.2.2.2.2.2.2.1
theorem k0_dev307_lt : ∀ (v8 : BitVec 32) (k0_hw3 : k0_chk3 v8), (k0_dev307 v8) < nD := fun v8 k0_hw3 => k0_hw3.2.2.2.2.1.2.2.2.2.2.2.2.2.2.2.2.2.2.2.2.2.2.2.2.2.2.2.2.2.2.1
theorem k0_dev309_lt : ∀ (v8 : BitVec 32) (k0_hw3 : k0_chk3 v8), (k0_dev309 v8) < nD := fun v8 k0_hw3 => k0_hw3.2.2.2.2.1.2.2.2.2.2.2.2.2.2.2.2.2.2.2.2.2.2.2.2.2.2.2.2.2.2.2.1
theorem k0_dev312_lt : ∀ (v8 : BitVec 32) (k0_hw3 : k0_chk3 v8), (k0_dev312 v8) < nD := fun v8 k0_hw3 => k0_hw3.2.2.2.2.1.2.2.2.2.2.2.2.2.2.2.2.2.2.2.2.2.2.2.2.2.2.2.2.2.2.2.2.1
theorem k0_dev313_lt : ∀ (v8 : BitVec 32) (k0_hw3 : k0_chk3 v8), (k0_dev313 v8) < nD := fun v8 k0_hw3 => k0_hw3.2.2.2.2.1.2.2.2.2.2.2.2.2.2.2.2.2.2.2.2.2.2.2.2.2.2.2.2.2.2.2.2.2.1
theorem k0_dev315_lt : ∀ (v8 : BitVec 32) (k0_hw3 : k0_chk3 v8), (k0_dev315 v8) < nD := fun v8 k0_hw3 => k0_hw3.2.2.2.2.1.2.2.2.2.2.2.2.2.2.2.2.2.2.2.2.2.2.2.2.2.2.2.2.2.2.2.2.2.2.1
theorem k0_dev318_lt : ∀ (v8 : BitVec 32) (k0_hw3 : k0_chk3 v8), (k0_dev318 v8) < nD := fun v8 k0_hw3 => k0_hw3.2.2.2.2.1.2.2.2.2.2.2.2.2.2.2.2.2.2.2.2.2.2.2.2.2.2.2.2.2.2.2.2.2.2.2.1
theorem k0_dev319_lt : ∀ (v8 : BitVec 32) (k0_hw3 : k0_chk3 v8), (k0_dev319 v8) < nD := fun v8 k0_hw3 => k0_hw3.2.2.2.2.1.2.2.2.2.2.2.2.2.2.2.2.2.2.2.2.2.2.2.2.2.2.2.2.2.2.2.2.2.2.2.2
theorem k0_dev321_lt : ∀ (v8 : BitVec 32) (k0_hw3 : k0_chk3 v8), (k0_dev321 v8) < nD := fun v8 k0_hw3 => k0_hw3.2.2.2.2.2.1
theorem k0_dev324_lt : ∀ (v8 : BitVec 32) (k0_hw3 : k0_chk3 v8), (k0_dev324 v8) < nD := fun v8 k0_hw3 => k0_hw3.2.2.2.2.2.2.1
theorem k0_dev325_lt : ∀ (v8 : BitVec 32) (k0_hw3 : k0_chk3 v8), (k0_dev325 v8) < nD := fun v8 k0_hw3 => k0_hw3.2.2.2.2.2.2.2.1
theorem k0_dev327_lt : ∀ (v8 : BitVec 32) (k0_hw3 : k0_chk3 v8), (k0_dev327 v8) < nD := fun v8 k0_hw3 => k0_hw3.2.2.2.2.2.2.2.2.1
theorem k0_dev330_lt : ∀ (v8 : BitVec 32) (k0_hw3 : k0_chk3 v8), (k0_dev330 v8) < nD := fun v8 k0_hw3 => k0_hw3.2.2.2.2.2.2.2.2.2.1
theorem k0_dev331_lt : ∀ (v8 : BitVec 32) (k0_hw3 : k0_chk3 v8), (k0_dev331 v8) < nD := fun v8 k0_hw3 => k0_hw3.2.2.2.2.2.2.2.2.2.2.1
theorem k0_dev333_lt : ∀ (v8 : BitVec 32) (k0_hw3 : k0_chk3 v8), (k0_dev333 v8) < nD := fun v8 k0_hw3 => k0_hw3.2.2.2.2.2.2.2.2.2.2.2.1
theorem k0_dev336_lt : ∀ (v8 : BitVec 32) (k0_hw3 : k0_chk3 v8), (k0_dev336 v8) < nD := fun v8 k0_hw3 => k0_hw3.2.2.2.2.2.2.2.2.2.2.2.2.1
theorem k0_dev337_lt : ∀ (v8 : BitVec 32) (k0_hw3 : k0_chk3 v8), (k0_dev337 v8) < nD := fun v8 k0_hw3 => k0_hw3.2.2.2.2.2.2.2.2.2.2.2.2.2.1
theorem k0_dev339_lt : ∀ (v8 : BitVec 32) (k0_hw3 : k0_chk3 v8), (k0_dev339 v8) < nD := fun v8 k0_hw3 => k0_hw3.2.2.2.2.2.2.2.2.2.2.2.2.2.2.1
theorem k0_dev342_lt : ∀ (v8 : BitVec 32) (k0_hw3 : k0_chk3 v8), (k0_dev342 v8) < nD := fun v8 k0_hw3 => k0_hw3.2.2.2.2.2.2.2.2.2.2.2.2.2.2.2.1
theorem k0_dev343_lt : ∀ (v8 : BitVec 32) (k0_hw3 : k0_chk3 v8), (k0_dev343 v8) < nD := fun v8 k0_hw3 => k0_hw3.2.2.2.2.2.2.2.2.2.2.2.2.2.2.2.2.1
theorem k0_dev345_lt : ∀ (v8 : BitVec 32) (k0_hw3 : k0_chk3 v8), (k0_dev345 v8) < nD := fun v8 k0_hw3 => k0_hw3.2.2.2.2.2.2.2.2.2.2.2.2.2.2.2.2.2.1
theorem k0_dev348_lt : ∀ (v8 : BitVec 32) (k0_hw3 : k0_chk3 v8), (k0_dev348 v8) < nD := fun v8 k0_hw3 => k0_hw3.2.2.2.2.2.2.2.2.2.2.2.2.2.2.2.2.2.2.1
theorem k0_dev349_lt : ∀ (v8 : BitVec 32) (k0_hw3 : k0_chk3 v8), (k0_dev349 v8) < nD := fun v8 k0_hw3 => k0_hw3.2.2.2.2.2.2.2.2.2.2.2.2.2.2.2.2.2.2.2.1
theorem k0_dev351_lt : ∀ (v8 : BitVec 32) (k0_hw3 : k0_chk3 v8), (k0_dev351 v8) < nD := fun v8 k0_hw3 => k0_hw3.2.2.2.2.2.2.2.2.2.2.2.2.2.2.2.2.2.2.2.2.1
theorem k0_dev354_lt : ∀ (v8 : BitVec 32) (k0_hw3 : k0_chk3 v8), (k0_dev354 v8) < nD := fun v8 k0_hw3 => k0_hw3.2.2.2.2.2.2.2.2.2.2.2.2.2.2.2.2.2.2.2.2.2.1
theorem k0_dev355_lt : ∀ (v8 : BitVec 32) (k0_hw3 : k0_chk3 v8), (k0_dev355 v8) < nD := fun v8 k0_hw3 => k0_hw3.2.2.2.2.2.2.2.2.2.2.2.2.2.2.2.2.2.2.2.2.2.2.1
theorem k0_dev357_lt : ∀ (v8 : BitVec 32) (k0_hw3 : k0_chk3 v8), (k0_dev357 v8) < nD := fun v8 k0_hw3 => k0_hw3.2.2.2.2.2.2.2.2.2.2.2.2.2.2.2.2.2.2.2.2.2.2.2.1
theorem k0_dev360_lt : ∀ (v8 : BitVec 32) (k0_hw3 : k0_chk3 v8), (k0_dev360 v8) < nD := fun v8 k0_hw3 => k0_hw3.2.2.2.2.2.2.2.2.2.2.2.2.2.2.2.2.2.2.2.2.2.2.2.2.1
theorem k0_dev361_lt : ∀ (v8 : BitVec 32) (k0_hw3 : k0_chk3 v8), (k0_dev361 v8) < nD := fun v8 k0_hw3 => k0_hw3.2.2.2.2.2.2.2.2.2.2.2.2.2.2.2.2.2.2.2.2.2.2.2.2.2.1
theorem k0_dev363_lt : ∀ (v8 : BitVec 32) (k0_hw3 : k0_chk3 v8), (k0_dev363 v8) < nD := fun v8 k0_hw3 => k0_hw3.2.2.2.2.2.2.2.2.2.2.2.2.2.2.2.2.2.2.2.2.2.2.2.2.2.2.1
theorem k0_dev365_lt : ∀ (v8 : BitVec 32) (k0_hw3 : k0_chk3 v8), (k0_dev365 v8) < nD := fun v8 k0_hw3 => k0_hw3.2.2.2.2.2.2.2.2.2.2.2.2.2.2.2.2.2.2.2.2.2.2.2.2.2.2.2.1
theorem k0_dev367_lt : ∀ (v8 : BitVec 32) (k0_hw3 : k0_chk3 v8), (k0_dev367 v8) < nD := fun v8 k0_hw3 => k0_hw3.2.2.2.2.2.2.2.2.2.2.2.2.2.2.2.2.2.2.2.2.2.2.2.2.2.2.2.2

def k0_dev368 (v13 : BitVec 32) : Nat :=
  let c0_i32_12442 : BitVec 32 := 0#32
  let c1_i32_12441 : BitVec 32 := 1#32
  let v9565 : BitVec 32 := Scalar.muli v13 c1_i32_12441
  let v9566 : BitVec 32 := Scalar.addi c0_i32_12442 v9565
  v9566.toNat

def k0_chk2_0 (v13 : BitVec 32) : Prop :=
  ((k0_dev1 v13) < nD) ∧
  ((k0_dev4 v13) < nD) ∧
  ((k0_dev6 v13) < nD) ∧
  ((k0_dev8 v13) < nD) ∧
  ((k0_dev10 v13) < nD) ∧
  ((k0_dev11 v13) < nD) ∧
  ((k0_dev14 v13) < nD) ∧
  ((k0_dev16 v13) < nD) ∧
  ((k0_dev17 v13) < nD) ∧
  ((k0_dev20 v13) < nD) ∧
  ((k0_dev22 v13) < nD) ∧
  ((k0_dev23 v13) < nD) ∧
  ((k0_dev26 v13) < nD) ∧
  ((k0_dev28 v13) < nD) ∧
  ((k0_dev29 v13) < nD) ∧
  ((k0_dev32 v13) < nD) ∧
  ((k0_dev34 v13) < nD) ∧
  ((k0_dev35 v13) < nD) ∧
  ((k0_dev38 v13) < nD) ∧
  ((k0_dev40 v13) < nD) ∧
  ((k0_dev41 v13) < nD) ∧
  ((k0_dev44 v13) < nD) ∧
  ((k0_dev46 v13) < nD) ∧
  ((k0_dev47 v13) < nD) ∧
  ((k0_dev50 v13) < nD) ∧
  ((k0_dev52 v13) < nD) ∧
  ((k0_dev53 v13) < nD) ∧
  ((k0_dev56 v13) < nD) ∧
  ((k0_dev58 v13) < nD) ∧
  ((k0_dev59 v13) < nD) ∧
  ((k0_dev62 v13) < nD) ∧
  ((k0_dev64 v13) < nD)
def k0_chk2_1 (v13 : BitVec 32) : Prop :=
  ((k0_dev65 v13) < nD) ∧
  ((k0_dev68 v13) < nD) ∧
  ((k0_dev70 v13) < nD) ∧
  ((k0_dev71 v13) < nD) ∧
  ((k0_dev74 v13) < nD) ∧
  ((k0_dev76 v13) < nD) ∧
  ((k0_dev77 v13) < nD) ∧
  ((k0_dev80 v13) < nD) ∧
  ((k0_dev82 v13) < nD) ∧
  ((k0_dev83 v13) < nD) ∧
  ((k0_dev86 v13) < nD) ∧
  ((k0_dev88 v13) < nD) ∧
  ((k0_dev89 v13) < nD) ∧
  ((k0_dev92 v13) < nD) ∧
  ((k0_dev94 v13) < nD) ∧
  ((k0_dev95 v13) < nD) ∧
  ((k0_dev98 v13) < nD) ∧
  ((k0_dev100 v13) < nD) ∧
  ((k0_dev101 v13) < nD) ∧
  ((k0_dev104 v13) < nD) ∧
  ((k0_dev106 v13) < nD) ∧
  ((k0_dev107 v13) < nD) ∧
  ((k0_dev110 v13) < nD) ∧
  ((k0_dev112 v13) < nD) ∧
  ((k0_dev113 v13) < nD) ∧
  ((k0_dev116 v13) < nD) ∧
  ((k0_dev118 v13) < nD) ∧
  ((k0_dev119 v13) < nD) ∧
  ((k0_dev122 v13) < nD) ∧
  ((k0_dev124 v13) < nD) ∧
  ((k0_dev125 v13) < nD) ∧
  ((k0_dev128 v13) < nD)
def k0_chk2_2 (v13 : BitVec 32) : Prop :=
  ((k0_dev130 v13) < nD) ∧
  ((k0_dev131 v13) < nD) ∧
  ((k0_dev134 v13) < nD) ∧
  ((k0_dev136 v13) < nD) ∧
  ((k0_dev137 v13) < nD) ∧
  ((k0_dev140 v13) < nD) ∧
  ((k0_dev142 v13) < nD) ∧
  ((k0_dev143 v13) < nD) ∧
  ((k0_dev146 v13) < nD) ∧
  ((k0_dev148 v13) < nD) ∧
  ((k0_dev149 v13) < nD) ∧
  ((k0_dev152 v13) < nD) ∧
  ((k0_dev154 v13) < nD) ∧
  ((k0_dev155 v13) < nD) ∧
  ((k0_dev158 v13) < nD) ∧
  ((k0_dev160 v13) < nD) ∧
  ((k0_dev161 v13) < nD) ∧
  ((k0_dev164 v13) < nD) ∧
  ((k0_dev166 v13) < nD) ∧
  ((k0_dev167 v13) < nD) ∧
  ((k0_dev170 v13) < nD) ∧
  ((k0_dev172 v13) < nD) ∧
  ((k0_dev173 v13) < nD) ∧
  ((k0_dev176 v13) < nD) ∧
  ((k0_dev178 v13) < nD) ∧
  ((k0_dev179 v13) < nD) ∧
  ((k0_dev182 v13) < nD) ∧
  ((k0_dev184 v13) < nD) ∧
  ((k0_dev185 v13) < nD) ∧
  ((k0_dev188 v13) < nD) ∧
  ((k0_dev190 v13) < nD) ∧
  ((k0_dev191 v13) < nD)
def k0_chk2_3 (v13 : BitVec 32) : Prop :=
  ((k0_dev194 v13) < nD) ∧
  ((k0_dev196 v13) < nD) ∧
  ((k0_dev197 v13) < nD) ∧
  ((k0_dev200 v13) < nD) ∧
  ((k0_dev202 v13) < nD) ∧
  ((k0_dev203 v13) < nD) ∧
  ((k0_dev206 v13) < nD) ∧
  ((k0_dev208 v13) < nD) ∧
  ((k0_dev209 v13) < nD) ∧
  ((k0_dev212 v13) < nD) ∧
  ((k0_dev214 v13) < nD) ∧
  ((k0_dev215 v13) < nD) ∧
  ((k0_dev218 v13) < nD) ∧
  ((k0_dev220 v13) < nD) ∧
  ((k0_dev221 v13) < nD) ∧
  ((k0_dev224 v13) < nD) ∧
  ((k0_dev226 v13) < nD) ∧
  ((k0_dev227 v13) < nD) ∧
  ((k0_dev230 v13) < nD) ∧
  ((k0_dev232 v13) < nD) ∧
  ((k0_dev233 v13) < nD) ∧
  ((k0_dev236 v13) < nD) ∧
  ((k0_dev238 v13) < nD) ∧
  ((k0_dev239 v13) < nD) ∧
  ((k0_dev242 v13) < nD) ∧
  ((k0_dev244 v13) < nD) ∧
  ((k0_dev245 v13) < nD) ∧
  ((k0_dev248 v13) < nD) ∧
  ((k0_dev250 v13) < nD) ∧
  ((k0_dev251 v13) < nD) ∧
  ((k0_dev254 v13) < nD) ∧
  ((k0_dev256 v13) < nD)
def k0_chk2_4 (v13 : BitVec 32) : Prop :=
  ((k0_dev257 v13) < nD) ∧
  ((k0_dev260 v13) < nD) ∧
  ((k0_dev262 v13) < nD) ∧
  ((k0_dev263 v13) < nD) ∧
  ((k0_dev266 v13) < nD) ∧
  ((k0_dev268 v13) < nD) ∧
  ((k0_dev269 v13) < nD) ∧
  ((k0_dev272 v13) < nD) ∧
  ((k0_dev274 v13) < nD) ∧
  ((k0_dev275 v13) < nD) ∧
  ((k0_dev278 v13) < nD) ∧
  ((k0_dev280 v13) < nD) ∧
  ((k0_dev281 v13) < nD) ∧
  ((k0_dev284 v13) < nD) ∧
  ((k0_dev286 v13) < nD) ∧
  ((k0_dev287 v13) < nD) ∧
  ((k0_dev290 v13) < nD) ∧
  ((k0_dev292 v13) < nD) ∧
  ((k0_dev293 v13) < nD) ∧
  ((k0_dev296 v13) < nD) ∧
  ((k0_dev298 v13) < nD) ∧
  ((k0_dev299 v13) < nD) ∧
  ((k0_dev302 v13) < nD) ∧
  ((k0_dev304 v13) < nD) ∧
  ((k0_dev305 v13) < nD) ∧
  ((k0_dev308 v13) < nD) ∧
  ((k0_dev310 v13) < nD) ∧
  ((k0_dev311 v13) < nD) ∧
  ((k0_dev314 v13) < nD) ∧
  ((k0_dev316 v13) < nD) ∧
  ((k0_dev317 v13) < nD) ∧
  ((k0_dev320 v13) < nD)
def k0_chk2_5 (v13 : BitVec 32) : Prop :=
  ((k0_dev322 v13) < nD) ∧
  ((k0_dev323 v13) < nD) ∧
  ((k0_dev326 v13) < nD) ∧
  ((k0_dev328 v13) < nD) ∧
  ((k0_dev329 v13) < nD) ∧
  ((k0_dev332 v13) < nD) ∧
  ((k0_dev334 v13) < nD) ∧
  ((k0_dev335 v13) < nD) ∧
  ((k0_dev338 v13) < nD) ∧
  ((k0_dev340 v13) < nD) ∧
  ((k0_dev341 v13) < nD) ∧
  ((k0_dev344 v13) < nD) ∧
  ((k0_dev346 v13) < nD) ∧
  ((k0_dev347 v13) < nD) ∧
  ((k0_dev350 v13) < nD) ∧
  ((k0_dev352 v13) < nD) ∧
  ((k0_dev353 v13) < nD) ∧
  ((k0_dev356 v13) < nD) ∧
  ((k0_dev358 v13) < nD) ∧
  ((k0_dev359 v13) < nD) ∧
  ((k0_dev362 v13) < nD) ∧
  ((k0_dev364 v13) < nD) ∧
  ((k0_dev366 v13) < nD) ∧
  ((k0_dev368 v13) < nD)
def k0_chk2 (v13 : BitVec 32) : Prop :=
  k0_chk2_0 v13 ∧
  k0_chk2_1 v13 ∧
  k0_chk2_2 v13 ∧
  k0_chk2_3 v13 ∧
  k0_chk2_4 v13 ∧
  k0_chk2_5 v13
theorem k0_dev1_lt : ∀ (v13 : BitVec 32) (k0_hw2 : k0_chk2 v13), (k0_dev1 v13) < nD := fun v13 k0_hw2 => k0_hw2.1.1
theorem k0_dev4_lt : ∀ (v13 : BitVec 32) (k0_hw2 : k0_chk2 v13), (k0_dev4 v13) < nD := fun v13 k0_hw2 => k0_hw2.1.2.1
theorem k0_dev6_lt : ∀ (v13 : BitVec 32) (k0_hw2 : k0_chk2 v13), (k0_dev6 v13) < nD := fun v13 k0_hw2 => k0_hw2.1.2.2.1
theorem k0_dev8_lt : ∀ (v13 : BitVec 32) (k0_hw2 : k0_chk2 v13), (k0_dev8 v13) < nD := fun v13 k0_hw2 => k0_hw2.1.2.2.2.1
theorem k0_dev10_lt : ∀ (v13 : BitVec 32) (k0_hw2 : k0_chk2 v13), (k0_dev10 v13) < nD := fun v13 k0_hw2 => k0_hw2.1.2.2.2.2.1
theorem k0_dev11_lt : ∀ (v13 : BitVec 32) (k0_hw2 : k0_chk2 v13), (k0_dev11 v13) < nD := fun v13 k0_hw2 => k0_hw2.1.2.2.2.2.2.1
theorem k0_dev14_lt : ∀ (v13 : BitVec 32) (k0_hw2 : k0_chk2 v13), (k0_dev14 v13) < nD := fun v13 k0_hw2 => k0_hw2.1.2.2.2.2.2.2.1
theorem k0_dev16_lt : ∀ (v13 : BitVec 32) (k0_hw2 : k0_chk2 v13), (k0_dev16 v13) < nD := fun v13 k0_hw2 => k0_hw2.1.2.2.2.2.2.2.2.1
theorem k0_dev17_lt : ∀ (v13 : BitVec 32) (k0_hw2 : k0_chk2 v13), (k0_dev17 v13) < nD := fun v13 k0_hw2 => k0_hw2.1.2.2.2.2.2.2.2.2.1
theorem k0_dev20_lt : ∀ (v13 : BitVec 32) (k0_hw2 : k0_chk2 v13), (k0_dev20 v13) < nD := fun v13 k0_hw2 => k0_hw2.1.2.2.2.2.2.2.2.2.2.1
theorem k0_dev22_lt : ∀ (v13 : BitVec 32) (k0_hw2 : k0_chk2 v13), (k0_dev22 v13) < nD := fun v13 k0_hw2 => k0_hw2.1.2.2.2.2.2.2.2.2.2.2.1
theorem k0_dev23_lt : ∀ (v13 : BitVec 32) (k0_hw2 : k0_chk2 v13), (k0_dev23 v13) < nD := fun v13 k0_hw2 => k0_hw2.1.2.2.2.2.2.2.2.2.2.2.2.1
theorem k0_dev26_lt : ∀ (v13 : BitVec 32) (k0_hw2 : k0_chk2 v13), (k0_dev26 v13) < nD := fun v13 k0_hw2 => k0_hw2.1.2.2.2.2.2.2.2.2.2.2.2.2.1
theorem k0_dev28_lt : ∀ (v13 : BitVec 32) (k0_hw2 : k0_chk2 v13), (k0_dev28 v13) < nD := fun v13 k0_hw2 => k0_hw2.1.2.2.2.2.2.2.2.2.2.2.2.2.2.1
theorem k0_dev29_lt : ∀ (v13 : BitVec 32) (k0_hw2 : k0_chk2 v13), (k0_dev29 v13) < nD := fun v13 k0_hw2 => k0_hw2.1.2.2.2.2.2.2.2.2.2.2.2.2.2.2.1
theorem k0_dev32_lt : ∀ (v13 : BitVec 32) (k0_hw2 : k0_chk2 v13), (k0_dev32 v13) < nD := fun v13 k0_hw2 => k0_hw2.1.2.2.2.2.2.2.2.2.2.2.2.2.2.2.2.1
theorem k0_dev34_lt : ∀ (v13 : BitVec 32) (k0_hw2 : k0_chk2 v13), (k0_dev34 v13) < nD := fun v13 k0_hw2 => k0_hw2.1.2.2.2.2.2.2.2.2.2.2.2.2.2.2.2.2.1
theorem k0_dev35_lt : ∀ (v13 : BitVec 32) (k0_hw2 : k0_chk2 v13), (k0_dev35 v13) < nD := fun v13 k0_hw2 => k0_hw2.1.2.2.2.2.2.2.2.2.2.2.2.2.2.2.2.2.2.1
theorem k0_dev38_lt : ∀ (v13 : BitVec 32) (k0_hw2 : k0_chk2 v13), (k0_dev38 v13) < nD := fun v13 k0_hw2 => k0_hw2.1.2.2.2.2.2.2.2.2.2.2.2.2.2.2.2.2.2.2.1
theorem k0_dev40_lt : ∀ (v13 : BitVec 32) (k0_hw2 : k0_chk2 v13), (k0_dev40 v13) < nD := fun v13 k0_hw2 => k0_hw2.1.2.2.2.2.2.2.2.2.2.2.2.2.2.2.2.2.2.2.2.1
theorem k0_dev41_lt : ∀ (v13 : BitVec 32) (k0_hw2 : k0_chk2 v13), (k0_dev41 v13) < nD := fun v13 k0_hw2 => k0_hw2.1.2.2.2.2.2.2.2.2.2.2.2.2.2.2.2.2.2.2.2.2.1
theorem k0_dev44_lt : ∀ (v13 : BitVec 32) (k0_hw2 : k0_chk2 v13), (k0_dev44 v13) < nD := fun v13 k0_hw2 => k0_hw2.1.2.2.2.2.2.2.2.2.2.2.2.2.2.2.2.2.2.2.2.2.2.1
theorem k0_dev46_lt : ∀ (v13 : BitVec 32) (k0_hw2 : k0_chk2 v13), (k0_dev46 v13) < nD := fun v13 k0_hw2 => k0_hw2.1.2.2.2.2.2.2.2.2.2.2.2.2.2.2.2.2.2.2.2.2.2.2.1
theorem k0_dev47_lt : ∀ (v13 : BitVec 32) (k0_hw2 : k0_chk2 v13), (k0_dev47 v13) < nD := fun v13 k0_hw2 => k0_hw2.1.2.2.2.2.2.2.2.2.2.2.2.2.2.2.2.2.2.2.2.2.2.2.2.1
theorem k0_dev50_lt : ∀ (v13 : BitVec 32) (k0_hw2 : k0_chk2 v13), (k0_dev50 v13) < nD := fun v13 k0_hw2 => k0_hw2.1.2.2.2.2.2.2.2.2.2.2.2.2.2.2.2.2.2.2.2.2.2.2.2.2.1
theorem k0_dev52_lt : ∀ (v13 : BitVec 32) (k0_hw2 : k0_chk2 v13), (k0_dev52 v13) < nD := fun v13 k0_hw2 => k0_hw2.1.2.2.2.2.2.2.2.2.2.2.2.2.2.2.2.2.2.2.2.2.2.2.2.2.2.1
theorem k0_dev53_lt : ∀ (v13 : BitVec 32) (k0_hw2 : k0_chk2 v13), (k0_dev53 v13) < nD := fun v13 k0_hw2 => k0_hw2.1.2.2.2.2.2.2.2.2.2.2.2.2.2.2.2.2.2.2.2.2.2.2.2.2.2.2.1
theorem k0_dev56_lt : ∀ (v13 : BitVec 32) (k0_hw2 : k0_chk2 v13), (k0_dev56 v13) < nD := fun v13 k0_hw2 => k0_hw2.1.2.2.2.2.2.2.2.2.2.2.2.2.2.2.2.2.2.2.2.2.2.2.2.2.2.2.2.1
theorem k0_dev58_lt : ∀ (v13 : BitVec 32) (k0_hw2 : k0_chk2 v13), (k0_dev58 v13) < nD := fun v13 k0_hw2 => k0_hw2.1.2.2.2.2.2.2.2.2.2.2.2.2.2.2.2.2.2.2.2.2.2.2.2.2.2.2.2.2.1
theorem k0_dev59_lt : ∀ (v13 : BitVec 32) (k0_hw2 : k0_chk2 v13), (k0_dev59 v13) < nD := fun v13 k0_hw2 => k0_hw2.1.2.2.2.2.2.2.2.2.2.2.2.2.2.2.2.2.2.2.2.2.2.2.2.2.2.2.2.2.2.1
theorem k0_dev62_lt : ∀ (v13 : BitVec 32) (k0_hw2 : k0_chk2 v13), (k0_dev62 v13) < nD := fun v13 k0_hw2 => k0_hw2.1.2.2.2.2.2.2.2.2.2.2.2.2.2.2.2.2.2.2.2.2.2.2.2.2.2.2.2.2.2.2.1
theorem k0_dev64_lt : ∀ (v13 : BitVec 32) (k0_hw2 : k0_chk2 v13), (k0_dev64 v13) < nD := fun v13 k0_hw2 => k0_hw2.1.2.2.2.2.2.2.2.2.2.2.2.2.2.2.2.2.2.2.2.2.2.2.2.2.2.2.2.2.2.2.2
theorem k0_dev65_lt : ∀ (v13 : BitVec 32) (k0_hw2 : k0_chk2 v13), (k0_dev65 v13) < nD := fun v13 k0_hw2 => k0_hw2.2.1.1
theorem k0_dev68_lt : ∀ (v13 : BitVec 32) (k0_hw2 : k0_chk2 v13), (k0_dev68 v13) < nD := fun v13 k0_hw2 => k0_hw2.2.1.2.1
theorem k0_dev70_lt : ∀ (v13 : BitVec 32) (k0_hw2 : k0_chk2 v13), (k0_dev70 v13) < nD := fun v13 k0_hw2 => k0_hw2.2.1.2.2.1
theorem k0_dev71_lt : ∀ (v13 : BitVec 32) (k0_hw2 : k0_chk2 v13), (k0_dev71 v13) < nD := fun v13 k0_hw2 => k0_hw2.2.1.2.2.2.1
theorem k0_dev74_lt : ∀ (v13 : BitVec 32) (k0_hw2 : k0_chk2 v13), (k0_dev74 v13) < nD := fun v13 k0_hw2 => k0_hw2.2.1.2.2.2.2.1
theorem k0_dev76_lt : ∀ (v13 : BitVec 32) (k0_hw2 : k0_chk2 v13), (k0_dev76 v13) < nD := fun v13 k0_hw2 => k0_hw2.2.1.2.2.2.2.2.1
theorem k0_dev77_lt : ∀ (v13 : BitVec 32) (k0_hw2 : k0_chk2 v13), (k0_dev77 v13) < nD := fun v13 k0_hw2 => k0_hw2.2.1.2.2.2.2.2.2.1
theorem k0_dev80_lt : ∀ (v13 : BitVec 32) (k0_hw2 : k0_chk2 v13), (k0_dev80 v13) < nD := fun v13 k0_hw2 => k0_hw2.2.1.2.2.2.2.2.2.2.1
theorem k0_dev82_lt : ∀ (v13 : BitVec 32) (k0_hw2 : k0_chk2 v13), (k0_dev82 v13) < nD := fun v13 k0_hw2 => k0_hw2.2.1.2.2.2.2.2.2.2.2.1
theorem k0_dev83_lt : ∀ (v13 : BitVec 32) (k0_hw2 : k0_chk2 v13), (k0_dev83 v13) < nD := fun v13 k0_hw2 => k0_hw2.2.1.2.2.2.2.2.2.2.2.2.1
theorem k0_dev86_lt : ∀ (v13 : BitVec 32) (k0_hw2 : k0_chk2 v13), (k0_dev86 v13) < nD := fun v13 k0_hw2 => k0_hw2.2.1.2.2.2.2.2.2.2.2.2.2.1
theorem k0_dev88_lt : ∀ (v13 : BitVec 32) (k0_hw2 : k0_chk2 v13), (k0_dev88 v13) < nD := fun v13 k0_hw2 => k0_hw2.2.1.2.2.2.2.2.2.2.2.2.2.2.1
theorem k0_dev89_lt : ∀ (v13 : BitVec 32) (k0_hw2 : k0_chk2 v13), (k0_dev89 v13) < nD := fun v13 k0_hw2 => k0_hw2.2.1.2.2.2.2.2.2.2.2.2.2.2.2.1
theorem k0_dev92_lt : ∀ (v13 : BitVec 32) (k0_hw2 : k0_chk2 v13), (k0_dev92 v13) < nD := fun v13 k0_hw2 => k0_hw2.2.1.2.2.2.2.2.2.2.2.2.2.2.2.2.1
theorem k0_dev94_lt : ∀ (v13 : BitVec 32) (k0_hw2 : k0_chk2 v13), (k0_dev94 v13) < nD := fun v13 k0_hw2 => k0_hw2.2.1.2.2.2.2.2.2.2.2.2.2.2.2.2.2.1
theorem k0_dev95_lt : ∀ (v13 : BitVec 32) (k0_hw2 : k0_chk2 v13), (k0_dev95 v13) < nD := fun v13 k0_hw2 => k0_hw2.2.1.2.2.2.2.2.2.2.2.2.2.2.2.2.2.2.1
theorem k0_dev98_lt : ∀ (v13 : BitVec 32) (k0_hw2 : k0_chk2 v13), (k0_dev98 v13) < nD := fun v13 k0_hw2 => k0_hw2.2.1.2.2.2.2.2.2.2.2.2.2.2.2.2.2.2.2.1
theorem k0_dev100_lt : ∀ (v13 : BitVec 32) (k0_hw2 : k0_chk2 v13), (k0_dev100 v13) < nD := fun v13 k0_hw2 => k0_hw2.2.1.2.2.2.2.2.2.2.2.2.2.2.2.2.2.2.2.2.1
theorem k0_dev101_lt : ∀ (v13 : BitVec 32) (k0_hw2 : k0_chk2 v13), (k0_dev101 v13) < nD := fun v13 k0_hw2 => k0_hw2.2.1.2.2.2.2.2.2.2.2.2.2.2.2.2.2.2.2.2.2.1
theorem k0_dev104_lt : ∀ (v13 : BitVec 32) (k0_hw2 : k0_chk2 v13), (k0_dev104 v13) < nD := fun v13 k0_hw2 => k0_hw2.2.1.2.2.2.2.2.2.2.2.2.2.2.2.2.2.2.2.2.2.2.1
theorem k0_dev106_lt : ∀ (v13 : BitVec 32) (k0_hw2 : k0_chk2 v13), (k0_dev106 v13) < nD := fun v13 k0_hw2 => k0_hw2.2.1.2.2.2.2.2.2.2.2.2.2.2.2.2.2.2.2.2.2.2.2.1
theorem k0_dev107_lt : ∀ (v13 : BitVec 32) (k0_hw2 : k0_chk2 v13), (k0_dev107 v13) < nD := fun v13 k0_hw2 => k0_hw2.2.1.2.2.2.2.2.2.2.2.2.2.2.2.2.2.2.2.2.2.2.2.2.1
theorem k0_dev110_lt : ∀ (v13 : BitVec 32) (k0_hw2 : k0_chk2 v13), (k0_dev110 v13) < nD := fun v13 k0_hw2 => k0_hw2.2.1.2.2.2.2.2.2.2.2.2.2.2.2.2.2.2.2.2.2.2.2.2.2.1
theorem k0_dev112_lt : ∀ (v13 : BitVec 32) (k0_hw2 : k0_chk2 v13), (k0_dev112 v13) < nD := fun v13 k0_hw2 => k0_hw2.2.1.2.2.2.2.2.2.2.2.2.2.2.2.2.2.2.2.2.2.2.2.2.2.2.1
theorem k0_dev113_lt : ∀ (v13 : BitVec 32) (k0_hw2 : k0_chk2 v13), (k0_dev113 v13) < nD := fun v13 k0_hw2 => k0_hw2.2.1.2.2.2.2.2.2.2.2.2.2.2.2.2.2.2.2.2.2.2.2.2.2.2.2.1
theorem k0_dev116_lt : ∀ (v13 : BitVec 32) (k0_hw2 : k0_chk2 v13), (k0_dev116 v13) < nD := fun v13 k0_hw2 => k0_hw2.2.1.2.2.2.2.2.2.2.2.2.2.2.2.2.2.2.2.2.2.2.2.2.2.2.2.2.1
theorem k0_dev118_lt : ∀ (v13 : BitVec 32) (k0_hw2 : k0_chk2 v13), (k0_dev118 v13) < nD := fun v13 k0_hw2 => k0_hw2.2.1.2.2.2.2.2.2.2.2.2.2.2.2.2.2.2.2.2.2.2.2.2.2.2.2.2.2.1
theorem k0_dev119_lt : ∀ (v13 : BitVec 32) (k0_hw2 : k0_chk2 v13), (k0_dev119 v13) < nD := fun v13 k0_hw2 => k0_hw2.2.1.2.2.2.2.2.2.2.2.2.2.2.2.2.2.2.2.2.2.2.2.2.2.2.2.2.2.2.1
theorem k0_dev122_lt : ∀ (v13 : BitVec 32) (k0_hw2 : k0_chk2 v13), (k0_dev122 v13) < nD := fun v13 k0_hw2 => k0_hw2.2.1.2.2.2.2.2.2.2.2.2.2.2.2.2.2.2.2.2.2.2.2.2.2.2.2.2.2.2.2.1
theorem k0_dev124_lt : ∀ (v13 : BitVec 32) (k0_hw2 : k0_chk2 v13), (k0_dev124 v13) < nD := fun v13 k0_hw2 => k0_hw2.2.1.2.2.2.2.2.2.2.2.2.2.2.2.2.2.2.2.2.2.2.2.2.2.2.2.2.2.2.2.2.1
theorem k0_dev125_lt : ∀ (v13 : BitVec 32) (k0_hw2 : k0_chk2 v13), (k0_dev125 v13) < nD := fun v13 k0_hw2 => k0_hw2.2.1.2.2.2.2.2.2.2.2.2.2.2.2.2.2.2.2.2.2.2.2.2.2.2.2.2.2.2.2.2.2.1
theorem k0_dev128_lt : ∀ (v13 : BitVec 32) (k0_hw2 : k0_chk2 v13), (k0_dev128 v13) < nD := fun v13 k0_hw2 => k0_hw2.2.1.2.2.2.2.2.2.2.2.2.2.2.2.2.2.2.2.2.2.2.2.2.2.2.2.2.2.2.2.2.2.2
theorem k0_dev130_lt : ∀ (v13 : BitVec 32) (k0_hw2 : k0_chk2 v13), (k0_dev130 v13) < nD := fun v13 k0_hw2 => k0_hw2.2.2.1.1
theorem k0_dev131_lt : ∀ (v13 : BitVec 32) (k0_hw2 : k0_chk2 v13), (k0_dev131 v13) < nD := fun v13 k0_hw2 => k0_hw2.2.2.1.2.1
theorem k0_dev134_lt : ∀ (v13 : BitVec 32) (k0_hw2 : k0_chk2 v13), (k0_dev134 v13) < nD := fun v13 k0_hw2 => k0_hw2.2.2.1.2.2.1
theorem k0_dev136_lt : ∀ (v13 : BitVec 32) (k0_hw2 : k0_chk2 v13), (k0_dev136 v13) < nD := fun v13 k0_hw2 => k0_hw2.2.2.1.2.2.2.1
theorem k0_dev137_lt : ∀ (v13 : BitVec 32) (k0_hw2 : k0_chk2 v13), (k0_dev137 v13) < nD := fun v13 k0_hw2 => k0_hw2.2.2.1.2.2.2.2.1
theorem k0_dev140_lt : ∀ (v13 : BitVec 32) (k0_hw2 : k0_chk2 v13), (k0_dev140 v13) < nD := fun v13 k0_hw2 => k0_hw2.2.2.1.2.2.2.2.2.1
theorem k0_dev142_lt : ∀ (v13 : BitVec 32) (k0_hw2 : k0_chk2 v13), (k0_dev142 v13) < nD := fun v13 k0_hw2 => k0_hw2.2.2.1.2.2.2.2.2.2.1
theorem k0_dev143_lt : ∀ (v13 : BitVec 32) (k0_hw2 : k0_chk2 v13), (k0_dev143 v13) < nD := fun v13 k0_hw2 => k0_hw2.2.2.1.2.2.2.2.2.2.2.1
theorem k0_dev146_lt : ∀ (v13 : BitVec 32) (k0_hw2 : k0_chk2 v13), (k0_dev146 v13) < nD := fun v13 k0_hw2 => k0_hw2.2.2.1.2.2.2.2.2.2.2.2.1
theorem k0_dev148_lt : ∀ (v13 : BitVec 32) (k0_hw2 : k0_chk2 v13), (k0_dev148 v13) < nD := fun v13 k0_hw2 => k0_hw2.2.2.1.2.2.2.2.2.2.2.2.2.1
theorem k0_dev149_lt : ∀ (v13 : BitVec 32) (k0_hw2 : k0_chk2 v13), (k0_dev149 v13) < nD := fun v13 k0_hw2 => k0_hw2.2.2.1.2.2.2.2.2.2.2.2.2.2.1
theorem k0_dev152_lt : ∀ (v13 : BitVec 32) (k0_hw2 : k0_chk2 v13), (k0_dev152 v13) < nD := fun v13 k0_hw2 => k0_hw2.2.2.1.2.2.2.2.2.2.2.2.2.2.2.1
theorem k0_dev154_lt : ∀ (v13 : BitVec 32) (k0_hw2 : k0_chk2 v13), (k0_dev154 v13) < nD := fun v13 k0_hw2 => k0_hw2.2.2.1.2.2.2.2.2.2.2.2.2.2.2.2.1
theorem k0_dev155_lt : ∀ (v13 : BitVec 32) (k0_hw2 : k0_chk2 v13), (k0_dev155 v13) < nD := fun v13 k0_hw2 => k0_hw2.2.2.1.2.2.2.2.2.2.2.2.2.2.2.2.2.1
theorem k0_dev158_lt : ∀ (v13 : BitVec 32) (k0_hw2 : k0_chk2 v13), (k0_dev158 v13) < nD := fun v13 k0_hw2 => k0_hw2.2.2.1.2.2.2.2.2.2.2.2.2.2.2.2.2.2.1
theorem k0_dev160_lt : ∀ (v13 : BitVec 32) (k0_hw2 : k0_chk2 v13), (k0_dev160 v13) < nD := fun v13 k0_hw2 => k0_hw2.2.2.1.2.2.2.2.2.2.2.2.2.2.2.2.2.2.2.1
theorem k0_dev161_lt : ∀ (v13 : BitVec 32) (k0_hw2 : k0_chk2 v13), (k0_dev161 v13) < nD := fun v13 k0_hw2 => k0_hw2.2.2.1.2.2.2.2.2.2.2.2.2.2.2.2.2.2.2.2.1
theorem k0_dev164_lt : ∀ (v13 : BitVec 32) (k0_hw2 : k0_chk2 v13), (k0_dev164 v13) < nD := fun v13 k0_hw2 => k0_hw2.2.2.1.2.2.2.2.2.2.2.2.2.2.2.2.2.2.2.2.2.1
theorem k0_dev166_lt : ∀ (v13 : BitVec 32) (k0_hw2 : k0_chk2 v13), (k0_dev166 v13) < nD := fun v13 k0_hw2 => k0_hw2.2.2.1.2.2.2.2.2.2.2.2.2.2.2.2.2.2.2.2.2.2.1
theorem k0_dev167_lt : ∀ (v13 : BitVec 32) (k0_hw2 : k0_chk2 v13), (k0_dev167 v13) < nD := fun v13 k0_hw2 => k0_hw2.2.2.1.2.2.2.2.2.2.2.2.2.2.2.2.2.2.2.2.2.2.2.1
theorem k0_dev170_lt : ∀ (v13 : BitVec 32) (k0_hw2 : k0_chk2 v13), (k0_dev170 v13) < nD := fun v13 k0_hw2 => k0_hw2.2.2.1.2.2.2.2.2.2.2.2.2.2.2.2.2.2.2.2.2.2.2.2.1
theorem k0_dev172_lt : ∀ (v13 : BitVec 32) (k0_hw2 : k0_chk2 v13), (k0_dev172 v13) < nD := fun v13 k0_hw2 => k0_hw2.2.2.1.2.2.2.2.2.2.2.2.2.2.2.2.2.2.2.2.2.2.2.2.2.1
theorem k0_dev173_lt : ∀ (v13 : BitVec 32) (k0_hw2 : k0_chk2 v13), (k0_dev173 v13) < nD := fun v13 k0_hw2 => k0_hw2.2.2.1.2.2.2.2.2.2.2.2.2.2.2.2.2.2.2.2.2.2.2.2.2.2.1
theorem k0_dev176_lt : ∀ (v13 : BitVec 32) (k0_hw2 : k0_chk2 v13), (k0_dev176 v13) < nD := fun v13 k0_hw2 => k0_hw2.2.2.1.2.2.2.2.2.2.2.2.2.2.2.2.2.2.2.2.2.2.2.2.2.2.2.1
theorem k0_dev178_lt : ∀ (v13 : BitVec 32) (k0_hw2 : k0_chk2 v13), (k0_dev178 v13) < nD := fun v13 k0_hw2 => k0_hw2.2.2.1.2.2.2.2.2.2.2.2.2.2.2.2.2.2.2.2.2.2.2.2.2.2.2.2.1
theorem k0_dev179_lt : ∀ (v13 : BitVec 32) (k0_hw2 : k0_chk2 v13), (k0_dev179 v13) < nD := fun v13 k0_hw2 => k0_hw2.2.2.1.2.2.2.2.2.2.2.2.2.2.2.2.2.2.2.2.2.2.2.2.2.2.2.2.2.1
theorem k0_dev182_lt : ∀ (v13 : BitVec 32) (k0_hw2 : k0_chk2 v13), (k0_dev182 v13) < nD := fun v13 k0_hw2 => k0_hw2.2.2.1.2.2.2.2.2.2.2.2.2.2.2.2.2.2.2.2.2.2.2.2.2.2.2.2.2.2.1
theorem k0_dev184_lt : ∀ (v13 : BitVec 32) (k0_hw2 : k0_chk2 v13), (k0_dev184 v13) < nD := fun v13 k0_hw2 => k0_hw2.2.2.1.2.2.2.2.2.2.2.2.2.2.2.2.2.2.2.2.2.2.2.2.2.2.2.2.2.2.2.1
theorem k0_dev185_lt : ∀ (v13 : BitVec 32) (k0_hw2 : k0_chk2 v13), (k0_dev185 v13) < nD := fun v13 k0_hw2 => k0_hw2.2.2.1.2.2.2.2.2.2.2.2.2.2.2.2.2.2.2.2.2.2.2.2.2.2.2.2.2.2.2.2.1
theorem k0_dev188_lt : ∀ (v13 : BitVec 32) (k0_hw2 : k0_chk2 v13), (k0_dev188 v13) < nD := fun v13 k0_hw2 => k0_hw2.2.2.1.2.2.2.2.2.2.2.2.2.2.2.2.2.2.2.2.2.2.2.2.2.2.2.2.2.2.2.2.2.1
theorem k0_dev190_lt : ∀ (v13 : BitVec 32) (k0_hw2 : k0_chk2 v13), (k0_dev190 v13) < nD := fun v13 k0_hw2 => k0_hw2.2.2.1.2.2.2.2.2.2.2.2.2.2.2.2.2.2.2.2.2.2.2.2.2.2.2.2.2.2.2.2.2.2.1
theorem k0_dev191_lt : ∀ (v13 : BitVec 32) (k0_hw2 : k0_chk2 v13), (k0_dev191 v13) < nD := fun v13 k0_hw2 => k0_hw2.2.2.1.2.2.2.2.2.2.2.2.2.2.2.2.2.2.2.2.2.2.2.2.2.2.2.2.2.2.2.2.2.2.2
theorem k0_dev194_lt : ∀ (v13 : BitVec 32) (k0_hw2 : k0_chk2 v13), (k0_dev194 v13) < nD := fun v13 k0_hw2 => k0_hw2.2.2.2.1.1
theorem k0_dev196_lt : ∀ (v13 : BitVec 32) (k0_hw2 : k0_chk2 v13), (k0_dev196 v13) < nD := fun v13 k0_hw2 => k0_hw2.2.2.2.1.2.1
theorem k0_dev197_lt : ∀ (v13 : BitVec 32) (k0_hw2 : k0_chk2 v13), (k0_dev197 v13) < nD := fun v13 k0_hw2 => k0_hw2.2.2.2.1.2.2.1
theorem k0_dev200_lt : ∀ (v13 : BitVec 32) (k0_hw2 : k0_chk2 v13), (k0_dev200 v13) < nD := fun v13 k0_hw2 => k0_hw2.2.2.2.1.2.2.2.1
theorem k0_dev202_lt : ∀ (v13 : BitVec 32) (k0_hw2 : k0_chk2 v13), (k0_dev202 v13) < nD := fun v13 k0_hw2 => k0_hw2.2.2.2.1.2.2.2.2.1
theorem k0_dev203_lt : ∀ (v13 : BitVec 32) (k0_hw2 : k0_chk2 v13), (k0_dev203 v13) < nD := fun v13 k0_hw2 => k0_hw2.2.2.2.1.2.2.2.2.2.1
theorem k0_dev206_lt : ∀ (v13 : BitVec 32) (k0_hw2 : k0_chk2 v13), (k0_dev206 v13) < nD := fun v13 k0_hw2 => k0_hw2.2.2.2.1.2.2.2.2.2.2.1
theorem k0_dev208_lt : ∀ (v13 : BitVec 32) (k0_hw2 : k0_chk2 v13), (k0_dev208 v13) < nD := fun v13 k0_hw2 => k0_hw2.2.2.2.1.2.2.2.2.2.2.2.1
theorem k0_dev209_lt : ∀ (v13 : BitVec 32) (k0_hw2 : k0_chk2 v13), (k0_dev209 v13) < nD := fun v13 k0_hw2 => k0_hw2.2.2.2.1.2.2.2.2.2.2.2.2.1
theorem k0_dev212_lt : ∀ (v13 : BitVec 32) (k0_hw2 : k0_chk2 v13), (k0_dev212 v13) < nD := fun v13 k0_hw2 => k0_hw2.2.2.2.1.2.2.2.2.2.2.2.2.2.1
theorem k0_dev214_lt : ∀ (v13 : BitVec 32) (k0_hw2 : k0_chk2 v13), (k0_dev214 v13) < nD := fun v13 k0_hw2 => k0_hw2.2.2.2.1.2.2.2.2.2.2.2.2.2.2.1
theorem k0_dev215_lt : ∀ (v13 : BitVec 32) (k0_hw2 : k0_chk2 v13), (k0_dev215 v13) < nD := fun v13 k0_hw2 => k0_hw2.2.2.2.1.2.2.2.2.2.2.2.2.2.2.2.1
theorem k0_dev218_lt : ∀ (v13 : BitVec 32) (k0_hw2 : k0_chk2 v13), (k0_dev218 v13) < nD := fun v13 k0_hw2 => k0_hw2.2.2.2.1.2.2.2.2.2.2.2.2.2.2.2.2.1
theorem k0_dev220_lt : ∀ (v13 : BitVec 32) (k0_hw2 : k0_chk2 v13), (k0_dev220 v13) < nD := fun v13 k0_hw2 => k0_hw2.2.2.2.1.2.2.2.2.2.2.2.2.2.2.2.2.2.1
theorem k0_dev221_lt : ∀ (v13 : BitVec 32) (k0_hw2 : k0_chk2 v13), (k0_dev221 v13) < nD := fun v13 k0_hw2 => k0_hw2.2.2.2.1.2.2.2.2.2.2.2.2.2.2.2.2.2.2.1
theorem k0_dev224_lt : ∀ (v13 : BitVec 32) (k0_hw2 : k0_chk2 v13), (k0_dev224 v13) < nD := fun v13 k0_hw2 => k0_hw2.2.2.2.1.2.2.2.2.2.2.2.2.2.2.2.2.2.2.2.1
theorem k0_dev226_lt : ∀ (v13 : BitVec 32) (k0_hw2 : k0_chk2 v13), (k0_dev226 v13) < nD := fun v13 k0_hw2 => k0_hw2.2.2.2.1.2.2.2.2.2.2.2.2.2.2.2.2.2.2.2.2.1
theorem k0_dev227_lt : ∀ (v13 : BitVec 32) (k0_hw2 : k0_chk2 v13), (k0_dev227 v13) < nD := fun v13 k0_hw2 => k0_hw2.2.2.2.1.2.2.2.2.2.2.2.2.2.2.2.2.2.2.2.2.2.1
theorem k0_dev230_lt : ∀ (v13 : BitVec 32) (k0_hw2 : k0_chk2 v13), (k0_dev230 v13) < nD := fun v13 k0_hw2 => k0_hw2.2.2.2.1.2.2.2.2.2.2.2.2.2.2.2.2.2.2.2.2.2.2.1
theorem k0_dev232_lt : ∀ (v13 : BitVec 32) (k0_hw2 : k0_chk2 v13), (k0_dev232 v13) < nD := fun v13 k0_hw2 => k0_hw2.2.2.2.1.2.2.2.2.2.2.2.2.2.2.2.2.2.2.2.2.2.2.2.1
theorem k0_dev233_lt : ∀ (v13 : BitVec 32) (k0_hw2 : k0_chk2 v13), (k0_dev233 v13) < nD := fun v13 k0_hw2 => k0_hw2.2.2.2.1.2.2.2.2.2.2.2.2.2.2.2.2.2.2.2.2.2.2.2.2.1
theorem k0_dev236_lt : ∀ (v13 : BitVec 32) (k0_hw2 : k0_chk2 v13), (k0_dev236 v13) < nD := fun v13 k0_hw2 => k0_hw2.2.2.2.1.2.2.2.2.2.2.2.2.2.2.2.2.2.2.2.2.2.2.2.2.2.1
theorem k0_dev238_lt : ∀ (v13 : BitVec 32) (k0_hw2 : k0_chk2 v13), (k0_dev238 v13) < nD := fun v13 k0_hw2 => k0_hw2.2.2.2.1.2.2.2.2.2.2.2.2.2.2.2.2.2.2.2.2.2.2.2.2.2.2.1
theorem k0_dev239_lt : ∀ (v13 : BitVec 32) (k0_hw2 : k0_chk2 v13), (k0_dev239 v13) < nD := fun v13 k0_hw2 => k0_hw2.2.2.2.1.2.2.2.2.2.2.2.2.2.2.2.2.2.2.2.2.2.2.2.2.2.2.2.1
theorem k0_dev242_lt : ∀ (v13 : BitVec 32) (k0_hw2 : k0_chk2 v13), (k0_dev242 v13) < nD := fun v13 k0_hw2 => k0_hw2.2.2.2.1.2.2.2.2.2.2.2.2.2.2.2.2.2.2.2.2.2.2.2.2.2.2.2.2.1
theorem k0_dev244_lt : ∀ (v13 : BitVec 32) (k0_hw2 : k0_chk2 v13), (k0_dev244 v13) < nD := fun v13 k0_hw2 => k0_hw2.2.2.2.1.2.2.2.2.2.2.2.2.2.2.2.2.2.2.2.2.2.2.2.2.2.2.2.2.2.1
theorem k0_dev245_lt : ∀ (v13 : BitVec 32) (k0_hw2 : k0_chk2 v13), (k0_dev245 v13) < nD := fun v13 k0_hw2 => k0_hw2.2.2.2.1.2.2.2.2.2.2.2.2.2.2.2.2.2.2.2.2.2.2.2.2.2.2.2.2.2.2.1
theorem k0_dev248_lt : ∀ (v13 : BitVec 32) (k0_hw2 : k0_chk2 v13), (k0_dev248 v13) < nD := fun v13 k0_hw2 => k0_hw2.2.2.2.1.2.2.2.2.2.2.2.2.2.2.2.2.2.2.2.2.2.2.2.2.2.2.2.2.2.2.2.1
theorem k0_dev250_lt : ∀ (v13 : BitVec 32) (k0_hw2 : k0_chk2 v13), (k0_dev250 v13) < nD := fun v13 k0_hw2 => k0_hw2.2.2.2.1.2.2.2.2.2.2.2.2.2.2.2.2.2.2.2.2.2.2.2.2.2.2.2.2.2.2.2.2.1
theorem k0_dev251_lt : ∀ (v13 : BitVec 32) (k0_hw2 : k0_chk2 v13), (k0_dev251 v13) < nD := fun v13 k0_hw2 => k0_hw2.2.2.2.1.2.2.2.2.2.2.2.2.2.2.2.2.2.2.2.2.2.2.2.2.2.2.2.2.2.2.2.2.2.1
theorem k0_dev254_lt : ∀ (v13 : BitVec 32) (k0_hw2 : k0_chk2 v13), (k0_dev254 v13) < nD := fun v13 k0_hw2 => k0_hw2.2.2.2.1.2.2.2.2.2.2.2.2.2.2.2.2.2.2.2.2.2.2.2.2.2.2.2.2.2.2.2.2.2.2.1
theorem k0_dev256_lt : ∀ (v13 : BitVec 32) (k0_hw2 : k0_chk2 v13), (k0_dev256 v13) < nD := fun v13 k0_hw2 => k0_hw2.2.2.2.1.2.2.2.2.2.2.2.2.2.2.2.2.2.2.2.2.2.2.2.2.2.2.2.2.2.2.2.2.2.2.2
theorem k0_dev257_lt : ∀ (v13 : BitVec 32) (k0_hw2 : k0_chk2 v13), (k0_dev257 v13) < nD := fun v13 k0_hw2 => k0_hw2.2.2.2.2.1.1
theorem k0_dev260_lt : ∀ (v13 : BitVec 32) (k0_hw2 : k0_chk2 v13), (k0_dev260 v13) < nD := fun v13 k0_hw2 => k0_hw2.2.2.2.2.1.2.1
theorem k0_dev262_lt : ∀ (v13 : BitVec 32) (k0_hw2 : k0_chk2 v13), (k0_dev262 v13) < nD := fun v13 k0_hw2 => k0_hw2.2.2.2.2.1.2.2.1
theorem k0_dev263_lt : ∀ (v13 : BitVec 32) (k0_hw2 : k0_chk2 v13), (k0_dev263 v13) < nD := fun v13 k0_hw2 => k0_hw2.2.2.2.2.1.2.2.2.1
theorem k0_dev266_lt : ∀ (v13 : BitVec 32) (k0_hw2 : k0_chk2 v13), (k0_dev266 v13) < nD := fun v13 k0_hw2 => k0_hw2.2.2.2.2.1.2.2.2.2.1
theorem k0_dev268_lt : ∀ (v13 : BitVec 32) (k0_hw2 : k0_chk2 v13), (k0_dev268 v13) < nD := fun v13 k0_hw2 => k0_hw2.2.2.2.2.1.2.2.2.2.2.1
theorem k0_dev269_lt : ∀ (v13 : BitVec 32) (k0_hw2 : k0_chk2 v13), (k0_dev269 v13) < nD := fun v13 k0_hw2 => k0_hw2.2.2.2.2.1.2.2.2.2.2.2.1
theorem k0_dev272_lt : ∀ (v13 : BitVec 32) (k0_hw2 : k0_chk2 v13), (k0_dev272 v13) < nD := fun v13 k0_hw2 => k0_hw2.2.2.2.2.1.2.2.2.2.2.2.2.1
theorem k0_dev274_lt : ∀ (v13 : BitVec 32) (k0_hw2 : k0_chk2 v13), (k0_dev274 v13) < nD := fun v13 k0_hw2 => k0_hw2.2.2.2.2.1.2.2.2.2.2.2.2.2.1
theorem k0_dev275_lt : ∀ (v13 : BitVec 32) (k0_hw2 : k0_chk2 v13), (k0_dev275 v13) < nD := fun v13 k0_hw2 => k0_hw2.2.2.2.2.1.2.2.2.2.2.2.2.2.2.1
theorem k0_dev278_lt : ∀ (v13 : BitVec 32) (k0_hw2 : k0_chk2 v13), (k0_dev278 v13) < nD := fun v13 k0_hw2 => k0_hw2.2.2.2.2.1.2.2.2.2.2.2.2.2.2.2.1
theorem k0_dev280_lt : ∀ (v13 : BitVec 32) (k0_hw2 : k0_chk2 v13), (k0_dev280 v13) < nD := fun v13 k0_hw2 => k0_hw2.2.2.2.2.1.2.2.2.2.2.2.2.2.2.2.2.1
theorem k0_dev281_lt : ∀ (v13 : BitVec 32) (k0_hw2 : k0_chk2 v13), (k0_dev281 v13) < nD := fun v13 k0_hw2 => k0_hw2.2.2.2.2.1.2.2.2.2.2.2.2.2.2.2.2.2.1
theorem k0_dev284_lt : ∀ (v13 : BitVec 32) (k0_hw2 : k0_chk2 v13), (k0_dev284 v13) < nD := fun v13 k0_hw2 => k0_hw2.2.2.2.2.1.2.2.2.2.2.2.2.2.2.2.2.2.2.1
theorem k0_dev286_lt : ∀ (v13 : BitVec 32) (k0_hw2 : k0_chk2 v13), (k0_dev286 v13) < nD := fun v13 k0_hw2 => k0_hw2.2.2.2.2.1.2.2.2.2.2.2.2.2.2.2.2.2.2.2.1
theorem k0_dev287_lt : ∀ (v13 : BitVec 32) (k0_hw2 : k0_chk2 v13), (k0_dev287 v13) < nD := fun v13 k0_hw2 => k0_hw2.2.2.2.2.1.2.2.2.2.2.2.2.2.2.2.2.2.2.2.2.1
theorem k0_dev290_lt : ∀ (v13 : BitVec 32) (k0_hw2 : k0_chk2 v13), (k0_dev290 v13) < nD := fun v13 k0_hw2 => k0_hw2.2.2.2.2.1.2.2.2.2.2.2.2.2.2.2.2.2.2.2.2.2.1
theorem k0_dev292_lt : ∀ (v13 : BitVec 32) (k0_hw2 : k0_chk2 v13), (k0_dev292 v13) < nD := fun v13 k0_hw2 => k0_hw2.2.2.2.2.1.2.2.2.2.2.2.2.2.2.2.2.2.2.2.2.2.2.1
theorem k0_dev293_lt : ∀ (v13 : BitVec 32) (k0_hw2 : k0_chk2 v13), (k0_dev293 v13) < nD := fun v13 k0_hw2 => k0_hw2.2.2.2.2.1.2.2.2.2.2.2.2.2.2.2.2.2.2.2.2.2.2.2.1
theorem k0_dev296_lt : ∀ (v13 : BitVec 32) (k0_hw2 : k0_chk2 v13), (k0_dev296 v13) < nD := fun v13 k0_hw2 => k0_hw2.2.2.2.2.1.2.2.2.2.2.2.2.2.2.2.2.2.2.2.2.2.2.2.2.1
theorem k0_dev298_lt : ∀ (v13 : BitVec 32) (k0_hw2 : k0_chk2 v13), (k0_dev298 v13) < nD := fun v13 k0_hw2 => k0_hw2.2.2.2.2.1.2.2.2.2.2.2.2.2.2.2.2.2.2.2.2.2.2.2.2.2.1
theorem k0_dev299_lt : ∀ (v13 : BitVec 32) (k0_hw2 : k0_chk2 v13), (k0_dev299 v13) < nD := fun v13 k0_hw2 => k0_hw2.2.2.2.2.1.2.2.2.2.2.2.2.2.2.2.2.2.2.2.2.2.2.2.2.2.2.1
theorem k0_dev302_lt : ∀ (v13 : BitVec 32) (k0_hw2 : k0_chk2 v13), (k0_dev302 v13) < nD := fun v13 k0_hw2 => k0_hw2.2.2.2.2.1.2.2.2.2.2.2.2.2.2.2.2.2.2.2.2.2.2.2.2.2.2.2.1
theorem k0_dev304_lt : ∀ (v13 : BitVec 32) (k0_hw2 : k0_chk2 v13), (k0_dev304 v13) < nD := fun v13 k0_hw2 => k0_hw2.2.2.2.2.1.2.2.2.2.2.2.2.2.2.2.2.2.2.2.2.2.2.2.2.2.2.2.2.1
theorem k0_dev305_lt : ∀ (v13 : BitVec 32) (k0_hw2 : k0_chk2 v13), (k0_dev305 v13) < nD := fun v13 k0_hw2 => k0_hw2.2.2.2.2.1.2.2.2.2.2.2.2.2.2.2.2.2.2.2.2.2.2.2.2.2.2.2.2.2.1
theorem k0_dev308_lt : ∀ (v13 : BitVec 32) (k0_hw2 : k0_chk2 v13), (k0_dev308 v13) < nD := fun v13 k0_hw2 => k0_hw2.2.2.2.2.1.2.2.2.2.2.2.2.2.2.2.2.2.2.2.2.2.2.2.2.2.2.2.2.2.2.1
theorem k0_dev310_lt : ∀ (v13 : BitVec 32) (k0_hw2 : k0_chk2 v13), (k0_dev310 v13) < nD := fun v13 k0_hw2 => k0_hw2.2.2.2.2.1.2.2.2.2.2.2.2.2.2.2.2.2.2.2.2.2.2.2.2.2.2.2.2.2.2.2.1
theorem k0_dev311_lt : ∀ (v13 : BitVec 32) (k0_hw2 : k0_chk2 v13), (k0_dev311 v13) < nD := fun v13 k0_hw2 => k0_hw2.2.2.2.2.1.2.2.2.2.2.2.2.2.2.2.2.2.2.2.2.2.2.2.2.2.2.2.2.2.2.2.2.1
theorem k0_dev314_lt : ∀ (v13 : BitVec 32) (k0_hw2 : k0_chk2 v13), (k0_dev314 v13) < nD := fun v13 k0_hw2 => k0_hw2.2.2.2.2.1.2.2.2.2.2.2.2.2.2.2.2.2.2.2.2.2.2.2.2.2.2.2.2.2.2.2.2.2.1
theorem k0_dev316_lt : ∀ (v13 : BitVec 32) (k0_hw2 : k0_chk2 v13), (k0_dev316 v13) < nD := fun v13 k0_hw2 => k0_hw2.2.2.2.2.1.2.2.2.2.2.2.2.2.2.2.2.2.2.2.2.2.2.2.2.2.2.2.2.2.2.2.2.2.2.1
theorem k0_dev317_lt : ∀ (v13 : BitVec 32) (k0_hw2 : k0_chk2 v13), (k0_dev317 v13) < nD := fun v13 k0_hw2 => k0_hw2.2.2.2.2.1.2.2.2.2.2.2.2.2.2.2.2.2.2.2.2.2.2.2.2.2.2.2.2.2.2.2.2.2.2.2.1
theorem k0_dev320_lt : ∀ (v13 : BitVec 32) (k0_hw2 : k0_chk2 v13), (k0_dev320 v13) < nD := fun v13 k0_hw2 => k0_hw2.2.2.2.2.1.2.2.2.2.2.2.2.2.2.2.2.2.2.2.2.2.2.2.2.2.2.2.2.2.2.2.2.2.2.2.2
theorem k0_dev322_lt : ∀ (v13 : BitVec 32) (k0_hw2 : k0_chk2 v13), (k0_dev322 v13) < nD := fun v13 k0_hw2 => k0_hw2.2.2.2.2.2.1
theorem k0_dev323_lt : ∀ (v13 : BitVec 32) (k0_hw2 : k0_chk2 v13), (k0_dev323 v13) < nD := fun v13 k0_hw2 => k0_hw2.2.2.2.2.2.2.1
theorem k0_dev326_lt : ∀ (v13 : BitVec 32) (k0_hw2 : k0_chk2 v13), (k0_dev326 v13) < nD := fun v13 k0_hw2 => k0_hw2.2.2.2.2.2.2.2.1
theorem k0_dev328_lt : ∀ (v13 : BitVec 32) (k0_hw2 : k0_chk2 v13), (k0_dev328 v13) < nD := fun v13 k0_hw2 => k0_hw2.2.2.2.2.2.2.2.2.1
theorem k0_dev329_lt : ∀ (v13 : BitVec 32) (k0_hw2 : k0_chk2 v13), (k0_dev329 v13) < nD := fun v13 k0_hw2 => k0_hw2.2.2.2.2.2.2.2.2.2.1
theorem k0_dev332_lt : ∀ (v13 : BitVec 32) (k0_hw2 : k0_chk2 v13), (k0_dev332 v13) < nD := fun v13 k0_hw2 => k0_hw2.2.2.2.2.2.2.2.2.2.2.1
theorem k0_dev334_lt : ∀ (v13 : BitVec 32) (k0_hw2 : k0_chk2 v13), (k0_dev334 v13) < nD := fun v13 k0_hw2 => k0_hw2.2.2.2.2.2.2.2.2.2.2.2.1
theorem k0_dev335_lt : ∀ (v13 : BitVec 32) (k0_hw2 : k0_chk2 v13), (k0_dev335 v13) < nD := fun v13 k0_hw2 => k0_hw2.2.2.2.2.2.2.2.2.2.2.2.2.1
theorem k0_dev338_lt : ∀ (v13 : BitVec 32) (k0_hw2 : k0_chk2 v13), (k0_dev338 v13) < nD := fun v13 k0_hw2 => k0_hw2.2.2.2.2.2.2.2.2.2.2.2.2.2.1
theorem k0_dev340_lt : ∀ (v13 : BitVec 32) (k0_hw2 : k0_chk2 v13), (k0_dev340 v13) < nD := fun v13 k0_hw2 => k0_hw2.2.2.2.2.2.2.2.2.2.2.2.2.2.2.1
theorem k0_dev341_lt : ∀ (v13 : BitVec 32) (k0_hw2 : k0_chk2 v13), (k0_dev341 v13) < nD := fun v13 k0_hw2 => k0_hw2.2.2.2.2.2.2.2.2.2.2.2.2.2.2.2.1
theorem k0_dev344_lt : ∀ (v13 : BitVec 32) (k0_hw2 : k0_chk2 v13), (k0_dev344 v13) < nD := fun v13 k0_hw2 => k0_hw2.2.2.2.2.2.2.2.2.2.2.2.2.2.2.2.2.1
theorem k0_dev346_lt : ∀ (v13 : BitVec 32) (k0_hw2 : k0_chk2 v13), (k0_dev346 v13) < nD := fun v13 k0_hw2 => k0_hw2.2.2.2.2.2.2.2.2.2.2.2.2.2.2.2.2.2.1
theorem k0_dev347_lt : ∀ (v13 : BitVec 32) (k0_hw2 : k0_chk2 v13), (k0_dev347 v13) < nD := fun v13 k0_hw2 => k0_hw2.2.2.2.2.2.2.2.2.2.2.2.2.2.2.2.2.2.2.1
theorem k0_dev350_lt : ∀ (v13 : BitVec 32) (k0_hw2 : k0_chk2 v13), (k0_dev350 v13) < nD := fun v13 k0_hw2 => k0_hw2.2.2.2.2.2.2.2.2.2.2.2.2.2.2.2.2.2.2.2.1
theorem k0_dev352_lt : ∀ (v13 : BitVec 32) (k0_hw2 : k0_chk2 v13), (k0_dev352 v13) < nD := fun v13 k0_hw2 => k0_hw2.2.2.2.2.2.2.2.2.2.2.2.2.2.2.2.2.2.2.2.2.1
theorem k0_dev353_lt : ∀ (v13 : BitVec 32) (k0_hw2 : k0_chk2 v13), (k0_dev353 v13) < nD := fun v13 k0_hw2 => k0_hw2.2.2.2.2.2.2.2.2.2.2.2.2.2.2.2.2.2.2.2.2.2.1
theorem k0_dev356_lt : ∀ (v13 : BitVec 32) (k0_hw2 : k0_chk2 v13), (k0_dev356 v13) < nD := fun v13 k0_hw2 => k0_hw2.2.2.2.2.2.2.2.2.2.2.2.2.2.2.2.2.2.2.2.2.2.2.1
theorem k0_dev358_lt : ∀ (v13 : BitVec 32) (k0_hw2 : k0_chk2 v13), (k0_dev358 v13) < nD := fun v13 k0_hw2 => k0_hw2.2.2.2.2.2.2.2.2.2.2.2.2.2.2.2.2.2.2.2.2.2.2.2.1
theorem k0_dev359_lt : ∀ (v13 : BitVec 32) (k0_hw2 : k0_chk2 v13), (k0_dev359 v13) < nD := fun v13 k0_hw2 => k0_hw2.2.2.2.2.2.2.2.2.2.2.2.2.2.2.2.2.2.2.2.2.2.2.2.2.1
theorem k0_dev362_lt : ∀ (v13 : BitVec 32) (k0_hw2 : k0_chk2 v13), (k0_dev362 v13) < nD := fun v13 k0_hw2 => k0_hw2.2.2.2.2.2.2.2.2.2.2.2.2.2.2.2.2.2.2.2.2.2.2.2.2.2.1
theorem k0_dev364_lt : ∀ (v13 : BitVec 32) (k0_hw2 : k0_chk2 v13), (k0_dev364 v13) < nD := fun v13 k0_hw2 => k0_hw2.2.2.2.2.2.2.2.2.2.2.2.2.2.2.2.2.2.2.2.2.2.2.2.2.2.2.1
theorem k0_dev366_lt : ∀ (v13 : BitVec 32) (k0_hw2 : k0_chk2 v13), (k0_dev366 v13) < nD := fun v13 k0_hw2 => k0_hw2.2.2.2.2.2.2.2.2.2.2.2.2.2.2.2.2.2.2.2.2.2.2.2.2.2.2.2.1
theorem k0_dev368_lt : ∀ (v13 : BitVec 32) (k0_hw2 : k0_chk2 v13), (k0_dev368 v13) < nD := fun v13 k0_hw2 => k0_hw2.2.2.2.2.2.2.2.2.2.2.2.2.2.2.2.2.2.2.2.2.2.2.2.2.2.2.2.2

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .bf16⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Spine.lean ====
/- The body of one device as a short program: the two directions of the ring, the four slots and the
   two pieces of a slot are parameters, and a hop is written once. `Equal.lean` proves that the
   printed body is this program. -/
module

public import proofs.«01_k».proof.Proof.Gen.KernelIdeal.Skeleton

@[expose] public section

set_option synthInstance.maxSize 4096

noncomputable section

namespace Cert.KernelIdeal.Gen

open Idealize.ShloMosaic Idealize.SL.Sem

variable {F : FTy → Type} [FloatOps F]

/-- What the body is given: its buffers and its semaphores, the two directions as a function of the
    direction (`false` sends to the right neighbour, `true` to the left). -/
structure Args where
  x : Memref sig .tc .vmem S4096x128 .bf16
  w : Memref sig .tc .vmem S128x8192 .bf16
  pos : Memref sig .tc .smem S32 .i32
  ring : Memref sig .tc .smem S32 .i32
  out : Memref sig .tc .hbm S4096x8192 .f32
  comm : Bool → Memref sig .tc .vmem S4x64x8192 .bf16
  hcomm : ∀ d, (comm d).IsWhole
  sendS : Bool → DmaSems sig S4x2
  recvS : Bool → DmaSems sig S4x2
  credS : Bool → Sems sig S_
  storeS : DmaSems sig S4
  lp : Memref sig .tc .vmem S2x2x64x8192 .f32
  stage : Memref sig .tc .vmem S4x64x8192 .f32

/-- The three words read from the tables, with what the program checks of each. -/
structure Wds where
  v4 : BitVec 32
  h4 : k0_chk1 v4
  v8 : BitVec 32
  h8 : k0_chk3 v8
  v13 : BitVec 32
  h13 : k0_chk2 v13

/-- The neighbour a direction sends to. -/
def Wds.next (W : Wds) : Bool → Dev nD
  | false => ⟨k0_dev3 W.v8, k0_dev3_lt W.v8 W.h8⟩
  | true => ⟨k0_dev1 W.v13, k0_dev1_lt W.v13 W.h13⟩

abbrev BodyProg (F : FTy → Type) (α : Type) := Prog (TpuEff nD τ sig (Elt F) Λ₀ .tc) α

/-! ## The regions -/

/-- The number of a direction. -/
def dn : Bool → Nat
  | false => 0
  | true => 1

/-- A piece lies in its buffer. -/
theorem inbPiece (s : Fin 4) (j : Fin 2) : ∀ a, (![s.val, 32 * j.val, 0] : Fin 3 → Nat) a + S1x32x8192.size a ≤ S4x64x8192.size a := by
  revert s j; decide

/-- A slot lies in its buffer. -/
theorem inbSlot (s : Fin 4) : ∀ a, (![s.val, 0, 0] : Fin 3 → Nat) a + S1x64x8192.size a ≤ S4x64x8192.size a := by
  revert s; decide

/-- A semaphore lies in its array. -/
theorem inbSem (s : Fin 4) (j : Fin 2) : ∀ a, (![s.val, j.val] : Fin 2 → Nat) a + S1x1.size a ≤ S4x2.size a := by
  revert s j; decide

/-- A staging slot lies in its buffer. -/
theorem inbStore (i : Fin 4) : ∀ a, (![i.val] : Fin 1 → Nat) a + S1.size a ≤ S4.size a := by
  revert i; decide

/-- A partial product lies in its buffer. -/
theorem inbLp (p : Fin 2) (d : Bool) : ∀ a, (![p.val, dn d, 0, 0] : Fin 4 → Nat) a + S1x1x64x8192.size a ≤ S2x2x64x8192.size a := by
  revert p d; decide

/-- A piece of a partial product lies in its buffer. -/
theorem inbLpPiece (p : Fin 2) (d : Bool) (j : Fin 2) : ∀ a, (![p.val, dn d, 32 * j.val, 0] : Fin 4 → Nat) a + S1x1x32x8192.size a ≤ S2x2x64x8192.size a := by
  revert p d j; decide

/-- Piece `j` of slot `s`. -/
def rPiece (s : Fin 4) (j : Fin 2) : Rect S4x64x8192 := Rect.unit (s := S4x64x8192) ![s.val, 32 * j.val, 0] S1x32x8192.size (inbPiece s j)

/-- The whole of slot `s`. -/
def rSlot (s : Fin 4) : Rect S4x64x8192 := Rect.unit (s := S4x64x8192) ![s.val, 0, 0] S1x64x8192.size (inbSlot s)

/-- The partial product of one parity and direction. -/
def rLp (p : Fin 2) (d : Bool) : Rect S2x2x64x8192 := Rect.unit (s := S2x2x64x8192) ![p.val, dn d, 0, 0] S1x1x64x8192.size (inbLp p d)

/-- Piece `j` of a partial product. -/
def rLpPiece (p : Fin 2) (d : Bool) (j : Fin 2) : Rect S2x2x64x8192 := Rect.unit (s := S2x2x64x8192) ![p.val, dn d, 32 * j.val, 0] S1x1x32x8192.size (inbLpPiece p d j)

/-- The whole right factor. -/
def rW : Rect S128x8192 := Rect.unit (s := S128x8192) ![0, 0] S128x8192.size inb_S128x8192_S128x8192_0_0

/-- A piece is made of whole words. -/
theorem wordsPiece (s : Fin 4) (j : Fin 2) : (rPiece s j).WholeWords (EltTy.packing .bf16) := by
  revert s j; decide

/-- A piece's rows are packed. -/
theorem packedPiece (s : Fin 4) (j : Fin 2) : (rPiece s j).PackedRows (EltTy.packing .bf16) := by
  revert s j; decide

/-- A slot's rows are packed. -/
theorem packedSlot (s : Fin 4) : (rSlot s).PackedRows (EltTy.packing .bf16) := by
  revert s; decide

variable (K : Args)

/-- Piece `j` of slot `s` of a direction's buffer, as a memref. -/
def Args.piece (d : Bool) (s : Fin 4) (j : Fin 2) : Memref sig .tc .vmem S32x8192 .bf16 :=
  ((K.comm d).slice (rPiece s j) (fun _ => rfl)).squeeze S32x8192 squeezes_S1x32x8192_S32x8192

/-- A staging slot of the result, as a memref. -/
def Args.stageM (i : Fin 4) : Memref sig .tc .vmem S64x8192 .f32 :=
  (K.stage.slice (rSlot i) (fun _ => rfl)).squeeze S64x8192 squeezes_S1x64x8192_S64x8192

/-- The semaphore of a piece's departure. -/
def Args.sSem (d : Bool) (s : Fin 4) (j : Fin 2) : DmaSem sig :=
  (((K.sendS d).slice (Rect.unit (s := S4x2) ![s.val, j.val] S1x1.size (inbSem s j))).squeeze S_ squeezes_S1x1_S_).sem

/-- The semaphore of a piece's arrival. -/
def Args.rSem (d : Bool) (s : Fin 4) (j : Fin 2) : DmaSem sig :=
  (((K.recvS d).slice (Rect.unit (s := S4x2) ![s.val, j.val] S1x1.size (inbSem s j))).squeeze S_ squeezes_S1x1_S_).sem

/-- The semaphore of a staging slot's copy to the result. -/
def Args.oSem (i : Fin 4) : DmaSem sig :=
  ((K.storeS.slice (Rect.unit (s := S4) ![i.val] S1.size (inbStore i))).squeeze S_ squeezes_S1_S_).sem

variable (W : Wds)

/-- Where the rows of the left factor of a partial product start: the chunk that arrives at hop `n`. -/
def offX (d : Bool) (n : Fin 31) : Fin 2 → Nat :=
  match d with
  | false => k0_off5 W.v4 (BitVec.ofNat 32 (1 + n.val))
  | true => k0_off6 W.v4 (BitVec.ofNat 32 (1 + n.val))

/-- A hop's chunk lies in the left factor. -/
theorem offX_inb (d : Bool) (n : Fin 31) : ∀ a, offX W d n a + S64x128.size a ≤ S4096x128.size a :=
  match d with
  | false => k0_off5_inb W.v4 W.h4 n
  | true => k0_off6_inb W.v4 W.h4 n

/-- The rows of the left factor a partial product reads. -/
def rX (d : Bool) (n : Fin 31) : Rect S4096x128 := Rect.unit (s := S4096x128) (offX W d n) S64x128.size (offX_inb W d n)

/-- The rows of the left factor the device's own chunk reads. -/
def rX0 : Rect S4096x128 := Rect.unit (s := S4096x128) (k0_off4 W.v4) S128x128.size (k0_off4_inb W.v4 W.h4)

/-- Where the rows of the result that store `t` of a direction writes start. -/
def offOut : Bool → Fin 32 → Fin 2 → Nat
  | false, ⟨0, _⟩ => k0_off7 W.v4 1#32 0#32
  | true, ⟨0, _⟩ => k0_off8 W.v4
  | false, ⟨t + 1, _⟩ => k0_off9 W.v4 (BitVec.ofNat 32 t)
  | true, ⟨t + 1, _⟩ => k0_off7 W.v4 (BitVec.ofNat 32 t) 64#32

/-- The row of a store, in the printed offset. -/
theorem off7_row : ∀ t : Fin 31, k0_off7_at ⟨t.val + 1, by omega⟩ = (BitVec.ofNat 32 t.val, 64#32) := by decide

/-- A store's rows lie in the result. -/
theorem offOut_inb : ∀ (d : Bool) (t : Fin 32), ∀ a, offOut W d t a + S64x8192.size a ≤ S4096x8192.size a
  | false, ⟨0, _⟩ => k0_off7_inb W.v4 W.h4 0
  | true, ⟨0, _⟩ => k0_off8_inb W.v4 W.h4
  | false, ⟨t + 1, h⟩ => k0_off9_inb W.v4 W.h4 ⟨t, by omega⟩
  | true, ⟨t + 1, h⟩ => by
      have e := off7_row ⟨t, by omega⟩
      have := k0_off7_inb W.v4 W.h4 ⟨t + 1, h⟩
      rw [e] at this
      exact this

/-- The rows of the result that store `t` of a direction writes. -/
def rOut (d : Bool) (t : Fin 32) : Rect S4096x8192 := Rect.unit (s := S4096x8192) (offOut W d t) S64x8192.size (offOut_inb W d t)

/-- Those rows as a memref. -/
def Args.outM (d : Bool) (t : Fin 32) : Memref sig .tc .hbm S64x8192 .f32 := K.out.slice (rOut W d t) (fun _ => rfl)

/-! ## The numbers of the slots -/

/-- The slot a hop sends from. -/
def sl (k : Nat) : Fin 4 := ⟨k % 4, Nat.mod_lt _ (by decide)⟩

/-- The parity of a partial product. -/
def par (n : Nat) : Fin 2 := ⟨n % 2, Nat.mod_lt _ (by decide)⟩

/-- The staging slot of store `t` of a direction. -/
def stg (d : Bool) (t : Nat) : Fin 4 := ⟨2 * (t % 2) + dn d, by have := Nat.mod_lt t (y := 2) (by decide); cases d <;> simp only [dn] <;> omega⟩

/-- A number below 32. -/
def f32 (t : Nat) : Fin 32 := ⟨t % 32, Nat.mod_lt _ (by decide)⟩

/-- A number below 31. -/
def f31 (t : Nat) : Fin 31 := ⟨t % 31, Nat.mod_lt _ (by decide)⟩

/-! ## The steps -/

/-- Start sending piece `j` of hop `k`. -/
def send (d : Bool) (k : Nat) (j : Fin 2) : BodyProg F PUnit :=
  Prog.lift (.enqueueDma (K.piece d (sl k) j) (.remote (Dev.tc (W.next d)) (K.piece d (sl (k + 1)) j) (.dma (K.sSem d (sl k) j)))
    (.dma (K.rSem d (sl (k + 1)) j))
    (((K.hcomm d).wordExact_slice rfl _ (wordsPiece (sl k) j)).reshape _ _)
    (((K.hcomm d).wordExact_slice rfl _ (wordsPiece (sl (k + 1)) j)).reshape _ _) ⟨⟨rfl, Or.inl rfl⟩, trivial⟩)

/-- Wait for piece `j` of hop `k - 1` to have left, before hop `k`; slots are named by `k + 3` for `k - 1`. -/
def waitS (d : Bool) (k : Nat) (j : Fin 2) : BodyProg F PUnit :=
  Prog.lift (.waitDma2 (K.sSem d (sl (k + 3)) j) (K.piece d (sl k) j) (K.piece d (sl (k + 3)) j)
    (((K.hcomm d).wordExact_slice rfl _ (wordsPiece (sl k) j)).reshape _ _)
    (((K.hcomm d).wordExact_slice rfl _ (wordsPiece (sl (k + 3)) j)).reshape _ _))

/-- Wait for piece `j` of hop `k - 1` to have arrived, before hop `k`. -/
def waitR (d : Bool) (k : Nat) (j : Fin 2) : BodyProg F PUnit :=
  Prog.lift (.waitDma2 (K.rSem d (sl k) j) (K.piece d (sl (k + 3)) j) (K.piece d (sl k) j)
    (((K.hcomm d).wordExact_slice rfl _ (wordsPiece (sl (k + 3)) j)).reshape _ _)
    (((K.hcomm d).wordExact_slice rfl _ (wordsPiece (sl k) j)).reshape _ _))

/-- The value of a piece after the device's own partial product is added. -/
def payAdd (v : Vec F S1x32x8192 .bf16) (l : Vec F S1x1x32x8192 .f32) : FVec F S1x32x8192 .bf16 := k0_pay13 v l

/-- Add the device's partial product to the piece that arrived: first half, the load. -/
def addLoad (d : Bool) (k : Nat) (j : Fin 2) : BodyProg F (Vec F S1x32x8192 .bf16) :=
  Prog.lift (.load (K.comm d) (rPiece (sl k) j).toLoadRect (View.loadsAt_vmem h_S1x32x8192))

/-- The rest of the addition. -/
def addRest (d : Bool) (k : Nat) (j : Fin 2) (v : Vec F S1x32x8192 .bf16) : BodyProg F PUnit :=
  Prog.lift (.load K.lp (rLpPiece (par (k + 1)) d j).toLoadRect (View.loadsAt_vmem h_S1x1x32x8192)) >>= fun l =>
  Prog.lift (.load (K.comm d) (rPiece (sl k) j).toLoadRect (View.loadsAt_vmem h_S1x32x8192)) >>= fun _ =>
  Prog.lift (.store (K.comm d) (rPiece (sl k) j) (payAdd v l) Finset.univ
    (View.stores_vmem h_S1x32x8192 ((K.hcomm d).storeExact_slice rfl _ (packedPiece (sl k) j)) (fun _ => rfl)) (.inl rfl))

def add (d : Bool) (k : Nat) (j : Fin 2) : BodyProg F PUnit := addLoad K d k j >>= fun v => addRest K d k j v

/-- Take the next credit. -/
def credWait (d : Bool) : BodyProg F PUnit := semWaitWord (K.credS d).sem 1#32

/-- Give the neighbour the pieces come from a credit. -/
def credSig (d : Bool) : BodyProg F PUnit := semSignalWord (W.next (!d)) (K.credS d).sem 1#32

/-- The partial product of the chunk that arrives at hop `n`. -/
def lpStep (d : Bool) (n : Nat) : BodyProg F PUnit :=
  Prog.lift (.load K.x (rX W d (f31 n)).toLoadRect (View.loadsAt_vmem h_S64x128)) >>= fun a =>
  Prog.lift (.load K.w rW.toLoadRect (View.loadsAt_vmem h_S128x8192)) >>= fun b =>
  Prog.lift (.load K.lp (rLp (par n) d).toLoadRect (View.loadsAt_vmem h_S1x1x64x8192)) >>= fun _ =>
  Prog.lift (.store K.lp (rLp (par n) d) (k0_pay5 a b) Finset.univ (View.stores_vmem_bits_univ h_S1x1x64x8192 rfl) (.inl rfl))

def lpSteps (n : Nat) : BodyProg F PUnit := lpStep K W false n >>= fun _ => lpStep K W true n

/-- Load the whole slot of hop `k`. -/
def outLoad (d : Bool) (k : Nat) : BodyProg F (Vec F S1x64x8192 .bf16) :=
  Prog.lift (.load (K.comm d) (rSlot (sl k)).toLoadRect (View.loadsAt_vmem h_S1x64x8192))

/-- Wait for store `t` to have been made. -/
def outWait (d : Bool) (t : Nat) : BodyProg F PUnit :=
  Prog.lift (.waitDma2 (K.oSem (stg d t)) (K.stageM (stg d t)) (K.outM W d (f32 t)) ((View.wordExact_bits rfl).reshape _ _) (View.wordExact_bits rfl))

/-- Make store `t`, of the loaded slot. -/
def outRest (d : Bool) (t : Nat) (v : Vec F S1x64x8192 .bf16) : BodyProg F PUnit :=
  Prog.lift (.load K.stage (rSlot (stg d t)).toLoadRect (View.loadsAt_vmem h_S1x64x8192)) >>= fun _ =>
  Prog.lift (.store K.stage (rSlot (stg d t)) (k0_pay240 v) Finset.univ (View.stores_vmem_bits_univ h_S1x64x8192 rfl) (.inl rfl)) >>= fun _ =>
  Prog.lift (.enqueueDma (K.stageM (stg d t)) (.here (K.outM W d (f32 t))) (.dma (K.oSem (stg d t))) ((View.wordExact_bits rfl).reshape _ _) (View.wordExact_bits rfl) ⟨Or.inl rfl, trivial⟩)

/-- One of the first two stores. -/
def outFirst (d : Bool) (t : Nat) : BodyProg F PUnit := outLoad K d (t + 31) >>= fun v => outRest K W d t v

/-- A later store, which waits for the one two before it. -/
def outNext (d : Bool) (t : Nat) : BodyProg F PUnit :=
  outLoad K d (t + 31) >>= fun v => outWait K W d (t - 2) >>= fun _ => outRest K W d t v

/-! ## The hops -/

/-- The waits before sending piece `j` of hop `k`. -/
def waits (k : Nat) (j : Fin 2) : BodyProg F PUnit :=
  waitS K false k j >>= fun _ => waitR K false k j >>= fun _ => waitS K true k j >>= fun _ => waitR K true k j

/-- Both directions send piece `j` of hop `k`. -/
def sends (k : Nat) (j : Fin 2) : BodyProg F PUnit := send K W false k j >>= fun _ => send K W true k j

/-- Both directions add to piece `j`. -/
def adds (k : Nat) (j : Fin 2) : BodyProg F PUnit := add K false k j >>= fun _ => add K true k j

/-- A piece of a hop up to 31. -/
def pieceRS (k : Nat) (j : Fin 2) : BodyProg F PUnit := waits K k j >>= fun _ => adds K k j >>= fun _ => sends K W k j

/-- A piece of a hop from 32 on. -/
def pieceAG (k : Nat) (j : Fin 2) : BodyProg F PUnit := waits K k j >>= fun _ => sends K W k j

def credWaits : BodyProg F PUnit := credWait K false >>= fun _ => credWait K true

def credSigs : BodyProg F PUnit := credSig K W false >>= fun _ => credSig K W true

/-- Hop 0. -/
def hop0 : BodyProg F PUnit := sends K W 0 0 >>= fun _ => sends K W 0 1 >>= fun _ => lpSteps K W 1

/-- Hops 1 and 2. -/
def hopA (k : Nat) : BodyProg F PUnit :=
  pieceRS K W k 0 >>= fun _ => pieceRS K W k 1 >>= fun _ => credSigs K W >>= fun _ => lpSteps K W (k + 1)

/-- Hops 3 to 29. -/
def hopB (k : Nat) : BodyProg F PUnit := credWaits K >>= fun _ => hopA K W k

/-- Hop 30: the last partial product has been made. -/
def hopC (k : Nat) : BodyProg F PUnit :=
  credWaits K >>= fun _ => pieceRS K W k 0 >>= fun _ => pieceRS K W k 1 >>= fun _ => credSigs K W

def outFirsts (t : Nat) : BodyProg F PUnit := outFirst K W false t >>= fun _ => outFirst K W true t

def outNexts (t : Nat) : BodyProg F PUnit := outNext K W false t >>= fun _ => outNext K W true t

/-- Hop 31: the first store. -/
def hopD (k : Nat) : BodyProg F PUnit := hopC K W k >>= fun _ => outFirsts K W (k - 31)

/-- The sends of a hop from 32 on. -/
def hopE (k : Nat) : BodyProg F PUnit := credWaits K >>= fun _ => pieceAG K W k 0 >>= fun _ => pieceAG K W k 1

/-- Hop 32. -/
def hopF (k : Nat) : BodyProg F PUnit := hopE K W k >>= fun _ => credSigs K W >>= fun _ => outFirsts K W (k - 31)

/-- Hops 33 to 59. -/
def hopG (k : Nat) : BodyProg F PUnit := hopE K W k >>= fun _ => credSigs K W >>= fun _ => outNexts K W (k - 31)

/-- Hops 60 and 61: no more credit is given. -/
def hopH (k : Nat) : BodyProg F PUnit := hopE K W k >>= fun _ => outNexts K W (k - 31)

/-- What follows the last hop. -/
def epilogue : BodyProg F PUnit :=
  waits K 62 0 >>= fun _ => waits K 62 1 >>= fun _ => outNexts K W 31 >>= fun _ =>
  outWait K W false 30 >>= fun _ => outWait K W true 30 >>= fun _ => outWait K W false 31 >>= fun _ => outWait K W true 31

/-- A run of hops. -/
def hops (h : Nat → BodyProg F PUnit) : Nat → Nat → BodyProg F PUnit
  | _, 0 => pure ⟨⟩
  | k, n + 1 => h k >>= fun _ => hops h (k + 1) n

/-! ## What comes before the hops -/

/-- Read the device's place in the ring and its two neighbours, and check them. -/
def words : BodyProg F Wds :=
  Prog.lift .deviceId >>= fun d0 =>
  smemLoad K.pos (Rect.unit (s := S32) (k0_off1 d0) S1.size (k0_off1_inb d0)) numel1_S1 rfl >>= fun v4 =>
  Prog.lift (TpuEff.assume (k0_chk1 v4) (k0_chk1.dec v4)) >>= fun h4 =>
  smemLoad K.ring (Rect.unit (s := S32) (k0_off2 v4) S1.size (k0_off2_inb v4 h4.down)) numel1_S1 rfl >>= fun v8 =>
  Prog.lift (TpuEff.assume (k0_chk3 v8) (k0_chk3.dec v8)) >>= fun h8 =>
  smemLoad K.ring (Rect.unit (s := S32) (k0_off3 v4) S1.size (k0_off3_inb v4 h4.down)) numel1_S1 rfl >>= fun v13 =>
  Prog.lift (TpuEff.assume (k0_chk2 v13) (k0_chk2.dec v13)) >>= fun h13 =>
  pure ⟨v4, h4.down, v8, h8.down, v13, h13.down⟩

/-- The semaphore of the entry barrier. -/
def barSem : Sem sig := (SemArray.scalar (sig.barrier 0 rfl) : Sems sig S_).sem

/-- Signal both neighbours and wait for both. -/
def barrier : BodyProg F PUnit :=
  semSignalWord (W.next true) barSem 1#32 >>= fun _ => semSignalWord (W.next false) barSem 1#32 >>= fun _ => semWaitWord barSem 2#32

/-- The device's own chunk goes into slot 0 of both directions. -/
def initStep : BodyProg F PUnit :=
  Prog.lift (.load K.x (rX0 W).toLoadRect (View.loadsAt_vmem h_S128x128)) >>= fun a =>
  Prog.lift (.load K.w rW.toLoadRect (View.loadsAt_vmem h_S128x8192)) >>= fun b =>
  Prog.lift (.load (K.comm false) (rSlot 0).toLoadRect (View.loadsAt_vmem h_S1x64x8192)) >>= fun _ =>
  Prog.lift (.store (K.comm false) (rSlot 0) (k0_pay3 (k0_pay2 a b)) Finset.univ
    (View.stores_vmem h_S1x64x8192 ((K.hcomm false).storeExact_slice rfl _ (packedSlot 0)) (fun _ => rfl)) (.inl rfl)) >>= fun _ =>
  Prog.lift (.load (K.comm true) (rSlot 0).toLoadRect (View.loadsAt_vmem h_S1x64x8192)) >>= fun _ =>
  Prog.lift (.store (K.comm true) (rSlot 0) (k0_pay4 (k0_pay1 a b)) Finset.univ
    (View.stores_vmem h_S1x64x8192 ((K.hcomm true).storeExact_slice rfl _ (packedSlot 0)) (fun _ => rfl)) (.inl rfl))

def start : BodyProg F PUnit := barrier W >>= fun _ => initStep K W >>= fun _ => lpSteps K W 0

/-- The whole body of a device. -/
def spine : BodyProg F PUnit :=
  words K >>= fun W =>
  start K W >>= fun _ => hop0 K W >>= fun _ => hops (hopA K W) 1 2 >>= fun _ => hops (hopB K W) 3 27 >>= fun _ =>
  hopC K W 30 >>= fun _ => hopD K W 31 >>= fun _ => hopF K W 32 >>= fun _ => hops (hopG K W) 33 27 >>= fun _ =>
  hops (hopH K W) 60 2 >>= fun _ => epilogue K W

end Cert.KernelIdeal.Gen

end
-- ==== Proof.Equal.lean ====
/- The printed body is the short program of `Spine.lean`. The printed body is cut into seven stretches, six of them
   in the middle of a hop; each stretch is the same sequence of steps as a stretch of the short program, and the
   seven put together are the whole. -/
module

public import proofs.«01_k».proof.Proof.Spine

@[expose] public section

set_option synthInstance.maxSize 4096

noncomputable section

namespace Cert.KernelIdeal.Gen

open Idealize.ShloMosaic Idealize.SL.Sem

variable {F : FTy → Type} [FloatOps F]

/-- What the first stretch hands on. -/
abbrev Out397 (F : FTy → Type) : Type :=
  Σ' (v4 : Elt F .i32) (_ : k0_chk1 v4) (v8 : Elt F .i32) (_ : k0_chk3 v8) (v13 : Elt F .i32) (_ : k0_chk2 v13), Vec F S1x32x8192 .bf16

/-- The first stretch: up to the middle of hop 9. -/
def cut1 (K : Args) : BodyProg F (Out397 F) :=
  words K >>= fun W =>
  start K W >>= fun _ => hop0 K W >>= fun _ => hops (hopA K W) 1 2 >>= fun _ => hops (hopB K W) 3 6 >>= fun _ =>
  credWaits K >>= fun _ => waits K 9 0 >>= fun _ => add K false 9 0 >>= fun _ => addLoad K true 9 0 >>= fun v =>
  pure ⟨W.v4, W.h4, W.v8, W.h8, W.v13, W.h13, v⟩

/-- The second stretch: up to the middle of hop 18. -/
def cut2 (K : Args) (W : Wds) (v : Vec F S1x32x8192 .bf16) : BodyProg F PUnit :=
  addRest K true 9 0 v >>= fun _ => sends K W 9 0 >>= fun _ => pieceRS K W 9 1 >>= fun _ => credSigs K W >>= fun _ => lpSteps K W 10 >>= fun _ =>
  hops (hopB K W) 10 8 >>= fun _ => credWaits K >>= fun _ => waitS K false 18 0 >>= fun _ => waitR K false 18 0 >>= fun _ => waitS K true 18 0

/-- The third stretch: up to the middle of hop 27. -/
def cut3 (K : Args) (W : Wds) : BodyProg F PUnit :=
  waitR K true 18 0 >>= fun _ => adds K 18 0 >>= fun _ => sends K W 18 0 >>= fun _ => pieceRS K W 18 1 >>= fun _ => credSigs K W >>= fun _ => lpSteps K W 19 >>= fun _ =>
  hops (hopB K W) 19 8 >>= fun _ => credWaits K >>= fun _ => waitS K false 27 0

/-- The fourth stretch: up to the middle of hop 36. -/
def cut4 (K : Args) (W : Wds) : BodyProg F PUnit :=
  waitR K false 27 0 >>= fun _ => waitS K true 27 0 >>= fun _ => waitR K true 27 0 >>= fun _ => adds K 27 0 >>= fun _ => sends K W 27 0 >>= fun _ =>
  pieceRS K W 27 1 >>= fun _ => credSigs K W >>= fun _ => lpSteps K W 28 >>= fun _ =>
  hops (hopB K W) 28 2 >>= fun _ => hopC K W 30 >>= fun _ => hopD K W 31 >>= fun _ => hopF K W 32 >>= fun _ => hops (hopG K W) 33 3 >>= fun _ =>
  credWaits K >>= fun _ => pieceAG K W 36 0 >>= fun _ => waits K 36 1 >>= fun _ => send K W false 36 1

/-- A stretch from the middle of one late hop to the middle of another, `n + 1` hops later. -/
def cutG (K : Args) (W : Wds) (k n : Nat) : BodyProg F PUnit :=
  send K W true k 1 >>= fun _ => credSigs K W >>= fun _ => outNexts K W (k - 31) >>= fun _ => hops (hopG K W) (k + 1) n >>= fun _ =>
  credWaits K >>= fun _ => pieceAG K W (k + 1 + n) 0 >>= fun _ => waits K (k + 1 + n) 1 >>= fun _ => send K W false (k + 1 + n) 1

/-- The last stretch but for the last wait. -/
def cut7 (K : Args) (W : Wds) : BodyProg F PUnit :=
  send K W true 56 1 >>= fun _ => credSigs K W >>= fun _ => outNexts K W 25 >>= fun _ => hops (hopG K W) 57 3 >>= fun _ =>
  hops (hopH K W) 60 2 >>= fun _ => waits K 62 0 >>= fun _ => waits K 62 1 >>= fun _ => outNexts K W 31 >>= fun _ =>
  outWait K W false 30 >>= fun _ => outWait K W true 30 >>= fun _ => outWait K W false 31

section
variable (arg0 : Memref sig .tc .vmem S4096x128 .bf16) (harg0 : arg0.IsWhole) (arg1 : Memref sig .tc .vmem S128x8192 .bf16) (harg1 : arg1.IsWhole) (arg2 : Memref sig .tc .smem S32 .i32) (harg2 : arg2.IsWhole) (arg3 : Memref sig .tc .smem S32 .i32) (harg3 : arg3.IsWhole) (arg4 : Memref sig .tc .hbm S4096x8192 .f32) (harg4 : arg4.IsWhole) (arg5 : Memref sig .tc .vmem S4x64x8192 .bf16) (harg5 : arg5.IsWhole) (arg6 : Memref sig .tc .vmem S4x64x8192 .bf16) (harg6 : arg6.IsWhole) (arg7 : DmaSems sig S4x2) (arg8 : DmaSems sig S4x2) (arg9 : DmaSems sig S4x2) (arg10 : DmaSems sig S4x2) (arg11 : Sems sig S_) (arg12 : Sems sig S_) (arg13 : DmaSems sig S4) (arg14 : Memref sig .tc .vmem S2x2x64x8192 .f32) (harg14 : arg14.IsWhole) (arg15 : Memref sig .tc .vmem S4x64x8192 .f32) (harg15 : arg15.IsWhole)

/-- The body's arguments, by their roles. -/
def mkArgs : Args where
  x := arg0
  w := arg1
  pos := arg2
  ring := arg3
  out := arg4
  comm d := match d with | false => arg5 | true => arg6
  hcomm d := match d with | false => harg5 | true => harg6
  sendS d := match d with | false => arg7 | true => arg9
  recvS d := match d with | false => arg8 | true => arg10
  credS d := match d with | false => arg11 | true => arg12
  storeS := arg13
  lp := arg14
  stage := arg15

set_option maxRecDepth 100000 in
set_option maxHeartbeats 0 in
/-- The first stretch. -/
theorem part397_eq : k0_part397 (F := F) arg0 harg0 arg1 harg1 arg2 harg2 arg3 harg3 arg4 harg4 arg5 harg5 arg6 harg6 arg7 arg8 arg9 arg10 arg11 arg12 arg13 arg14 harg14 arg15 harg15 = cut1 (mkArgs arg0 arg1 arg2 arg3 arg4 arg5 harg5 arg6 harg6 arg7 arg8 arg9 arg10 arg11 arg12 arg13 arg14 arg15) := rfl

set_option maxRecDepth 100000 in
set_option maxHeartbeats 0 in
/-- The second stretch. -/
theorem part398_eq (W : Wds) (v : Vec F S1x32x8192 .bf16) : k0_part398 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 v = cut2 (mkArgs arg0 arg1 arg2 arg3 arg4 arg5 harg5 arg6 harg6 arg7 arg8 arg9 arg10 arg11 arg12 arg13 arg14 arg15) W v := rfl

set_option maxRecDepth 100000 in
set_option maxHeartbeats 0 in
/-- The third stretch. -/
theorem part399_eq (W : Wds) : k0_part399 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 = cut3 (mkArgs arg0 arg1 arg2 arg3 arg4 arg5 harg5 arg6 harg6 arg7 arg8 arg9 arg10 arg11 arg12 arg13 arg14 arg15) W := rfl

set_option maxRecDepth 100000 in
set_option maxHeartbeats 0 in
/-- The fourth stretch. -/
theorem part400_eq (W : Wds) : k0_part400 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 = cut4 (mkArgs arg0 arg1 arg2 arg3 arg4 arg5 harg5 arg6 harg6 arg7 arg8 arg9 arg10 arg11 arg12 arg13 arg14 arg15) W := rfl

set_option maxRecDepth 100000 in
set_option maxHeartbeats 0 in
/-- The fifth stretch. -/
theorem part401_eq (W : Wds) : k0_part401 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 = cutG (mkArgs arg0 arg1 arg2 arg3 arg4 arg5 harg5 arg6 harg6 arg7 arg8 arg9 arg10 arg11 arg12 arg13 arg14 arg15) W 36 9 := rfl

set_option maxRecDepth 100000 in
set_option maxHeartbeats 0 in
/-- The sixth stretch. -/
theorem part402_eq (W : Wds) : k0_part402 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 = cutG (mkArgs arg0 arg1 arg2 arg3 arg4 arg5 harg5 arg6 harg6 arg7 arg8 arg9 arg10 arg11 arg12 arg13 arg14 arg15) W 46 9 := rfl

set_option maxRecDepth 100000 in
set_option maxHeartbeats 0 in
/-- The seventh stretch. -/
theorem part403_eq (W : Wds) : k0_part403 (F := F) arg0 harg0 arg1 harg1 arg2 harg2 arg3 harg3 arg4 harg4 arg5 harg5 arg6 harg6 arg7 arg8 arg9 arg10 arg11 arg12 arg13 arg14 harg14 arg15 harg15 W.v4 W.h4 W.v8 W.h8 W.v13 W.h13 = cut7 (mkArgs arg0 arg1 arg2 arg3 arg4 arg5 harg5 arg6 harg6 arg7 arg8 arg9 arg10 arg11 arg12 arg13 arg14 arg15) W := rfl

end

/-- A run of hops, cut at one of them. -/
theorem hops_mid (h : Nat → BodyProg F PUnit) (m n : Nat) : ∀ k, hops h k (m + 1 + n) =
    hops h k m >>= fun _ => h (k + m) >>= fun _ => hops h (k + m + 1) n := by
  induction m with
  | zero => intro k; rw [Nat.zero_add, Nat.add_comm]; rfl
  | succ m ih =>
      intro k
      rw [show m + 1 + 1 + n = (m + 1 + n) + 1 by omega]
      change (h k >>= fun _ => hops h (k + 1) (m + 1 + n)) = (h k >>= fun _ => hops h (k + 1) m) >>= fun _ => h (k + (m + 1)) >>= fun _ => hops h (k + (m + 1) + 1) n
      rw [ih, bind_assoc, show k + 1 + m = k + (m + 1) by omega]

/-- The stretches in order. -/
def cuts (K : Args) : BodyProg F PUnit :=
  cut1 K >>= fun r =>
  cut2 K ⟨r.1, r.2.1, r.2.2.1, r.2.2.2.1, r.2.2.2.2.1, r.2.2.2.2.2.1⟩ r.2.2.2.2.2.2 >>= fun _ =>
  cut3 K ⟨r.1, r.2.1, r.2.2.1, r.2.2.2.1, r.2.2.2.2.1, r.2.2.2.2.2.1⟩ >>= fun _ =>
  cut4 K ⟨r.1, r.2.1, r.2.2.1, r.2.2.2.1, r.2.2.2.2.1, r.2.2.2.2.2.1⟩ >>= fun _ =>
  cutG K ⟨r.1, r.2.1, r.2.2.1, r.2.2.2.1, r.2.2.2.2.1, r.2.2.2.2.2.1⟩ 36 9 >>= fun _ =>
  cutG K ⟨r.1, r.2.1, r.2.2.1, r.2.2.2.1, r.2.2.2.2.1, r.2.2.2.2.2.1⟩ 46 9 >>= fun _ =>
  cut7 K ⟨r.1, r.2.1, r.2.2.1, r.2.2.2.1, r.2.2.2.2.1, r.2.2.2.2.2.1⟩ >>= fun _ =>
  outWait K ⟨r.1, r.2.1, r.2.2.1, r.2.2.2.1, r.2.2.2.2.1, r.2.2.2.2.2.1⟩ true 31

/-- The stretches put together are the whole. -/
theorem cuts_eq (K : Args) : cuts (F := F) K = spine K := by
  have hB : ∀ W, hops (hopB (F := F) K W) 3 27 = hops (hopB K W) 3 6 >>= fun _ => hopB K W 9 >>= fun _ => hops (hopB K W) 10 8 >>= fun _ =>
      hopB K W 18 >>= fun _ => hops (hopB K W) 19 8 >>= fun _ => hopB K W 27 >>= fun _ => hops (hopB K W) 28 2 := fun W => by
    have e1 := hops_mid (hopB (F := F) K W) 6 20 3
    have e2 := hops_mid (hopB (F := F) K W) 8 11 10
    have e3 := hops_mid (hopB (F := F) K W) 8 2 19
    simp only [Nat.reduceAdd] at e1 e2 e3
    rw [e1, e2, e3]
  have hG : ∀ W, hops (hopG (F := F) K W) 33 27 = hops (hopG K W) 33 3 >>= fun _ => hopG K W 36 >>= fun _ => hops (hopG K W) 37 9 >>= fun _ =>
      hopG K W 46 >>= fun _ => hops (hopG K W) 47 9 >>= fun _ => hopG K W 56 >>= fun _ => hops (hopG K W) 57 3 := fun W => by
    have e1 := hops_mid (hopG (F := F) K W) 3 23 33
    have e2 := hops_mid (hopG (F := F) K W) 9 13 37
    have e3 := hops_mid (hopG (F := F) K W) 9 3 47
    simp only [Nat.reduceAdd] at e1 e2 e3
    rw [e1, e2, e3]
  simp only [cuts, spine, cut1, cut2, cut3, cut4, cutG, cut7, hB, hG, bind_assoc, pure_bind, Nat.reduceAdd, Nat.reduceSub]
  simp only [hopB, hopA, hopG, hopE, pieceRS, pieceAG, adds, add, sends, waits, epilogue, bind_assoc, Nat.reduceAdd, Nat.reduceSub]

section
variable (arg0 : Memref sig .tc .vmem S4096x128 .bf16) (harg0 : arg0.IsWhole) (arg1 : Memref sig .tc .vmem S128x8192 .bf16) (harg1 : arg1.IsWhole) (arg2 : Memref sig .tc .smem S32 .i32) (harg2 : arg2.IsWhole) (arg3 : Memref sig .tc .smem S32 .i32) (harg3 : arg3.IsWhole) (arg4 : Memref sig .tc .hbm S4096x8192 .f32) (harg4 : arg4.IsWhole) (arg5 : Memref sig .tc .vmem S4x64x8192 .bf16) (harg5 : arg5.IsWhole) (arg6 : Memref sig .tc .vmem S4x64x8192 .bf16) (harg6 : arg6.IsWhole) (arg7 : DmaSems sig S4x2) (arg8 : DmaSems sig S4x2) (arg9 : DmaSems sig S4x2) (arg10 : DmaSems sig S4x2) (arg11 : Sems sig S_) (arg12 : Sems sig S_) (arg13 : DmaSems sig S4) (arg14 : Memref sig .tc .vmem S2x2x64x8192 .f32) (harg14 : arg14.IsWhole) (arg15 : Memref sig .tc .vmem S4x64x8192 .f32) (harg15 : arg15.IsWhole)

/-- The printed body is the short program. -/
theorem body_eq : cc0__body (F := F) arg0 harg0 arg1 harg1 arg2 harg2 arg3 harg3 arg4 harg4 arg5 harg5 arg6 harg6 arg7 arg8 arg9 arg10 arg11 arg12 arg13 arg14 harg14 arg15 harg15 = spine (mkArgs arg0 arg1 arg2 arg3 arg4 arg5 harg5 arg6 harg6 arg7 arg8 arg9 arg10 arg11 arg12 arg13 arg14 arg15) := by
  rw [← cuts_eq, cuts]
  unfold cc0__body
  rw [part397_eq]
  refine congrArg _ (funext fun r => ?_)
  obtain ⟨v4, h4, v8, h8, v13, h13, v⟩ := r
  have e2 := part398_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩ v
  have e3 := part399_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩
  have e4 := part400_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩
  have e5 := part401_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩
  have e6 := part402_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩
  have e7 := part403_eq (F := F) arg0 harg0 arg1 harg1 arg2 harg2 arg3 harg3 arg4 harg4 arg5 harg5 arg6 harg6 arg7 arg8 arg9 arg10 arg11 arg12 arg13 arg14 harg14 arg15 harg15 ⟨v4, h4, v8, h8, v13, h13⟩
  dsimp only at e2 e3 e4 e5 e6 e7 ⊢
  rw [e2, e3, e4, e5, e6, e7]
  congr 1

end

end Cert.KernelIdeal.Gen

end
-- ==== Proof.Ring.lean ====
/- The places of the devices in the ring: the three words every device reads from the tables, its two
   neighbours, and where the rows its steps name lie, all decided from the tables. -/
module

public import proofs.«01_k».proof.Proof.Equal
public import proofs.«01_k».proof.Proof.Gen.KernelIdeal.Points

@[expose] public section

set_option synthInstance.maxSize 4096
set_option synthInstance.maxHeartbeats 400000

noncomputable section

namespace Cert.KernelIdeal.Gen

open Idealize.ShloMosaic Idealize.SL.Sem

/-- The word of a device's place in the ring. -/
abbrev w4 (c : Dev nD) : BitVec 32 := lit0 c

/-- The word of the right neighbour. -/
abbrev w8 (c : Dev nD) : BitVec 32 := lit1 ⟨((lit0 c).toNat + 1) % 32, Nat.mod_lt _ (by decide)⟩

/-- The word of the left neighbour. -/
abbrev w13 (c : Dev nD) : BitVec 32 := lit1 ⟨((lit0 c).toNat + 31) % 32, Nat.mod_lt _ (by decide)⟩

set_option maxRecDepth 100000 in
/-- The first check holds of every device's words. -/
theorem chk1_ok : ∀ c : Dev nD, k0_chk1 (w4 c) := by decide +kernel

set_option maxRecDepth 100000 in
/-- So does the third. -/
theorem chk3_ok : ∀ c : Dev nD, k0_chk3 (w8 c) := by decide +kernel

set_option maxRecDepth 100000 in
/-- So does the second. -/
theorem chk2_ok : ∀ c : Dev nD, k0_chk2 (w13 c) := by decide +kernel

/-- The words a device reads. -/
def Wc (c : Dev nD) : Wds := ⟨w4 c, chk1_ok c, w8 c, chk3_ok c, w13 c, chk2_ok c⟩

/-- The neighbour a device sends to in a direction. -/
def nxt (d : Bool) (c : Dev nD) : Dev nD := (Wc c).next d

/-- The neighbour the words name is the ring's. -/
theorem nxt_eq (d : Bool) (c : Dev nD) : (Wc c).next d = nxt d c := rfl

set_option maxRecDepth 100000 in
/-- The two directions undo each other. -/
theorem nxt_nxt : ∀ (d : Bool) (c : Dev nD), nxt (!d) (nxt d c) = c := by decide +kernel

/-- Back and forth along the ring. -/
theorem nxt_nxt' (d : Bool) (c : Dev nD) : nxt d (nxt (!d) c) = c := by
  have := nxt_nxt (!d) c; rwa [Bool.not_not] at this

/-- One step of the ring, as a permutation of the devices. -/
def ringE (d : Bool) : Dev nD ≃ Dev nD := ⟨nxt d, nxt (!d), nxt_nxt d, nxt_nxt' d⟩

/-- A device's place in the ring. -/
def posn (c : Dev nD) : Nat := (lit0 c).toNat

/-- There are 32 places. -/
theorem posn_lt : ∀ c : Dev nD, posn c < 32 := by decide +kernel

/-- The place of the right neighbour. -/
theorem posn_right : ∀ c : Dev nD, posn (nxt false c) = (posn c + 1) % 32 := by decide +kernel

/-- The place of the left neighbour. -/
theorem posn_left : ∀ c : Dev nD, posn (nxt true c) = (posn c + 31) % 32 := by decide +kernel

/-- Two devices have two places. -/
theorem posn_inj : ∀ c c' : Dev nD, posn c = posn c' → c = c' := by decide +kernel

/-- The chunk whose partial product hop `n`'s arrival takes. -/
def chX (d : Bool) (c : Dev nD) (n : Nat) : Nat :=
  match d with
  | false => (posn c + 63 - n % 31) % 32
  | true => (posn c + 1 + n % 31) % 32

/-- The row of the left factor at which a hop's chunk starts. -/
theorem offX_row : ∀ (d : Bool) (c : Dev nD) (n : Fin 31), offX (Wc c) d n 0 = 128 * chX d c n.val + 64 * dn d := by decide +kernel

/-- It starts at the first column. -/
theorem offX_col : ∀ (d : Bool) (c : Dev nD) (n : Fin 31), offX (Wc c) d n 1 = 0 := by decide +kernel

/-- The row at which a device's own chunk starts. -/
theorem offX0_row : ∀ (c : Dev nD), k0_off4 (Wc c).v4 0 = 128 * posn c := by decide +kernel

/-- It starts at the first column. -/
theorem offX0_col : ∀ (c : Dev nD), k0_off4 (Wc c).v4 1 = 0 := by decide +kernel

/-- The chunk store `t` writes. -/
def chO (d : Bool) (c : Dev nD) (t : Nat) : Nat :=
  match d with
  | false => (posn c + 33 - t % 32) % 32
  | true => (posn c + 31 + t) % 32

/-- The row of the result at which a store starts. -/
theorem offOut_row : ∀ (d : Bool) (c : Dev nD) (t : Fin 32), offOut (Wc c) d t 0 = 128 * chO d c t.val + 64 * dn d := by decide +kernel

/-- It starts at the first column. -/
theorem offOut_col : ∀ (d : Bool) (c : Dev nD) (t : Fin 32), offOut (Wc c) d t 1 = 0 := by decide +kernel

end Cert.KernelIdeal.Gen

end
-- ==== Proof.Own.lean ====
/- Elements of a view held at the values the view reads, and the rectangles the steps name. -/
module

public import proofs.«01_k».proof.Proof.Ring
public import Idealize.ShloMosaic.Lib.Rounds
public import Idealize.ShloMosaic.Lib.Release
public import Idealize.ShloMosaic.Lib.ViewIndex
public import Idealize.ShloMosaic.Lib.Tactic
public import Idealize.ShloMosaic.Lib.Pipeline.Kit

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- What names a slot of a device's buffer of a direction. -/
abbrev Key : Type := Dev nD × Bool × Fin 4

/-- The ghost state beside the pipeline's: the rounds of the cells, and the slots that are passed on. -/
abbrev UX : Type := URounds (GSem nD τ sig) ℕ × Release.USlots Key
abbrev UU : Type := Idealize.ShloMosaic.UR sig nD τ × UX

instance instURASlots : URA (Release.USlots Key) := inferInstance
instance instURAX : URA UX := inferInstance
instance instURAU : URA UU := inferInstance

variable {F : FTy → Type} [FloatOps F]

local notation "𝕄" => MT nD τ sig ℕ (Elt F) ℕ UU ℕ

section held
variable {sp : Space} {s s' : Shape} {e : EltTy}

/-- The elements of a view on a core, at the values the view reads. -/
def held (c : Thread nD τ) (v : View sig c.2.kind sp s e) (q : PosShare TreeShare) (V : s.Idx → Elt F e) : sProp 𝕄 :=
  iprop(∃ f : Buf (Elt F) (v.loc c), ⌜v.read (Elt F) f = V⌝ ∗ v.loc c ↦[v.set]{q} f)

/-- The elements of a view on a core, at some values. -/
def anyv (c : Thread nD τ) (v : View sig c.2.kind sp s e) : sProp 𝕄 :=
  iprop(∃ f : Buf (Elt F) (v.loc c), v.loc c ↦[v.set]{fullShare} f)

instance held_storable (c : Thread nD τ) (v : View sig c.2.kind sp s e) (q : PosShare TreeShare) (V : s.Idx → Elt F e) :
    Storable (upEmb (τ := τ)) (held c v q V : sProp 𝕄) := by unfold held; infer_instance

instance anyv_storable (c : Thread nD τ) (v : View sig c.2.kind sp s e) :
    Storable (upEmb (τ := τ)) (anyv c v : sProp 𝕄) := by unfold anyv; infer_instance

variable {c : Thread nD τ} {v : View sig c.2.kind sp s e} {q : PosShare TreeShare} {V : s.Idx → Elt F e}

/-- A buffer held through a view, from its contents. -/
theorem held_intro {f : Buf (Elt F) (v.loc c)} (h : v.read (Elt F) f = V) : (v.loc c ↦[v.set]{q} f) ⊢ (held c v q V : sProp 𝕄) := by
  unfold held
  iintro H
  iexists f
  isplitr
  · ipureintro; exact h
  iexact H

/-- A view held with some contents, from its buffer. -/
theorem anyv_intro {f : Buf (Elt F) (v.loc c)} : (v.loc c ↦[v.set]{fullShare} f) ⊢ (anyv c v : sProp 𝕄) := by
  unfold anyv
  iintro H
  iexists f
  iexact H

/-- What is held is held with some contents. -/
theorem held_any : (held c v fullShare V : sProp 𝕄) ⊢ anyv c v := by
  unfold held
  iintro ⟨%f, -, H⟩
  iapply anyv_intro
  iexact H

/-- What is held with some contents is held with contents that can be named. -/
theorem any_held : (anyv c v : sProp 𝕄) ⊢ iprop(∃ V, held c v fullShare V) := by
  unfold anyv
  iintro ⟨%f, H⟩
  iexists v.read (Elt F) f
  iapply (held_intro rfl)
  iexact H

/-- Two contents a view reads alike agree on its elements. -/
theorem agree_of_read {f g : v.ty.Contents (Elt F)} (h : v.read (Elt F) f = v.read (Elt F) g) : ∀ i ∈ v.set, f i = g i := by
  intro i hi
  obtain ⟨x, -, rfl⟩ := Finset.mem_map.mp hi
  exact View.eq_of_read_eq (congrFun h x)

/-- What is held whole may be held in two shares. -/
theorem held_share (q : PosShare TreeShare) : (held c v q V : sProp 𝕄) ⊢ iprop(held c v q.left V ∗ held c v q.right V) := by
  unfold held
  iintro ⟨%f, %hf, H⟩
  ihave H' := (pointsTo_share (PosShare.mem_left_op_right q)).1 $$ H
  icases H' with ⟨H1, H2⟩
  isplitl [H1]
  · iexists f
    isplitr
    · ipureintro; exact hf
    iexact H1
  · iexists f
    isplitr
    · ipureintro; exact hf
    iexact H2

/-- Two shares are the whole. -/
theorem held_unshare (q : PosShare TreeShare) : iprop(held c v q.left V ∗ held c v q.right V) ⊢ (held c v q V : sProp 𝕄) := by
  unfold held
  iintro ⟨⟨%f, %hf, H1⟩, %g, %hg, H2⟩
  iexists f
  isplitr
  · ipureintro; exact hf
  iapply (pointsTo_share (PosShare.mem_left_op_right q)).2
  isplitl [H1]; · iexact H1
  rw [pointsTo_congr (f := f) (g := g) (agree_of_read (hf.trans hg.symm))]
  iexact H2

/-- A re-indexed view holds the same elements. -/
theorem held_reshape (h : s'.numel = s.numel) : (held c v q V : sProp 𝕄) ⊢ held c (v.reshape s' h) q (fun x => V (Shape.reshapeEquiv h x)) := by
  unfold held
  iintro ⟨%f, %hf, H⟩
  iexists f
  isplitr
  · ipureintro; subst hf; rfl
  rw [View.set_reshape]
  iexact H

/-- A squeezed view holds the same as the view. -/
theorem held_unreshape (h : s'.numel = s.numel) : held c (v.reshape s' h) q (fun x => V (Shape.reshapeEquiv h x)) ⊢ (held c v q V : sProp 𝕄) := by
  unfold held
  iintro ⟨%f, %hf, H⟩
  iexists f
  isplitr
  · ipureintro
    funext y
    have := congrFun hf ((Shape.reshapeEquiv h).symm y)
    rw [Equiv.apply_symm_apply] at this
    rw [← this]
    change _ = cast _ (f (v.emb (Shape.reshapeEquiv h _)))
    rw [Equiv.apply_symm_apply]
    rfl
  rw [View.set_reshape]
  iexact H

end held

section rects
variable {sp : Space} {s : Shape} {e : EltTy} {c : Thread nD τ} {v : View sig c.2.kind sp s e} {q : PosShare TreeShare}

/-- A rectangle within a rectangle is among its elements. -/
theorem sub_set {r r' : Rect s} (g : r'.shape.Idx → r.shape.Idx) (h : ∀ x, r.emb (g x) = r'.emb x) : (v.slice r').set ⊆ (v.slice r).set := by
  intro i hi
  obtain ⟨x, -, rfl⟩ := Finset.mem_map.mp hi
  refine Finset.mem_map.mpr ⟨g x, Finset.mem_univ _, ?_⟩
  change v.emb (r.emb (g x)) = v.emb (r'.emb x)
  rw [h]

/-- What a slice reads. -/
theorem sub_read {r r' : Rect s} (g : r'.shape.Idx → r.shape.Idx) (h : ∀ x, r.emb (g x) = r'.emb x) (f : v.ty.Contents (Elt F)) :
    (v.slice r').read (Elt F) f = fun x => (v.slice r).read (Elt F) f (g x) := by
  funext x
  change cast _ (f (v.emb (r'.emb x))) = cast _ (f (v.emb (r.emb (g x))))
  rw [h]

/-- Two rectangles that share no element and make up a third. -/
structure Halves (r r₀ r₁ : Rect s) (g₀ : r₀.shape.Idx → r.shape.Idx) (g₁ : r₁.shape.Idx → r.shape.Idx) : Prop where
  emb₀ : ∀ x, r.emb (g₀ x) = r₀.emb x
  emb₁ : ∀ x, r.emb (g₁ x) = r₁.emb x
  disj : ∀ x y, g₀ x ≠ g₁ y
  cover : ∀ z, (∃ x, g₀ x = z) ∨ ∃ y, g₁ y = z

variable {r r₀ r₁ : Rect s} {g₀ : r₀.shape.Idx → r.shape.Idx} {g₁ : r₁.shape.Idx → r.shape.Idx}

/-- Two halves have no element in common. -/
theorem Halves.disjoint (H : Halves r r₀ r₁ g₀ g₁) : Disjoint (v.slice r₀).set (v.slice r₁).set := by
  rw [Finset.disjoint_left]
  intro i h₀ h₁
  obtain ⟨x, -, rfl⟩ := Finset.mem_map.mp h₀
  obtain ⟨y, -, hy⟩ := Finset.mem_map.mp h₁
  have hy : v.emb (r₁.emb y) = v.emb (r₀.emb x) := hy
  have := v.emb.injective hy
  rw [← H.emb₀, ← H.emb₁] at this
  exact H.disj x y (r.emb.injective this).symm

/-- Two halves are the whole. -/
theorem Halves.union (H : Halves r r₀ r₁ g₀ g₁) : (v.slice r).set = (v.slice r₀).set ∪ (v.slice r₁).set := by
  refine Finset.Subset.antisymm ?_ (Finset.union_subset (sub_set g₀ H.emb₀) (sub_set g₁ H.emb₁))
  intro i hi
  obtain ⟨z, -, rfl⟩ := Finset.mem_map.mp hi
  rcases H.cover z with ⟨x, rfl⟩ | ⟨y, rfl⟩
  · refine Finset.mem_union_left _ (Finset.mem_map.mpr ⟨x, Finset.mem_univ _, ?_⟩)
    change v.emb (r₀.emb x) = v.emb (r.emb (g₀ x))
    rw [H.emb₀]
  · refine Finset.mem_union_right _ (Finset.mem_map.mpr ⟨y, Finset.mem_univ _, ?_⟩)
    change v.emb (r₁.emb y) = v.emb (r.emb (g₁ y))
    rw [H.emb₁]

/-- A rectangle held is its halves held. -/
theorem Halves.split (H : Halves r r₀ r₁ g₀ g₁) (V : r.shape.Idx → Elt F e) :
    (held c (v.slice r) q V : sProp 𝕄) ⊢ iprop(held c (v.slice r₀) q (fun x => V (g₀ x)) ∗ held c (v.slice r₁) q (fun x => V (g₁ x))) := by
  unfold held
  iintro ⟨%f, %hf, Hp⟩
  rw [H.union]
  ihave Hp' := (pointsTo_union H.disjoint).1 $$ Hp
  icases Hp' with ⟨H0, H1⟩
  isplitl [H0]
  · iexists f
    isplitr
    · ipureintro; rw [sub_read g₀ H.emb₀, hf]
    iexact H0
  · iexists f
    isplitr
    · ipureintro; rw [sub_read g₁ H.emb₁, hf]
    iexact H1

/-- The halves held are the rectangle held, at the values that are each half's. -/
theorem Halves.join (H : Halves r r₀ r₁ g₀ g₁) (V : r.shape.Idx → Elt F e) :
    iprop(held c (v.slice r₀) q (fun x => V (g₀ x)) ∗ held c (v.slice r₁) q (fun x => V (g₁ x))) ⊢ (held c (v.slice r) q V : sProp 𝕄) := by
  unfold held
  iintro ⟨⟨%f, %hf, H0⟩, %g, %hg, H1⟩
  ihave Hj := (pointsTo_join (f := f) (g := g) H.disjoint) $$ [H0 H1]
  · isplitl [H0]; · iexact H0
    iexact H1
  iexists ((v.slice r₁).set.piecewise g f)
  isplitr
  · ipureintro
    funext z
    rcases H.cover z with ⟨x, rfl⟩ | ⟨y, rfl⟩
    · rw [← congrFun hf x, ← congrFun (sub_read (v := v) g₀ H.emb₀ _) x]
      refine congrFun (View.read_congr (v := v.slice r₀) ?_) x
      intro i hi
      exact Finset.piecewise_eq_of_notMem _ _ _ (Finset.disjoint_left.mp H.disjoint hi)
    · rw [← congrFun hg y, ← congrFun (sub_read (v := v) g₁ H.emb₁ _) y]
      refine congrFun (View.read_congr (v := v.slice r₁) ?_) y
      intro i hi
      exact Finset.piecewise_eq_of_mem _ _ _ hi
  rw [H.union]
  iexact Hj

/-- A view held with some contents splits into its halves. -/
theorem Halves.any_split (H : Halves r r₀ r₁ g₀ g₁) : (anyv c (v.slice r) : sProp 𝕄) ⊢ iprop(anyv c (v.slice r₀) ∗ anyv c (v.slice r₁)) := by
  iintro H
  ihave H' := any_held $$ H
  icases H' with ⟨%V, H⟩
  ihave H' := (H.split V) $$ H
  icases H' with ⟨H0, H1⟩
  isplitl [H0]
  · iapply held_any; iexact H0
  · iapply held_any; iexact H1

/-- And is joined again. -/
theorem Halves.any_join (H : Halves r r₀ r₁ g₀ g₁) : iprop(anyv c (v.slice r₀) ∗ anyv c (v.slice r₁)) ⊢ (anyv c (v.slice r) : sProp 𝕄) := by
  unfold anyv
  iintro ⟨⟨%f, H0⟩, %g, H1⟩
  ihave Hj := (pointsTo_join (f := f) (g := g) H.disjoint) $$ [H0 H1]
  · isplitl [H0]; · iexact H0
    iexact H1
  iexists ((v.slice r₁).set.piecewise g f)
  rw [H.union]
  iexact Hj

end rects

/-! ## The rectangles of the steps -/

/-- Where an element of a piece sits in its slot. -/
def gP (j : Fin 2) : S1x32x8192.Idx → S1x64x8192.Idx := fun x a =>
  match a with
  | ⟨0, _⟩ => x 0
  | ⟨1, _⟩ => ⟨32 * j.val + (x 1).val, by have h1 := (x 1).isLt; have h2 := j.isLt; change _ < 32 at h1; change _ < 64; omega⟩
  | ⟨2, _⟩ => x 2

/-- Where an element of a piece of a partial product sits in it. -/
def gL (j : Fin 2) : S1x1x32x8192.Idx → S1x1x64x8192.Idx := fun x a =>
  match a with
  | ⟨0, _⟩ => x 0
  | ⟨1, _⟩ => x 1
  | ⟨2, _⟩ => ⟨32 * j.val + (x 2).val, by have h1 := (x 2).isLt; have h2 := j.isLt; change _ < 32 at h1; change _ < 64; omega⟩
  | ⟨3, _⟩ => x 3

/-- A piece's element, through its slot. -/
theorem gP_emb (s : Fin 4) (j : Fin 2) (x : (rPiece s j).shape.Idx) : (rSlot s).emb (gP j x) = (rPiece s j).emb x := by
  funext a
  refine Fin.ext ?_
  match a with
  | ⟨0, _⟩ => rfl
  | ⟨1, _⟩ => change 0 + 1 * (32 * j.val + (x 1).val) = 32 * j.val + 1 * (x 1).val; omega
  | ⟨2, _⟩ => rfl

/-- A piece's element, through the partial product. -/
theorem gL_emb (p : Fin 2) (d : Bool) (j : Fin 2) (x : (rLpPiece p d j).shape.Idx) : (rLp p d).emb (gL j x) = (rLpPiece p d j).emb x := by
  funext a
  refine Fin.ext ?_
  match a with
  | ⟨0, _⟩ => rfl
  | ⟨1, _⟩ => rfl
  | ⟨2, _⟩ => change 0 + 1 * (32 * j.val + (x 2).val) = 32 * j.val + 1 * (x 2).val; omega
  | ⟨3, _⟩ => rfl

/-- Which piece an element of a slot is in, and where in the piece. -/
def inP (z : S1x64x8192.Idx) : S1x32x8192.Idx := fun a =>
  match a with
  | ⟨0, _⟩ => z 0
  | ⟨1, _⟩ => ⟨(z 1).val % 32, Nat.mod_lt _ (by decide)⟩
  | ⟨2, _⟩ => z 2

/-- An element of a slot, found through its piece. -/
theorem gP_inP (j : Fin 2) (z : S1x64x8192.Idx) (h : (z 1).val / 32 = j.val) : gP j (inP z) = z := by
  funext a
  match a with
  | ⟨0, _⟩ => rfl
  | ⟨1, _⟩ => refine Fin.ext ?_; change 32 * j.val + (z 1).val % 32 = (z 1).val; omega
  | ⟨2, _⟩ => rfl

/-- An element of a piece, found again. -/
theorem inP_gP (j : Fin 2) (x : S1x32x8192.Idx) : inP (gP j x) = x := by
  have h := (x 1).isLt
  change _ < 32 at h
  funext a
  match a with
  | ⟨0, _⟩ => rfl
  | ⟨1, _⟩ => refine Fin.ext ?_; change (32 * j.val + (x 1).val) % 32 = (x 1).val; omega
  | ⟨2, _⟩ => rfl

/-- Which piece a row lies in. -/
theorem gP_row (j : Fin 2) (x : S1x32x8192.Idx) : ((gP j x) 1).val / 32 = j.val := by
  have h := (x 1).isLt
  change _ < 32 at h
  change (32 * j.val + (x 1).val) / 32 = j.val
  omega

/-- A slot is its two pieces. -/
theorem slotHalves (s : Fin 4) : Halves (rSlot s) (rPiece s 0) (rPiece s 1) (gP 0) (gP 1) where
  emb₀ := gP_emb s 0
  emb₁ := gP_emb s 1
  disj x y h := by
    have h0 := gP_row 0 x
    have h1 := gP_row 1 y
    rw [h, h1] at h0
    exact absurd h0 (by decide)
  cover z := by
    have hz := (z 1).isLt
    change _ < 64 at hz
    by_cases h : (z 1).val < 32
    · exact .inl ⟨inP z, gP_inP 0 z (by change _ = 0; omega)⟩
    · exact .inr ⟨inP z, gP_inP 1 z (by change _ = 1; omega)⟩

/-- The slot's values of its two pieces'. -/
def joinP {α : Type} (V : Fin 2 → S1x32x8192.Idx → α) : S1x64x8192.Idx → α := fun z =>
  V ⟨(z 1).val / 32, by have hz := (z 1).isLt; change _ < 64 at hz; omega⟩ (inP z)

/-- A joined slot reads, at a piece, as the piece. -/
theorem joinP_gP {α : Type} (V : Fin 2 → S1x32x8192.Idx → α) (j : Fin 2) : (fun x => joinP V (gP j x)) = V j := by
  funext x
  unfold joinP
  rw [inP_gP]
  congr 1
  exact Fin.ext (gP_row j x)

end Cert.KernelIdeal.Gen

end
-- ==== Proof.Sched.lean ====
/- The protocol of the ring: what the pieces hold hop by hop, the cells, their rounds of duties and what each
   duty hands over, what every device owes at launch, and the levels of the waits. -/
module

public import proofs.«01_k».proof.Proof.Own
public import proofs.«01_k».proof.Proof.Gen.KernelIdeal.Launch
public import Mathlib.Algebra.BigOperators.Intervals

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The embeddings of the three components of the ghost state. -/
abbrev EP : Emb (UR sig nD τ) 𝕄 := embL
abbrev ER : Emb (URounds (GSem nD τ sig) ℕ) 𝕄 := (Emb.inl : Emb (URounds (GSem nD τ sig) ℕ) UX).trans (embR : Emb UX 𝕄)
abbrev EL : Emb (Release.USlots Key) 𝕄 := (Emb.inr : Emb (Release.USlots Key) UX).trans (embR : Emb UX 𝕄)

/-- The body's arguments, as the pipeline passes them. -/
def KA : Args :=
  mkArgs (st0_0 t0_0) (st0_1 t0_0) (st0_2 t0_0) (st0_3 t0_0) (Memref.whole main_v1) (Memref.whole cc0_scratch0) (Memref.isWhole_whole _) (Memref.whole cc0_scratch1) (Memref.isWhole_whole _) cc0_scratch2 cc0_scratch3 cc0_scratch4 cc0_scratch5 cc0_scratch6 cc0_scratch7 cc0_scratch8 (Memref.whole cc0_scratch9) (Memref.whole cc0_scratch10)

/-! ## The values -/

/-- The two factors' blocks, device by device. -/
structure Blocks (F : FTy → Type) where
  x : Dev nD → S4096x128.Idx → Elt F .bf16
  w : Dev nD → S128x8192.Idx → Elt F .bf16

variable (B : Blocks F)

/-- The whole right block, as a step reads it. -/
def wRead (c : Dev nD) : Vec F S128x8192 .bf16 := fun i => B.w c (rW.emb i)

/-- The partial product of the chunk that arrives at hop `n`. -/
def lpV (d : Bool) (c : Dev nD) (n : Nat) : Vec F S1x1x64x8192 .f32 :=
  k0_pay5 (fun i => B.x c ((rX (Wc c) d (f31 n)).emb i)) (wRead B c)

/-- What a device starts a direction with. -/
def initV (c : Dev nD) : Bool → Vec F S1x64x8192 .bf16
  | false => k0_pay3 (k0_pay2 (fun i => B.x c ((rX0 (Wc c)).emb i)) (wRead B c))
  | true => k0_pay4 (k0_pay1 (fun i => B.x c ((rX0 (Wc c)).emb i)) (wRead B c))

/-- What a device sends at hop `k`, piece by piece. -/
def AV (d : Bool) : Nat → Dev nD → Fin 2 → Vec F S1x32x8192 .bf16
  | 0, c, j => fun i => initV B c d (gP j i)
  | k + 1, c, j =>
      if k < 31 then payAdd (AV d k (nxt (!d) c) j) (fun i => lpV B d c k (gL j i)) else AV d k (nxt (!d) c) j

/-- What store `t` writes. -/
def outV (d : Bool) (c : Dev nD) (t : Nat) : S64x8192.Idx → Elt F .f32 := fun i =>
  k0_pay240 (joinP (AV B d (t + 31) c)) (Shape.reshapeEquiv squeezes_S1x64x8192_S64x8192.numel_eq i)

/-! ## The cells -/

/-- The kinds of a device's cells. -/
inductive Kind where
  | bar
  | cred (d : Bool)
  | snd (d : Bool) (s : Fin 4) (j : Fin 2)
  | rcv (d : Bool) (s : Fin 4) (j : Fin 2)
  | sto (i : Fin 4)

/-- The semaphore of a kind. -/
def Kind.sem : Kind → SemLoc sig
  | .bar => .reg barSem
  | .cred d => .reg (KA.credS d).sem
  | .snd d s j => .dma (KA.sSem d s j)
  | .rcv d s j => .dma (KA.rSem d s j)
  | .sto i => .dma (KA.oSem i)

def fst4 (n : Nat) : Fin 4 := ⟨n / 2 % 4, Nat.mod_lt _ (by decide)⟩
def snd2 (n : Nat) : Fin 2 := ⟨n % 2, Nat.mod_lt _ (by decide)⟩

/-- The kind of a semaphore. -/
def kindOf : SemLoc sig → Option Kind
  | .reg n => if n.val = 0 then some (.cred false) else if n.val = 1 then some (.cred true) else if n.val = 2 then some .bar else none
  | .dma n =>
      if n.val < 4 then none
      else if n.val < 12 then some (.snd false (fst4 (n.val - 4)) (snd2 (n.val - 4)))
      else if n.val < 20 then some (.rcv false (fst4 (n.val - 12)) (snd2 (n.val - 12)))
      else if n.val < 28 then some (.snd true (fst4 (n.val - 20)) (snd2 (n.val - 20)))
      else if n.val < 36 then some (.rcv true (fst4 (n.val - 28)) (snd2 (n.val - 28)))
      else some (.sto (sl n.val))

/-- A kind is read off its semaphore. -/
theorem kindOf_sem (k : Kind) : kindOf k.sem = some k := by
  cases k with
  | bar => rfl
  | cred d => cases d <;> rfl
  | snd d s j => cases d <;> fin_cases s <;> fin_cases j <;> rfl
  | rcv d s j => cases d <;> fin_cases s <;> fin_cases j <;> rfl
  | sto i => fin_cases i <;> rfl

/-- Two kinds have two semaphores. -/
theorem sem_inj {k k' : Kind} (h : k.sem = k'.sem) : k = k' := by
  have := kindOf_sem k
  rw [h, kindOf_sem] at this
  exact (Option.some.inj this).symm

/-- A device's cell. -/
def cell (c : Dev nD) (k : Kind) : GSem nD τ sig := ((c : Thread nD τ), k.sem)

/-- A cell names its device and its kind. -/
theorem cell_inj {c c' : Dev nD} {k k' : Kind} (h : cell c k = cell c' k') : c = c' ∧ k = k' :=
  ⟨congrArg (fun g : GSem nD τ sig => g.1.1) h, sem_inj (congrArg Prod.snd h)⟩

/-! ## What the duties hand over -/

/-- Piece `j` of slot `s` of a direction's buffer. -/
abbrev PV (d : Bool) (s : Fin 4) (j : Fin 2) : View sig .tc .vmem (rPiece s j).shape .bf16 := (KA.comm d).view.slice (rPiece s j)

/-- A slot of a direction's buffer. -/
abbrev SV (d : Bool) (s : Fin 4) : View sig .tc .vmem (rSlot s).shape .bf16 := (KA.comm d).view.slice (rSlot s)

/-- A staging slot of the result. -/
abbrev TV (i : Fin 4) : View sig .tc .vmem (rSlot i).shape .f32 := KA.stage.view.slice (rSlot i)

/-- The rows of the result store `t` writes. -/
abbrev OV (d : Bool) (c : Dev nD) (t : Nat) : View sig .tc .hbm S64x8192 .f32 := (KA.outM (Wc c) d (f32 t)).view

/-- That the receiver of hop `k`'s pieces is ready for them: it has passed the slot on and has begun the round of the arrivals. -/
def okay (d : Bool) (c : Dev nD) (k : Nat) : sProp 𝕄 :=
  iprop(Release.released EL (nxt d c, d, sl (k + 1)) (k / 4 + 1)
    ∗ reached ER (cell (nxt d c) (.rcv d (sl (k + 1)) 0)) (k / 4) ∗ reached ER (cell (nxt d c) (.rcv d (sl (k + 1)) 1)) (k / 4))

/-- What a neighbour says at the barrier. -/
def barPay (d : Bool) (c : Dev nD) : sProp 𝕄 :=
  iprop(okay d c 0 ∗ okay d c 1 ∗ okay d c 2 ∗ reached ER (cell (nxt d c) (.cred (!d))) 0)

/-- What a credit says. -/
def credPay (d : Bool) (c : Dev nD) (n : Nat) : sProp 𝕄 := bigSep (Finset.range (n + 1)) fun i => okay d c (i + 3)

/-- What a departure gives back. -/
def sndPay (d : Bool) (c : Dev nD) (j : Fin 2) (k : Nat) : sProp 𝕄 :=
  held (c : Thread nD τ) (PV d (sl k) j) fullShare.right (AV B d k c j)

/-- What an arrival brings. -/
def rcvPay (d : Bool) (c : Dev nD) (j : Fin 2) (k : Nat) : sProp 𝕄 :=
  held (c : Thread nD τ) (PV d (sl (k + 1)) j) fullShare (AV B d k (nxt (!d) c) j)

/-- What a store gives back. -/
def stoPay (d : Bool) (c : Dev nD) (t : Nat) : sProp 𝕄 :=
  iprop(held (c : Thread nD τ) (OV d c t) fullShare (outV B d c t) ∗ anyv (c : Thread nD τ) (TV (stg d t)))

/-- The units of a piece. -/
def Np : Nat := (PV false 0 0).dmaCredit

/-- The units of a store. -/
def No : Nat := (OV false 0 0).dmaCredit

/-- The direction and the parity of a staging slot. -/
def dOf (i : Fin 4) : Bool := i.val % 2 == 1
def pOf (i : Fin 4) : Nat := i.val / 2

def dutiesK : Kind → Nat → Finset ℕ
  | .bar, r => if r = 0 then Finset.range 2 else ∅
  | .cred _, r => if r = 0 then Finset.range 59 else ∅
  | .snd _ s _, r => if 4 * r + s.val < 62 then {0} else ∅
  | .rcv _ s _, r => if 4 * r + (s.val + 3) % 4 < 62 then {0} else ∅
  | .sto _, r => if r < 16 then {0} else ∅

def amountK : Kind → Nat
  | .bar => 1
  | .cred _ => 1
  | .snd _ _ _ => Np
  | .rcv _ _ _ => Np
  | .sto _ => No

/-- The number of a direction in the barrier's duties. -/
def dirOf (n : Nat) : Bool := n == 1

def payK (c : Dev nD) : Kind → Nat → Nat → sProp 𝕄
  | .bar, _, n => barPay (dirOf n) c
  | .cred d, _, n => credPay d c n
  | .snd d s j, r, _ => sndPay B d c j (4 * r + s.val)
  | .rcv d s j, r, _ => rcvPay B d c j (4 * r + (s.val + 3) % 4)
  | .sto i, r, _ => stoPay B (dOf i) c (2 * r + pOf i)

/-- A piece counts for something. -/
theorem Np_pos : 0 < Np := View.dmaCredit_pos _ (by decide)
/-- So does a store. -/
theorem No_pos : 0 < No := View.dmaCredit_pos _ (by decide)

/-- Every duty pays something. -/
theorem amountK_pos (k : Kind) : 0 < amountK k := by
  cases k with
  | bar => exact Nat.one_pos
  | cred d => exact Nat.one_pos
  | snd d s j => exact Np_pos
  | rcv d s j => exact Np_pos
  | sto i => exact No_pos

/-- The rounds of every cell. -/
def Rd : Schedule (GSem nD τ sig) ℕ 𝕄 where
  duties g r := if g.1.2 = .tc then (kindOf g.2).elim ∅ (fun k => dutiesK k r) else ∅
  amount g _ _ := (kindOf g.2).elim 1 amountK
  payload g r n := (kindOf g.2).elim iprop(emp) (fun k => payK B g.1.1 k r n)
  amount_pos g _ _ _ := by
    cases kindOf g.2 with
    | none => exact Nat.one_pos
    | some k => exact amountK_pos k

/-- The duties of a cell's round. -/
theorem Rd_duties (c : Dev nD) (k : Kind) (r : Nat) : (Rd B).duties (cell c k) r = dutiesK k r := by
  dsimp only [Rd]
  rw [if_pos (show (cell c k).1.2 = .tc from rfl)]
  change (kindOf k.sem).elim _ _ = _
  rw [kindOf_sem]; rfl

/-- What a duty pays. -/
theorem Rd_amount (c : Dev nD) (k : Kind) (r n : Nat) : (Rd B).amount (cell c k) r n = amountK k := by
  change (kindOf k.sem).elim _ _ = _
  rw [kindOf_sem]; rfl

/-- What a duty hands over. -/
theorem Rd_payload (c : Dev nD) (k : Kind) (r n : Nat) : (Rd B).payload (cell c k) r n = payK B c k r n := by
  change (kindOf k.sem).elim _ _ = _
  rw [kindOf_sem]; rfl

instance okay_storable (d : Bool) (c : Dev nD) (k : Nat) : Storable (upEmb (τ := τ)) (okay d c k : sProp 𝕄) := by
  unfold okay; infer_instance

instance okay_persistent (d : Bool) (c : Dev nD) (k : Nat) : Persistent (okay d c k : sProp 𝕄) := by
  unfold okay; infer_instance

instance barPay_storable (d : Bool) (c : Dev nD) : Storable (upEmb (τ := τ)) (barPay d c : sProp 𝕄) := by
  unfold barPay; infer_instance

instance barPay_persistent (d : Bool) (c : Dev nD) : Persistent (barPay d c : sProp 𝕄) := by
  unfold barPay; infer_instance

instance credPay_storable (d : Bool) (c : Dev nD) (n : Nat) : Storable (upEmb (τ := τ)) (credPay d c n : sProp 𝕄) := by
  unfold credPay; infer_instance

instance credPay_persistent (d : Bool) (c : Dev nD) (n : Nat) : Persistent (credPay d c n : sProp 𝕄) := by
  unfold credPay; infer_instance

instance payK_storable (c : Dev nD) (k : Kind) (r n : Nat) : Storable (upEmb (τ := τ)) (payK B c k r n : sProp 𝕄) := by
  cases k with
  | bar => unfold payK; infer_instance
  | cred d => unfold payK; infer_instance
  | snd d s j => exact held_storable _ _ _ _
  | rcv d s j => exact held_storable _ _ _ _
  | sto i => change Storable _ (stoPay B _ c _); unfold stoPay; infer_instance

instance Rd_storable (g : GSem nD τ sig) (r n : Nat) : Storable (upEmb (τ := τ)) ((Rd B).payload g r n : sProp 𝕄) := by
  unfold Rd
  dsimp only
  cases kindOf g.2 with
  | none => exact (inferInstance : Storable (upEmb (τ := τ)) (iprop(emp) : sProp 𝕄))
  | some k => exact payK_storable B _ _ _ _

/-! ## The units of every piece are one number -/

/-- A piece's copy pays a piece's amount. -/
theorem amount_piece (d d' : Bool) (s s' : Fin 4) (j j' : Fin 2) : (KA.piece d s j).view.amount (.dma (KA.rSem d' s' j')) = Np := by
  cases d <;> rfl

/-- And is waited for with it. -/
theorem credit_piece (d : Bool) (s : Fin 4) (j : Fin 2) : (KA.piece d s j).view.dmaCredit = Np := by
  cases d <;> rfl

/-- A store is waited for with a store's amount. -/
theorem credit_out (d : Bool) (c : Dev nD) (t : Nat) : (KA.outM (Wc c) d (f32 t)).view.dmaCredit = No := rfl

/-! ## What is owed; the levels -/

/-- What one send owes. -/
def tS (d : Bool) (k : Nat) (j : Fin 2) (c : Dev nD) : CellTallies nD τ sig ℕ :=
  tallyAt (cell (nxt d c) (.rcv d (sl (k + 1)) j)) (2 * k + 10) Np

/-- What one credit owes. -/
def tC (d : Bool) (k : Nat) (c : Dev nD) : CellTallies nD τ sig ℕ :=
  tallyAt (cell (nxt (!d) c) (.cred d)) (2 * k + 11) 1

/-- What a signal at the barrier owes. -/
def tB (d : Bool) (c : Dev nD) : CellTallies nD τ sig ℕ := tallyAt (cell (nxt d c) .bar) 1 1

/-- What the sends of a hop owe. -/
def sO (k : Nat) (c : Dev nD) : CellTallies nD τ sig ℕ := tS false k 0 c + tS true k 0 c + tS false k 1 c + tS true k 1 c

/-- What the credits of a hop owe. -/
def cO (k : Nat) (c : Dev nD) : CellTallies nD τ sig ℕ := if 1 ≤ k ∧ k ≤ 59 then tC false k c + tC true k c else 0

/-- What is owed from hop `k` on. -/
def rem (k : Nat) (c : Dev nD) : CellTallies nD τ sig ℕ := ∑ i ∈ Finset.Ico k 62, (sO i c + cO i c)

/-- What is owed from a hop on is that hop's and the rest. -/
theorem rem_succ (k : Nat) (c : Dev nD) (h : k < 62) : rem k c = sO k c + cO k c + rem (k + 1) c := by
  unfold rem
  rw [Finset.sum_eq_sum_Ico_succ_bot h]

/-- Nothing is owed past the last hop. -/
theorem rem_end (c : Dev nD) : rem 62 c = 0 := by
  unfold rem
  rw [Finset.Ico_self, Finset.sum_empty]

/-- What a device owes at launch. -/
def O₀ (c : Dev nD) : CellTallies nD τ sig ℕ := rem 0 c + tB true c + tB false c

def LL (g : GSem nD τ sig) : Finset ℕ := if g.1.2 = .tc then Finset.range 200 else ∅
def lv (g : GSem nD τ sig) (ι : ℕ) : ℕ := ι

/-- The levels of a TensorCore's cells. -/
theorem LL_tc (c : Dev nD) (sm : SemLoc sig) : LL ((c : Thread nD τ), sm) = Finset.range 200 := if_pos rfl

/-- All that is owed is owed above a level. -/
def Above (ι : Nat) (O : CellTallies nD τ sig ℕ) : Prop := ∀ g u, 0 < O g u → u ∈ LL g ∧ ι < u

/-- Two debts above a level are above it together. -/
theorem above_add {ι : Nat} {O O' : CellTallies nD τ sig ℕ} (h : Above ι O) (h' : Above ι O') : Above ι (O + O') := by
  intro g u hp
  rcases Nat.pos_of_ne_zero hp.ne' |> fun hp => Nat.add_pos_iff_pos_or_pos.mp (show 0 < O g u + O' g u from hp) with h1 | h1
  · exact h g u h1
  · exact h' g u h1

/-- No debt is above every level. -/
theorem above_zero (ι : Nat) : Above ι 0 := fun g u hp => absurd hp (Nat.lt_irrefl 0)

/-- Debts above a level are above it in sum. -/
theorem above_sum {ι : Nat} {S : Finset ℕ} {f : ℕ → CellTallies nD τ sig ℕ} (h : ∀ i ∈ S, Above ι (f i)) : Above ι (∑ i ∈ S, f i) := by
  classical
  induction S using Finset.induction_on with
  | empty => rw [Finset.sum_empty]; exact above_zero ι
  | insert a S ha ih =>
    rw [Finset.sum_insert ha]
    exact above_add (h a (Finset.mem_insert_self _ _)) (ih fun i hi => h i (Finset.mem_insert_of_mem hi))

/-- A debt to one cell is above every lower level. -/
theorem above_tally {ι : Nat} {c : Dev nD} {k : Kind} {u n : Nat} (h : ι < u) (hu : u < 200) : Above ι (tallyAt (cell c k) u n) := by
  intro g v hp
  rw [tallyAt_apply] at hp
  by_cases e : g = cell c k ∧ v = u
  · obtain ⟨rfl, rfl⟩ := e
    exact ⟨by rw [cell, LL_tc]; exact Finset.mem_range.mpr hu, h⟩
  · rw [if_neg e] at hp; exact absurd hp (Nat.lt_irrefl 0)

/-- A hop's sends are above the levels before it. -/
theorem above_sO {ι k : Nat} {c : Dev nD} (h : ι < 2 * k + 10) (hk : k < 62) : Above ι (sO k c) :=
  above_add (above_add (above_add (above_tally h (by omega)) (above_tally h (by omega))) (above_tally h (by omega))) (above_tally h (by omega))

/-- So are its credits. -/
theorem above_cO {ι k : Nat} {c : Dev nD} (h : ι < 2 * k + 11) (hk : k < 62) : Above ι (cO k c) := by
  unfold cO
  split
  · exact above_add (above_tally h (by omega)) (above_tally h (by omega))
  · exact above_zero ι

/-- So is all that is owed from it on. -/
theorem above_rem {ι k : Nat} {c : Dev nD} (h : ι < 2 * k + 10) : Above ι (rem k c) :=
  above_sum fun i hi => by
    have := Finset.mem_Ico.mp hi
    exact above_add (above_sO (by omega) (by omega)) (above_cO (by omega) (by omega))

/-- A wait at a level below all that is owed. -/
theorem mayOwe_of {ι : Nat} {O : CellTallies nD τ sig ℕ} (c : Dev nD) (k : Kind) (h : Above ι O) (hι : ι < 200) :
    (levAts LL lv : sProp 𝕄) ⊢ MayOwe (c : Thread nD τ) {(k.sem, ι)} O :=
  MayOwe.of_cut (L := LL) (lev := lv) ι
    (fun p hp => by rw [Finset.mem_singleton.mp hp, LL_tc]; exact Finset.mem_range.mpr hι)
    (fun g u hg => (h g u hg).1)
    (fun p hp => by rw [Finset.mem_singleton.mp hp]; exact Nat.le_refl _)
    (fun g u hg => (h g u hg).2)

end Cert.KernelIdeal.Gen

end
-- ==== Proof.Steps.lean ====
/- The steps of the body, each with what it takes and what it leaves. -/
module

public import proofs.«01_k».proof.Proof.Sched

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (B : Blocks F)

/-- What is passed on of a slot: its two pieces, at any values. -/
def slotS (k : Key) : sProp 𝕄 :=
  iprop(anyv (k.1 : Thread nD τ) (PV k.2.1 k.2.2 0) ∗ anyv (k.1 : Thread nD τ) (PV k.2.1 k.2.2 1))

/-- The names of the invariants. -/
structure Names where
  cell : GSem nD τ sig → ℕ
  slot : Key → ℕ

variable (N : Names)

/-- What every device may consult: the levels, the cells and the slots. -/
def Ctx : sProp 𝕄 :=
  iprop(levAts LL lv ∗ (∀ x : Dev nD × Kind, cellInv ER (Rd B) (N.cell (cell x.1 x.2)) (cell x.1 x.2))
    ∗ ∀ k : Key, Release.slotInv EL (N.slot k) k (slotS k))

instance Ctx_persistent : Persistent (Ctx B N : sProp 𝕄) := by unfold Ctx; infer_instance

/-- The levels, out of the context. -/
theorem ctx_lev : (Ctx B N : sProp 𝕄) ⊢ levAts LL lv := by
  unfold Ctx
  iintro ⟨H, -, -⟩
  iexact H

/-- A cell's invariant, out of the context. -/
theorem ctx_cell (c : Dev nD) (k : Kind) : (Ctx B N : sProp 𝕄) ⊢ cellInv ER (Rd B) (N.cell (cell c k)) (cell c k) := by
  unfold Ctx
  iintro ⟨-, H, -⟩
  iapply (forall_elim (Φ := fun x : Dev nD × Kind => cellInv ER (Rd B) (N.cell (cell x.1 x.2)) (cell x.1 x.2)) (c, k)) $$ H

/-- A slot's invariant, out of the context. -/
theorem ctx_slot (k : Key) : (Ctx B N : sProp 𝕄) ⊢ Release.slotInv EL (N.slot k) k (slotS k) := by
  unfold Ctx
  iintro ⟨-, -, H⟩
  iapply (forall_elim (Φ := fun k : Key => Release.slotInv EL (N.slot k) k (slotS k)) k) $$ H

/-- What a device still owes. -/
def ow (c : Dev nD) (O : CellTallies nD τ sig ℕ) : sProp 𝕄 := iprop(∃ W, owes (c : Thread nD τ) O W)

/-- A device's program up to a post. -/
abbrev Wp {α : Type} (c : Dev nD) (p : BodyProg F α) (Q : α → sProp 𝕄) : sProp 𝕄 :=
  wp frame (wpE (defs₀ (F := F)) 𝒱₀ (c : Thread nD τ) none) Set.univ p Q

/-- A program takes `P` to `P'`. -/
def Spec (c : Dev nD) (P : sProp 𝕄) (p : BodyProg F PUnit) (P' : sProp 𝕄) : Prop :=
  ∀ K : sProp 𝕄, iprop(Ctx B N ∗ P ∗ (P' -∗ K)) ⊢ Wp c p (fun _ => K)

variable {B N}
variable {c : Dev nD} {P P' P₁ P₂ R : sProp (MT nD τ sig ℕ (Elt F) ℕ UU ℕ)} {p q : BodyProg F PUnit}

/-- One program after another. -/
theorem Spec.seq (h₁ : Spec B N c P p P₁) (h₂ : Spec B N c P₁ q P₂) : Spec B N c P (p >>= fun _ => q) P₂ := by
  intro K
  unfold Wp
  rw [wp_bind]
  iintro ⟨#HC, HP, HK⟩
  iapply (h₁ (Wp c q fun _ => K))
  isplitr; · iexact HC
  isplitl [HP]; · iexact HP
  iintro H1
  iapply (h₂ K)
  isplitr; · iexact HC
  isplitl [H1]; · iexact H1
  iexact HK

/-- What a program does not touch rides along. -/
theorem Spec.frame (h : Spec B N c P p P') : Spec B N c iprop(P ∗ R) p iprop(P' ∗ R) := by
  intro K
  iintro ⟨#HC, ⟨HP, HR⟩, HK⟩
  iapply (h K)
  isplitr; · iexact HC
  isplitl [HP]; · iexact HP
  iintro HP'
  iapply HK
  isplitl [HP'] <;> iassumption

/-- Before and after at other forms. -/
theorem Spec.conseq (h : Spec B N c P₁ p P₂) (h₁ : P ⊢ P₁) (h₂ : P₂ ⊢ P') : Spec B N c P p P' := by
  intro K
  iintro ⟨#HC, HP, HK⟩
  iapply (h K)
  isplitr; · iexact HC
  isplitl [HP]; · iapply h₁; iexact HP
  iintro HP'
  iapply HK
  iapply h₂
  iexact HP'

/-- A change of ghost state before a step. -/
theorem Spec.ghost (h : Spec B N c P₁ p P') (h₁ : iprop(Ctx B N ∗ P) ⊢ |={Set.univ}=> P₁) : Spec B N c P p P' := by
  intro K
  iintro ⟨#HC, HP, HK⟩
  imod h₁ $$ [HP] with HP1
  · isplitr; · iexact HC
    iexact HP
  iapply (h K)
  isplitr; · iexact HC
  isplitl [HP1]; · iexact HP1
  iexact HK

/-- A ghost step after the program. -/
theorem Spec.ghost' (h : Spec B N c P p P₁) (h₁ : iprop(Ctx B N ∗ P₁) ⊢ |={Set.univ}=> P') : Spec B N c P p P' := by
  intro K
  have e : (Wp c p fun _ => K : sProp 𝕄) = Wp c (p >>= fun _ => (pure PUnit.unit : BodyProg F PUnit)) fun _ => K := by
    rw [show (p >>= fun _ => (pure PUnit.unit : BodyProg F PUnit)) = p from bind_pure p]
  rw [e]
  refine Spec.seq h (P₂ := P') ?_ K
  intro K
  rw [show (Wp c (pure PUnit.unit) (fun _ => K) : sProp (MT nD τ sig ℕ (Elt F) ℕ UU ℕ)) = iprop(|={Set.univ}=> K) from rfl]
  iintro ⟨#HC, HP, HK⟩
  imod h₁ $$ [HP] with HP1
  · isplitr; · iexact HC
    iexact HP
  imodintro
  iapply HK
  iexact HP1

/-- A program before the rest. -/
theorem Spec.use {α : Type} {k : BodyProg F α} {Q : α → sProp 𝕄} (h : Spec B N c P p P') :
    iprop(Ctx B N ∗ P ∗ (P' -∗ Wp c k Q)) ⊢ Wp c (p >>= fun _ => k) Q := by
  unfold Wp
  rw [wp_bind]
  exact h (Wp c k Q)

variable (B N c)

/-! ## Waits -/

set_option maxRecDepth 20000 in
/-- A wait for the whole round of a cell of one duty, or of several. -/
theorem wait_cell (k : Kind) (n : Nat) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ k.sem n K)
    (ι r : Nat) (hn : n = (Rd B).expect (cell c k) r) (hι : ι < 200) {O : CellTallies nD τ sig ℕ} (hO : Above ι O) :
    Spec B N c iprop(cred (tallyAt (cell c k) ι n) ∗ atPos ER (cell c k) r ∅ 0 ∗ ow c O) (Prog.lift w)
      iprop(atPos ER (cell c k) (r + 1) ∅ 0 ∗ reached ER (cell c k) (r + 1) ∗ (bigSep (dutiesK k r) fun i => payK B c k r i) ∗ ow c O) := by
  intro K
  have hm : (levAts LL lv : sProp 𝕄) ⊢ MayWait (c : Thread nD τ) k.sem ι O := mayOwe_of c k hO hι
  unfold ow
  iintro ⟨#HC, ⟨Hc, Hat, ⟨%W, HO⟩⟩, HK⟩
  iapply (Rounds.wp_wait_rest_token 𝒱₀ ER (Rd B) (c : Thread nD τ) none (sm := k.sem) (κ := N.cell (cell c k)) (R := r) (T := ∅) (m := 0) hw (Set.mem_univ _) ι
    (by rw [Nat.zero_add]; exact hn)) $$ [Hc Hat HO]
  · isplitr; · iapply (ctx_cell B N c k); iexact HC
    isplitl [Hc]; · iexact Hc
    isplitl [HO]; · iexact HO
    isplitr; · iapply hm; iapply (ctx_lev B N); iexact HC
    iexact Hat
  iintro ⟨HO, Hat, Hr, Hp⟩
  rw [wp_ret]
  imodintro
  iapply HK
  isplitl [Hat]; · iexact Hat
  isplitl [Hr]; · iexact Hr
  isplitl [Hp]
  · rw [Finset.sdiff_empty]
    have e : ((bigSep ((Rd B).duties ((c : Thread nD τ), k.sem) r) fun d => (Rd B).payload ((c : Thread nD τ), k.sem) r d) : sProp 𝕄) = bigSep (dutiesK k r) fun i => payK B c k r i := by
      rw [show (Rd B).duties ((c : Thread nD τ), k.sem) r = _ from Rd_duties B c k r]
      exact bigSep_congr fun i _ => Rd_payload B c k r i
    iapply (Entails.of_eq e) $$ Hp
  iexists _
  iexact HO

/-- What a cell's round is waited for with. -/
theorem expect_eq (k : Kind) (r : Nat) : (Rd B).expect (cell c k) r = (dutiesK k r).card * amountK k := by
  unfold Schedule.expect Schedule.amountOf
  rw [Rd_duties, Finset.sum_congr rfl (fun i _ => Rd_amount B c k r i), Finset.sum_const, smul_eq_mul]

/-- A slot is used again four hops later. -/
theorem sl_add4 (k : Nat) : sl (k + 4) = sl k := Fin.ext (Nat.add_mod_right k 4)

/-- The duties of a send semaphore's round. -/
theorem duties_snd (d : Bool) (k : Nat) (j : Fin 2) (hk : k < 62) : dutiesK (.snd d (sl k) j) (k / 4) = {0} :=
  if_pos (by change 4 * (k / 4) + k % 4 < 62; omega)

/-- The duties of a receive semaphore's round. -/
theorem duties_rcv (d : Bool) (k : Nat) (j : Fin 2) (hk : k < 62) : dutiesK (.rcv d (sl (k + 1)) j) (k / 4) = {0} :=
  if_pos (by change 4 * (k / 4) + ((k + 1) % 4 + 3) % 4 < 62; omega)

/-- What a send semaphore's duty hands over. -/
theorem pay_snd (d : Bool) (k : Nat) (j : Fin 2) (i : Nat) : (payK B c (.snd d (sl k) j) (k / 4) i : sProp 𝕄) = sndPay B d c j k := by
  change sndPay B d c j (4 * (k / 4) + k % 4) = _
  rw [show 4 * (k / 4) + k % 4 = k by omega]

/-- What a receive semaphore's duty hands over. -/
theorem pay_rcv (d : Bool) (k : Nat) (j : Fin 2) (i : Nat) : (payK B c (.rcv d (sl (k + 1)) j) (k / 4) i : sProp 𝕄) = rcvPay B d c j k := by
  change rcvPay B d c j (4 * (k / 4) + ((k + 1) % 4 + 3) % 4) = _
  rw [show 4 * (k / 4) + ((k + 1) % 4 + 3) % 4 = k by omega]

/-- The cell of hop `k`'s departures, and of its arrivals. -/
def cS (d : Bool) (j : Fin 2) (k : Nat) (c : Dev nD) : GSem nD τ sig := cell c (.snd d (sl k) j)
def cR (d : Bool) (j : Fin 2) (k : Nat) (c : Dev nD) : GSem nD τ sig := cell c (.rcv d (sl (k + 1)) j)

/-- Wait for hop `k`'s piece to have left. -/
theorem waitS_step (d : Bool) (k : Nat) (j : Fin 2) (hk : k < 62) {O : CellTallies nD τ sig ℕ} (hO : Above 0 O) :
    Spec B N c iprop(cred (tallyAt (cS d j k c) 0 Np) ∗ atPos ER (cS d j k c) (k / 4) ∅ 0 ∗ ow c O) (waitS KA d (k + 1) j)
      iprop(atPos ER (cS d j k c) (k / 4 + 1) ∅ 0 ∗ reached ER (cS d j k c) (k / 4 + 1) ∗ sndPay B d c j k ∗ ow c O) := by
  have e : sl (k + 1 + 3) = sl k := sl_add4 k
  have h := wait_cell B N c (.snd d (sl (k + 1 + 3)) j) Np
    (w := .waitDma2 (KA.sSem d (sl (k + 1 + 3)) j) (KA.piece d (sl (k + 1)) j) (KA.piece d (sl (k + 1 + 3)) j)
      (((KA.hcomm d).wordExact_slice rfl _ (wordsPiece (sl (k + 1)) j)).reshape _ _)
      (((KA.hcomm d).wordExact_slice rfl _ (wordsPiece (sl (k + 1 + 3)) j)).reshape _ _))
    (fun K => by rw [← credit_piece d (sl (k + 1 + 3)) j]; rfl) 0 (k / 4)
    (by rw [e, expect_eq, duties_snd d k j hk, Finset.card_singleton, Nat.one_mul]; rfl) (by decide) hO
  refine Spec.conseq h (Entails.of_eq ?_) (Entails.of_eq ?_)
  · unfold cS; rw [e]
  · unfold cS; rw [e, duties_snd d k j hk, bigSep_singleton, pay_snd]

/-- Wait for hop `k`'s piece to have arrived. -/
theorem waitR_step (d : Bool) (k : Nat) (j : Fin 2) (hk : k < 62) {O : CellTallies nD τ sig ℕ} (hO : Above (2 * k + 10) O) :
    Spec B N c iprop(cred (tallyAt (cR d j k c) (2 * k + 10) Np) ∗ atPos ER (cR d j k c) (k / 4) ∅ 0 ∗ ow c O) (waitR KA d (k + 1) j)
      iprop(atPos ER (cR d j k c) (k / 4 + 1) ∅ 0 ∗ reached ER (cR d j k c) (k / 4 + 1) ∗ rcvPay B d c j k ∗ ow c O) := by
  have h := wait_cell B N c (.rcv d (sl (k + 1)) j) Np
    (w := .waitDma2 (KA.rSem d (sl (k + 1)) j) (KA.piece d (sl (k + 1 + 3)) j) (KA.piece d (sl (k + 1)) j)
      (((KA.hcomm d).wordExact_slice rfl _ (wordsPiece (sl (k + 1 + 3)) j)).reshape _ _)
      (((KA.hcomm d).wordExact_slice rfl _ (wordsPiece (sl (k + 1)) j)).reshape _ _))
    (fun K => by rw [← credit_piece d (sl (k + 1)) j]; rfl) (2 * k + 10) (k / 4)
    (by rw [expect_eq, duties_rcv d k j hk, Finset.card_singleton, Nat.one_mul]; rfl) (by omega) hO
  refine Spec.conseq h (Entails.of_eq rfl) (Entails.of_eq ?_)
  unfold cR; rw [duties_rcv d k j hk, bigSep_singleton, pay_rcv]

section
variable {th : Thread nD τ} {sp : Space} {s s' : Shape} {e : EltTy} {v : View sig th.2.kind sp s e} {q : PosShare TreeShare} {V : s.Idx → Elt F e}

/-- What a transfer lands in a squeezed piece is the piece holding it. -/
theorem held_landed (h : s'.numel = s.numel) {fd : Buf (Elt F) ((v.reshape s' h).loc th)} {w : s'.Idx → Elt F e}
    (hw : w = fun x => V (Shape.reshapeEquiv h x)) :
    ((v.reshape s' h).loc th ↦[(v.reshape s' h).set]{fullShare} ((v.reshape s' h).write (Elt F) fd w Finset.univ))
      ⊢ (held th v fullShare V : sProp 𝕄) :=
  (held_intro (V := fun x => V (Shape.reshapeEquiv h x)) ((View.read_write_univ _ _).trans hw)).trans (held_unreshape h)

/-- A squeezed piece's elements are the piece's. -/
theorem held_squeezed (h : s'.numel = s.numel) {f : Buf (Elt F) (v.loc th)} (hf : v.read (Elt F) f = V) :
    ((v.reshape s' h).loc th ↦[(v.reshape s' h).set]{q} f) ⊢ (held th v q V : sProp 𝕄) := by
  unfold held
  iintro H
  iexists f
  isplitr
  · ipureintro; exact hf
  rw [View.set_reshape]
  iexact H

/-- A squeezed view has the view's elements. -/
theorem squeezed_set (h : s'.numel = s.numel) {f : Buf (Elt F) (v.loc th)} :
    (v.loc th ↦[v.set]{q} f : sProp 𝕄) ⊢ ((v.reshape s' h).loc th ↦[(v.reshape s' h).set]{q} f) := by
  rw [View.set_reshape]
end

set_option maxRecDepth 20000 in
/-- Send a piece of hop `k`. -/
theorem send_step (d : Bool) (k : Nat) (j : Fin 2) (hk : k < 62) (O : CellTallies nD τ sig ℕ) :
    Spec B N c iprop(sndPay B d c j k ∗ anyv (nxt d c : Thread nD τ) (PV d (sl (k + 1)) j)
        ∗ dutyTok ER (cS d j k c) (k / 4) 0 ∗ reached ER (cS d j k c) (k / 4)
        ∗ dutyTok ER (cR d j k (nxt d c)) (k / 4) 0 ∗ reached ER (cR d j k (nxt d c)) (k / 4) ∗ ow c (O + tS d k j c))
      (send KA (Wc c) d k j)
      iprop(cred (tallyAt (cS d j k c) 0 Np) ∗ ow c O) := by
  intro K
  unfold sndPay held anyv ow
  iintro ⟨#HC, ⟨⟨%fs, %hfs, Hs⟩, ⟨%fd, Hd⟩, Ht1, #Hr1, Ht2, #Hr2, ⟨%W, HO⟩⟩, HK⟩
  have hp1 : ((KA.piece d (sl k) j).view.loc (c : Thread nD τ) ↦[(KA.piece d (sl k) j).view.set]{fullShare.right} fs)
      ⊢ ((Rd B).payload ((c : Thread nD τ), .dma (KA.sSem d (sl k) j)) (k / 4) 0 : sProp 𝕄) := by
    rw [show (Rd B).payload ((c : Thread nD τ), .dma (KA.sSem d (sl k) j)) (k / 4) 0 = sndPay B d c j k from
      (Rd_payload B c (.snd d (sl k) j) (k / 4) 0).trans (pay_snd B c d k j 0)]
    exact held_squeezed (th := (c : Thread nD τ)) (v := PV d (sl k) j) squeezes_S1x32x8192_S32x8192.numel_eq hfs
  have hp2 : ((KA.piece d (sl (k + 1)) j).view.loc (nxt d c : Thread nD τ) ↦[(KA.piece d (sl (k + 1)) j).view.set]{fullShare}
        ((KA.piece d (sl (k + 1)) j).view.write (Elt F) fd ((KA.piece d (sl k) j).view.read (Elt F) fs) Finset.univ))
      ⊢ ((Rd B).payload ((nxt d c : Thread nD τ), .dma (KA.rSem d (sl (k + 1)) j)) (k / 4) 0 : sProp 𝕄) := by
    rw [show (Rd B).payload ((nxt d c : Thread nD τ), .dma (KA.rSem d (sl (k + 1)) j)) (k / 4) 0 = rcvPay B d (nxt d c) j k from
      (Rd_payload B (nxt d c) (.rcv d (sl (k + 1)) j) (k / 4) 0).trans (pay_rcv B (nxt d c) d k j 0)]
    unfold rcvPay
    rw [nxt_nxt]
    exact held_landed (th := (nxt d c : Thread nD τ)) (v := PV d (sl (k + 1)) j) (V := AV B d k c j)
      squeezes_S1x32x8192_S32x8192.numel_eq (by rw [← hfs]; rfl)
  iapply (Rounds.wp_send_pointsTo 𝒱₀ ER (Rd B) (c : Thread nD τ) none (c' := (nxt d c : Thread nD τ)) (src := KA.piece d (sl k) j)
    (dst := KA.piece d (sl (k + 1)) j) (sS := .dma (KA.sSem d (sl k) j)) (sem := .dma (KA.rSem d (sl (k + 1)) j))
    (r₁ := k / 4) (r₂ := k / 4) (d₁ := 0) (d₂ := 0) (κ₁ := N.cell (cS d j k c)) (κ₂ := N.cell (cR d j k (nxt d c)))
    (by rw [show (Rd B).duties ((c : Thread nD τ), .dma (KA.sSem d (sl k) j)) (k / 4) = {0} from (Rd_duties B c (.snd d (sl k) j) _).trans (duties_snd d k j hk)]; exact Finset.mem_singleton_self 0)
    (by rw [show (Rd B).duties ((nxt d c : Thread nD τ), .dma (KA.rSem d (sl (k + 1)) j)) (k / 4) = {0} from (Rd_duties B (nxt d c) (.rcv d (sl (k + 1)) j) _).trans (duties_rcv d k j hk)]; exact Finset.mem_singleton_self 0)
    (2 * k + 10) 0 Np (credit_piece d (sl (k + 1)) j)
    (Rd_amount B c (.snd d (sl k) j) _ 0) (Rd_amount B (nxt d c) (.rcv d (sl (k + 1)) j) _ 0) O rfl hp1 hp2) $$ [Hs Hd Ht1 Ht2 HO]
  · isplitr; · iapply (ctx_cell B N c (.snd d (sl k) j)); iexact HC
    isplitr; · iapply (ctx_cell B N (nxt d c) (.rcv d (sl (k + 1)) j)); iexact HC
    isplitl [Hs]
    · iapply (squeezed_set (th := (c : Thread nD τ)) (v := PV d (sl k) j) squeezes_S1x32x8192_S32x8192.numel_eq); iexact Hs
    isplitl [Hd]
    · iapply (squeezed_set (th := (nxt d c : Thread nD τ)) (v := PV d (sl (k + 1)) j) squeezes_S1x32x8192_S32x8192.numel_eq); iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply HK
  isplitl [Hc]; · iexact Hc
  iexists W
  iexact HO

end Cert.KernelIdeal.Gen

end
-- ==== Proof.Local.lean ====
/- The steps that touch a device's own memory only. -/
module

public import proofs.«01_k».proof.Proof.Steps

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {c : Dev nD} {cs : CoreSpace} {s : Shape} {e : EltTy} {m : Memref sig .tc cs s e} {r : Rect s} {q : PosShare TreeShare}

/-- One program and then another, with a value between. -/
theorem Wp_bind {α β : Type} (p : BodyProg F α) (k : α → BodyProg F β) (Q : β → sProp 𝕄) :
    Wp c (p >>= k) Q = Wp c p fun x => Wp c (k x) Q := by
  unfold Wp
  rw [wp_bind]

/-- Load a rectangle that is held. -/
theorem load_held {hl : m.view.LoadsAt r} {V : r.shape.Idx → Elt F e} {Q : (r.shape.Idx → Elt F e) → sProp 𝕄} :
    iprop(held (c : Thread nD τ) (m.view.slice r) q V ∗ (held (c : Thread nD τ) (m.view.slice r) q V -∗ Q V))
      ⊢ Wp c (Prog.lift (.load m r hl)) Q := by
  unfold held
  iintro ⟨⟨%f, %hf, H⟩, HQ⟩
  iapply (wp_load_rect 𝒱₀ (c : Thread nD τ) none Set.univ (m := m) (r := r) (Finset.Subset.refl _)) $$ H
  iintro H
  rw [wp_ret, show (m.access r).read (Elt F) f = V from hf]
  imodintro
  iapply HQ
  iexists f
  isplitr
  · ipureintro; exact hf
  iexact H

/-- Load a rectangle of a rectangle that is held. -/
theorem load_sub {r' : Rect s} (g : r.shape.Idx → r'.shape.Idx) (hg : ∀ x, r'.emb (g x) = r.emb x) {hl : m.view.LoadsAt r}
    {V : r'.shape.Idx → Elt F e} {Q : (r.shape.Idx → Elt F e) → sProp 𝕄} :
    iprop(held (c : Thread nD τ) (m.view.slice r') q V ∗ (held (c : Thread nD τ) (m.view.slice r') q V -∗ Q fun x => V (g x)))
      ⊢ Wp c (Prog.lift (.load m r hl)) Q := by
  unfold held
  iintro ⟨⟨%f, %hf, H⟩, HQ⟩
  iapply (wp_load_rect 𝒱₀ (c : Thread nD τ) none Set.univ (m := m) (r := r) (S := (m.view.slice r').set) (f := f) (q := q) (sub_set (r := r') (r' := r) (c := (c : Thread nD τ)) (v := m.view) g hg)) $$ H
  iintro H
  rw [wp_ret, show (m.access r).read (Elt F) f = fun x => V (g x) from (sub_read (r := r') (r' := r) (c := (c : Thread nD τ)) (v := m.view) g hg f).trans (by rw [hf])]
  imodintro
  iapply HQ
  iexists f
  isplitr
  · ipureintro; exact hf
  iexact H

/-- Load a rectangle of a buffer that is held. -/
theorem load_of {hl : m.view.LoadsAt r} {V : s.Idx → Elt F e} {Q : (r.shape.Idx → Elt F e) → sProp 𝕄} :
    iprop(held (c : Thread nD τ) m.view q V ∗ (held (c : Thread nD τ) m.view q V -∗ Q fun x => V (r.emb x)))
      ⊢ Wp c (Prog.lift (.load m r hl)) Q := by
  unfold held
  iintro ⟨⟨%f, %hf, H⟩, HQ⟩
  iapply (wp_load_rect 𝒱₀ (c : Thread nD τ) none Set.univ (m := m) (r := r) (S := m.view.set) (f := f) (q := q) (by
    intro i hi
    obtain ⟨x, -, rfl⟩ := Finset.mem_map.mp hi
    exact Finset.mem_map.mpr ⟨r.emb x, Finset.mem_univ _, rfl⟩)) $$ H
  iintro H
  rw [wp_ret, show (m.access r).read (Elt F) f = fun x => V (r.emb x) by rw [← hf]; rfl]
  imodintro
  iapply HQ
  iexists f
  isplitr
  · ipureintro; exact hf
  iexact H

/-- Load a rectangle of any values. -/
theorem load_any {hl : m.view.LoadsAt r} {Q : (r.shape.Idx → Elt F e) → sProp 𝕄} :
    iprop(anyv (c : Thread nD τ) (m.view.slice r) ∗ (∀ V, anyv (c : Thread nD τ) (m.view.slice r) -∗ Q V))
      ⊢ Wp c (Prog.lift (.load m r hl)) Q := by
  iintro ⟨H, HQ⟩
  ihave H' := any_held $$ H
  icases H' with ⟨%V, H⟩
  iapply load_held (V := V) (q := fullShare)
  isplitl [H]; · iexact H
  iintro H
  ispecialize HQ $$ %V
  iapply HQ
  iapply held_any
  iexact H

/-- Store a rectangle. -/
theorem store_any {w : r.shape.Idx → Elt F e} {hx : (m.access r).Stores Finset.univ} {hm : Finset.univ = Finset.univ ∨ ∀ a, r.stride a = 1}
    {Q : PUnit → sProp 𝕄} :
    iprop(anyv (c : Thread nD τ) (m.view.slice r) ∗ (held (c : Thread nD τ) (m.view.slice r) fullShare w -∗ Q ⟨⟩))
      ⊢ Wp c (Prog.lift (.store m r w Finset.univ hx hm)) Q := by
  unfold anyv held
  iintro ⟨⟨%f, H⟩, HQ⟩
  iapply (wp_store 𝒱₀ (c : Thread nD τ) none Set.univ (m := m) (r := r) (S := (m.view.slice r).set) (Finset.Subset.refl _)) $$ H
  iintro H
  rw [wp_ret]
  imodintro
  iapply HQ
  iexists ((m.access r).write (Elt F) f w Finset.univ)
  isplitr
  · ipureintro; exact View.read_write_univ _ _
  iexact H

/-- Read a word of a table. -/
theorem load_word {m : Memref sig .tc .smem s e} {r : Rect s} {h1 : r.shape.numel = 1} {hp : e.packing = 1}
    {V : s.Idx → Elt F e} {w : Elt F e} (hw : V (r.emb (Shape.Idx.first (h1.symm ▸ Nat.one_pos))) = w) {Q : Elt F e → sProp 𝕄} :
    iprop(held (c : Thread nD τ) m.view q V ∗ (held (c : Thread nD τ) m.view q V -∗ Q w)) ⊢ Wp c (smemLoad m r h1 hp) Q := by
  unfold held smemLoad
  iintro ⟨⟨%f, %hf, H⟩, HQ⟩
  iapply (wp_smemLoadElt 𝒱₀ (c : Thread nD τ) none Set.univ (m := m) (r := r) (S := m.view.set) (f := f) (q := q) (by
    intro i hi
    obtain ⟨x, -, rfl⟩ := Finset.mem_map.mp hi
    exact Finset.mem_map.mpr ⟨r.emb x, Finset.mem_univ _, rfl⟩)) $$ H
  iintro H
  rw [wp_ret, show (m.access r).read (Elt F) f (Shape.Idx.first (h1.symm ▸ Nat.one_pos)) = w by rw [← hw, ← hf]; rfl]
  imodintro
  iapply HQ
  iexists f
  isplitr
  · ipureintro; exact hf
  iexact H

/-- Reading the device's number. -/
theorem device_step {Q : Dev nD → sProp 𝕄} : Q c ⊢ Wp c (Prog.lift .deviceId) Q := by
  unfold Wp Prog.lift
  rw [wp_deviceId, wp_ret]
  iintro H
  imodintro
  iexact H

/-- Returning a value. -/
theorem ret_step {α : Type} {x : α} {Q : α → sProp 𝕄} : Q x ⊢ Wp c (pure x) Q := by
  unfold Wp
  rw [show (pure x : BodyProg F α) = Prog.ret x from rfl, wp_ret]
  iintro H
  imodintro
  iexact H

/-- A check that holds. -/
theorem assume_step {P : Prop} {d : Decidable P} (h : P) {Q : PLift P → sProp 𝕄} : Q ⟨h⟩ ⊢ Wp c (Prog.lift (.assume P d)) Q := by
  iintro H
  iapply (wp_assume 𝒱₀ (c : Thread nD τ) none Set.univ h)
  rw [wp_ret]
  imodintro
  iexact H
end

/-- The two tables. -/
def posV : S32.Idx → BitVec 32 := fun i => lit0 (S32.rowMajor i)
def ringV : S32.Idx → BitVec 32 := fun i => lit1 (S32.rowMajor i)

/-- The first word the body reads is the device's place in the ring. -/
theorem word4 : ∀ c : Dev nD, posV ((Rect.unit (s := S32) (k0_off1 c) S1.size (k0_off1_inb c)).emb (Shape.Idx.first (numel1_S1.symm ▸ Nat.one_pos))) = w4 c := by
  decide +kernel

/-- The second is its right neighbour's number. -/
theorem word8 : ∀ c : Dev nD, ringV ((Rect.unit (s := S32) (k0_off2 (w4 c)) S1.size (k0_off2_inb (w4 c) (chk1_ok c))).emb (Shape.Idx.first (numel1_S1.symm ▸ Nat.one_pos))) = w8 c := by
  decide +kernel

/-- The third is its left neighbour's number. -/
theorem word13 : ∀ c : Dev nD, ringV ((Rect.unit (s := S32) (k0_off3 (w4 c)) S1.size (k0_off3_inb (w4 c) (chk1_ok c))).emb (Shape.Idx.first (numel1_S1.symm ▸ Nat.one_pos))) = w13 c := by
  decide +kernel

/-- A device reads its words. -/
theorem words_step {c : Dev nD} {Q : Wds → sProp 𝕄} :
    iprop(held (c : Thread nD τ) KA.pos.view fullShare posV ∗ held (c : Thread nD τ) KA.ring.view fullShare ringV
        ∗ (held (c : Thread nD τ) KA.pos.view fullShare posV ∗ held (c : Thread nD τ) KA.ring.view fullShare ringV -∗ Q (Wc c)))
      ⊢ Wp c (words KA) Q := by
  unfold words Wc
  rw [Wp_bind]
  iintro ⟨HP, HR, HQ⟩
  iapply device_step
  rw [Wp_bind]
  iapply load_word (m := KA.pos) (V := posV) (word4 c)
  isplitl [HP]; · iexact HP
  iintro HP
  rw [Wp_bind]
  iapply assume_step (chk1_ok c)
  rw [Wp_bind]
  iapply load_word (m := KA.ring) (V := ringV) (word8 c)
  isplitl [HR]; · iexact HR
  iintro HR
  rw [Wp_bind]
  iapply assume_step (chk3_ok c)
  rw [Wp_bind]
  iapply load_word (m := KA.ring) (V := ringV) (word13 c)
  isplitl [HR]; · iexact HR
  iintro HR
  rw [Wp_bind]
  iapply assume_step (chk2_ok c)
  iapply ret_step
  iapply HQ
  isplitl [HP]; · iexact HP
  iexact HR

variable {B : Blocks F} {N : Names} {c : Dev nD}

/-- A partial product's place. -/
abbrev LV (p : Fin 2) (d : Bool) : View sig .tc .vmem (rLp p d).shape .f32 := KA.lp.view.slice (rLp p d)

/-- The two factors' blocks where the steps read them. -/
def XW (B : Blocks F) (c : Dev nD) : sProp 𝕄 :=
  iprop(held (c : Thread nD τ) KA.x.view fullShare (B.x c) ∗ held (c : Thread nD τ) KA.w.view fullShare (B.w c))

/-- Add the partial product to a piece. -/
theorem add_step (d : Bool) (k : Nat) (j : Fin 2) (X : Vec F S1x32x8192 .bf16) (V : Vec F S1x1x64x8192 .f32) :
    Spec B N c iprop(held (c : Thread nD τ) (PV d (sl k) j) fullShare X ∗ held (c : Thread nD τ) (LV (par (k + 1)) d) fullShare V)
      (add KA d k j)
      iprop(held (c : Thread nD τ) (PV d (sl k) j) fullShare (payAdd X fun i => V (gL j i)) ∗ held (c : Thread nD τ) (LV (par (k + 1)) d) fullShare V) := by
  intro K
  unfold add addLoad addRest
  rw [Wp_bind]
  iintro ⟨#HC, ⟨HX, HV⟩, HK⟩
  iapply load_held (m := KA.comm d) (r := rPiece (sl k) j) (V := X)
  isplitl [HX]; · iexact HX
  iintro HX
  rw [Wp_bind]
  iapply load_sub (m := KA.lp) (r := rLpPiece (par (k + 1)) d j) (r' := rLp (par (k + 1)) d) (gL j) (gL_emb (par (k + 1)) d j) (V := V)
  isplitl [HV]; · iexact HV
  iintro HV
  rw [Wp_bind]
  iapply load_held (m := KA.comm d) (r := rPiece (sl k) j) (V := X)
  isplitl [HX]; · iexact HX
  iintro HX
  iapply store_any (m := KA.comm d) (r := rPiece (sl k) j)
  isplitl [HX]; · iapply held_any; iexact HX
  iintro HX
  iapply HK
  isplitl [HX]; · iexact HX
  iexact HV

/-- Make a partial product. -/
theorem lp_step (d : Bool) (n : Nat) :
    Spec B N c iprop(XW B c ∗ anyv (c : Thread nD τ) (LV (par n) d)) (lpStep KA (Wc c) d n)
      iprop(XW B c ∗ held (c : Thread nD τ) (LV (par n) d) fullShare (lpV B d c n)) := by
  intro K
  unfold lpStep XW
  rw [Wp_bind]
  iintro ⟨#HC, ⟨⟨HX, HW⟩, HV⟩, HK⟩
  iapply load_of (m := KA.x) (r := rX (Wc c) d (f31 n)) (V := B.x c)
  isplitl [HX]; · iexact HX
  iintro HX
  rw [Wp_bind]
  iapply load_of (m := KA.w) (r := rW) (V := B.w c)
  isplitl [HW]; · iexact HW
  iintro HW
  rw [Wp_bind]
  iapply load_any (m := KA.lp) (r := rLp (par n) d)
  isplitl [HV]; · iexact HV
  iintro %V0 HV
  iapply store_any (m := KA.lp) (r := rLp (par n) d)
  isplitl [HV]; · iexact HV
  iintro HV
  iapply HK
  isplitl [HX HW]
  · isplitl [HX]; · iexact HX
    iexact HW
  iexact HV

/-- The device's own chunk goes into slot 0 of both directions. -/
theorem init_step :
    Spec B N c iprop(XW B c ∗ anyv (c : Thread nD τ) (SV false 0) ∗ anyv (c : Thread nD τ) (SV true 0)) (initStep KA (Wc c))
      iprop(XW B c ∗ held (c : Thread nD τ) (SV false 0) fullShare (initV B c false) ∗ held (c : Thread nD τ) (SV true 0) fullShare (initV B c true)) := by
  intro K
  unfold initStep XW
  rw [Wp_bind]
  iintro ⟨#HC, ⟨⟨HX, HW⟩, H0, H1⟩, HK⟩
  iapply load_of (m := KA.x) (r := rX0 (Wc c)) (V := B.x c)
  isplitl [HX]; · iexact HX
  iintro HX
  rw [Wp_bind]
  iapply load_of (m := KA.w) (r := rW) (V := B.w c)
  isplitl [HW]; · iexact HW
  iintro HW
  rw [Wp_bind]
  iapply load_any (m := KA.comm false) (r := rSlot 0)
  isplitl [H0]; · iexact H0
  iintro %V0 H0
  rw [Wp_bind]
  iapply store_any (m := KA.comm false) (r := rSlot 0)
  isplitl [H0]; · iexact H0
  iintro H0
  rw [Wp_bind]
  iapply load_any (m := KA.comm true) (r := rSlot 0)
  isplitl [H1]; · iexact H1
  iintro %V1 H1
  iapply store_any (m := KA.comm true) (r := rSlot 0)
  isplitl [H1]; · iexact H1
  iintro H1
  iapply HK
  isplitl [HX HW]
  · isplitl [HX]; · iexact HX
    iexact HW
  isplitl [H0]; · iexact H0
  iexact H1

end Cert.KernelIdeal.Gen

end
-- ==== Proof.Talk.lean ====
/- The stores of the result, the credits and the entry barrier. -/
module

public import proofs.«01_k».proof.Proof.Local

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {B : Blocks F} {N : Names} {c : Dev nD}

/-- A product with one more factor. -/
theorem bigSep_ins {I : Type} [DecidableEq I] {i : I} {s : Finset I} (h : i ∉ s) {Φ : I → sProp 𝕄} :
    bigSep (insert i s) Φ = iprop(Φ i ∗ bigSep s Φ) := bigSep_insert h

/-! ## Stores of the result -/

/-- The cell of store `t`'s copy. -/
def cO' (d : Bool) (t : Nat) (c : Dev nD) : GSem nD τ sig := cell c (.sto (stg d t))

/-- A staging slot's direction. -/
theorem dOf_stg (d : Bool) (t : Nat) : dOf (stg d t) = d := by
  have h := Nat.mod_lt t (y := 2) (by decide)
  unfold dOf stg
  cases d
  · rw [beq_eq_false_iff_ne]; change (2 * (t % 2) + 0) % 2 ≠ 1; omega
  · rw [beq_iff_eq]; change (2 * (t % 2) + 1) % 2 = 1; omega

/-- A staging slot's parity. -/
theorem pOf_stg (d : Bool) (t : Nat) : pOf (stg d t) = t % 2 := by
  unfold pOf stg
  cases d
  · change (2 * (t % 2) + 0) / 2 = _; omega
  · change (2 * (t % 2) + 1) / 2 = _; omega

/-- What a store's duty hands over. -/
theorem pay_sto (d : Bool) (t : Nat) (i : Nat) : (payK B c (.sto (stg d t)) (t / 2) i : sProp 𝕄) = stoPay B d c t := by
  change stoPay B (dOf (stg d t)) c (2 * (t / 2) + pOf (stg d t)) = _
  rw [dOf_stg, pOf_stg, show 2 * (t / 2) + t % 2 = t by omega]

/-- The duties of a store semaphore's round. -/
theorem duties_sto (d : Bool) (t : Nat) (ht : t < 32) : dutiesK (.sto (stg d t)) (t / 2) = {0} := if_pos (by omega)

/-- Load the slot a store is made of. -/
theorem outLoad_step {q : PosShare TreeShare} (d : Bool) (k : Nat) (V : Vec F S1x64x8192 .bf16) {Q : Vec F S1x64x8192 .bf16 → sProp 𝕄} :
    iprop(held (c : Thread nD τ) (SV d (sl k)) q V ∗ (held (c : Thread nD τ) (SV d (sl k)) q V -∗ Q V)) ⊢ Wp c (outLoad KA d k) Q := by
  unfold outLoad
  exact load_held (m := KA.comm d) (r := rSlot (sl k))

set_option maxRecDepth 20000 in
/-- Make a store. -/
theorem outRest_step (d : Bool) (t : Nat) (ht : t < 32) :
    Spec B N c iprop(anyv (c : Thread nD τ) (TV (stg d t)) ∗ anyv (c : Thread nD τ) (OV d c t)
        ∗ dutyTok ER (cO' d t c) (t / 2) 0 ∗ reached ER (cO' d t c) (t / 2))
      (outRest KA (Wc c) d t (joinP (AV B d (t + 31) c)))
      iprop(cred (tallyAt (cO' d t c) 0 No)) := by
  intro K
  unfold outRest
  rw [Wp_bind]
  iintro ⟨#HC, ⟨HT, HO, Ht, #Hr⟩, HK⟩
  iapply load_any (m := KA.stage) (r := rSlot (stg d t))
  isplitl [HT]; · iexact HT
  iintro %V0 HT
  rw [Wp_bind]
  iapply store_any (m := KA.stage) (r := rSlot (stg d t))
  isplitl [HT]; · iexact HT
  unfold held anyv
  iintro ⟨%fs, %hfs, HT⟩
  icases HO with ⟨%fd, HO⟩
  have hp : iprop(((KA.outM (Wc c) d (f32 t)).view.loc (c : Thread nD τ) ↦[(KA.outM (Wc c) d (f32 t)).view.set]{fullShare}
        ((KA.outM (Wc c) d (f32 t)).view.write (Elt F) fd ((KA.stageM (stg d t)).view.read (Elt F) fs) Finset.univ))
        ∗ ((KA.stageM (stg d t)).view.loc (c : Thread nD τ) ↦[(KA.stageM (stg d t)).view.set]{fullShare} fs))
      ⊢ ((Rd B).payload ((c : Thread nD τ), .dma (KA.oSem (stg d t))) (t / 2) 0 : sProp 𝕄) := by
    rw [show (Rd B).payload ((c : Thread nD τ), .dma (KA.oSem (stg d t))) (t / 2) 0 = stoPay B d c t from
      (Rd_payload B c (.sto (stg d t)) (t / 2) 0).trans (pay_sto d t 0)]
    unfold stoPay
    have hT : ((KA.stageM (stg d t)).view.loc (c : Thread nD τ) ↦[(KA.stageM (stg d t)).view.set]{fullShare} fs) ⊢ (held (c : Thread nD τ) (TV (stg d t)) fullShare _ : sProp 𝕄) :=
      held_squeezed (th := (c : Thread nD τ)) (v := TV (stg d t)) squeezes_S1x64x8192_S64x8192.numel_eq hfs
    iintro ⟨H1, H2⟩
    isplitl [H1]
    · iapply (held_intro (c := (c : Thread nD τ)) (v := OV d c t) ((View.read_write_univ _ _).trans (by
        funext i
        exact congrFun hfs (Shape.reshapeEquiv squeezes_S1x64x8192_S64x8192.numel_eq i)))) $$ H1
    iapply held_any
    iapply hT $$ H2
  iapply (Rounds.wp_copy_pointsTo 𝒱₀ ER (Rd B) (c : Thread nD τ) none (src := KA.stageM (stg d t)) (dst := KA.outM (Wc c) d (f32 t))
    (sem := .dma (KA.oSem (stg d t))) (r := t / 2) (d := 0) (κ := N.cell (cO' d t c))
    (by rw [show (Rd B).duties ((c : Thread nD τ), .dma (KA.oSem (stg d t))) (t / 2) = {0} from (Rd_duties B c (.sto (stg d t)) _).trans (duties_sto d t ht)]; exact Finset.mem_singleton_self 0)
    0 No (credit_out d c t) (Rd_amount B c (.sto (stg d t)) _ 0) hp) $$ [HT HO Ht]
  · isplitr; · iapply (ctx_cell B N c (.sto (stg d t))); iexact HC
    isplitl [HT]
    · iapply (squeezed_set (th := (c : Thread nD τ)) (v := TV (stg d t)) squeezes_S1x64x8192_S64x8192.numel_eq); iexact HT
    isplitl [HO]; · iexact HO
    isplitl [Ht]; · iexact Ht
    iexact Hr
  iintro Hc
  rw [wp_ret]
  imodintro
  iapply HK
  iexact Hc

/-- Wait for a store to have been made. -/
theorem outWait_step (d : Bool) (t : Nat) (ht : t < 32) {O : CellTallies nD τ sig ℕ} (hO : Above 0 O) :
    Spec B N c iprop(cred (tallyAt (cO' d t c) 0 No) ∗ atPos ER (cO' d t c) (t / 2) ∅ 0 ∗ ow c O) (outWait KA (Wc c) d t)
      iprop(atPos ER (cO' d t c) (t / 2 + 1) ∅ 0 ∗ reached ER (cO' d t c) (t / 2 + 1) ∗ stoPay B d c t ∗ ow c O) := by
  have h := wait_cell B N c (.sto (stg d t)) No
    (w := .waitDma2 (KA.oSem (stg d t)) (KA.stageM (stg d t)) (KA.outM (Wc c) d (f32 t)) ((View.wordExact_bits rfl).reshape _ _) (View.wordExact_bits rfl))
    (fun K => by rw [← credit_out d c t]; rfl) 0 (t / 2)
    (by rw [expect_eq, duties_sto d t ht, Finset.card_singleton, Nat.one_mul]; rfl) (by decide) hO
  refine Spec.conseq h (Entails.of_eq rfl) (Entails.of_eq ?_)
  unfold cO'; rw [duties_sto d t ht, bigSep_singleton, pay_sto]

/-! ## Credits -/

/-- The cell of the credits of a direction. -/
def cC (d : Bool) (c : Dev nD) : GSem nD τ sig := cell c (.cred d)

/-- How far a device has counted its credits, with all it heard by them. -/
def counted (d : Bool) (c : Dev nD) (m : Nat) : sProp 𝕄 :=
  iprop(∃ T : Finset ℕ, ⌜T ⊆ Finset.range 59 ∧ m ≤ T.card⌝ ∗ atPos ER (cC d c) 0 T m ∗ bigSep T fun i => credPay d c i)

/-- A credit's permission, out of what the credits handed over. -/
theorem credPay_get (d : Bool) {n i : Nat} (h : i ≤ n) : (credPay d c n : sProp 𝕄) ⊢ okay d c (i + 3) := by
  unfold credPay
  exact bigSep_elim (Φ := fun i => okay d c (i + 3)) (Finset.mem_range.mpr (Nat.lt_succ_of_le h))

/-- A set of more than `m` numbers has one that is at least `m`. -/
theorem exists_ge {S : Finset ℕ} {m : Nat} (h : m < S.card) : ∃ i ∈ S, m ≤ i := by
  by_contra hc
  have hs : S ⊆ Finset.range m := fun i hi => Finset.mem_range.mpr (by
    by_contra hlt
    exact hc ⟨i, hi, Nat.le_of_not_lt hlt⟩)
  have := Finset.card_le_card hs
  rw [Finset.card_range] at this
  omega

set_option maxRecDepth 20000 in
/-- Take the next credit. -/
theorem credWait_step (d : Bool) (n : Nat) (hn : n < 59) {O : CellTallies nD τ sig ℕ} (hO : Above (2 * n + 13) O) :
    Spec B N c iprop(cred (tallyAt (cC d c) (2 * n + 13) 1) ∗ counted d c n ∗ ow c O) (credWait KA d)
      iprop(okay d c (n + 3) ∗ counted d c (n + 1) ∗ ow c O) := by
  intro K
  have hm : (levAts LL lv : sProp 𝕄) ⊢ MayOwe (c : Thread nD τ) {((Kind.cred d).sem, 2 * n + 13)} O := mayOwe_of c (.cred d) hO (by omega)
  have hd : (Rd B).duties ((c : Thread nD τ), (Kind.cred d).sem) 0 = Finset.range 59 := Rd_duties B c (.cred d) 0
  unfold ow counted credWait semWaitWord
  iintro ⟨#HC, ⟨Hc, ⟨%T, %hT, Hat, #Hp⟩, ⟨%W, HO⟩⟩, HK⟩
  iapply (Rounds.wp_wait 𝒱₀ ER (Rd B) (c : Thread nD τ) none (sm := (Kind.cred d).sem) (k' := 1) (κ := N.cell (cC d c))
    (w := .semWait (KA.credS d).sem (1#32).toInt)
    (fun K => rfl) (Set.mem_univ _) (cr := Finsupp.single (2 * n + 13) 1) {((Kind.cred d).sem, 2 * n + 13)} (R := 0) (m := n) (T := T)
    (Util.total_single _ _) (by
      intro x hx
      obtain ⟨y, hy, rfl⟩ := Finset.mem_image.mp hx
      have := Finset.mem_singleton.mp (Finsupp.support_single_subset hy)
      subst this
      exact Finset.mem_singleton_self _)) $$ [Hc Hat HO]
  · isplitr; · iapply (ctx_cell B N c (.cred d)); iexact HC
    isplitl [Hc]; · iexact Hc
    isplitl [HO]; · iexact HO
    isplitr; · iapply hm; iapply (ctx_lev B N); iexact HC
    iexact Hat
  iintro %S ⟨%hS, HO, Hat, Hn⟩
  rw [wp_ret]
  imodintro
  obtain ⟨hTS, hSd, hcard⟩ := hS
  rw [hd] at hSd hcard
  rw [show (Rd B).expect ((c : Thread nD τ), (Kind.cred d).sem) 0 = 59 from (expect_eq B c (.cred d) 0).trans rfl] at hcard
  have hall : iprop((bigSep T fun i => credPay d c i) ∗ bigSep (S \ T) fun i => (Rd B).payload ((c : Thread nD τ), (Kind.cred d).sem) 0 i)
      ⊢ (bigSep S fun i => credPay d c i : sProp 𝕄) := by
    rw [show (bigSep (S \ T) fun i => (Rd B).payload ((c : Thread nD τ), (Kind.cred d).sem) 0 i : sProp 𝕄) = bigSep (S \ T) fun i => credPay d c i from
      bigSep_congr fun i _ => Rd_payload B c (.cred d) 0 i]
    exact Entails.of_eq (bigSep_sdiff_split hTS).symm
  have hnS : n + 1 ≤ S.card := by
    have h1 := Finset.card_sdiff_add_card_eq_card hSd
    rw [Finset.card_range] at h1
    omega
  obtain ⟨i, hi, hmi⟩ := exists_ge (S := S) (m := n) hnS
  have he : (bigSep S (fun i => credPay d c i) : sProp 𝕄) ⊢ credPay d c i := bigSep_elim hi
  ihave Ha' := hall $$ [Hn]
  · isplitr; · iexact Hp
    iexact Hn
  icases Ha' with #Ha
  iapply HK
  isplitr
  · iapply (credPay_get d hmi)
    iapply he
    iexact Ha
  isplitl [Hat]
  · iexists S
    isplitr; · ipureintro; exact ⟨hSd, hnS⟩
    isplitl [Hat]; · iexact Hat
    iexact Ha
  iexists _
  iexact HO

/-- What a device has said it is ready for, to the neighbour it hears from. -/
def said (d : Bool) (c : Dev nD) (n : Nat) : sProp 𝕄 := bigSep (Finset.range n) fun i => okay d (nxt (!d) c) (i + 3)

instance said_persistent (d : Bool) (n : Nat) : Persistent (said d c n : sProp 𝕄) := by unfold said; infer_instance

/-- A slot's resource cannot be held twice. -/
theorem slotS_slotS (k : Key) : iprop(slotS k ∗ slotS k) ⊢ (False : sProp 𝕄) := by
  unfold slotS anyv
  iintro ⟨⟨⟨%f, H1⟩, -⟩, ⟨%g, H2⟩, -⟩
  have hi : (PV k.2.1 k.2.2 0).emb (Shape.Idx.first h_S1x32x8192) ∈ (PV k.2.1 k.2.2 0).set := Finset.mem_map.mpr ⟨_, Finset.mem_univ _, rfl⟩
  ihave H := (pointsTo_full_full_false (f := f) (g := g) hi hi) $$ [H1 H2]
  · isplitl [H1] <;> iassumption
  icases H with %h
  exact h.elim

/-- Pass a slot on, and say so. -/
theorem pass_slot (d : Bool) (c : Dev nD) (k r : Nat) :
    iprop(Ctx B N ∗ anyv (c : Thread nD τ) (PV d (sl k) 0) ∗ anyv (c : Thread nD τ) (PV d (sl k) 1) ∗ Release.readerAt EL (c, d, sl k) r)
      ⊢ (|={Set.univ}=> (Release.readerAt EL (c, d, sl k) (r + 1) ∗ Release.released EL (c, d, sl k) (r + 1)) : sProp 𝕄) := by
  iintro ⟨#HC, H0, H1, Hr⟩
  iapply (Release.slot_release EL (k := (c, d, sl k)) (S := slotS (c, d, sl k)) (ι := N.slot (c, d, sl k)) (Set.mem_univ _) (slotS_slotS (c, d, sl k)) r)
  isplitr; · iapply (ctx_slot B N (c, d, sl k)); iexact HC
  isplitl [Hr]; · iexact Hr
  unfold slotS
  isplitl [H0] <;> iassumption

/-- One more leave is on record. -/
theorem said_succ (d : Bool) (n : Nat) : iprop(said d c n ∗ okay d (nxt (!d) c) (n + 3)) ⊢ (said d c (n + 1) : sProp 𝕄) := by
  unfold said
  rw [Finset.range_add_one, bigSep_ins Finset.notMem_range_self]
  iintro ⟨H1, H2⟩
  isplitl [H2] <;> iassumption

set_option maxRecDepth 20000 in
/-- Give credit `n + 1`: pass on the slot the last sends left, and say so. -/
theorem credSig_step (d : Bool) (n : Nat) (hn : n < 59) (O : CellTallies nD τ sig ℕ) :
    Spec B N c iprop(anyv (c : Thread nD τ) (PV d (sl (n + 4)) 0) ∗ anyv (c : Thread nD τ) (PV d (sl (n + 4)) 1)
        ∗ Release.readerAt EL (c, d, sl (n + 4)) ((n + 3) / 4)
        ∗ reached ER (cR d 0 (n + 3) c) ((n + 3) / 4) ∗ reached ER (cR d 1 (n + 3) c) ((n + 3) / 4)
        ∗ said d c n ∗ dutyTok ER (cC d (nxt (!d) c)) 0 n ∗ reached ER (cC d (nxt (!d) c)) 0 ∗ ow c (O + tC d (n + 1) c))
      (credSig KA (Wc c) d)
      iprop(Release.readerAt EL (c, d, sl (n + 4)) ((n + 3) / 4 + 1) ∗ said d c (n + 1) ∗ ow c O) := by
  have hd : n ∈ (Rd B).duties ((nxt (!d) c : Thread nD τ), (Kind.cred d).sem) 0 := by
    rw [show (Rd B).duties ((nxt (!d) c : Thread nD τ), (Kind.cred d).sem) 0 = Finset.range 59 from Rd_duties B (nxt (!d) c) (.cred d) 0]
    exact Finset.mem_range.mpr hn
  refine Spec.ghost (P₁ := iprop(Release.readerAt EL (c, d, sl (n + 4)) ((n + 3) / 4 + 1) ∗ said d c (n + 1)
    ∗ dutyTok ER (cC d (nxt (!d) c)) 0 n ∗ reached ER (cC d (nxt (!d) c)) 0 ∗ ow c (O + tC d (n + 1) c))) ?_ ?_
  · intro K
    unfold ow credSig semSignalWord
    iintro ⟨#HC, ⟨HR, #Hs, Ht, #Hr, ⟨%W, HO⟩⟩, HK⟩
    iapply (Rounds.wp_signal 𝒱₀ ER (Rd B) (c : Thread nD τ) none (dst := (nxt (!d) c : Thread nD τ)) (sem := (KA.credS d).sem) (r := 0) (d := n) (k' := 1)
      (κ := N.cell (cC d (nxt (!d) c))) hd (Rd_amount B (nxt (!d) c) (.cred d) 0 n) (2 * (n + 1) + 11) O rfl) $$ [Ht HO]
    · isplitr; · iapply (ctx_cell B N (nxt (!d) c) (.cred d)); iexact HC
      isplitl [HO]; · iexact HO
      isplitl [Ht]; · iexact Ht
      isplitr
      · rw [show (Rd B).payload ((nxt (!d) c : Thread nD τ), .reg (KA.credS d).sem) 0 n = said d c (n + 1) from Rd_payload B (nxt (!d) c) (.cred d) 0 n]
        iexact Hs
      iexact Hr
    iintro HO
    rw [wp_ret]
    imodintro
    iapply HK
    isplitl [HR]; · iexact HR
    isplitr; · iexact Hs
    iexists W
    iexact HO
  · iintro ⟨#HC, H0, H1, HR, #Hr0, #Hr1, #Hs, Ht, #Hr, HO⟩
    imod (pass_slot (B := B) (N := N) d c (n + 4) ((n + 3) / 4)) $$ [H0 H1 HR] with ⟨HR, #Hrel⟩
    · isplitr; · iexact HC
      isplitl [H0]; · iexact H0
      isplitl [H1] <;> iassumption
    imodintro
    isplitl [HR]; · iexact HR
    isplitr
    · iapply said_succ
      isplitr; · iexact Hs
      unfold okay
      rw [nxt_nxt']
      isplitr; · iexact Hrel
      isplitr; · iexact Hr0
      iexact Hr1
    isplitl [Ht]; · iexact Ht
    isplitr; · iexact Hr
    iexact HO

/-! ## The entry barrier -/

/-- The duty of the signal a device gives the neighbour of a direction. -/
def nB (e : Bool) : Nat := if e then 0 else 1

set_option maxRecDepth 20000 in
/-- Signal a neighbour. -/
theorem barSig_step (e : Bool) (O : CellTallies nD τ sig ℕ) :
    Spec B N c iprop(barPay (!e) (nxt e c) ∗ dutyTok ER (cell (nxt e c) .bar) 0 (nB e) ∗ reached ER (cell (nxt e c) .bar) 0 ∗ ow c (O + tB e c))
      (semSignalWord ((Wc c).next e) barSem 1#32) (ow c O) := by
  have hd : nB e ∈ (Rd B).duties ((nxt e c : Thread nD τ), Kind.bar.sem) 0 := by
    rw [show (Rd B).duties ((nxt e c : Thread nD τ), Kind.bar.sem) 0 = Finset.range 2 from Rd_duties B (nxt e c) .bar 0]
    cases e <;> decide
  intro K
  unfold ow semSignalWord
  iintro ⟨#HC, ⟨Hs, Ht, #Hr, ⟨%W, HO⟩⟩, HK⟩
  iapply (Rounds.wp_signal 𝒱₀ ER (Rd B) (c : Thread nD τ) none (dst := (nxt e c : Thread nD τ)) (sem := barSem) (r := 0) (d := nB e) (k' := 1)
    (κ := N.cell (cell (nxt e c) .bar)) hd (Rd_amount B (nxt e c) .bar 0 _) 1 O rfl) $$ [Ht HO Hs]
  · isplitr; · iapply (ctx_cell B N (nxt e c) .bar); iexact HC
    isplitl [HO]; · iexact HO
    isplitl [Ht]; · iexact Ht
    isplitl [Hs]
    · rw [show (Rd B).payload ((nxt e c : Thread nD τ), .reg barSem) 0 (nB e) = barPay (!e) (nxt e c) from
        (Rd_payload B (nxt e c) .bar 0 _).trans (by cases e <;> rfl)]
      iexact Hs
    iexact Hr
  iintro HO
  rw [wp_ret]
  imodintro
  iapply HK
  iexists W
  iexact HO

/-- Wait for both neighbours' signals. -/
theorem barWait_step {O : CellTallies nD τ sig ℕ} (hO : Above 1 O) :
    Spec B N c iprop(cred (tallyAt (cell c .bar) 1 2) ∗ atPos ER (cell c .bar) 0 ∅ 0 ∗ ow c O) (semWaitWord barSem 2#32)
      iprop(atPos ER (cell c .bar) 1 ∅ 0 ∗ (barPay false c ∗ barPay true c) ∗ ow c O) := by
  have h := wait_cell B N c .bar 2 (w := .semWait barSem (2#32).toInt) (fun K => rfl) 1 0 (by rw [expect_eq]; rfl) (by decide) hO
  refine Spec.conseq h (Entails.of_eq rfl) ?_
  have e : (bigSep (dutiesK .bar 0) (fun i => payK B c .bar 0 i) : sProp 𝕄) = iprop(barPay true c ∗ barPay false c) := by
    change bigSep (Finset.range 2) (fun i => barPay (dirOf i) c) = _
    rw [show Finset.range 2 = {1, 0} by decide, bigSep_ins (by decide), bigSep_singleton]
    rfl
  rw [e]
  iintro ⟨H1, -, ⟨Ht, Hf⟩, HO⟩
  isplitl [H1]; · iexact H1
  isplitl [Ht Hf]
  · isplitl [Hf] <;> iassumption
  iexact HO

end Cert.KernelIdeal.Gen

end
-- ==== Proof.Piece.lean ====
/- What a device holds of a piece between hops, and the hops' waits, additions and sends of it. -/
module

public import proofs.«01_k».proof.Proof.Talk

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {B : Blocks F} {N : Names} {c : Dev nD}

/-- The device's place at a cell of departures, and of arrivals, ready for hop `h`. -/
def ws (d : Bool) (j : Fin 2) (c : Dev nD) (h : Nat) : sProp 𝕄 :=
  iprop(atPos ER (cS d j h c) (h / 4) ∅ 0 ∗ reached ER (cS d j h c) (h / 4))
def wr (d : Bool) (j : Fin 2) (c : Dev nD) (h : Nat) : sProp 𝕄 :=
  iprop(atPos ER (cR d j h c) (h / 4) ∅ 0 ∗ reached ER (cR d j h c) (h / 4))

/-- The four cells of departures, the first of hop `n`; the four of arrivals. -/
def WinS (d : Bool) (j : Fin 2) (c : Dev nD) (n : Nat) : sProp 𝕄 :=
  iprop(ws d j c n ∗ ws d j c (n + 1) ∗ ws d j c (n + 2) ∗ ws d j c (n + 3))
def WinR (d : Bool) (j : Fin 2) (c : Dev nD) (n : Nat) : sProp 𝕄 :=
  iprop(wr d j c n ∗ wr d j c (n + 1) ∗ wr d j c (n + 2) ∗ wr d j c (n + 3))

/-- The duties of the sends of hop `h`. -/
def outs (d : Bool) (j : Fin 2) (c : Dev nD) (h : Nat) : sProp 𝕄 :=
  iprop(dutyTok ER (cS d j h c) (h / 4) 0 ∗ dutyTok ER (cR d j h (nxt d c)) (h / 4) 0)

/-- The credit to wait for the arrival of hop `h`. -/
def rc (d : Bool) (j : Fin 2) (c : Dev nD) (h : Nat) : sProp 𝕄 := cred (tallyAt (cR d j h c) (2 * h + 10) Np)

/-- A send semaphore is used again four hops later. -/
theorem cS_add4 (d : Bool) (j : Fin 2) (h : Nat) (c : Dev nD) : cS d j (h + 4) c = cS d j h c := by
  unfold cS; rw [sl_add4]

/-- A receive semaphore is used again four hops later. -/
theorem cR_add4 (d : Bool) (j : Fin 2) (h : Nat) (c : Dev nD) : cR d j (h + 4) c = cR d j h c := by
  unfold cR; rw [show h + 4 + 1 = h + 1 + 4 by omega, sl_add4]

/-- The send semaphores' state moves on by a hop. -/
theorem ws_next (d : Bool) (j : Fin 2) (h : Nat) :
    iprop(atPos ER (cS d j h c) (h / 4 + 1) ∅ 0 ∗ reached ER (cS d j h c) (h / 4 + 1)) = (ws d j c (h + 4) : sProp 𝕄) := by
  unfold ws; rw [cS_add4, show (h + 4) / 4 = h / 4 + 1 by omega]

/-- The receive semaphores' state moves on by a hop. -/
theorem wr_next (d : Bool) (j : Fin 2) (h : Nat) :
    iprop(atPos ER (cR d j h c) (h / 4 + 1) ∅ 0 ∗ reached ER (cR d j h c) (h / 4 + 1)) = (wr d j c (h + 4) : sProp 𝕄) := by
  unfold wr; rw [cR_add4, show (h + 4) / 4 = h / 4 + 1 by omega]

/-- A send semaphore's state gives its place in its rounds. -/
theorem ws_at {d : Bool} {j : Fin 2} {h : Nat} : (ws d j c h : sProp 𝕄) ⊢ atPos ER (cS d j h c) (h / 4) ∅ 0 := by
  unfold ws
  iintro ⟨H, -⟩
  iexact H

/-- A receive semaphore's state gives its place in its rounds. -/
theorem wr_at {d : Bool} {j : Fin 2} {h : Nat} : (wr d j c h : sProp 𝕄) ⊢ atPos ER (cR d j h c) (h / 4) ∅ 0 := by
  unfold wr
  iintro ⟨H, -⟩
  iexact H

/-- The credit of an arrival. -/
theorem rc_cred {d : Bool} {j : Fin 2} {h : Nat} : (rc d j c h : sProp 𝕄) ⊢ cred (tallyAt (cR d j h c) (2 * h + 10) Np) := Entails.rfl

/-- A product over the numbers from `k` on has its first factor in front. -/
theorem bigSep_next {k n : Nat} (h : k < n) (Φ : Nat → sProp 𝕄) : bigSep (Finset.Ico k n) Φ = iprop(Φ k ∗ bigSep (Finset.Ico (k + 1) n) Φ) := by
  rw [show Finset.Ico k n = insert k (Finset.Ico (k + 1) n) from (Finset.insert_Ico_add_one_left_eq_Ico h).symm]
  exact bigSep_ins (by rw [Finset.mem_Ico]; omega)

/-- A piece as hop `n` left it: it was sent, and half of it kept. -/
def PSt (B : Blocks F) (d : Bool) (j : Fin 2) (c : Dev nD) (n : Nat) : sProp 𝕄 :=
  iprop(cred (tallyAt (cS d j n c) 0 Np) ∗ held (c : Thread nD τ) (PV d (sl n) j) fullShare.left (AV B d n c j)
    ∗ WinS d j c n ∗ WinR d j c n ∗ bigSep (Finset.Ico (n + 1) 62) (outs d j c) ∗ bigSep (Finset.Ico n 62) (rc d j c))

/-- A piece as hop `n` sends it, with all it has for that. -/
def Full (B : Blocks F) (d : Bool) (j : Fin 2) (c : Dev nD) (n : Nat) (X : Vec F S1x32x8192 .bf16) : sProp 𝕄 :=
  iprop(held (c : Thread nD τ) (PV d (sl n) j) fullShare X
    ∗ WinS d j c n ∗ WinR d j c n ∗ bigSep (Finset.Ico n 62) (outs d j c) ∗ bigSep (Finset.Ico n 62) (rc d j c))

/-- Where the piece of hop `k` may be sent to. -/
def Dst (d : Bool) (j : Fin 2) (c : Dev nD) (k : Nat) : sProp 𝕄 :=
  iprop(anyv (nxt d c : Thread nD τ) (PV d (sl (k + 1)) j) ∗ reached ER (cR d j k (nxt d c)) (k / 4))

/-- A piece that has left. -/
def Fr (d : Bool) (j : Fin 2) (c : Dev nD) (n : Nat) : sProp 𝕄 := anyv (c : Thread nD τ) (PV d (sl n) j)

/-- One direction's waits before hop `n + 1`. -/
theorem waitSR (d : Bool) (n : Nat) (j : Fin 2) (hn : n < 62) {O : CellTallies nD τ sig ℕ} (hO : Above (2 * n + 10) O) :
    Spec B N c iprop(PSt B d j c n ∗ ow c O) (waitS KA d (n + 1) j >>= fun _ => waitR KA d (n + 1) j)
      iprop(Full B d j c (n + 1) (AV B d n (nxt (!d) c) j) ∗ Fr d j c n ∗ ow c O) := by
  intro K
  unfold PSt Full Fr WinS WinR
  rw [bigSep_next hn (rc d j c)]
  iintro ⟨#HC, ⟨⟨Hc, Hl, ⟨Hs0, Hs1, Hs2, Hs3⟩, ⟨Hr0, Hr1, Hr2, Hr3⟩, Ho, Hrc, Hrcs⟩, HO⟩, HK⟩
  ihave Hs0 := ws_at $$ Hs0
  ihave Hr0 := wr_at $$ Hr0
  ihave Hrc := rc_cred $$ Hrc
  iapply (Spec.use (waitS_step B N c d n j hn (fun g u h => ⟨(hO g u h).1, by have := (hO g u h).2; omega⟩)))
  isplitr; · iexact HC
  isplitl [Hc Hs0 HO]
  · isplitl [Hc]; · iexact Hc
    isplitl [Hs0] <;> iassumption
  iintro ⟨Hs0, Hs0', Hp, HO⟩
  iapply (waitR_step B N c d n j hn hO K)
  isplitr; · iexact HC
  isplitl [Hrc Hr0 HO]
  · isplitl [Hrc]; · iexact Hrc
    isplitl [Hr0] <;> iassumption
  iintro ⟨Hr0, Hr0', Hq, HO⟩
  unfold rcvPay
  iapply HK
  isplitr [Hl Hp HO]
  · isplitl [Hq]; · iexact Hq
    isplitl [Hs0 Hs0' Hs1 Hs2 Hs3]
    · isplitl [Hs1]; · iexact Hs1
      isplitl [Hs2]; · iexact Hs2
      isplitl [Hs3]; · iexact Hs3
      iapply (Entails.of_eq (ws_next d j n))
      isplitl [Hs0] <;> iassumption
    isplitl [Hr0 Hr0' Hr1 Hr2 Hr3]
    · isplitl [Hr1]; · iexact Hr1
      isplitl [Hr2]; · iexact Hr2
      isplitl [Hr3]; · iexact Hr3
      iapply (Entails.of_eq (wr_next d j n))
      isplitl [Hr0] <;> iassumption
    isplitl [Ho]; · iexact Ho
    iexact Hrcs
  isplitl [Hl Hp]
  · iapply held_any
    iapply (held_unshare (c := (c : Thread nD τ)) (v := PV d (sl n) j) (V := AV B d n c j) fullShare)
    unfold sndPay
    isplitl [Hl]; · iexact Hl
    iexact Hp
  iexact HO

/-- Send a piece. -/
theorem sendF (d : Bool) (n : Nat) (j : Fin 2) (hn : n < 62) (O : CellTallies nD τ sig ℕ) :
    Spec B N c iprop(Full B d j c n (AV B d n c j) ∗ Dst d j c n ∗ ow c (O + tS d n j c)) (send KA (Wc c) d n j)
      iprop(PSt B d j c n ∗ ow c O) := by
  intro K
  unfold PSt Full Dst WinS WinR
  rw [bigSep_next hn (outs d j c)]
  unfold ws outs
  iintro ⟨#HC, ⟨⟨Hq, ⟨⟨Hs0, #Hsr⟩, Hs1, Hs2, Hs3⟩, Hr, ⟨⟨Ht1, Ht2⟩, Ho⟩, Hrcs⟩, ⟨Hd, #Hdr⟩, HO⟩, HK⟩
  ihave Hq' := (held_share (c := (c : Thread nD τ)) (v := PV d (sl n) j) (V := AV B d n c j) fullShare) $$ Hq
  icases Hq' with ⟨Hl, Hp⟩
  iapply (send_step B N c d n j hn O K)
  isplitr; · iexact HC
  isplitl [Hp Hd Ht1 Ht2 HO]
  · isplitl [Hp]; · unfold sndPay; iexact Hp
    isplitl [Hd]; · iexact Hd
    isplitl [Ht1]; · iexact Ht1
    isplitr; · iexact Hsr
    isplitl [Ht2]; · iexact Ht2
    isplitr; · iexact Hdr
    iexact HO
  iintro ⟨Hc, HO⟩
  iapply HK
  isplitr [HO]
  · isplitl [Hc]; · iexact Hc
    isplitl [Hl]; · iexact Hl
    isplitl [Hs0 Hs1 Hs2 Hs3]
    · isplitl [Hs0]
      · isplitl [Hs0]; · iexact Hs0
        iexact Hsr
      isplitl [Hs1]; · iexact Hs1
      isplitl [Hs2] <;> iassumption
    isplitl [Hr]; · iexact Hr
    isplitl [Ho] <;> iassumption
  iexact HO

/-- What a device sends after a hop that adds. -/
theorem AV_add (d : Bool) (n : Nat) (j : Fin 2) (hn : n < 31) :
    AV B d (n + 1) c j = payAdd (AV B d n (nxt (!d) c) j) fun i => lpV B d c n (gL j i) := by
  conv_lhs => unfold AV
  rw [if_pos hn]

/-- What a device sends after a hop that passes on. -/
theorem AV_keep (d : Bool) (n : Nat) (j : Fin 2) (hn : ¬ n < 31) : AV B d (n + 1) c j = AV B d n (nxt (!d) c) j := by
  conv_lhs => unfold AV
  rw [if_neg hn]

/-- Add the partial product to what arrived. -/
theorem addF (d : Bool) (n : Nat) (j : Fin 2) (hn : n < 31) :
    Spec B N c iprop(Full B d j c (n + 1) (AV B d n (nxt (!d) c) j) ∗ held (c : Thread nD τ) (LV (par n) d) fullShare (lpV B d c n))
      (add KA d (n + 1) j)
      iprop(Full B d j c (n + 1) (AV B d (n + 1) c j) ∗ held (c : Thread nD τ) (LV (par n) d) fullShare (lpV B d c n)) := by
  intro K
  have e : par (n + 1 + 1) = par n := Fin.ext (Nat.add_mod_right n 2)
  have h := add_step (N := N) (c := c) (B := B) d (n + 1) j (AV B d n (nxt (!d) c) j) (lpV B d c n)
  unfold Full
  rw [AV_add d n j hn]
  iintro ⟨#HC, ⟨⟨Hq, Hrest⟩, Hl⟩, HK⟩
  iapply (h K)
  isplitr; · iexact HC
  rw [e]
  isplitl [Hq Hl]
  · isplitl [Hq] <;> iassumption
  iintro ⟨Hq, Hl⟩
  iapply HK
  isplitl [Hq Hrest]
  · isplitl [Hq] <;> iassumption
  iexact Hl

/-- Both directions' waits before hop `n + 1`. -/
theorem waits_step (n : Nat) (j : Fin 2) (hn : n < 62) {O : CellTallies nD τ sig ℕ} (hO : Above (2 * n + 10) O) :
    Spec B N c iprop(PSt B false j c n ∗ PSt B true j c n ∗ ow c O) (waits KA (n + 1) j)
      iprop(Full B false j c (n + 1) (AV B false n (nxt (!false) c) j) ∗ Fr false j c n ∗ Full B true j c (n + 1) (AV B true n (nxt (!true) c) j) ∗ Fr true j c n ∗ ow c O) := by
  intro K
  unfold waits
  rw [← bind_assoc]
  iintro ⟨#HC, ⟨Hf, Ht, HO⟩, HK⟩
  iapply (Spec.use (waitSR (B := B) (N := N) (c := c) false n j hn hO))
  isplitr; · iexact HC
  isplitl [Hf HO]
  · isplitl [Hf] <;> iassumption
  iintro ⟨Hf, Hff, HO⟩
  iapply (waitSR (B := B) (N := N) (c := c) true n j hn hO K)
  isplitr; · iexact HC
  isplitl [Ht HO]
  · isplitl [Ht] <;> iassumption
  iintro ⟨Ht, Hft, HO⟩
  iapply HK
  isplitl [Hf]; · iexact Hf
  isplitl [Hff]; · iexact Hff
  isplitl [Ht]; · iexact Ht
  isplitl [Hft] <;> iassumption

/-- Both directions' sends. -/
theorem sends_step (n : Nat) (j : Fin 2) (hn : n < 62) (O : CellTallies nD τ sig ℕ) :
    Spec B N c iprop(Full B false j c n (AV B false n c j) ∗ Full B true j c n (AV B true n c j) ∗ Dst false j c n ∗ Dst true j c n
        ∗ ow c (O + tS true n j c + tS false n j c)) (sends KA (Wc c) n j)
      iprop(PSt B false j c n ∗ PSt B true j c n ∗ ow c O) := by
  intro K
  unfold sends
  iintro ⟨#HC, ⟨Hf, Ht, Hdf, Hdt, HO⟩, HK⟩
  iapply (Spec.use (sendF (B := B) (N := N) (c := c) false n j hn (O + tS true n j c)))
  isplitr; · iexact HC
  isplitl [Hf Hdf HO]
  · isplitl [Hf]; · iexact Hf
    isplitl [Hdf] <;> iassumption
  iintro ⟨Hf, HO⟩
  iapply (sendF (B := B) (N := N) (c := c) true n j hn O K)
  isplitr; · iexact HC
  isplitl [Ht Hdt HO]
  · isplitl [Ht]; · iexact Ht
    isplitl [Hdt] <;> iassumption
  iintro ⟨Ht, HO⟩
  iapply HK
  isplitl [Hf]; · iexact Hf
  isplitl [Ht] <;> iassumption

/-- The partial products hop `n + 1` adds. -/
def lpB (B : Blocks F) (c : Dev nD) (n : Nat) : sProp 𝕄 :=
  iprop(held (c : Thread nD τ) (LV (par n) false) fullShare (lpV B false c n) ∗ held (c : Thread nD τ) (LV (par n) true) fullShare (lpV B true c n))

/-- The sends that remain lie above a hop's waits. -/
theorem above_sends {ι : Nat} {k : Nat} {j : Fin 2} {O : CellTallies nD τ sig ℕ} (hO : Above ι O) (h : ι < 2 * k + 10) (hk : k < 62) :
    Above ι (O + tS true k j c + tS false k j c) :=
  above_add (above_add hO (above_tally h (by omega))) (above_tally h (by omega))

/-- A piece of a hop up to 31. -/
theorem pieceRS_step (n : Nat) (j : Fin 2) (hn : n < 31) {O : CellTallies nD τ sig ℕ} (hO : Above (2 * n + 10) O) :
    Spec B N c iprop(PSt B false j c n ∗ PSt B true j c n ∗ Dst false j c (n + 1) ∗ Dst true j c (n + 1) ∗ lpB B c n
        ∗ ow c (O + tS true (n + 1) j c + tS false (n + 1) j c)) (pieceRS KA (Wc c) (n + 1) j)
      iprop(PSt B false j c (n + 1) ∗ PSt B true j c (n + 1) ∗ Fr false j c n ∗ Fr true j c n ∗ lpB B c n ∗ ow c O) := by
  intro K
  unfold pieceRS adds lpB
  iintro ⟨#HC, ⟨Hf, Ht, Hdf, Hdt, ⟨Hlf, Hlt⟩, HO⟩, HK⟩
  iapply (Spec.use (waits_step (B := B) (N := N) (c := c) n j (by omega) (above_sends (j := j) (k := n + 1) hO (by omega) (by omega))))
  isplitr; · iexact HC
  isplitl [Hf Ht HO]
  · isplitl [Hf]; · iexact Hf
    isplitl [Ht] <;> iassumption
  iintro ⟨Hf, Hff, Ht, Hft, HO⟩
  rw [bind_assoc]
  iapply (Spec.use (addF (B := B) (N := N) (c := c) false n j hn))
  isplitr; · iexact HC
  isplitl [Hf Hlf]
  · isplitl [Hf] <;> iassumption
  iintro ⟨Hf, Hlf⟩
  iapply (Spec.use (addF (B := B) (N := N) (c := c) true n j hn))
  isplitr; · iexact HC
  isplitl [Ht Hlt]
  · isplitl [Ht] <;> iassumption
  iintro ⟨Ht, Hlt⟩
  iapply (sends_step (B := B) (N := N) (c := c) (n + 1) j (by omega) O K)
  isplitr; · iexact HC
  isplitl [Hf Ht Hdf Hdt HO]
  · isplitl [Hf]; · iexact Hf
    isplitl [Ht]; · iexact Ht
    isplitl [Hdf]; · iexact Hdf
    isplitl [Hdt] <;> iassumption
  iintro ⟨Hf, Ht, HO⟩
  iapply HK
  isplitl [Hf]; · iexact Hf
  isplitl [Ht]; · iexact Ht
  isplitl [Hff]; · iexact Hff
  isplitl [Hft]; · iexact Hft
  isplitl [Hlf Hlt]
  · isplitl [Hlf] <;> iassumption
  iexact HO

/-- A piece of a hop from 32 on. -/
theorem pieceAG_step (n : Nat) (j : Fin 2) (hn : ¬ n < 31) (hn' : n < 61) {O : CellTallies nD τ sig ℕ} (hO : Above (2 * n + 10) O) :
    Spec B N c iprop(PSt B false j c n ∗ PSt B true j c n ∗ Dst false j c (n + 1) ∗ Dst true j c (n + 1)
        ∗ ow c (O + tS true (n + 1) j c + tS false (n + 1) j c)) (pieceAG KA (Wc c) (n + 1) j)
      iprop(PSt B false j c (n + 1) ∗ PSt B true j c (n + 1) ∗ Fr false j c n ∗ Fr true j c n ∗ ow c O) := by
  intro K
  unfold pieceAG
  iintro ⟨#HC, ⟨Hf, Ht, Hdf, Hdt, HO⟩, HK⟩
  iapply (Spec.use (waits_step (B := B) (N := N) (c := c) n j (by omega) (above_sends (j := j) (k := n + 1) hO (by omega) (by omega))))
  isplitr; · iexact HC
  isplitl [Hf Ht HO]
  · isplitl [Hf]; · iexact Hf
    isplitl [Ht] <;> iassumption
  iintro ⟨Hf, Hff, Ht, Hft, HO⟩
  iapply (sends_step (B := B) (N := N) (c := c) (n + 1) j (by omega) O K)
  isplitr; · iexact HC
  isplitl [Hf Ht Hdf Hdt HO]
  · rw [AV_keep false n j hn, AV_keep true n j hn]
    isplitl [Hf]; · iexact Hf
    isplitl [Ht]; · iexact Ht
    isplitl [Hdf]; · iexact Hdf
    isplitl [Hdt] <;> iassumption
  iintro ⟨Hf, Ht, HO⟩
  iapply HK
  isplitl [Hf]; · iexact Hf
  isplitl [Ht]; · iexact Ht
  isplitl [Hff]; · iexact Hff
  isplitl [Hft] <;> iassumption

end Cert.KernelIdeal.Gen

end
-- ==== Proof.Parts.lean ====
/- The credits, the partial products and the stores, as a hop meets them. -/
module

public import proofs.«01_k».proof.Proof.Piece

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {B : Blocks F} {N : Names} {c : Dev nD}

/-! ## Where a hop may send -/

/-- The permission to fill the slot hop `h` sends to. -/
def wt (d : Bool) (c : Dev nD) (h : Nat) : sProp 𝕄 := Release.writeTok EL (nxt d c, d, sl (h + 1)) (h / 4 + 1)

def wts (d : Bool) (c : Dev nD) (k : Nat) : sProp 𝕄 := bigSep (Finset.Ico k 62) (wt d c)

/-- A slot said to be ready may be filled. -/
theorem take_slot (d : Bool) (c : Dev nD) (k : Nat) (hk : k < 62) :
    iprop(Ctx B N ∗ okay d c k ∗ wts d c k) ⊢ (|={Set.univ}=> (wts d c (k + 1) ∗ Dst d 0 c k ∗ Dst d 1 c k) : sProp 𝕄) := by
  unfold wts okay Dst
  rw [bigSep_next hk (wt d c)]
  iintro ⟨#HC, ⟨#Hrel, #Hr0, #Hr1⟩, Hw, Hws⟩
  imod (Release.slot_take EL (k := (nxt d c, d, sl (k + 1))) (S := slotS (nxt d c, d, sl (k + 1))) (ι := N.slot (nxt d c, d, sl (k + 1)))
    (Set.mem_univ _) (k / 4 + 1)) $$ [Hw] with HS
  · isplitr; · iapply (ctx_slot B N (nxt d c, d, sl (k + 1))); iexact HC
    isplitr; · iexact Hrel
    unfold wt
    iexact Hw
  unfold slotS
  icases HS with ⟨H0, H1⟩
  imodintro
  isplitl [Hws]; · iexact Hws
  isplitl [H0]
  · isplitl [H0]; · iexact H0
    iexact Hr0
  isplitl [H1]; · iexact H1
  iexact Hr1

/-- The credits still to be waited for, and those counted. -/
def TSt (d : Bool) (c : Dev nD) (m : Nat) : sProp 𝕄 :=
  iprop(counted d c m ∗ bigSep (Finset.Ico m 59) fun i => cred (tallyAt (cC d c) (2 * i + 13) 1))

/-- The next credit makes the slot of hop `n + 3` ready. -/
theorem credTake (d : Bool) (n : Nat) (hn : n < 59) {O : CellTallies nD τ sig ℕ} (hO : Above (2 * n + 13) O) :
    Spec B N c iprop((TSt d c n ∗ wts d c (n + 3)) ∗ ow c O) (credWait KA d)
      iprop((TSt d c (n + 1) ∗ wts d c (n + 4)) ∗ (Dst d 0 c (n + 3) ∗ Dst d 1 c (n + 3)) ∗ ow c O) := by
  refine Spec.ghost' (P₁ := iprop(okay d c (n + 3) ∗ (TSt d c (n + 1) ∗ wts d c (n + 3)) ∗ ow c O)) ?_ ?_
  · intro K
    unfold TSt
    rw [bigSep_next hn fun i => cred (tallyAt (cC d c) (2 * i + 13) 1)]
    iintro ⟨#HC, ⟨⟨⟨Hm, Hc, Hcs⟩, Hw⟩, HO⟩, HK⟩
    iapply (credWait_step (B := B) (N := N) (c := c) d n hn hO K)
    isplitr; · iexact HC
    isplitl [Hm Hc HO]
    · isplitl [Hc]; · iexact Hc
      isplitl [Hm] <;> iassumption
    iintro ⟨Hk, Hm, HO⟩
    iapply HK
    isplitl [Hk]; · iexact Hk
    isplitr [HO]
    · isplitr [Hw]
      · isplitl [Hm]; · iexact Hm
        iexact Hcs
      iexact Hw
    iexact HO
  · iintro ⟨#HC, Hk, ⟨HT, Hw⟩, HO⟩
    imod (take_slot (B := B) (N := N) d c (n + 3) (by omega)) $$ [Hk Hw] with ⟨Hw, H0, H1⟩
    · isplitr; · iexact HC
      isplitl [Hk] <;> iassumption
    imodintro
    isplitl [HT Hw]
    · isplitl [HT] <;> iassumption
    isplitl [H0 H1]
    · isplitl [H0] <;> iassumption
    iexact HO

/-- Where both directions' pieces of hop `k` may go. -/
def Rdy (c : Dev nD) (k : Nat) : sProp 𝕄 := iprop((Dst false 0 c k ∗ Dst false 1 c k) ∗ (Dst true 0 c k ∗ Dst true 1 c k))

/-- Both directions' credits. -/
def CT (c : Dev nD) (m k : Nat) : sProp 𝕄 := iprop((TSt false c m ∗ wts false c k) ∗ (TSt true c m ∗ wts true c k))

/-- Waiting for the credits of both directions. -/
theorem credWaits_step (n : Nat) (hn : n < 59) {O : CellTallies nD τ sig ℕ} (hO : Above (2 * n + 13) O) :
    Spec B N c iprop(CT c n (n + 3) ∗ ow c O) (credWaits KA) iprop(CT c (n + 1) (n + 4) ∗ Rdy c (n + 3) ∗ ow c O) := by
  intro K
  unfold CT Rdy credWaits
  iintro ⟨#HC, ⟨⟨Hf, Ht⟩, HO⟩, HK⟩
  iapply (Spec.use (credTake (B := B) (N := N) (c := c) false n hn hO))
  isplitr; · iexact HC
  isplitl [Hf HO]
  · isplitl [Hf] <;> iassumption
  iintro ⟨Hf, Hdf, HO⟩
  iapply (credTake (B := B) (N := N) (c := c) true n hn hO K)
  isplitr; · iexact HC
  isplitl [Ht HO]
  · isplitl [Ht] <;> iassumption
  iintro ⟨Ht, Hdt, HO⟩
  iapply HK
  isplitl [Hf Ht]
  · isplitl [Hf] <;> iassumption
  isplitl [Hdf Hdt]
  · isplitl [Hdf] <;> iassumption
  iexact HO

/-- What the barrier said of the first three hops. -/
def oks (c : Dev nD) (k : Nat) : sProp 𝕄 := iprop(okay false c k ∗ okay true c k)

instance oks_persistent (k : Nat) : Persistent (oks c k : sProp 𝕄) := by unfold oks; infer_instance

/-- The slots that a hop sends into are ready when leave for them is at hand. -/
theorem rdy_first (k m : Nat) (hk : k < 62) :
    iprop(Ctx B N ∗ oks c k ∗ CT c m k) ⊢ (|={Set.univ}=> (CT c m (k + 1) ∗ Rdy c k) : sProp 𝕄) := by
  unfold CT Rdy oks
  iintro ⟨#HC, ⟨Hof, Hot⟩, ⟨HTf, Hwf⟩, HTt, Hwt⟩
  imod (take_slot (B := B) (N := N) false c k hk) $$ [Hof Hwf] with ⟨Hwf, H0, H1⟩
  · isplitr; · iexact HC
    isplitl [Hof] <;> iassumption
  imod (take_slot (B := B) (N := N) true c k hk) $$ [Hot Hwt] with ⟨Hwt, H2, H3⟩
  · isplitr; · iexact HC
    isplitl [Hot] <;> iassumption
  imodintro
  isplitl [HTf Hwf HTt Hwt]
  · isplitl [HTf Hwf]
    · isplitl [HTf] <;> iassumption
    isplitl [HTt] <;> iassumption
  isplitl [H0 H1]
  · isplitl [H0] <;> iassumption
  isplitl [H2] <;> iassumption

/-! ## The two pieces of a hop -/

def P2 (B : Blocks F) (c : Dev nD) (n : Nat) : sProp 𝕄 :=
  iprop((PSt B false 0 c n ∗ PSt B true 0 c n) ∗ (PSt B false 1 c n ∗ PSt B true 1 c n))

def Fr2 (c : Dev nD) (n : Nat) : sProp 𝕄 := iprop((Fr false 0 c n ∗ Fr false 1 c n) ∗ (Fr true 0 c n ∗ Fr true 1 c n))

def sO2 (O : CellTallies nD τ sig ℕ) (k : Nat) (c : Dev nD) : CellTallies nD τ sig ℕ :=
  O + tS true k 1 c + tS false k 1 c + tS true k 0 c + tS false k 0 c

/-- The two pieces of a direction through a hop that adds. -/
theorem pairRS (n : Nat) (hn : n < 31) {O : CellTallies nD τ sig ℕ} (hO : Above (2 * n + 10) O) :
    Spec B N c iprop(P2 B c n ∗ Rdy c (n + 1) ∗ lpB B c n ∗ ow c (sO2 O (n + 1) c))
      (pieceRS KA (Wc c) (n + 1) 0 >>= fun _ => pieceRS KA (Wc c) (n + 1) 1)
      iprop(P2 B c (n + 1) ∗ Fr2 c n ∗ lpB B c n ∗ ow c O) := by
  intro K
  unfold P2 Rdy Fr2 sO2
  iintro ⟨#HC, ⟨⟨⟨Hf0, Ht0⟩, Hf1, Ht1⟩, ⟨⟨Df0, Df1⟩, Dt0, Dt1⟩, Hl, HO⟩, HK⟩
  iapply (Spec.use (pieceRS_step (B := B) (N := N) (c := c) n 0 hn (above_sends (j := 1) (k := n + 1) hO (by omega) (by omega))))
  isplitr; · iexact HC
  isplitl [Hf0 Ht0 Df0 Dt0 Hl HO]
  · isplitl [Hf0]; · iexact Hf0
    isplitl [Ht0]; · iexact Ht0
    isplitl [Df0]; · iexact Df0
    isplitl [Dt0]; · iexact Dt0
    isplitl [Hl] <;> iassumption
  iintro ⟨Hf0, Ht0, Ff0, Ft0, Hl, HO⟩
  iapply (pieceRS_step (B := B) (N := N) (c := c) n 1 hn hO K)
  isplitr; · iexact HC
  isplitl [Hf1 Ht1 Df1 Dt1 Hl HO]
  · isplitl [Hf1]; · iexact Hf1
    isplitl [Ht1]; · iexact Ht1
    isplitl [Df1]; · iexact Df1
    isplitl [Dt1]; · iexact Dt1
    isplitl [Hl] <;> iassumption
  iintro ⟨Hf1, Ht1, Ff1, Ft1, Hl, HO⟩
  iapply HK
  isplitl [Hf0 Ht0 Hf1 Ht1]
  · isplitl [Hf0 Ht0]
    · isplitl [Hf0] <;> iassumption
    isplitl [Hf1] <;> iassumption
  isplitl [Ff0 Ft0 Ff1 Ft1]
  · isplitl [Ff0 Ff1]
    · isplitl [Ff0] <;> iassumption
    isplitl [Ft0] <;> iassumption
  isplitl [Hl] <;> iassumption

/-- The two pieces of a direction through a hop that passes on. -/
theorem pairAG (n : Nat) (hn : ¬ n < 31) (hn' : n < 61) {O : CellTallies nD τ sig ℕ} (hO : Above (2 * n + 10) O) :
    Spec B N c iprop(P2 B c n ∗ Rdy c (n + 1) ∗ ow c (sO2 O (n + 1) c))
      (pieceAG KA (Wc c) (n + 1) 0 >>= fun _ => pieceAG KA (Wc c) (n + 1) 1)
      iprop(P2 B c (n + 1) ∗ Fr2 c n ∗ ow c O) := by
  intro K
  unfold P2 Rdy Fr2 sO2
  iintro ⟨#HC, ⟨⟨⟨Hf0, Ht0⟩, Hf1, Ht1⟩, ⟨⟨Df0, Df1⟩, Dt0, Dt1⟩, HO⟩, HK⟩
  iapply (Spec.use (pieceAG_step (B := B) (N := N) (c := c) n 0 hn hn' (above_sends (j := 1) (k := n + 1) hO (by omega) (by omega))))
  isplitr; · iexact HC
  isplitl [Hf0 Ht0 Df0 Dt0 HO]
  · isplitl [Hf0]; · iexact Hf0
    isplitl [Ht0]; · iexact Ht0
    isplitl [Df0]; · iexact Df0
    isplitl [Dt0] <;> iassumption
  iintro ⟨Hf0, Ht0, Ff0, Ft0, HO⟩
  iapply (pieceAG_step (B := B) (N := N) (c := c) n 1 hn hn' hO K)
  isplitr; · iexact HC
  isplitl [Hf1 Ht1 Df1 Dt1 HO]
  · isplitl [Hf1]; · iexact Hf1
    isplitl [Ht1]; · iexact Ht1
    isplitl [Df1]; · iexact Df1
    isplitl [Dt1] <;> iassumption
  iintro ⟨Hf1, Ht1, Ff1, Ft1, HO⟩
  iapply HK
  isplitl [Hf0 Ht0 Hf1 Ht1]
  · isplitl [Hf0 Ht0]
    · isplitl [Hf0] <;> iassumption
    isplitl [Hf1] <;> iassumption
  isplitl [Ff0 Ft0 Ff1 Ft1]
  · isplitl [Ff0 Ff1]
    · isplitl [Ff0] <;> iassumption
    isplitl [Ft0] <;> iassumption
  iexact HO

/-! ## Giving credits -/

/-- How often a slot was passed on. -/
def rd (d : Bool) (c : Dev nD) (m : Nat) : sProp 𝕄 := Release.readerAt EL (c, d, sl (m + 4)) ((m + 3) / 4)

/-- A reader goes on to the next round. -/
theorem rd_next (d : Bool) (m : Nat) : (Release.readerAt EL (c, d, sl (m + 4)) ((m + 3) / 4 + 1) : sProp 𝕄) = rd d c (m + 4) := by
  unfold rd; rw [sl_add4 (m + 4), show (m + 4 + 3) / 4 = (m + 3) / 4 + 1 by omega]

/-- What a device has to give credit `n + 1` and the later ones. -/
def GSt (d : Bool) (c : Dev nD) (n : Nat) : sProp 𝕄 :=
  iprop((rd d c n ∗ rd d c (n + 1) ∗ rd d c (n + 2) ∗ rd d c (n + 3)) ∗ said d c n
    ∗ bigSep (Finset.Ico n 59) fun i => dutyTok ER (cC d (nxt (!d) c)) 0 i)

/-- A piece's state says which round its cells have reached. -/
theorem PSt_reach (d : Bool) (j : Fin 2) (n : Nat) :
    (PSt B d j c (n + 1) : sProp 𝕄) ⊢ iprop(PSt B d j c (n + 1) ∗ reached ER (cR d j (n + 3) c) ((n + 3) / 4)) := by
  unfold PSt WinR wr
  iintro ⟨H1, H2, H3, ⟨H4, H5, ⟨H6, #H7⟩, H8⟩, H9⟩
  isplitl
  · isplitl [H1]; · iexact H1
    isplitl [H2]; · iexact H2
    isplitl [H3]; · iexact H3
    isplitl [H4 H5 H6 H8]
    · isplitl [H4]; · iexact H4
      isplitl [H5]; · iexact H5
      isplitl [H6]
      · isplitl [H6]; · iexact H6
        iexact H7
      iexact H8
    iexact H9
  iexact H7

/-- A slot that has been read is given to the neighbour. -/
theorem credGive (d : Bool) (n : Nat) (hn : n < 59) (O : CellTallies nD τ sig ℕ) :
    Spec B N c iprop((PSt B d 0 c (n + 1) ∗ PSt B d 1 c (n + 1)) ∗ (Fr d 0 c n ∗ Fr d 1 c n) ∗ GSt d c n
        ∗ reached ER (cC d (nxt (!d) c)) 0 ∗ ow c (O + tC d (n + 1) c)) (credSig KA (Wc c) d)
      iprop((PSt B d 0 c (n + 1) ∗ PSt B d 1 c (n + 1)) ∗ GSt d c (n + 1) ∗ ow c O) := by
  intro K
  unfold GSt Fr
  rw [bigSep_next hn fun i => dutyTok ER (cC d (nxt (!d) c)) 0 i]
  iintro ⟨#HC, ⟨⟨H0, H1⟩, ⟨F0, F1⟩, ⟨⟨R0, R1, R2, R3⟩, #Hs, Ht, Hts⟩, #Hr, HO⟩, HK⟩
  ihave H0 := (PSt_reach d 0 n) $$ H0
  icases H0 with ⟨H0, #Hr0⟩
  ihave H1 := (PSt_reach d 1 n) $$ H1
  icases H1 with ⟨H1, #Hr1⟩
  iapply (credSig_step (B := B) (N := N) (c := c) d n hn O K)
  isplitr; · iexact HC
  isplitl [F0 F1 R0 Ht HO]
  · rw [sl_add4]
    isplitl [F0]; · iexact F0
    isplitl [F1]; · iexact F1
    isplitl [R0]; · unfold rd; rw [sl_add4]; iexact R0
    isplitr; · iexact Hr0
    isplitr; · iexact Hr1
    isplitr; · iexact Hs
    isplitl [Ht]; · iexact Ht
    isplitr; · iexact Hr
    iexact HO
  iintro ⟨R0, #Hs', HO⟩
  iapply HK
  isplitl [H0 H1]
  · isplitl [H0] <;> iassumption
  isplitr [HO]
  · isplitl [R0 R1 R2 R3]
    · isplitl [R1]; · iexact R1
      isplitl [R2]; · iexact R2
      isplitl [R3]; · iexact R3
      iapply (Entails.of_eq (rd_next (c := c) d n))
      iexact R0
    isplitr; · iexact Hs'
    iexact Hts
  iexact HO

def GSt2 (c : Dev nD) (n : Nat) : sProp 𝕄 := iprop(GSt false c n ∗ GSt true c n)

/-- The cells of the neighbours' credits are open. -/
def Rc (c : Dev nD) : sProp 𝕄 := iprop(reached ER (cC false (nxt (!false) c)) 0 ∗ reached ER (cC true (nxt (!true) c)) 0)

instance Rc_persistent : Persistent (Rc c : sProp 𝕄) := by unfold Rc; infer_instance

/-- Signalling the credits of both directions. -/
theorem credSigs_step (n : Nat) (hn : n < 59) (O : CellTallies nD τ sig ℕ) :
    Spec B N c iprop(P2 B c (n + 1) ∗ Fr2 c n ∗ GSt2 c n ∗ Rc c ∗ ow c (O + tC true (n + 1) c + tC false (n + 1) c)) (credSigs KA (Wc c))
      iprop(P2 B c (n + 1) ∗ GSt2 c (n + 1) ∗ ow c O) := by
  intro K
  unfold P2 Fr2 GSt2 Rc credSigs
  iintro ⟨#HC, ⟨⟨⟨Hf0, Ht0⟩, Hf1, Ht1⟩, ⟨Ff, Ft⟩, ⟨Gf, Gt⟩, ⟨#Rf, #Rt⟩, HO⟩, HK⟩
  iapply (Spec.use (credGive (B := B) (N := N) (c := c) false n hn (O + tC true (n + 1) c)))
  isplitr; · iexact HC
  isplitl [Hf0 Hf1 Ff Gf HO]
  · isplitl [Hf0 Hf1]
    · isplitl [Hf0] <;> iassumption
    isplitl [Ff]; · iexact Ff
    isplitl [Gf]; · iexact Gf
    isplitr; · iexact Rf
    iexact HO
  iintro ⟨⟨Hf0, Hf1⟩, Gf, HO⟩
  iapply (credGive (B := B) (N := N) (c := c) true n hn O K)
  isplitr; · iexact HC
  isplitl [Ht0 Ht1 Ft Gt HO]
  · isplitl [Ht0 Ht1]
    · isplitl [Ht0] <;> iassumption
    isplitl [Ft]; · iexact Ft
    isplitl [Gt]; · iexact Gt
    isplitr; · iexact Rt
    iexact HO
  iintro ⟨⟨Ht0, Ht1⟩, Gt, HO⟩
  iapply HK
  isplitl [Hf0 Ht0 Hf1 Ht1]
  · isplitl [Hf0 Ht0]
    · isplitl [Hf0] <;> iassumption
    isplitl [Hf1] <;> iassumption
  isplitl [Gf Gt]
  · isplitl [Gf] <;> iassumption
  iexact HO

/-! ## Partial products -/

def lpAny (c : Dev nD) (n : Nat) : sProp 𝕄 := iprop(anyv (c : Thread nD τ) (LV (par n) false) ∗ anyv (c : Thread nD τ) (LV (par n) true))

/-- The partial products' buffer, with some contents. -/
theorem lpB_any (n : Nat) : (lpB B c n : sProp 𝕄) ⊢ lpAny c n := by
  unfold lpB lpAny
  iintro ⟨H0, H1⟩
  isplitl [H0]
  · iapply held_any; iexact H0
  · iapply held_any; iexact H1

/-- The partial products of both directions. -/
theorem lpSteps_step (n : Nat) : Spec B N c iprop(XW B c ∗ lpAny c n) (lpSteps KA (Wc c) n) iprop(XW B c ∗ lpB B c n) := by
  intro K
  unfold lpSteps lpAny lpB
  iintro ⟨#HC, ⟨HX, Hf, Ht⟩, HK⟩
  iapply (Spec.use (lp_step (B := B) (N := N) (c := c) false n))
  isplitr; · iexact HC
  isplitl [HX Hf]
  · isplitl [HX] <;> iassumption
  iintro ⟨HX, Hf⟩
  iapply (lp_step (B := B) (N := N) (c := c) true n K)
  isplitr; · iexact HC
  isplitl [HX Ht]
  · isplitl [HX] <;> iassumption
  iintro ⟨HX, Ht⟩
  iapply HK
  isplitl [HX]; · iexact HX
  isplitl [Hf] <;> iassumption

/-! ## Stores -/

/-- A staging slot that store `t` may use; one whose store is under way; what a store needs; what it leaves. -/
def idle (d : Bool) (c : Dev nD) (t : Nat) : sProp 𝕄 :=
  iprop(atPos ER (cO' d t c) (t / 2) ∅ 0 ∗ reached ER (cO' d t c) (t / 2) ∗ anyv (c : Thread nD τ) (TV (stg d t)))
def fly (d : Bool) (c : Dev nD) (t : Nat) : sProp 𝕄 :=
  iprop(atPos ER (cO' d t c) (t / 2) ∅ 0 ∗ cred (tallyAt (cO' d t c) 0 No))
def tok (d : Bool) (c : Dev nD) (t : Nat) : sProp 𝕄 :=
  iprop(dutyTok ER (cO' d t c) (t / 2) 0 ∗ anyv (c : Thread nD τ) (OV d c t))
def fin (B : Blocks F) (d : Bool) (c : Dev nD) (t : Nat) : sProp 𝕄 := held (c : Thread nD τ) (OV d c t) fullShare (outV B d c t)

/-- Starting a store, once its staging slot is free. -/
theorem outRestF (d : Bool) (t : Nat) (ht : t < 32) :
    Spec B N c iprop(idle d c t ∗ tok d c t) (outRest KA (Wc c) d t (joinP (AV B d (t + 31) c))) (fly d c t) := by
  intro K
  unfold idle tok fly
  iintro ⟨#HC, ⟨⟨Ha, Hr, HT⟩, Ht, HV⟩, HK⟩
  iapply (outRest_step (B := B) (N := N) (c := c) d t ht K)
  isplitr; · iexact HC
  isplitl [Hr HT Ht HV]
  · isplitl [HT]; · iexact HT
    isplitl [HV]; · iexact HV
    isplitl [Ht] <;> iassumption
  iintro Hc
  iapply HK
  isplitl [Ha] <;> iassumption

/-- A staging slot is used again two stores later. -/
theorem stg_add2 (d : Bool) (t : Nat) : stg d (t + 2) = stg d t := by
  unfold stg
  refine Fin.ext ?_
  change 2 * ((t + 2) % 2) + dn d = 2 * (t % 2) + dn d
  omega

/-- Waiting for a store gives its rows and its staging slot. -/
theorem outWaitF (d : Bool) (t : Nat) (ht : t < 32) {O : CellTallies nD τ sig ℕ} (hO : Above 0 O) :
    Spec B N c iprop(fly d c t ∗ ow c O) (outWait KA (Wc c) d t) iprop(idle d c (t + 2) ∗ fin B d c t ∗ ow c O) := by
  intro K
  have e : cO' d (t + 2) c = cO' d t c := by unfold cO'; rw [stg_add2]
  unfold idle fly fin
  rw [e, stg_add2, show (t + 2) / 2 = t / 2 + 1 by omega]
  iintro ⟨#HC, ⟨⟨Ha, Hc⟩, HO⟩, HK⟩
  iapply (outWait_step (B := B) (N := N) (c := c) d t ht hO K)
  isplitr; · iexact HC
  isplitl [Ha Hc HO]
  · isplitl [Hc]; · iexact Hc
    isplitl [Ha] <;> iassumption
  unfold stoPay
  iintro ⟨Ha, Hr, ⟨Hv, HT⟩, HO⟩
  iapply HK
  isplitl [Ha Hr HT]
  · isplitl [Ha]; · iexact Ha
    isplitl [Hr] <;> iassumption
  isplitl [Hv] <;> iassumption

/-- The slot of hop `k`, held in part. -/
def SL (B : Blocks F) (d : Bool) (c : Dev nD) (k : Nat) (q : PosShare TreeShare) : sProp 𝕄 :=
  held (c : Thread nD τ) (SV d (sl k)) q (joinP (AV B d k c))

/-- The first store of a direction. -/
theorem outFirst_step {q : PosShare TreeShare} (d : Bool) (t : Nat) (ht : t < 32) :
    Spec B N c iprop(SL B d c (t + 31) q ∗ idle d c t ∗ tok d c t) (outFirst KA (Wc c) d t) iprop(SL B d c (t + 31) q ∗ fly d c t) := by
  intro K
  unfold outFirst SL
  rw [Wp_bind]
  iintro ⟨#HC, ⟨HS, Hi, Ht⟩, HK⟩
  iapply (outLoad_step (c := c) (q := q) d (t + 31) (joinP (AV B d (t + 31) c)))
  isplitl [HS]; · iexact HS
  iintro HS
  iapply (outRestF (B := B) (N := N) (c := c) d t ht K)
  isplitr; · iexact HC
  isplitl [Hi Ht]
  · isplitl [Hi] <;> iassumption
  iintro Hf
  iapply HK
  isplitl [HS] <;> iassumption

/-- A further store of a direction. -/
theorem outNext_step {q : PosShare TreeShare} (d : Bool) (t : Nat) (ht : t + 2 < 32) {O : CellTallies nD τ sig ℕ} (hO : Above 0 O) :
    Spec B N c iprop(SL B d c (t + 2 + 31) q ∗ fly d c t ∗ tok d c (t + 2) ∗ ow c O) (outNext KA (Wc c) d (t + 2))
      iprop(SL B d c (t + 2 + 31) q ∗ fly d c (t + 2) ∗ fin B d c t ∗ ow c O) := by
  intro K
  unfold outNext SL
  rw [Wp_bind, Nat.add_sub_cancel]
  iintro ⟨#HC, ⟨HS, Hf, Ht, HO⟩, HK⟩
  iapply (outLoad_step (c := c) (q := q) d (t + 2 + 31) (joinP (AV B d (t + 2 + 31) c)))
  isplitl [HS]; · iexact HS
  iintro HS
  iapply (Spec.use (outWaitF (B := B) (N := N) (c := c) d t (by omega) hO))
  isplitr; · iexact HC
  isplitl [Hf HO]
  · isplitl [Hf] <;> iassumption
  iintro ⟨Hi, Hfin, HO⟩
  iapply (outRestF (B := B) (N := N) (c := c) d (t + 2) ht K)
  isplitr; · iexact HC
  isplitl [Hi Ht]
  · isplitl [Hi] <;> iassumption
  iintro Hf
  iapply HK
  isplitl [HS]; · iexact HS
  isplitl [Hf]; · iexact Hf
  isplitl [Hfin] <;> iassumption

/-- Two pieces make a slot. -/
theorem slot_join (d : Bool) (s : Fin 4) (q : PosShare TreeShare) (V : Fin 2 → Vec F S1x32x8192 .bf16) :
    iprop(held (c : Thread nD τ) (PV d s 0) q (V 0) ∗ held (c : Thread nD τ) (PV d s 1) q (V 1)) ⊢ (held (c : Thread nD τ) (SV d s) q (joinP V) : sProp 𝕄) := by
  have h := (slotHalves s).join (c := (c : Thread nD τ)) (v := (KA.comm d).view) (q := q) (F := F) (joinP V)
  change iprop(held (c : Thread nD τ) (PV d s 0) q (fun x : S1x32x8192.Idx => joinP V (gP 0 x))
    ∗ held (c : Thread nD τ) (PV d s 1) q (fun x : S1x32x8192.Idx => joinP V (gP 1 x))) ⊢ _ at h
  rw [joinP_gP V 0, joinP_gP V 1] at h
  exact h

/-- A slot makes two pieces. -/
theorem slot_split (d : Bool) (s : Fin 4) (q : PosShare TreeShare) (V : Fin 2 → Vec F S1x32x8192 .bf16) :
    (held (c : Thread nD τ) (SV d s) q (joinP V) : sProp 𝕄) ⊢ iprop(held (c : Thread nD τ) (PV d s 0) q (V 0) ∗ held (c : Thread nD τ) (PV d s 1) q (V 1)) := by
  have h := (slotHalves s).split (c := (c : Thread nD τ)) (v := (KA.comm d).view) (q := q) (F := F) (joinP V)
  change _ ⊢ iprop(held (c : Thread nD τ) (PV d s 0) q (fun x : S1x32x8192.Idx => joinP V (gP 0 x))
    ∗ held (c : Thread nD τ) (PV d s 1) q (fun x : S1x32x8192.Idx => joinP V (gP 1 x))) at h
  rw [joinP_gP V 0, joinP_gP V 1] at h
  exact h

/-- The slot of a hop that has sent its pieces. -/
theorem PSt_slot (d : Bool) (k : Nat) :
    iprop(PSt B d 0 c k ∗ PSt B d 1 c k) ⊢ (iprop(SL B d c k fullShare.left ∗ (SL B d c k fullShare.left -∗ (PSt B d 0 c k ∗ PSt B d 1 c k))) : sProp 𝕄) := by
  have hj := slot_join (c := c) d (sl k) fullShare.left (AV B d k c)
  have hs := slot_split (c := c) d (sl k) fullShare.left (AV B d k c)
  unfold PSt SL
  iintro ⟨⟨H1, H2, H3⟩, G1, G2, G3⟩
  isplitl [H2 G2]
  · iapply hj
    isplitl [H2] <;> iassumption
  iintro HS
  ihave HS := hs $$ HS
  icases HS with ⟨H2, G2⟩
  isplitl [H1 H2 H3]
  · isplitl [H1]; · iexact H1
    isplitl [H2] <;> iassumption
  isplitl [G1]; · iexact G1
  isplitl [G2] <;> iassumption

/-- The slot of the last arrivals. -/
theorem Full_slot (d : Bool) (k : Nat) :
    iprop(Full B d 0 c k (AV B d k c 0) ∗ Full B d 1 c k (AV B d k c 1))
      ⊢ (iprop(SL B d c k fullShare ∗ (SL B d c k fullShare -∗ (Full B d 0 c k (AV B d k c 0) ∗ Full B d 1 c k (AV B d k c 1)))) : sProp 𝕄) := by
  have hj := slot_join (c := c) d (sl k) fullShare (AV B d k c)
  have hs := slot_split (c := c) d (sl k) fullShare (AV B d k c)
  unfold Full SL
  iintro ⟨⟨H2, H3⟩, G2, G3⟩
  isplitl [H2 G2]
  · iapply hj
    isplitl [H2] <;> iassumption
  iintro HS
  ihave HS := hs $$ HS
  icases HS with ⟨H2, G2⟩
  isplitl [H2 H3]
  · isplitl [H2] <;> iassumption
  isplitl [G2] <;> iassumption

end Cert.KernelIdeal.Gen

end
-- ==== Proof.Hops.lean ====
/- The hops, one after another. -/
module

public import proofs.«01_k».proof.Proof.Parts

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {B : Blocks F} {N : Names} {c : Dev nD}

/-! ## Runs of hops -/

/-- A step that returns at once. -/
theorem Spec.ret {P : sProp 𝕄} : Spec B N c P (pure ⟨⟩) P := by
  intro K
  iintro ⟨#HC, HP, HK⟩
  iapply ret_step
  iapply HK
  iexact HP

/-- A run of hops, from a state to the state after the last. -/
theorem hops_step (h : Nat → BodyProg F PUnit) : ∀ (n k : Nat) (I : Nat → sProp 𝕄) (hI : ∀ i, i < n → Spec B N c (I i) (h (k + i)) (I (i + 1))),
    Spec B N c (I 0) (hops h k n) (I n)
  | 0, _, _, _ => Spec.ret
  | n + 1, k, I, hI => by
      refine Spec.seq (hI 0 (Nat.succ_pos n)) ?_
      exact hops_step h n (k + 1) (fun i => I (i + 1)) fun i hi => by
        rw [show k + 1 + i = k + (i + 1) by omega]
        exact hI (i + 1) (by omega)

/-- Debts above a level are above any lower one. -/
theorem above_mono {ι ι' : Nat} {O : CellTallies nD τ sig ℕ} (h : Above ι O) (hι : ι' ≤ ι) : Above ι' O :=
  fun g u hp => ⟨(h g u hp).1, Nat.lt_of_le_of_lt hι (h g u hp).2⟩

/-- A hop's sends lie above its waits. -/
theorem above_sO2 {ι k : Nat} {O : CellTallies nD τ sig ℕ} (hO : Above ι O) (h : ι < 2 * k + 10) (hk : k < 62) : Above ι (sO2 O k c) :=
  above_sends (above_sends hO h hk) h hk

/-- What is owed before a hop that gives credits, as the hop pays it. -/
theorem rem_cred (k : Nat) (h1 : 1 ≤ k) (h2 : k ≤ 59) : rem k c = sO2 (rem (k + 1) c + tC true k c + tC false k c) k c := by
  rw [rem_succ k c (by omega)]
  unfold sO cO sO2
  rw [if_pos ⟨h1, h2⟩]
  ac_rfl

/-- What is owed before a hop that gives no credit, as the hop pays it. -/
theorem rem_none (k : Nat) (h : k < 62) (h2 : ¬ (1 ≤ k ∧ k ≤ 59)) : rem k c = sO2 (rem (k + 1) c) k c := by
  rw [rem_succ k c h]
  unfold sO cO sO2
  rw [if_neg h2, add_zero]
  ac_rfl

/-- What is still owed after a hop's sends lies above its waits. -/
theorem above_cred (n : Nat) (hn : n < 61) : Above (2 * n + 10) (rem (n + 2) c + tC true (n + 1) c + tC false (n + 1) c) :=
  above_add (above_add (above_rem (by omega)) (above_tally (by omega) (by omega))) (above_tally (by omega) (by omega))

/-- The pieces of a hop up to 31, and its credits. -/
theorem coreRS (n : Nat) (hn : n < 31) :
    Spec B N c iprop(P2 B c n ∗ Rdy c (n + 1) ∗ GSt2 c n ∗ lpB B c n ∗ Rc c ∗ ow c (rem (n + 1) c))
      ((pieceRS KA (Wc c) (n + 1) 0 >>= fun _ => pieceRS KA (Wc c) (n + 1) 1) >>= fun _ => credSigs KA (Wc c))
      iprop(P2 B c (n + 1) ∗ GSt2 c (n + 1) ∗ lpB B c n ∗ ow c (rem (n + 2) c)) := by
  intro K
  rw [rem_cred (n + 1) (by omega) (by omega)]
  iintro ⟨#HC, ⟨HP, HR, HG, HL, #Hr, HO⟩, HK⟩
  iapply (Spec.use (pairRS (B := B) (N := N) (c := c) n hn (above_cred n (by omega))))
  isplitr; · iexact HC
  isplitl [HP HR HL HO]
  · isplitl [HP]; · iexact HP
    isplitl [HR]; · iexact HR
    isplitl [HL] <;> iassumption
  iintro ⟨HP, HF, HL, HO⟩
  iapply (credSigs_step (B := B) (N := N) (c := c) n (by omega) (rem (n + 2) c) K)
  isplitr; · iexact HC
  isplitl [HP HF HG HO]
  · isplitl [HP]; · iexact HP
    isplitl [HF]; · iexact HF
    isplitl [HG]; · iexact HG
    isplitr; · iexact Hr
    iexact HO
  iintro ⟨HP, HG, HO⟩
  iapply HK
  isplitl [HP]; · iexact HP
  isplitl [HG]; · iexact HG
  isplitl [HL] <;> iassumption

/-- The partial products' buffer is used again two hops later. -/
theorem lpAny_add2 (n : Nat) : (lpAny c (n + 2) : sProp 𝕄) = lpAny c n := by
  unfold lpAny; rw [show par (n + 2) = par n from Fin.ext (Nat.add_mod_right n 2)]

/-- A hop that also makes a partial product, once its slots are ready. -/
theorem hopA_step (n : Nat) (hn : n < 31) :
    Spec B N c iprop(P2 B c n ∗ Rdy c (n + 1) ∗ GSt2 c n ∗ lpB B c n ∗ Rc c ∗ XW B c ∗ ow c (rem (n + 1) c)) (hopA KA (Wc c) (n + 1))
      iprop(P2 B c (n + 1) ∗ GSt2 c (n + 1) ∗ lpB B c (n + 2) ∗ XW B c ∗ ow c (rem (n + 2) c)) := by
  intro K
  unfold hopA
  rw [← bind_assoc, ← bind_assoc]
  iintro ⟨#HC, ⟨HP, HR, HG, HL, #Hr, HX, HO⟩, HK⟩
  iapply (Spec.use (coreRS (B := B) (N := N) (c := c) n hn))
  isplitr; · iexact HC
  isplitl [HP HR HG HL HO]
  · isplitl [HP]; · iexact HP
    isplitl [HR]; · iexact HR
    isplitl [HG]; · iexact HG
    isplitl [HL]; · iexact HL
    isplitr; · iexact Hr
    iexact HO
  iintro ⟨HP, HG, HL, HO⟩
  iapply (lpSteps_step (B := B) (N := N) (c := c) (n + 2) K)
  isplitr; · iexact HC
  isplitl [HX HL]
  · isplitl [HX]; · iexact HX
    rw [lpAny_add2]
    iapply lpB_any
    iexact HL
  iintro ⟨HX, HL⟩
  iapply HK
  isplitl [HP]; · iexact HP
  isplitl [HG]; · iexact HG
  isplitl [HL]; · iexact HL
  isplitl [HX] <;> iassumption

/-- The state before hop `n + 1`, while partial products are made. -/
def RS (B : Blocks F) (c : Dev nD) (n m : Nat) : sProp 𝕄 :=
  iprop(P2 B c n ∗ CT c m (n + 1) ∗ GSt2 c n ∗ lpB B c n ∗ lpB B c (n + 1) ∗ Rc c ∗ XW B c ∗ ow c (rem (n + 1) c))

/-- Hops 1 and 2. -/
theorem hopA_first (n : Nat) (hn : n < 31) :
    Spec B N c iprop(RS B c n 0 ∗ oks c (n + 1)) (hopA KA (Wc c) (n + 1)) (RS B c (n + 1) 0) := by
  refine Spec.ghost (P₁ := iprop((P2 B c n ∗ Rdy c (n + 1) ∗ GSt2 c n ∗ lpB B c n ∗ Rc c ∗ XW B c ∗ ow c (rem (n + 1) c))
    ∗ (CT c 0 (n + 2) ∗ lpB B c (n + 1) ∗ Rc c))) ?_ ?_
  · refine Spec.conseq (Spec.frame (hopA_step (B := B) (N := N) (c := c) n hn)) Entails.rfl ?_
    unfold RS
    iintro ⟨⟨HP, HG, HL, HX, HO⟩, HT, HL', HR⟩
    isplitl [HP]; · iexact HP
    isplitl [HT]; · iexact HT
    isplitl [HG]; · iexact HG
    isplitl [HL']; · iexact HL'
    isplitl [HL]; · iexact HL
    isplitl [HR]; · iexact HR
    isplitl [HX] <;> iassumption
  · unfold RS
    iintro ⟨#HC, ⟨HP, HT, HG, HL, HL', #HR, HX, HO⟩, #Hk⟩
    imod (rdy_first (B := B) (N := N) (c := c) (n + 1) 0 (by omega)) $$ [HT] with ⟨HT, HD⟩
    · isplitr; · iexact HC
      isplitr; · iexact Hk
      iexact HT
    imodintro
    isplitl [HP HD HG HL HX HO]
    · isplitl [HP]; · iexact HP
      isplitl [HD]; · iexact HD
      isplitl [HG]; · iexact HG
      isplitl [HL]; · iexact HL
      isplitr; · iexact HR
      isplitl [HX] <;> iassumption
    isplitl [HT]; · iexact HT
    isplitl [HL']; · iexact HL'
    iexact HR

/-- Hops 3 to 29. -/
theorem hopB_step (m : Nat) (hm : m < 28) : Spec B N c (RS B c (m + 2) m) (hopB KA (Wc c) (m + 3)) (RS B c (m + 3) (m + 1)) := by
  intro K
  unfold hopB RS
  iintro ⟨#HC, ⟨HP, HT, HG, HL, HL', #HR, HX, HO⟩, HK⟩
  iapply (Spec.use (credWaits_step (B := B) (N := N) (c := c) m (by omega) (above_rem (k := m + 3) (by omega))))
  isplitr; · iexact HC
  isplitl [HT HO]
  · isplitl [HT] <;> iassumption
  iintro ⟨HT, HD, HO⟩
  iapply (hopA_step (B := B) (N := N) (c := c) (m + 2) (by omega) K)
  isplitr; · iexact HC
  isplitl [HP HD HG HL HX HO]
  · isplitl [HP]; · iexact HP
    isplitl [HD]; · iexact HD
    isplitl [HG]; · iexact HG
    isplitl [HL]; · iexact HL
    isplitr; · iexact HR
    isplitl [HX] <;> iassumption
  iintro ⟨HP, HG, HL, HX, HO⟩
  iapply HK
  isplitl [HP]; · iexact HP
  isplitl [HT]; · iexact HT
  isplitl [HG]; · iexact HG
  isplitl [HL']; · iexact HL'
  isplitl [HL]; · iexact HL
  isplitr; · iexact HR
  isplitl [HX] <;> iassumption

/-- Hops 30 and 31, but for the store. -/
theorem hopC_step (m : Nat) (hm : m < 29) :
    Spec B N c iprop(P2 B c (m + 2) ∗ CT c m (m + 3) ∗ GSt2 c (m + 2) ∗ lpB B c (m + 2) ∗ Rc c ∗ ow c (rem (m + 3) c)) (hopC KA (Wc c) (m + 3))
      iprop(P2 B c (m + 3) ∗ CT c (m + 1) (m + 4) ∗ GSt2 c (m + 3) ∗ lpB B c (m + 2) ∗ ow c (rem (m + 4) c)) := by
  intro K
  unfold hopC
  iintro ⟨#HC, ⟨HP, HT, HG, HL, #HR, HO⟩, HK⟩
  iapply (Spec.use (credWaits_step (B := B) (N := N) (c := c) m (by omega) (above_rem (k := m + 3) (by omega))))
  isplitr; · iexact HC
  isplitl [HT HO]
  · isplitl [HT] <;> iassumption
  iintro ⟨HT, HD, HO⟩
  rw [← bind_assoc]
  iapply (coreRS (B := B) (N := N) (c := c) (m + 2) (by omega) K)
  isplitr; · iexact HC
  isplitl [HP HD HG HL HO]
  · isplitl [HP]; · iexact HP
    isplitl [HD]; · iexact HD
    isplitl [HG]; · iexact HG
    isplitl [HL]; · iexact HL
    isplitr; · iexact HR
    iexact HO
  iintro ⟨HP, HG, HL, HO⟩
  iapply HK
  isplitl [HP]; · iexact HP
  isplitl [HT]; · iexact HT
  isplitl [HG]; · iexact HG
  isplitl [HL] <;> iassumption

/-! ## Stores of both directions -/

/-- The two pieces of a hop give their slot, and take it back. -/
theorem P2_slot (k : Nat) :
    (P2 B c k : sProp 𝕄) ⊢ iprop((SL B false c k fullShare.left ∗ SL B true c k fullShare.left)
      ∗ ((SL B false c k fullShare.left ∗ SL B true c k fullShare.left) -∗ P2 B c k)) := by
  unfold P2
  iintro ⟨⟨Hf0, Ht0⟩, Hf1, Ht1⟩
  ihave Hf := (PSt_slot (B := B) (c := c) false k) $$ [Hf0 Hf1]
  · isplitl [Hf0] <;> iassumption
  ihave Ht := (PSt_slot (B := B) (c := c) true k) $$ [Ht0 Ht1]
  · isplitl [Ht0] <;> iassumption
  icases Hf with ⟨Sf, Hf⟩
  icases Ht with ⟨St, Ht⟩
  isplitl [Sf St]
  · isplitl [Sf] <;> iassumption
  iintro ⟨Sf, St⟩
  ihave Hf := Hf $$ Sf
  ihave Ht := Ht $$ St
  icases Hf with ⟨Hf0, Hf1⟩
  icases Ht with ⟨Ht0, Ht1⟩
  isplitl [Hf0 Ht0]
  · isplitl [Hf0] <;> iassumption
  isplitl [Hf1] <;> iassumption

/-- The first store of both directions. -/
theorem outFirsts_step (t : Nat) (ht : t < 32) :
    Spec B N c iprop(P2 B c (t + 31) ∗ (idle false c t ∗ tok false c t) ∗ (idle true c t ∗ tok true c t)) (outFirsts KA (Wc c) t)
      iprop(P2 B c (t + 31) ∗ fly false c t ∗ fly true c t) := by
  intro K
  unfold outFirsts
  iintro ⟨#HC, ⟨HP, Hf, Ht⟩, HK⟩
  ihave HP := (P2_slot (B := B) (c := c) (t + 31)) $$ HP
  icases HP with ⟨⟨Sf, St⟩, HP⟩
  iapply (Spec.use (outFirst_step (B := B) (N := N) (c := c) (q := fullShare.left) false t ht))
  isplitr; · iexact HC
  isplitl [Sf Hf]
  · isplitl [Sf] <;> iassumption
  iintro ⟨Sf, Hf⟩
  iapply (outFirst_step (B := B) (N := N) (c := c) (q := fullShare.left) true t ht K)
  isplitr; · iexact HC
  isplitl [St Ht]
  · isplitl [St] <;> iassumption
  iintro ⟨St, Ht⟩
  iapply HK
  isplitl [HP Sf St]
  · iapply HP
    isplitl [Sf] <;> iassumption
  isplitl [Hf] <;> iassumption

/-- A direction's stores: two under way, those to come and those made. -/
def OSn (B : Blocks F) (d : Bool) (c : Dev nD) (i : Nat) : sProp 𝕄 :=
  iprop((fly d c i ∗ fly d c (i + 1)) ∗ bigSep (Finset.Ico (i + 2) 32) (tok d c) ∗ bigSep (Finset.range i) (fin B d c))

def OS2 (B : Blocks F) (c : Dev nD) (i : Nat) : sProp 𝕄 := iprop(OSn B false c i ∗ OSn B true c i)

/-- The state after a store. -/
theorem outNext_state {q : PosShare TreeShare} (d : Bool) (i : Nat) (hi : i + 2 < 32) {O : CellTallies nD τ sig ℕ} (hO : Above 0 O) :
    Spec B N c iprop(SL B d c (i + 2 + 31) q ∗ OSn B d c i ∗ ow c O) (outNext KA (Wc c) d (i + 2))
      iprop(SL B d c (i + 2 + 31) q ∗ OSn B d c (i + 1) ∗ ow c O) := by
  intro K
  unfold OSn
  rw [bigSep_next hi (tok d c), Finset.range_add_one, bigSep_ins Finset.notMem_range_self]
  iintro ⟨#HC, ⟨HS, ⟨⟨Hf0, Hf1⟩, ⟨Ht, Hts⟩, Hd⟩, HO⟩, HK⟩
  iapply (outNext_step (B := B) (N := N) (c := c) (q := q) d i hi hO K)
  isplitr; · iexact HC
  isplitl [HS Hf0 Ht HO]
  · isplitl [HS]; · iexact HS
    isplitl [Hf0]; · iexact Hf0
    isplitl [Ht] <;> iassumption
  iintro ⟨HS, Hf2, Hfin, HO⟩
  iapply HK
  isplitl [HS]; · iexact HS
  isplitr [HO]
  · isplitl [Hf1 Hf2]
    · isplitl [Hf1] <;> iassumption
    isplitl [Hts]; · iexact Hts
    isplitl [Hfin] <;> iassumption
  iexact HO

/-- A further store of both directions. -/
theorem outNexts_step {q : PosShare TreeShare} (i : Nat) (hi : i + 2 < 32) {O : CellTallies nD τ sig ℕ} (hO : Above 0 O) :
    Spec B N c iprop((SL B false c (i + 2 + 31) q ∗ SL B true c (i + 2 + 31) q) ∗ OS2 B c i ∗ ow c O) (outNexts KA (Wc c) (i + 2))
      iprop((SL B false c (i + 2 + 31) q ∗ SL B true c (i + 2 + 31) q) ∗ OS2 B c (i + 1) ∗ ow c O) := by
  intro K
  unfold outNexts OS2
  iintro ⟨#HC, ⟨⟨Sf, St⟩, ⟨Of, Ot⟩, HO⟩, HK⟩
  iapply (Spec.use (outNext_state (B := B) (N := N) (c := c) (q := q) false i hi hO))
  isplitr; · iexact HC
  isplitl [Sf Of HO]
  · isplitl [Sf]; · iexact Sf
    isplitl [Of] <;> iassumption
  iintro ⟨Sf, Of, HO⟩
  iapply (outNext_state (B := B) (N := N) (c := c) (q := q) true i hi hO K)
  isplitr; · iexact HC
  isplitl [St Ot HO]
  · isplitl [St]; · iexact St
    isplitl [Ot] <;> iassumption
  iintro ⟨St, Ot, HO⟩
  iapply HK
  isplitl [Sf St]
  · isplitl [Sf] <;> iassumption
  isplitl [Of Ot]
  · isplitl [Of] <;> iassumption
  iexact HO

/-- The same, with the slot taken from the two pieces. -/
theorem outNexts_P2 (i : Nat) (hi : i + 2 < 32) {O : CellTallies nD τ sig ℕ} (hO : Above 0 O) :
    Spec B N c iprop(P2 B c (i + 33) ∗ OS2 B c i ∗ ow c O) (outNexts KA (Wc c) (i + 2)) iprop(P2 B c (i + 33) ∗ OS2 B c (i + 1) ∗ ow c O) := by
  intro K
  iintro ⟨#HC, ⟨HP, Hs, HO⟩, HK⟩
  ihave HP := (P2_slot (B := B) (c := c) (i + 2 + 31)) $$ HP
  icases HP with ⟨HS, HP⟩
  iapply (outNexts_step (B := B) (N := N) (c := c) (q := fullShare.left) i hi hO K)
  isplitr; · iexact HC
  isplitl [HS Hs HO]
  · isplitl [HS]; · iexact HS
    isplitl [Hs] <;> iassumption
  iintro ⟨HS, Hs, HO⟩
  iapply HK
  isplitl [HP HS]
  · iapply HP; iexact HS
  isplitl [Hs] <;> iassumption

/-! ## Hops from 32 on -/

/-- The waits and sends of a hop from 32 on. -/
theorem hopE_step (m : Nat) (h1 : ¬ m + 2 < 31) (h2 : m + 2 < 61) {O : CellTallies nD τ sig ℕ} (hO : Above (2 * (m + 2) + 10) O) :
    Spec B N c iprop(P2 B c (m + 2) ∗ CT c m (m + 3) ∗ ow c (sO2 O (m + 3) c)) (hopE KA (Wc c) (m + 3))
      iprop(P2 B c (m + 3) ∗ CT c (m + 1) (m + 4) ∗ Fr2 c (m + 2) ∗ ow c O) := by
  intro K
  unfold hopE
  iintro ⟨#HC, ⟨HP, HT, HO⟩, HK⟩
  iapply (Spec.use (credWaits_step (B := B) (N := N) (c := c) m (by omega)
    (above_mono (above_sO2 (c := c) (k := m + 3) hO (by omega) (by omega)) (ι' := 2 * m + 13) (by omega))))
  isplitr; · iexact HC
  isplitl [HT HO]
  · isplitl [HT] <;> iassumption
  iintro ⟨HT, HD, HO⟩
  iapply (pairAG (B := B) (N := N) (c := c) (m + 2) h1 h2 hO K)
  isplitr; · iexact HC
  isplitl [HP HD HO]
  · isplitl [HP]; · iexact HP
    isplitl [HD] <;> iassumption
  iintro ⟨HP, HF, HO⟩
  iapply HK
  isplitl [HP]; · iexact HP
  isplitl [HT]; · iexact HT
  isplitl [HF] <;> iassumption

/-- A hop from 32 to 59, but for its stores. -/
theorem hopEC_step (m : Nat) (h1 : ¬ m + 2 < 31) (h2 : m + 2 < 59) :
    Spec B N c iprop(P2 B c (m + 2) ∗ CT c m (m + 3) ∗ GSt2 c (m + 2) ∗ Rc c ∗ ow c (rem (m + 3) c))
      (hopE KA (Wc c) (m + 3) >>= fun _ => credSigs KA (Wc c))
      iprop(P2 B c (m + 3) ∗ CT c (m + 1) (m + 4) ∗ GSt2 c (m + 3) ∗ ow c (rem (m + 4) c)) := by
  intro K
  rw [rem_cred (m + 3) (by omega) (by omega)]
  iintro ⟨#HC, ⟨HP, HT, HG, #HR, HO⟩, HK⟩
  iapply (Spec.use (hopE_step (B := B) (N := N) (c := c) m h1 (by omega) (above_cred (c := c) (m + 2) (by omega))))
  isplitr; · iexact HC
  isplitl [HP HT HO]
  · isplitl [HP]; · iexact HP
    isplitl [HT] <;> iassumption
  iintro ⟨HP, HT, HF, HO⟩
  iapply (credSigs_step (B := B) (N := N) (c := c) (m + 2) h2 (rem (m + 4) c) K)
  isplitr; · iexact HC
  isplitl [HP HF HG HO]
  · isplitl [HP]; · iexact HP
    isplitl [HF]; · iexact HF
    isplitl [HG]; · iexact HG
    isplitr; · iexact HR
    iexact HO
  iintro ⟨HP, HG, HO⟩
  iapply HK
  isplitl [HP]; · iexact HP
  isplitl [HT]; · iexact HT
  isplitl [HG] <;> iassumption

/-- The state before hop `i + 33`. -/
def AG (B : Blocks F) (c : Dev nD) (i : Nat) : sProp 𝕄 :=
  iprop(P2 B c (i + 32) ∗ CT c (i + 30) (i + 33) ∗ GSt2 c (i + 32) ∗ Rc c ∗ OS2 B c i ∗ ow c (rem (i + 33) c))

/-- Hops 33 to 59. -/
theorem hopG_step (i : Nat) (hi : i < 27) : Spec B N c (AG B c i) (hopG KA (Wc c) (33 + i)) (AG B c (i + 1)) := by
  intro K
  unfold hopG AG
  rw [show 33 + i = i + 30 + 3 by omega, show i + 30 + 3 - 31 = i + 2 by omega, ← bind_assoc]
  iintro ⟨#HC, ⟨HP, HT, HG, #HR, HS, HO⟩, HK⟩
  iapply (Spec.use (hopEC_step (B := B) (N := N) (c := c) (i + 30) (by omega) (by omega)))
  isplitr; · iexact HC
  isplitl [HP HT HG HO]
  · isplitl [HP]; · iexact HP
    isplitl [HT]; · iexact HT
    isplitl [HG]; · iexact HG
    isplitr; · iexact HR
    iexact HO
  iintro ⟨HP, HT, HG, HO⟩
  iapply (outNexts_P2 (B := B) (N := N) (c := c) i (by omega) (above_rem (k := i + 34) (by omega)) K)
  isplitr; · iexact HC
  isplitl [HP HS HO]
  · isplitl [HP]; · iexact HP
    isplitl [HS] <;> iassumption
  iintro ⟨HP, HS, HO⟩
  iapply HK
  isplitl [HP]; · iexact HP
  isplitl [HT]; · iexact HT
  isplitl [HG]; · iexact HG
  isplitr; · iexact HR
  isplitl [HS] <;> iassumption

/-- Hops 60 and 61. -/
theorem hopH_step (i : Nat) (h1 : 27 ≤ i) (h2 : i < 29) :
    Spec B N c iprop(P2 B c (i + 32) ∗ CT c (i + 30) (i + 33) ∗ OS2 B c i ∗ ow c (rem (i + 33) c)) (hopH KA (Wc c) (i + 33))
      iprop((P2 B c (i + 33) ∗ CT c (i + 31) (i + 34) ∗ OS2 B c (i + 1) ∗ ow c (rem (i + 34) c)) ∗ Fr2 c (i + 32)) := by
  intro K
  unfold hopH
  rw [show i + 33 - 31 = i + 2 by omega, rem_none (i + 33) (by omega) (by omega)]
  iintro ⟨#HC, ⟨HP, HT, HS, HO⟩, HK⟩
  iapply (Spec.use (hopE_step (B := B) (N := N) (c := c) (i + 30) (by omega) (by omega) (above_rem (c := c) (k := i + 34) (by omega))))
  isplitr; · iexact HC
  isplitl [HP HT HO]
  · isplitl [HP]; · iexact HP
    isplitl [HT] <;> iassumption
  iintro ⟨HP, HT, HF, HO⟩
  iapply (outNexts_P2 (B := B) (N := N) (c := c) i (by omega) (above_rem (k := i + 34) (by omega)) K)
  isplitr; · iexact HC
  isplitl [HP HS HO]
  · isplitl [HP]; · iexact HP
    isplitl [HS] <;> iassumption
  iintro ⟨HP, HS, HO⟩
  iapply HK
  isplitr [HF]
  · isplitl [HP]; · iexact HP
    isplitl [HT]; · iexact HT
    isplitl [HS] <;> iassumption
  iexact HF

end Cert.KernelIdeal.Gen

end
-- ==== Proof.Whole.lean ====
/- A device's whole body, from what it has at launch to what it leaves. -/
module

public import proofs.«01_k».proof.Proof.Hops

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {B : Blocks F} {N : Names} {c : Dev nD}

/-! ## What a device begins with -/

/-- A lane's cells and duties. -/
def EntP (d : Bool) (c : Dev nD) (j : Fin 2) : sProp 𝕄 :=
  iprop(WinS d j c 0 ∗ WinR d j c 0 ∗ bigSep (Finset.Ico 0 62) (outs d j c) ∗ bigSep (Finset.Ico 0 62) (rc d j c))

/-- A slot that nothing has been sent to. -/
def stk (d : Bool) (c : Dev nD) (k : Nat) : sProp 𝕄 :=
  iprop(anyv (c : Thread nD τ) (PV d (sl k) 0) ∗ anyv (c : Thread nD τ) (PV d (sl k) 1) ∗ Release.readerAt EL (c, d, sl k) 0)

/-- The stores before any is made. -/
def OI (d : Bool) (c : Dev nD) : sProp 𝕄 := iprop((idle d c 0 ∗ idle d c 1) ∗ bigSep (Finset.Ico 0 32) (tok d c))

/-- The credits to come. -/
def crds (d : Bool) (c : Dev nD) : sProp 𝕄 := bigSep (Finset.Ico 0 59) fun i => cred (tallyAt (cC d c) (2 * i + 13) 1)

/-- A direction at launch. -/
def EntD (d : Bool) (c : Dev nD) : sProp 𝕄 :=
  iprop((EntP d c 0 ∗ EntP d c 1) ∗ (anyv (c : Thread nD τ) (SV d 0) ∗ Release.readerAt EL (c, d, sl 0) 0) ∗ (stk d c 1 ∗ stk d c 2 ∗ stk d c 3)
    ∗ wts d c 0 ∗ (atPos ER (cC d c) 0 ∅ 0 ∗ reached ER (cC d c) 0 ∗ crds d c)
    ∗ (bigSep (Finset.Ico 0 59) fun i => dutyTok ER (cC d (nxt (!d) c)) 0 i) ∗ OI d c)

/-- What signals the neighbour at the barrier. -/
def Bar (e : Bool) (c : Dev nD) : sProp 𝕄 := iprop(dutyTok ER (cell (nxt e c) .bar) 0 (nB e) ∗ reached ER (cell (nxt e c) .bar) 0)

/-- A direction once its free slots are passed on. -/
def MidD (d : Bool) (c : Dev nD) : sProp 𝕄 :=
  iprop((EntP d c 0 ∗ EntP d c 1) ∗ anyv (c : Thread nD τ) (SV d 0) ∗ (TSt d c 0 ∗ wts d c 0) ∗ GSt d c 0 ∗ OI d c)

/-- What a device enters with says which rounds its cells have reached. -/
theorem entP_reach (d : Bool) (j : Fin 2) :
    (EntP d c j : sProp 𝕄) ⊢ iprop(EntP d c j ∗ reached ER (cR d j 0 c) 0 ∗ reached ER (cR d j 1 c) 0 ∗ reached ER (cR d j 2 c) 0) := by
  unfold EntP WinR wr
  iintro ⟨H1, ⟨⟨A0, #R0⟩, ⟨A1, #R1⟩, ⟨A2, #R2⟩, A3, #R3⟩, H3⟩
  isplitl
  · isplitl [H1]; · iexact H1
    isplitl [A0 A1 A2 A3]
    · isplitl [A0]
      · isplitl [A0]; · iexact A0
        iexact R0
      isplitl [A1]
      · isplitl [A1]; · iexact A1
        iexact R1
      isplitl [A2]
      · isplitl [A2]; · iexact A2
        iexact R2
      isplitl [A3]; · iexact A3
      iexact R3
    iexact H3
  isplitr; · iexact R0
  isplitr; · iexact R1
  iexact R2

/-- What the neighbour is told of the free slots. -/
def told (d : Bool) (c : Dev nD) : sProp 𝕄 :=
  iprop((Release.released EL (c, d, sl 1) 1 ∗ reached ER (cR d 0 0 c) 0 ∗ reached ER (cR d 1 0 c) 0)
    ∗ (Release.released EL (c, d, sl 2) 1 ∗ reached ER (cR d 0 1 c) 0 ∗ reached ER (cR d 1 1 c) 0)
    ∗ (Release.released EL (c, d, sl 3) 1 ∗ reached ER (cR d 0 2 c) 0 ∗ reached ER (cR d 1 2 c) 0))

instance told_persistent (d : Bool) : Persistent (told d c : sProp 𝕄) := by unfold told; infer_instance

/-- What a device has told its neighbour is what its signal at the barrier hands over. -/
theorem barPay_told (d : Bool) :
    iprop(told d c ∗ reached ER (cC (!d) c) 0) ⊢ (barPay d (nxt (!d) c) : sProp 𝕄) := by
  unfold barPay okay told
  rw [show nxt d (nxt (!d) c) = c from nxt_nxt' d c]
  iintro ⟨⟨H0, H1, H2⟩, H3⟩
  isplitl [H0]; · iexact H0
  isplitl [H1]; · iexact H1
  isplitl [H2]; · iexact H2
  iexact H3

/-- Pass the free slots on. -/
theorem entD_open (d : Bool) :
    iprop(Ctx B N ∗ EntD d c) ⊢ (|={Set.univ}=> (MidD d c ∗ told d c ∗ reached ER (cC d c) 0) : sProp 𝕄) := by
  unfold EntD stk
  iintro ⟨#HC, ⟨HP0, HP1⟩, ⟨HS, Hr0⟩, ⟨⟨A1, A1', Hr1⟩, ⟨A2, A2', Hr2⟩, ⟨A3, A3', Hr3⟩⟩, Hw, ⟨Ha, #Hr, Hc⟩, Hd, HI⟩
  ihave HP0 := (entP_reach (c := c) d 0) $$ HP0
  ihave HP1 := (entP_reach (c := c) d 1) $$ HP1
  icases HP0 with ⟨HP0, #R00, #R01, #R02⟩
  icases HP1 with ⟨HP1, #R10, #R11, #R12⟩
  imod (pass_slot (B := B) (N := N) d c 1 0) $$ [A1 A1' Hr1] with ⟨Hr1, #L1⟩
  · isplitr; · iexact HC
    isplitl [A1]; · iexact A1
    isplitl [A1'] <;> iassumption
  imod (pass_slot (B := B) (N := N) d c 2 0) $$ [A2 A2' Hr2] with ⟨Hr2, #L2⟩
  · isplitr; · iexact HC
    isplitl [A2]; · iexact A2
    isplitl [A2'] <;> iassumption
  imod (pass_slot (B := B) (N := N) d c 3 0) $$ [A3 A3' Hr3] with ⟨Hr3, #L3⟩
  · isplitr; · iexact HC
    isplitl [A3]; · iexact A3
    isplitl [A3'] <;> iassumption
  imodintro
  isplitl
  · unfold MidD
    isplitl [HP0 HP1]
    · isplitl [HP0] <;> iassumption
    isplitl [HS]; · iexact HS
    isplitl [Ha Hc Hw]
    · isplitr [Hw]
      · unfold TSt counted crds
        isplitl [Ha]
        · iexists (∅ : Finset ℕ)
          isplitr; · ipureintro; exact ⟨Finset.empty_subset _, Nat.zero_le _⟩
          isplitl [Ha]; · iexact Ha
          rw [bigSep_empty]
          iempintro
        iexact Hc
      iexact Hw
    isplitl [Hr0 Hr1 Hr2 Hr3 Hd]
    · unfold GSt
      rw [show (rd d c 0 : sProp 𝕄) = Release.readerAt EL (c, d, sl 0) 0 from rfl,
        show (rd d c (0 + 1) : sProp 𝕄) = Release.readerAt EL (c, d, sl 1) (0 + 1) from rfl,
        show (rd d c (0 + 2) : sProp 𝕄) = Release.readerAt EL (c, d, sl 2) (0 + 1) from rfl,
        show (rd d c (0 + 3) : sProp 𝕄) = Release.readerAt EL (c, d, sl 3) (0 + 1) from rfl]
      isplitl [Hr0 Hr1 Hr2 Hr3]
      · isplitl [Hr0]; · iexact Hr0
        isplitl [Hr1]; · iexact Hr1
        isplitl [Hr2]; · iexact Hr2
        iexact Hr3
      isplitr
      · unfold said
        rw [Finset.range_zero, bigSep_empty]
        iempintro
      iexact Hd
    iexact HI
  unfold told
  isplitr [Hr]
  · isplitr
    · isplitr; · iexact L1
      isplitr; · iexact R00
      iexact R10
    isplitr
    · isplitr; · iexact L2
      isplitr; · iexact R01
      iexact R11
    isplitr; · iexact L3
    isplitr; · iexact R02
    iexact R12
  iexact Hr

/-! ## Up to the first hop -/

/-- A lane ready for its first send. -/
def Lane (B : Blocks F) (d : Bool) (c : Dev nD) : sProp 𝕄 :=
  iprop(Full B d 0 c 0 (AV B d 0 c 0) ∗ Full B d 1 c 0 (AV B d 0 c 1))

/-- The state of a direction at the first hop. -/
theorem lane_init (d : Bool) :
    iprop((EntP d c 0 ∗ EntP d c 1) ∗ held (c : Thread nD τ) (SV d 0) fullShare (initV B c d)) ⊢ (Lane B d c : sProp 𝕄) := by
  have hs := (slotHalves 0).split (c := (c : Thread nD τ)) (v := (KA.comm d).view) (q := fullShare) (F := F) (initV B c d)
  change (held (c : Thread nD τ) (SV d 0) fullShare (initV B c d) : sProp 𝕄) ⊢ iprop(held (c : Thread nD τ) (PV d (sl 0) 0) fullShare (AV B d 0 c 0)
    ∗ held (c : Thread nD τ) (PV d (sl 0) 1) fullShare (AV B d 0 c 1)) at hs
  unfold Lane Full EntP
  iintro ⟨⟨H0, H1⟩, HS⟩
  ihave HS := hs $$ HS
  icases HS with ⟨S0, S1⟩
  isplitl [H0 S0]
  · isplitl [S0] <;> iassumption
  isplitl [S1] <;> iassumption

/-- All a device has before the barrier. -/
def Pre (B : Blocks F) (c : Dev nD) : sProp 𝕄 :=
  iprop((EntD false c ∗ EntD true c) ∗ (Bar false c ∗ Bar true c) ∗ (cred (tallyAt (cell c .bar) 1 2) ∗ atPos ER (cell c .bar) 0 ∅ 0)
    ∗ XW B c ∗ lpAny c 0 ∗ lpAny c 1 ∗ ow c (O₀ c))

/-- What it has after the first partial product. -/
def Started (B : Blocks F) (c : Dev nD) : sProp 𝕄 :=
  iprop((Lane B false c ∗ Lane B true c) ∗ CT c 0 0 ∗ GSt2 c 0 ∗ (OI false c ∗ OI true c) ∗ (oks c 0 ∗ oks c 1 ∗ oks c 2 ∗ Rc c)
    ∗ atPos ER (cell c .bar) 1 ∅ 0 ∗ XW B c ∗ lpB B c 0 ∗ lpAny c 1 ∗ ow c (rem 0 c))

/-- The barrier with both neighbours. -/
theorem barriers_step :
    Spec B N c iprop((told false c ∗ told true c ∗ reached ER (cC false c) 0 ∗ reached ER (cC true c) 0) ∗ (Bar false c ∗ Bar true c)
        ∗ (cred (tallyAt (cell c .bar) 1 2) ∗ atPos ER (cell c .bar) 0 ∅ 0) ∗ ow c (O₀ c)) (barrier (Wc c))
      iprop((oks c 0 ∗ oks c 1 ∗ oks c 2 ∗ Rc c) ∗ atPos ER (cell c .bar) 1 ∅ 0 ∗ ow c (rem 0 c)) := by
  have hpf := barPay_told (F := F) (c := c) false
  have hpt := barPay_told (F := F) (c := c) true
  intro K
  unfold barrier
  rw [show O₀ c = rem 0 c + tB false c + tB true c by unfold O₀; ac_rfl]
  unfold Bar
  iintro ⟨#HC, ⟨⟨#Tf, #Tt, #Rf, #Rt⟩, ⟨⟨Df, #Bf⟩, ⟨Dt, #Bt⟩⟩, ⟨Hc, Ha⟩, HO⟩, HK⟩
  iapply (Spec.use (barSig_step (B := B) (N := N) (c := c) true (rem 0 c + tB false c)))
  isplitr; · iexact HC
  isplitl [Dt HO]
  · isplitr
    · iapply hpf
      isplitr; · iexact Tf
      iexact Rt
    isplitl [Dt]; · iexact Dt
    isplitr; · iexact Bt
    iexact HO
  iintro HO
  iapply (Spec.use (barSig_step (B := B) (N := N) (c := c) false (rem 0 c)))
  isplitr; · iexact HC
  isplitl [Df HO]
  · isplitr
    · iapply hpt
      isplitr; · iexact Tt
      iexact Rf
    isplitl [Df]; · iexact Df
    isplitr; · iexact Bf
    iexact HO
  iintro HO
  iapply (barWait_step (B := B) (N := N) (c := c) (O := rem 0 c) (above_rem (by omega)) K)
  isplitr; · iexact HC
  isplitl [Hc Ha HO]
  · isplitl [Hc]; · iexact Hc
    isplitl [Ha] <;> iassumption
  unfold barPay
  iintro ⟨Ha, ⟨⟨#Kf0, #Kf1, #Kf2, #Kf3⟩, ⟨#Kt0, #Kt1, #Kt2, #Kt3⟩⟩, HO⟩
  iapply HK
  isplitr [Ha HO]
  · unfold oks Rc
    isplitr
    · isplitr; · iexact Kf0
      iexact Kt0
    isplitr
    · isplitr; · iexact Kf1
      iexact Kt1
    isplitr
    · isplitr; · iexact Kf2
      iexact Kt2
    isplitr; · iexact Kt3
    iexact Kf3
  isplitl [Ha] <;> iassumption

/-- The first products and the first slots. -/
theorem start_step : Spec B N c (Pre B c) (start KA (Wc c)) (Started B c) := by
  have hlf := lane_init (B := B) (c := c) false
  have hlt := lane_init (B := B) (c := c) true
  intro K
  unfold start Pre
  iintro ⟨#HC, ⟨⟨Ef, Et⟩, HB, Hb, HX, HL0, HL1, HO⟩, HK⟩
  imod (entD_open (B := B) (N := N) (c := c) false) $$ [Ef] with ⟨Mf, #Tf, #Rf⟩
  · isplitr; · iexact HC
    iexact Ef
  imod (entD_open (B := B) (N := N) (c := c) true) $$ [Et] with ⟨Mt, #Tt, #Rt⟩
  · isplitr; · iexact HC
    iexact Et
  iapply (Spec.use (barriers_step (B := B) (N := N) (c := c)))
  isplitr; · iexact HC
  isplitl [HB Hb HO]
  · isplitr
    · isplitr; · iexact Tf
      isplitr; · iexact Tt
      isplitr; · iexact Rf
      iexact Rt
    isplitl [HB]; · iexact HB
    isplitl [Hb] <;> iassumption
  iintro ⟨#Ho, Ha, HO⟩
  unfold MidD
  icases Mf with ⟨Pf, Sf, Cf, Gf, If⟩
  icases Mt with ⟨Pt, St, Ct, Gt, It⟩
  iapply (Spec.use (init_step (B := B) (N := N) (c := c)))
  isplitr; · iexact HC
  isplitl [HX Sf St]
  · isplitl [HX]; · iexact HX
    isplitl [Sf] <;> iassumption
  iintro ⟨HX, Sf, St⟩
  iapply (lpSteps_step (B := B) (N := N) (c := c) 0 K)
  isplitr; · iexact HC
  isplitl [HX HL0]
  · isplitl [HX] <;> iassumption
  iintro ⟨HX, HL0⟩
  iapply HK
  unfold Started
  isplitl [Pf Sf Pt St]
  · isplitl [Pf Sf]
    · iapply hlf
      isplitl [Pf] <;> iassumption
    iapply hlt
    isplitl [Pt] <;> iassumption
  isplitl [Cf Ct]
  · unfold CT
    isplitl [Cf] <;> iassumption
  isplitl [Gf Gt]
  · unfold GSt2
    isplitl [Gf] <;> iassumption
  isplitl [If It]
  · isplitl [If] <;> iassumption
  isplitr; · iexact Ho
  isplitl [Ha]; · iexact Ha
  isplitl [HX]; · iexact HX
  isplitl [HL0]; · iexact HL0
  isplitl [HL1] <;> iassumption

/-- Hop 0: the first sends. -/
theorem hop0_step :
    Spec B N c (Started B c) (hop0 KA (Wc c))
      iprop(RS B c 0 0 ∗ (oks c 1 ∗ oks c 2) ∗ (OI false c ∗ OI true c) ∗ atPos ER (cell c .bar) 1 ∅ 0) := by
  intro K
  unfold hop0 Started
  rw [rem_none 0 (by omega) (by omega)]
  unfold sO2 Lane
  iintro ⟨#HC, ⟨⟨⟨Lf0, Lf1⟩, ⟨Lt0, Lt1⟩⟩, HT, HG, HI, ⟨#H0, #H1, #H2, #HR⟩, Ha, HX, HL0, HL1, HO⟩, HK⟩
  imod (rdy_first (B := B) (N := N) (c := c) 0 0 (by omega)) $$ [HT] with ⟨HT, HD⟩
  · isplitr; · iexact HC
    isplitr; · iexact H0
    iexact HT
  unfold Rdy
  icases HD with ⟨⟨Df0, Df1⟩, Dt0, Dt1⟩
  iapply (Spec.use (sends_step (B := B) (N := N) (c := c) 0 0 (by omega) (rem 1 c + tS true 0 1 c + tS false 0 1 c)))
  isplitr; · iexact HC
  isplitl [Lf0 Lt0 Df0 Dt0 HO]
  · isplitl [Lf0]; · iexact Lf0
    isplitl [Lt0]; · iexact Lt0
    isplitl [Df0]; · iexact Df0
    isplitl [Dt0] <;> iassumption
  iintro ⟨Pf0, Pt0, HO⟩
  iapply (Spec.use (sends_step (B := B) (N := N) (c := c) 0 1 (by omega) (rem 1 c)))
  isplitr; · iexact HC
  isplitl [Lf1 Lt1 Df1 Dt1 HO]
  · isplitl [Lf1]; · iexact Lf1
    isplitl [Lt1]; · iexact Lt1
    isplitl [Df1]; · iexact Df1
    isplitl [Dt1] <;> iassumption
  iintro ⟨Pf1, Pt1, HO⟩
  iapply (lpSteps_step (B := B) (N := N) (c := c) 1 K)
  isplitr; · iexact HC
  isplitl [HX HL1]
  · isplitl [HX] <;> iassumption
  iintro ⟨HX, HL1⟩
  iapply HK
  isplitr [HI Ha]
  · unfold RS P2
    isplitl [Pf0 Pt0 Pf1 Pt1]
    · isplitl [Pf0 Pt0]
      · isplitl [Pf0] <;> iassumption
      isplitl [Pf1] <;> iassumption
    isplitl [HT]; · iexact HT
    isplitl [HG]; · iexact HG
    isplitl [HL0]; · iexact HL0
    isplitl [HL1]; · iexact HL1
    isplitr; · iexact HR
    isplitl [HX] <;> iassumption
  isplitr
  · isplitr; · iexact H1
    iexact H2
  isplitl [HI] <;> iassumption

/-! ## The hops in a row -/

/-- The first loop of hops. -/
theorem hopsA_step :
    Spec B N c iprop(RS B c 0 0 ∗ (oks c 1 ∗ oks c 2)) (hops (hopA KA (Wc c)) 1 2) iprop(RS B c 2 0 ∗ (oks c 1 ∗ oks c 2)) := by
  refine hops_step (hopA KA (Wc c)) 2 1 (fun i => iprop(RS B c i 0 ∗ (oks c 1 ∗ oks c 2))) fun i hi => ?_
  have key : ∀ n, n < 31 → (iprop(oks c 1 ∗ oks c 2) ⊢ (oks c (n + 1) : sProp 𝕄)) →
      Spec B N c iprop(RS B c n 0 ∗ (oks c 1 ∗ oks c 2)) (hopA KA (Wc c) (n + 1)) iprop(RS B c (n + 1) 0 ∗ (oks c 1 ∗ oks c 2)) := by
    intro n hn hk K
    iintro ⟨#HC, ⟨HR, #Hk⟩, HK⟩
    iapply (hopA_first (B := B) (N := N) (c := c) n hn K)
    isplitr; · iexact HC
    isplitl [HR]
    · isplitl [HR]; · iexact HR
      iapply hk
      iexact Hk
    iintro HR
    iapply HK
    isplitl [HR]; · iexact HR
    iexact Hk
  rw [Nat.add_comm 1 i]
  refine key i (by omega) ?_
  rcases (show i = 0 ∨ i = 1 by omega) with rfl | rfl
  · iintro ⟨H, -⟩; iexact H
  · iintro ⟨-, H⟩; iexact H

/-- The second loop of hops. -/
theorem hopsB_step : Spec B N c (RS B c 2 0) (hops (hopB KA (Wc c)) 3 27) (RS B c 29 27) :=
  hops_step (hopB KA (Wc c)) 27 3 (fun i => RS B c (i + 2) i) fun i hi => by
    rw [Nat.add_comm 3 i]
    exact hopB_step i (by omega)

/-- The loop of hops that pass on and store. -/
theorem hopsG_step : Spec B N c (AG B c 0) (hops (hopG KA (Wc c)) 33 27) (AG B c 27) :=
  hops_step (hopG KA (Wc c)) 27 33 (fun i => AG B c i) fun i hi => hopG_step i hi

/-- The last hops. -/
theorem hopsH_step :
    Spec B N c iprop(P2 B c 59 ∗ CT c 57 60 ∗ OS2 B c 27 ∗ ow c (rem 60 c)) (hops (hopH KA (Wc c)) 60 2)
      iprop((P2 B c 61 ∗ CT c 59 62 ∗ OS2 B c 29 ∗ ow c (rem 62 c)) ∗ Fr2 c 59 ∗ Fr2 c 60) := by
  intro K
  unfold hops hops hops
  iintro ⟨#HC, HP, HK⟩
  iapply (Spec.use (hopH_step (B := B) (N := N) (c := c) 27 (by omega) (by omega)))
  isplitr; · iexact HC
  isplitl [HP]; · iexact HP
  iintro ⟨HP, HF⟩
  iapply (Spec.use (hopH_step (B := B) (N := N) (c := c) 28 (by omega) (by omega)))
  isplitr; · iexact HC
  isplitl [HP]; · iexact HP
  iintro ⟨HP, HF'⟩
  iapply ret_step
  iapply HK
  isplitl [HP]; · iexact HP
  isplitl [HF] <;> iassumption

/-! ## The end -/

/-- A direction's stores, all made. -/
def OD (B : Blocks F) (d : Bool) (c : Dev nD) : sProp 𝕄 :=
  iprop((idle d c 32 ∗ idle d c 33) ∗ bigSep (Finset.range 32) (fin B d c))

/-- A direction's last arrivals. -/
def Last (B : Blocks F) (d : Bool) (c : Dev nD) : sProp 𝕄 :=
  iprop(Full B d 0 c 62 (AV B d 62 c 0) ∗ Full B d 1 c 62 (AV B d 62 c 1))

/-- The stores' state after the last hop. -/
theorem od_of (d : Bool) :
    iprop((idle d c 32 ∗ idle d c 33) ∗ (fin B d c 31 ∗ fin B d c 30 ∗ bigSep (Finset.range 30) (fin B d c))) ⊢ (OD B d c : sProp 𝕄) := by
  unfold OD
  rw [show (32 : Nat) = 30 + 1 + 1 from rfl, Finset.range_add_one (n := 30 + 1), bigSep_ins Finset.notMem_range_self,
    Finset.range_add_one (n := 30), bigSep_ins Finset.notMem_range_self]

/-- The last arrivals. -/
theorem waits_last (j : Fin 2) :
    Spec B N c iprop(PSt B false j c 61 ∗ PSt B true j c 61 ∗ ow c 0) (waits KA 62 j)
      iprop(Full B false j c 62 (AV B false 62 c j) ∗ Fr false j c 61 ∗ Full B true j c 62 (AV B true 62 c j) ∗ Fr true j c 61 ∗ ow c 0) := by
  rw [show AV B false 62 c j = AV B false 61 (nxt (!false) c) j from AV_keep false 61 j (by omega),
    show AV B true 62 c j = AV B true 61 (nxt (!true) c) j from AV_keep true 61 j (by omega)]
  exact waits_step 61 j (by omega) (above_zero _)

/-- The last stores. -/
theorem epilogue_step :
    Spec B N c iprop(P2 B c 61 ∗ OS2 B c 29 ∗ ow c 0) (epilogue KA (Wc c))
      iprop((Last B false c ∗ Last B true c) ∗ Fr2 c 61 ∗ (OD B false c ∗ OD B true c) ∗ ow c 0) := by
  have hf := Full_slot (B := B) (c := c) false 62
  have ht := Full_slot (B := B) (c := c) true 62
  intro K
  unfold epilogue P2
  iintro ⟨#HC, ⟨⟨⟨Hf0, Ht0⟩, Hf1, Ht1⟩, HS, HO⟩, HK⟩
  iapply (Spec.use (waits_last (B := B) (N := N) (c := c) 0))
  isplitr; · iexact HC
  isplitl [Hf0 Ht0 HO]
  · isplitl [Hf0]; · iexact Hf0
    isplitl [Ht0] <;> iassumption
  iintro ⟨Hf0, Ff0, Ht0, Ft0, HO⟩
  iapply (Spec.use (waits_last (B := B) (N := N) (c := c) 1))
  isplitr; · iexact HC
  isplitl [Hf1 Ht1 HO]
  · isplitl [Hf1]; · iexact Hf1
    isplitl [Ht1] <;> iassumption
  iintro ⟨Hf1, Ff1, Ht1, Ft1, HO⟩
  ihave Hf := hf $$ [Hf0 Hf1]
  · isplitl [Hf0] <;> iassumption
  ihave Ht := ht $$ [Ht0 Ht1]
  · isplitl [Ht0] <;> iassumption
  icases Hf with ⟨Sf, Hf⟩
  icases Ht with ⟨St, Ht⟩
  iapply (Spec.use (outNexts_step (B := B) (N := N) (c := c) (q := fullShare) 29 (by omega) (above_zero 0)))
  isplitr; · iexact HC
  isplitl [Sf St HS HO]
  · isplitl [Sf St]
    · isplitl [Sf] <;> iassumption
    isplitl [HS] <;> iassumption
  iintro ⟨⟨Sf, St⟩, HS, HO⟩
  ihave Hf := Hf $$ Sf
  ihave Ht := Ht $$ St
  unfold OS2 OSn
  icases HS with ⟨⟨⟨A0, A1⟩, -, AF⟩, ⟨B0, B1⟩, -, BF⟩
  iapply (Spec.use (outWaitF (B := B) (N := N) (c := c) false 30 (by omega) (above_zero 0)))
  isplitr; · iexact HC
  isplitl [A0 HO]
  · isplitl [A0] <;> iassumption
  iintro ⟨AI0, A0, HO⟩
  iapply (Spec.use (outWaitF (B := B) (N := N) (c := c) true 30 (by omega) (above_zero 0)))
  isplitr; · iexact HC
  isplitl [B0 HO]
  · isplitl [B0] <;> iassumption
  iintro ⟨BI0, B0, HO⟩
  iapply (Spec.use (outWaitF (B := B) (N := N) (c := c) false 31 (by omega) (above_zero 0)))
  isplitr; · iexact HC
  isplitl [A1 HO]
  · isplitl [A1] <;> iassumption
  iintro ⟨AI1, A1, HO⟩
  iapply (outWaitF (B := B) (N := N) (c := c) true 31 (by omega) (above_zero 0) K)
  isplitr; · iexact HC
  isplitl [B1 HO]
  · isplitl [B1] <;> iassumption
  iintro ⟨BI1, B1, HO⟩
  iapply HK
  unfold Last Fr2
  isplitl [Hf Ht]
  · isplitl [Hf] <;> iassumption
  isplitl [Ff0 Ff1 Ft0 Ft1]
  · isplitl [Ff0 Ff1]
    · isplitl [Ff0] <;> iassumption
    isplitl [Ft0] <;> iassumption
  isplitr [HO]
  · isplitl [AI0 AI1 A0 A1 AF]
    · iapply od_of
      isplitl [AI0 AI1]
      · isplitl [AI0] <;> iassumption
      isplitl [A1]; · iexact A1
      isplitl [A0] <;> iassumption
    iapply od_of
    isplitl [BI0 BI1]
    · isplitl [BI0] <;> iassumption
    isplitl [B1]; · iexact B1
    isplitl [B0] <;> iassumption
  iexact HO

/-- All a device leaves. -/
def Post (B : Blocks F) (c : Dev nD) : sProp 𝕄 :=
  iprop((Last B false c ∗ Last B true c) ∗ (Fr2 c 59 ∗ Fr2 c 60 ∗ Fr2 c 61) ∗ (OD B false c ∗ OD B true c) ∗ CT c 59 62
    ∗ atPos ER (cell c .bar) 1 ∅ 0 ∗ XW B c ∗ lpAny c 0 ∗ lpAny c 1 ∗ ow c 0)

/-- The stores begin: after hop 32, from after hop 29. -/
theorem turn_step :
    Spec B N c iprop(RS B c 29 27 ∗ (OI false c ∗ OI true c))
      (hopC KA (Wc c) 30 >>= fun _ => hopD KA (Wc c) 31 >>= fun _ => hopF KA (Wc c) 32)
      iprop(AG B c 0 ∗ lpAny c 0 ∗ lpAny c 1 ∗ XW B c) := by
  intro K
  unfold RS OI hopD hopF
  rw [bigSep_next (show 0 < 32 by omega) (tok false c), bigSep_next (show 0 + 1 < 32 by omega) (tok false c),
    bigSep_next (show 0 < 32 by omega) (tok true c), bigSep_next (show 0 + 1 < 32 by omega) (tok true c)]
  rw [show (31 - 31 : Nat) = 0 from rfl, show (32 - 31 : Nat) = 1 from rfl]
  iintro ⟨#HC, ⟨⟨HP, HT, HG, HL, HL', #HR, HX, HO⟩, ⟨⟨If0, If1⟩, Kf0, Kf1, Kf⟩, ⟨⟨It0, It1⟩, Kt0, Kt1, Kt⟩⟩, HK⟩
  iapply (Spec.use (hopC_step (B := B) (N := N) (c := c) 27 (by omega)))
  isplitr; · iexact HC
  isplitl [HP HT HG HL HO]
  · isplitl [HP]; · iexact HP
    isplitl [HT]; · iexact HT
    isplitl [HG]; · iexact HG
    isplitl [HL]; · iexact HL
    isplitr; · iexact HR
    iexact HO
  iintro ⟨HP, HT, HG, HL, HO⟩
  rw [bind_assoc]
  iapply (Spec.use (hopC_step (B := B) (N := N) (c := c) 28 (by omega)))
  isplitr; · iexact HC
  isplitl [HP HT HG HL' HO]
  · isplitl [HP]; · iexact HP
    isplitl [HT]; · iexact HT
    isplitl [HG]; · iexact HG
    isplitl [HL']; · iexact HL'
    isplitr; · iexact HR
    iexact HO
  iintro ⟨HP, HT, HG, HL', HO⟩
  iapply (Spec.use (outFirsts_step (B := B) (N := N) (c := c) 0 (by omega)))
  isplitr; · iexact HC
  isplitl [HP If0 Kf0 It0 Kt0]
  · isplitl [HP]; · iexact HP
    isplitl [If0 Kf0]
    · isplitl [If0] <;> iassumption
    isplitl [It0] <;> iassumption
  iintro ⟨HP, Yf0, Yt0⟩
  rw [← bind_assoc]
  iapply (Spec.use (hopEC_step (B := B) (N := N) (c := c) 29 (by omega) (by omega)))
  isplitr; · iexact HC
  isplitl [HP HT HG HO]
  · isplitl [HP]; · iexact HP
    isplitl [HT]; · iexact HT
    isplitl [HG]; · iexact HG
    isplitr; · iexact HR
    iexact HO
  iintro ⟨HP, HT, HG, HO⟩
  iapply (outFirsts_step (B := B) (N := N) (c := c) 1 (by omega) K)
  isplitr; · iexact HC
  isplitl [HP If1 Kf1 It1 Kt1]
  · isplitl [HP]; · iexact HP
    isplitl [If1 Kf1]
    · isplitl [If1] <;> iassumption
    isplitl [It1] <;> iassumption
  iintro ⟨HP, Yf1, Yt1⟩
  iapply HK
  isplitl [HP HT HG HO Yf0 Yf1 Yt0 Yt1 Kf Kt]
  · unfold AG
    isplitl [HP]; · iexact HP
    isplitl [HT]; · iexact HT
    isplitl [HG]; · iexact HG
    isplitr; · iexact HR
    isplitr [HO]
    · unfold OS2 OSn
      rw [Finset.range_zero, bigSep_empty, bigSep_empty]
      isplitl [Yf0 Yf1 Kf]
      · isplitl [Yf0 Yf1]
        · isplitl [Yf0] <;> iassumption
        isplitl [Kf]; · iexact Kf
        iempintro
      isplitl [Yt0 Yt1]
      · isplitl [Yt0] <;> iassumption
      isplitl [Kt]; · iexact Kt
      iempintro
    iexact HO
  isplitl [HL']
  · iapply (show (lpB B c 30 : sProp 𝕄) ⊢ lpAny c 0 from lpB_any 30)
    iexact HL'
  isplitl [HL]
  · iapply (show (lpB B c 29 : sProp 𝕄) ⊢ lpAny c 1 from lpB_any 29)
    iexact HL
  iexact HX

/-- The whole body of a device, once it knows its place. -/
theorem main_step :
    Spec B N c (Pre B c)
      (start KA (Wc c) >>= fun _ => hop0 KA (Wc c) >>= fun _ => hops (hopA KA (Wc c)) 1 2 >>= fun _ => hops (hopB KA (Wc c)) 3 27 >>= fun _ =>
        hopC KA (Wc c) 30 >>= fun _ => hopD KA (Wc c) 31 >>= fun _ => hopF KA (Wc c) 32 >>= fun _ => hops (hopG KA (Wc c)) 33 27 >>= fun _ =>
        hops (hopH KA (Wc c)) 60 2 >>= fun _ => epilogue KA (Wc c))
      (Post B c) := by
  refine Spec.seq start_step ?_
  refine Spec.seq hop0_step ?_
  intro K
  iintro ⟨#HC, ⟨HR, #Hk, HI, Ha⟩, HK⟩
  iapply (Spec.use (hopsA_step (B := B) (N := N) (c := c)))
  isplitr; · iexact HC
  isplitl [HR]
  · isplitl [HR]; · iexact HR
    iexact Hk
  iintro ⟨HR, -⟩
  iapply (Spec.use (hopsB_step (B := B) (N := N) (c := c)))
  isplitr; · iexact HC
  isplitl [HR]; · iexact HR
  iintro HR
  have ht := turn_step (B := B) (N := N) (c := c)
  have hu := Spec.use (k := hops (hopG KA (Wc c)) 33 27 >>= fun _ => hops (hopH KA (Wc c)) 60 2 >>= fun _ => epilogue KA (Wc c)) (Q := fun _ => K) ht
  rw [bind_assoc, bind_assoc] at hu
  iapply hu
  isplitr; · iexact HC
  isplitl [HR HI]
  · isplitl [HR] <;> iassumption
  iintro ⟨HG, HL0, HL1, HX⟩
  iapply (Spec.use (hopsG_step (B := B) (N := N) (c := c)))
  isplitr; · iexact HC
  isplitl [HG]; · iexact HG
  unfold AG
  iintro ⟨HP, HT, -, -, HS, HO⟩
  iapply (Spec.use (hopsH_step (B := B) (N := N) (c := c)))
  isplitr; · iexact HC
  isplitl [HP HT HS HO]
  · isplitl [HP]; · iexact HP
    isplitl [HT]; · iexact HT
    isplitl [HS] <;> iassumption
  rw [rem_end]
  iintro ⟨⟨HP, HT, HS, HO⟩, F59, F60⟩
  iapply (epilogue_step (B := B) (N := N) (c := c) K)
  isplitr; · iexact HC
  isplitl [HP HS HO]
  · isplitl [HP]; · iexact HP
    isplitl [HS] <;> iassumption
  iintro ⟨HL, F61, HD, HO⟩
  iapply HK
  unfold Post
  isplitl [HL]; · iexact HL
  isplitl [F59 F60 F61]
  · isplitl [F59]; · iexact F59
    isplitl [F60] <;> iassumption
  isplitl [HD]; · iexact HD
  isplitl [HT]; · iexact HT
  isplitl [Ha]; · iexact Ha
  isplitl [HX]; · iexact HX
  isplitl [HL0]; · iexact HL0
  isplitl [HL1] <;> iassumption

end Cert.KernelIdeal.Gen

end
-- ==== Proof.Tiles.lean ====
/- The buffers cut into the pieces the steps use, and put together again. -/
module

public import proofs.«01_k».proof.Proof.Whole
public import Idealize.ShloMosaic.Lib.Pipeline.RegionTalk
public import Idealize.ShloMosaic.Harness.Basic

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig ℕ (Elt F) ℕ UU ℕ

variable {B : Blocks F} {N : Names} {c : Dev nD}

/-- Rectangles that share no element and cover a shape. -/
structure Tiles {s : Shape} {T : Type} (R : T → Rect s) : Prop where
  disj : ∀ a b x y, (R a).emb x = (R b).emb y → a = b
  cover : ∀ z, ∃ a x, (R a).emb x = z

section tiles
variable {sp : Space} {s : Shape} {e : EltTy} {t : Thread nD τ} {v : View sig t.2.kind sp s e} {q : PosShare TreeShare}
variable {T : Type} [Fintype T] {R : T → Rect s}

/-- Two tiles have no element in common. -/
theorem Tiles.disjoint (H : Tiles R) (v : View sig t.2.kind sp s e) {a b : T} (h : a ≠ b) : Disjoint (v.slice (R a)).set (v.slice (R b)).set := by
  rw [Finset.disjoint_left]
  intro i h₀ h₁
  obtain ⟨x, -, rfl⟩ := Finset.mem_map.mp h₀
  obtain ⟨y, -, hy⟩ := Finset.mem_map.mp h₁
  have hy : v.emb ((R b).emb y) = v.emb ((R a).emb x) := hy
  exact h (H.disj _ _ _ _ (v.emb.injective hy)).symm

/-- The tiles are the whole. -/
theorem Tiles.union (H : Tiles R) (v : View sig t.2.kind sp s e) : v.set = Finset.univ.biUnion fun a => (v.slice (R a)).set := by
  refine Finset.Subset.antisymm ?_ (Finset.biUnion_subset.mpr fun a _ => ?_)
  · intro i hi
    obtain ⟨z, -, rfl⟩ := Finset.mem_map.mp hi
    obtain ⟨a, x, rfl⟩ := H.cover z
    exact Finset.mem_biUnion.mpr ⟨a, Finset.mem_univ _, Finset.mem_map.mpr ⟨x, Finset.mem_univ _, rfl⟩⟩
  · intro i hi
    obtain ⟨x, -, rfl⟩ := Finset.mem_map.mp hi
    exact Finset.mem_map.mpr ⟨(R a).emb x, Finset.mem_univ _, rfl⟩

/-- A buffer at some values is its tiles at some values. -/
theorem Tiles.any_split (H : Tiles R) : (anyv t v : sProp 𝕄) ⊢ bigSep Finset.univ fun a => anyv t (v.slice (R a)) := by
  have h : ∀ f : Buf (Elt F) (v.loc t), ((v.loc t) ↦[v.set]{fullShare} f : sProp 𝕄) ⊢ bigSep Finset.univ fun a => anyv t (v.slice (R a)) := by
    intro f
    rw [H.union v, pointsTo_biUnion Finset.univ _ fun a _ b _ h => H.disjoint v h]
    exact bigSep_mono fun a _ => anyv_intro (v := v.slice (R a)) (f := f)
  have h' : (anyv t v : sProp 𝕄) ⊢ iprop(∃ f : Buf (Elt F) (v.loc t), (v.loc t) ↦[v.set]{fullShare} f) := Entails.of_eq rfl
  refine h'.trans ?_
  iintro ⟨%f, Hf⟩
  iapply (h f)
  iexact Hf

/-- The tiles held are the buffer held, at the values that are each tile's. -/
theorem Tiles.join [DecidableEq T] (H : Tiles R) (f₀ : Buf (Elt F) (v.loc t)) (V : (a : T) → (R a).shape.Idx → Elt F e) (X : s.Idx → Elt F e) (hX : ∀ a x, X ((R a).emb x) = V a x) :
    (bigSep Finset.univ fun a => held t (v.slice (R a)) q (V a) : sProp 𝕄) ⊢ held t v q X := by
  haveI : ∀ a : T, Nonempty (Buf (Elt F) ((v.slice (R a)).loc t)) := fun a => ⟨f₀⟩
  unfold held
  iintro H0
  ihave H1 := (bigSep_exists_pi (Y := fun a : T => Buf (Elt F) ((v.slice (R a)).loc t)) Finset.univ
    fun a f => iprop(⌜(v.slice (R a)).read (Elt F) f = V a⌝ ∗ (v.slice (R a)).loc t ↦[(v.slice (R a)).set]{q} f)) $$ H0
  icases H1 with ⟨%fs, H1⟩
  ihave H2 := (BI.bigSep_pure_sep Finset.univ (fun a => (v.slice (R a)).read (Elt F) (fs a) = V a)
    (fun a => (v.slice (R a)).loc t ↦[(v.slice (R a)).set]{q} fs a)) $$ H1
  icases H2 with ⟨%hp, H2⟩
  ihave H3 := (pointsTo_biUnion_join (ℓ := v.loc t) Finset.univ (fun a => (v.slice (R a)).set) fs f₀ fun a _ b _ h => H.disjoint v h) $$ H2
  icases H3 with ⟨%g, %hg, H3⟩
  iexists g
  rw [← H.union v]
  isplitr
  · ipureintro
    funext z
    obtain ⟨a, x, rfl⟩ := H.cover z
    rw [hX, ← hp a (Finset.mem_univ _)]
    exact congrFun (View.read_congr (v := v.slice (R a)) (hg a (Finset.mem_univ _))) x
  iexact H3

/-- The tiles at some values are the buffer at some values. -/
theorem Tiles.any_join [DecidableEq T] (H : Tiles R) (f₀ : Buf (Elt F) (v.loc t)) :
    (bigSep Finset.univ fun a => anyv t (v.slice (R a)) : sProp 𝕄) ⊢ anyv t v := by
  haveI : ∀ a : T, Nonempty (Buf (Elt F) ((v.slice (R a)).loc t)) := fun a => ⟨f₀⟩
  unfold anyv
  iintro H0
  ihave H1 := (bigSep_exists_pi (Y := fun a : T => Buf (Elt F) ((v.slice (R a)).loc t)) Finset.univ
    fun a f => iprop((v.slice (R a)).loc t ↦[(v.slice (R a)).set]{fullShare} f)) $$ H0
  icases H1 with ⟨%fs, H1⟩
  ihave H3 := (pointsTo_biUnion_join (ℓ := v.loc t) Finset.univ (fun a => (v.slice (R a)).set) fs f₀ fun a _ b _ h => H.disjoint v h) $$ H1
  icases H3 with ⟨%g, -, H3⟩
  iexists g
  rw [← H.union v]
  iexact H3

end tiles

/-! ## The tilings -/

/-- The four slots are the whole buffer. -/
theorem tilesSlot : Tiles rSlot where
  disj a b x y h := by
    have h0 := congrArg (fun i : S4x64x8192.Idx => (i 0).val) h
    change a.val + 1 * (x 0).val = b.val + 1 * (y 0).val at h0
    have hx : (x 0).val < 1 := (x 0).isLt
    have hy : (y 0).val < 1 := (y 0).isLt
    exact Fin.ext (by omega)
  cover z := by
    refine ⟨z 0, (fun a => match a with | ⟨0, _⟩ => ⟨0, Nat.one_pos⟩ | ⟨1, _⟩ => z 1 | ⟨2, _⟩ => z 2 : S1x64x8192.Idx), ?_⟩
    funext a
    refine Fin.ext ?_
    match a with
    | ⟨0, _⟩ => rfl
    | ⟨1, _⟩ => change 0 + 1 * (z 1).val = (z 1).val; omega
    | ⟨2, _⟩ => change 0 + 1 * (z 2).val = (z 2).val; omega

/-- The four partial products are the whole buffer. -/
theorem tilesLp : Tiles fun p : Fin 2 × Bool => rLp p.1 p.2 where
  disj a b x y h := by
    have h0 := congrArg (fun i : S2x2x64x8192.Idx => (i 0).val) h
    have h1 := congrArg (fun i : S2x2x64x8192.Idx => (i 1).val) h
    change a.1.val + 1 * (x 0).val = b.1.val + 1 * (y 0).val at h0
    change dn a.2 + 1 * (x 1).val = dn b.2 + 1 * (y 1).val at h1
    have hx : (x 0).val < 1 := (x 0).isLt
    have hy : (y 0).val < 1 := (y 0).isLt
    have hx1 : (x 1).val < 1 := (x 1).isLt
    have hy1 : (y 1).val < 1 := (y 1).isLt
    refine Prod.ext (Fin.ext (by omega)) ?_
    have : dn a.2 = dn b.2 := by omega
    revert this
    cases a.2 <;> cases b.2 <;> simp [dn]
  cover z := by
    have hz : (z 1).val < 2 := (z 1).isLt
    refine ⟨(z 0, (z 1).val == 1), (fun a => match a with | ⟨0, _⟩ => ⟨0, Nat.one_pos⟩ | ⟨1, _⟩ => ⟨0, Nat.one_pos⟩ | ⟨2, _⟩ => z 2 | ⟨3, _⟩ => z 3 : S1x1x64x8192.Idx), ?_⟩
    funext a
    refine Fin.ext ?_
    match a with
    | ⟨0, _⟩ => rfl
    | ⟨1, _⟩ =>
      change dn ((z 1).val == 1) + 1 * 0 = (z 1).val
      rcases (show (z 1).val = 0 ∨ (z 1).val = 1 by omega) with e | e <;> rw [e] <;> rfl
    | ⟨2, _⟩ => change 0 + 1 * (z 2).val = (z 2).val; omega
    | ⟨3, _⟩ => change 0 + 1 * (z 3).val = (z 3).val; omega

/-- The store that writes a chunk. -/
theorem chO_inj (d : Bool) (c : Dev nD) (t t' : Fin 32) (h : chO d c t.val = chO d c t'.val) : t = t' := by
  have ht := t.isLt
  have ht' := t'.isLt
  refine Fin.ext ?_
  cases d
  · change (posn c + 33 - t.val % 32) % 32 = (posn c + 33 - t'.val % 32) % 32 at h
    omega
  · change (posn c + 31 + t.val) % 32 = (posn c + 31 + t'.val) % 32 at h
    omega

/-- Every chunk is written by some store. -/
theorem chO_surj (d : Bool) (c : Dev nD) (k : Fin 32) : ∃ t : Fin 32, chO d c t.val = k.val := by
  have hk := k.isLt
  cases d
  · refine ⟨⟨(posn c + 33 - k.val) % 32, Nat.mod_lt _ (by decide)⟩, ?_⟩
    change (posn c + 33 - (posn c + 33 - k.val) % 32 % 32) % 32 = k.val
    omega
  · refine ⟨⟨(33 + k.val + 31 * posn c) % 32, Nat.mod_lt _ (by decide)⟩, ?_⟩
    change (posn c + 31 + (33 + k.val + 31 * posn c) % 32) % 32 = k.val
    omega

/-- There are 32 chunks. -/
theorem chO_lt (d : Bool) (c : Dev nD) (t : Nat) : chO d c t < 32 := by
  cases d <;> exact Nat.mod_lt _ (by decide)

/-- The stores' rows are the whole result. -/
theorem tilesOut (c : Dev nD) : Tiles fun p : Bool × Fin 32 => rOut (Wc c) p.1 p.2 where
  disj a b x y h := by
    have h0 := congrArg (fun i : S4096x8192.Idx => (i 0).val) h
    change offOut (Wc c) a.1 a.2 0 + 1 * (x 0).val = offOut (Wc c) b.1 b.2 0 + 1 * (y 0).val at h0
    rw [offOut_row, offOut_row] at h0
    have hx : (x 0).val < 64 := (x 0).isLt
    have hy : (y 0).val < 64 := (y 0).isLt
    have hd : ∀ d : Bool, dn d < 2 := by decide
    have ha := hd a.1
    have hb := hd b.1
    have e : dn a.1 = dn b.1 := by omega
    have e1 : a.1 = b.1 := by
      revert e
      cases a.1 <;> cases b.1 <;> simp [dn]
    refine Prod.ext e1 (chO_inj b.1 c _ _ ?_)
    rw [e1] at h0
    omega
  cover z := by
    have hz : (z 0).val < 4096 := (z 0).isLt
    obtain ⟨t, ht⟩ := chO_surj (((z 0).val / 64) % 2 == 1) c ⟨(z 0).val / 128, by omega⟩
    refine ⟨(((z 0).val / 64) % 2 == 1, t), (fun a => match a with | ⟨0, _⟩ => ⟨(z 0).val % 64, Nat.mod_lt _ (by decide)⟩ | ⟨1, _⟩ => z 1 : S64x8192.Idx), ?_⟩
    have hd : dn (((z 0).val / 64) % 2 == 1) = ((z 0).val / 64) % 2 := by
      rcases (show ((z 0).val / 64) % 2 = 0 ∨ ((z 0).val / 64) % 2 = 1 by omega) with e | e <;> rw [e] <;> rfl
    funext a
    refine Fin.ext ?_
    match a with
    | ⟨0, _⟩ =>
      change offOut (Wc c) _ t 0 + 1 * ((z 0).val % 64) = (z 0).val
      rw [offOut_row, ht, hd]
      change 128 * ((z 0).val / 128) + 64 * (((z 0).val / 64) % 2) + 1 * ((z 0).val % 64) = (z 0).val
      omega
    | ⟨1, _⟩ =>
      change offOut (Wc c) _ t 1 + 1 * (z 1).val = (z 1).val
      rw [offOut_col]
      omega

end Cert.KernelIdeal.Gen

end
-- ==== Proof.Fund.lean ====
/- What the launch deals: the cells, the duties, the slots and the credits. -/
module

public import proofs.«01_k».proof.Proof.Tiles

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig ℕ (Elt F) ℕ UU ℕ

variable {B : Blocks F} {N : Names} {c : Dev nD}

/-! ## The cells of the kernel's own semaphores -/

/-- The cells of one direction. -/
abbrev SK : Type := Unit ⊕ (Fin 2 × Fin 4) ⊕ (Fin 2 × Fin 4) ⊕ Fin 2

/-- The kind of a direction's cell. -/
def SK.kind (d : Bool) : SK → Kind
  | .inl _ => .cred d
  | .inr (.inl x) => .snd d x.2 x.1
  | .inr (.inr (.inl x)) => .rcv d x.2 x.1
  | .inr (.inr (.inr p)) => .sto (stg d p.val)

/-- Direction and parity name a staging slot once. -/
theorem stg_inj : ∀ (d d' : Bool) (p p' : Fin 2), stg d p.val = stg d' p'.val → d = d' ∧ p = p' := by decide

/-- The kinds of a device's own cells are told apart by their indices. -/
theorem kind_inj {d d' : Bool} {k k' : SK} (h : k.kind d = k'.kind d') : d = d' ∧ k = k' := by
  rcases k with k | k | k | k <;> rcases k' with k' | k' | k' | k' <;> simp only [SK.kind, Kind.cred.injEq, Kind.snd.injEq, Kind.rcv.injEq, Kind.sto.injEq, reduceCtorEq] at h
  · exact ⟨h, rfl⟩
  · exact ⟨h.1, by rw [show k = k' from Prod.ext h.2.2 h.2.1]⟩
  · exact ⟨h.1, by rw [show k = k' from Prod.ext h.2.2 h.2.1]⟩
  · obtain ⟨h1, h2⟩ := stg_inj _ _ _ _ h
    exact ⟨h1, by rw [h2]⟩

/-- The kernel's own semaphores. -/
def osem (x : Bool × SK) : SemLoc sig := (x.2.kind x.1).sem

/-- So are their semaphores. -/
theorem osem_inj : Function.Injective osem := fun x y h => by
  obtain ⟨h1, h2⟩ := kind_inj (sem_inj h)
  exact Prod.ext h1 h2

/-- None of them is the barrier. -/
theorem kind_ne_bar (d : Bool) (k : SK) : k.kind d ≠ .bar := by
  rcases k with k | k | k | k <;> exact fun h => nomatch h

/-- They are all scoped, and no staging semaphore of the pipeline is among them. -/
theorem osem_facts : Pipeline.OwnSemFacts spec0 osem where
  isScoped := by decide
  inj := osem_inj
  disj := by decide

/-! ## Families -/

/-- A product over the directions is its two factors. -/
theorem bigSep_dir {Φ : Bool → sProp 𝕄} : bigSep Finset.univ Φ = iprop(Φ false ∗ Φ true) := by
  rw [show (Finset.univ : Finset Bool) = {false, true} from by decide, BI.bigSep_insert (by decide), BI.bigSep_singleton]
  rfl

/-- A product over four is its four factors. -/
theorem bigSep_four {Φ : Fin 4 → sProp 𝕄} : bigSep Finset.univ Φ = iprop(Φ 0 ∗ Φ 1 ∗ Φ 2 ∗ Φ 3) := by
  rw [show (Finset.univ : Finset (Fin 4)) = {0, 1, 2, 3} from by decide, BI.bigSep_insert (by decide), BI.bigSep_insert (by decide), BI.bigSep_insert (by decide),
    BI.bigSep_singleton]
  rfl

/-- A product over `Fin n` as one over the numbers below `n`. -/
theorem bigSep_upto (n : Nat) (Φ : Nat → sProp 𝕄) : (bigSep Finset.univ fun i : Fin n => Φ i.val) = bigSep (Finset.Ico 0 n) Φ := by
  have e : Finset.Ico 0 n = (Finset.univ : Finset (Fin n)).map Fin.valEmbedding := by
    ext i
    simp only [Finset.mem_Ico, Finset.mem_map, Finset.mem_univ, Fin.valEmbedding_apply, true_and, Nat.zero_le]
    exact ⟨fun h => ⟨⟨i, h⟩, rfl⟩, fun ⟨j, hj⟩ => hj ▸ j.isLt⟩
  rw [e, BI.bigSep_map]
  rfl

/-- A direction's cells, kind by kind. -/
theorem bigSep_SK (Φ : SK → sProp 𝕄) : bigSep Finset.univ Φ
    = iprop(Φ (.inl ()) ∗ ((bigSep Finset.univ fun s => Φ (.inr (.inl (0, s)))) ∗ bigSep Finset.univ fun s => Φ (.inr (.inl (1, s))))
      ∗ ((bigSep Finset.univ fun s => Φ (.inr (.inr (.inl (0, s))))) ∗ bigSep Finset.univ fun s => Φ (.inr (.inr (.inl (1, s)))))
      ∗ (Φ (.inr (.inr (.inr 0))) ∗ Φ (.inr (.inr (.inr 1))))) := by
  rw [BI.bigSep_univ_sum, BI.bigSep_univ_sum, BI.bigSep_univ_sum, BI.bigSep_univ_prod, BI.bigSep_univ_prod, BI.bigSep_fin_two, BI.bigSep_fin_two, BI.bigSep_fin_two,
    show (Finset.univ : Finset Unit) = {()} from rfl, BI.bigSep_singleton]
  rfl

/-! ## The duties -/

/-- The duties a device performs in one direction. -/
abbrev TK : Type := Unit ⊕ Fin 59 ⊕ (Fin 2 × Fin 62) ⊕ (Fin 2 × Fin 62) ⊕ Fin 32

/-- A duty, by the device that performs it. -/
def dutyOf (x : Dev nD × Bool × TK) : GSem nD τ sig × ℕ × ℕ :=
  match x with
  | (c, d, .inl _) => (cell (nxt d c) .bar, 0, nB d)
  | (c, d, .inr (.inl i)) => (cC d (nxt (!d) c), 0, i.val)
  | (c, d, .inr (.inr (.inl y))) => (cS d y.1 y.2.val c, y.2.val / 4, 0)
  | (c, d, .inr (.inr (.inr (.inl y)))) => (cR d y.1 y.2.val (nxt d c), y.2.val / 4, 0)
  | (c, d, .inr (.inr (.inr (.inr t)))) => (cO' d t.val c, t.val / 2, 0)

/-- A barrier's duty is named by the direction it came from. -/
theorem nB_inj : ∀ d d' : Bool, nB d = nB d' → d = d' := by decide

/-- A step of the ring is injective. -/
theorem nxt_inj (d : Bool) {c c' : Dev nD} (h : nxt d c = nxt d c') : c = c' := by
  have := congrArg (nxt (!d)) h
  rwa [nxt_nxt, nxt_nxt] at this

/-- A hop's number is found from its slot and its round. -/
theorem hop_inj {k k' : Nat} (h : k / 4 = k' / 4) (hs : sl k = sl k') : k = k' := by
  have := congrArg Fin.val hs
  change k % 4 = k' % 4 at this
  omega

/-- The same for the hop's arrival. -/
theorem hop_inj' {k k' : Nat} (h : k / 4 = k' / 4) (hs : sl (k + 1) = sl (k' + 1)) : k = k' := by
  have := congrArg Fin.val hs
  change (k + 1) % 4 = (k' + 1) % 4 at this
  omega

/-- A store's number is found from its staging slot and its round. -/
theorem store_inj {d d' : Bool} {k k' : Nat} (h : k / 2 = k' / 2) (hs : stg d k = stg d' k') : d = d' ∧ k = k' := by
  have := congrArg Fin.val hs
  change 2 * (k % 2) + dn d = 2 * (k' % 2) + dn d' at this
  cases d <;> cases d' <;> simp only [dn] at this
  · exact ⟨rfl, by omega⟩
  · omega
  · omega
  · exact ⟨rfl, by omega⟩

/-- No two steps of the devices answer for one duty. -/
theorem dutyOf_inj : Function.Injective dutyOf := by
  rintro ⟨c, d, k⟩ ⟨c', d', k'⟩ h
  rcases k with k | k | ⟨j, k⟩ | ⟨j, k⟩ | k <;> rcases k' with k' | k' | ⟨j', k'⟩ | ⟨j', k'⟩ | k' <;>
    simp only [dutyOf, Prod.mk.injEq, cC, cS, cR, cO'] at h <;> obtain ⟨h1, h2, h3⟩ := h <;> obtain ⟨hc, hk⟩ := cell_inj h1 <;>
    simp only [Kind.cred.injEq, Kind.snd.injEq, Kind.rcv.injEq, Kind.sto.injEq, reduceCtorEq] at hk
  · obtain rfl := nB_inj _ _ h3
    obtain rfl := nxt_inj d hc
    rfl
  · subst hk
    obtain rfl := nxt_inj _ hc
    obtain rfl := Fin.ext h3
    rfl
  · obtain ⟨rfl, hs, rfl⟩ := hk
    subst hc
    obtain rfl := Fin.ext (hop_inj h2 hs)
    rfl
  · obtain ⟨rfl, hs, rfl⟩ := hk
    obtain rfl := nxt_inj _ hc
    obtain rfl := Fin.ext (hop_inj' h2 hs)
    rfl
  · have hp := store_inj h2 hk
    subst hc
    obtain rfl := hp.1
    obtain rfl := Fin.ext hp.2
    rfl

/-- A direction's duties, kind by kind. -/
theorem bigSep_TK (Φ : TK → sProp 𝕄) : bigSep Finset.univ Φ
    = iprop(Φ (.inl ()) ∗ (bigSep Finset.univ fun i => Φ (.inr (.inl i)))
      ∗ ((bigSep Finset.univ fun h => Φ (.inr (.inr (.inl (0, h))))) ∗ bigSep Finset.univ fun h => Φ (.inr (.inr (.inl (1, h)))))
      ∗ ((bigSep Finset.univ fun h => Φ (.inr (.inr (.inr (.inl (0, h)))))) ∗ bigSep Finset.univ fun h => Φ (.inr (.inr (.inr (.inl (1, h))))))
      ∗ bigSep Finset.univ fun t => Φ (.inr (.inr (.inr (.inr t))))) := by
  rw [BI.bigSep_univ_sum, BI.bigSep_univ_sum, BI.bigSep_univ_sum, BI.bigSep_univ_sum, BI.bigSep_univ_prod, BI.bigSep_univ_prod, BI.bigSep_fin_two, BI.bigSep_fin_two,
    show (Finset.univ : Finset Unit) = {()} from rfl, BI.bigSep_singleton]
  rfl

/-- Every duty. -/
def allToks : Finset (GSem nD τ sig × ℕ × ℕ) := Finset.univ.map ⟨dutyOf, dutyOf_inj⟩

/-- The duties a device performs in one direction, as it holds them. -/
def toks (d : Bool) (c : Dev nD) : sProp 𝕄 :=
  iprop(dutyTok ER (cell (nxt d c) .bar) 0 (nB d) ∗ (bigSep (Finset.Ico 0 59) fun i => dutyTok ER (cC d (nxt (!d) c)) 0 i)
    ∗ (bigSep (Finset.Ico 0 62) (outs d 0 c) ∗ bigSep (Finset.Ico 0 62) (outs d 1 c))
    ∗ bigSep (Finset.Ico 0 32) fun t => dutyTok ER (cO' d t c) (t / 2) 0)

/-- The duties dealt at launch are every device's duties. -/
theorem toks_eq : bigSep allToks (fun x => (dutyTok ER x.1 x.2.1 x.2.2 : sProp 𝕄)) ⊢ bigSep Finset.univ fun c : Dev nD => iprop(toks false c ∗ toks true c) := by
  unfold allToks
  rw [BI.bigSep_map, BI.bigSep_univ_prod]
  refine bigSep_mono fun c _ => ?_
  rw [BI.bigSep_univ_prod, bigSep_dir]
  have h : ∀ d : Bool, (bigSep Finset.univ fun k : TK => (dutyTok ER (dutyOf (c, d, k)).1 (dutyOf (c, d, k)).2.1 (dutyOf (c, d, k)).2.2 : sProp 𝕄)) ⊢ toks d c := by
    intro d
    unfold toks
    rw [bigSep_TK]
    rw [← bigSep_upto 59 fun i => dutyTok ER (cC d (nxt (!d) c)) 0 i, ← bigSep_upto 62 (outs d 0 c), ← bigSep_upto 62 (outs d 1 c),
      ← bigSep_upto 32 fun t => dutyTok ER (cO' d t c) (t / 2) 0]
    unfold outs
    iintro ⟨H1, H2, ⟨S0, S1⟩, ⟨R0, R1⟩, H5⟩
    isplitl [H1]; · iexact H1
    isplitl [H2]; · iexact H2
    isplitr [H5]
    · isplitl [S0 R0]
      · iapply bigSep_pair
        isplitl [S0]; · iexact S0
        iexact R0
      · iapply bigSep_pair
        isplitl [S1]; · iexact S1
        iexact R1
    iexact H5
  exact BI.sep_mono (h false) (h true)

/-! ## The slots -/

/-- What a device holds of the slots in one direction. -/
def slots (d : Bool) (c : Dev nD) : sProp 𝕄 :=
  iprop((bigSep Finset.univ fun s : Fin 4 => Release.readerAt EL (c, d, s) 0) ∗ wts d c 0)

/-- The slots' readers, device by device. -/
theorem readers_eq : (bigSep Finset.univ fun k : Key => (Release.readerAt EL k 0 : sProp 𝕄))
    = bigSep Finset.univ fun c : Dev nD => iprop((bigSep Finset.univ fun s : Fin 4 => Release.readerAt EL (c, false, s) 0)
      ∗ bigSep Finset.univ fun s : Fin 4 => Release.readerAt EL (c, true, s) 0) := by
  rw [BI.bigSep_univ_prod]
  refine bigSep_congr fun c _ => ?_
  rw [BI.bigSep_univ_prod, bigSep_dir]

/-- The right to fill a slot, by the device that fills it. -/
def writeOf (x : Dev nD × Bool × Fin 62) : Key × ℕ := ((nxt x.2.1 x.1, x.2.1, sl (x.2.2.val + 1)), x.2.2.val / 4)

/-- No two steps write one slot in one round. -/
theorem writeOf_inj : Function.Injective writeOf := by
  rintro ⟨c, d, h⟩ ⟨c', d', h'⟩ e
  simp only [writeOf, Prod.mk.injEq] at e
  obtain ⟨⟨e1, rfl, e3⟩, e4⟩ := e
  obtain rfl := nxt_inj _ e1
  obtain rfl := Fin.ext (hop_inj' e4 e3)
  rfl

/-- The rights to write the slots are every device's. -/
theorem writes_eq : (bigSep ((Finset.univ : Finset Key) ×ˢ Finset.range 16) fun x => (Release.writeTok EL x.1 (x.2 + 1) : sProp 𝕄))
    ⊢ bigSep Finset.univ fun c : Dev nD => iprop(wts false c 0 ∗ wts true c 0) := by
  have hs : (Finset.univ.map ⟨writeOf, writeOf_inj⟩ : Finset (Key × ℕ)) ⊆ (Finset.univ : Finset Key) ×ˢ Finset.range 16 := by
    intro y hy
    obtain ⟨x, -, rfl⟩ := Finset.mem_map.mp hy
    have := x.2.2.isLt
    exact Finset.mem_product.mpr ⟨Finset.mem_univ _, Finset.mem_range.mpr (by change x.2.2.val / 4 < 16; omega)⟩
  refine (bigSep_subset hs).trans ?_
  rw [BI.bigSep_map, BI.bigSep_univ_prod]
  refine bigSep_mono fun c _ => ?_
  rw [BI.bigSep_univ_prod, bigSep_dir]
  unfold wts
  rw [← bigSep_upto 62, ← bigSep_upto 62]
  exact Entails.refl _

/-! ## The credits -/

/-- One family of dues, each device's at its neighbour's cell, gives each device its credit. -/
theorem cred_one (e : Bool) (k : Kind) (u n : Nat) (c : Dev nD) :
    (Pipeline.launchCred (fun d => tallyAt (cell (nxt e d) k) u n) c : sProp 𝕄) ⊢ cred (tallyAt (cell c k) u n) := by
  refine (Pipeline.launchCred_elim _ c k.sem).trans (Entails.of_eq (congrArg _ ?_))
  unfold tallyAt
  refine congrArg _ (Finsupp.ext fun i => ?_)
  rw [Pipeline.launchCredit_owing, Finset.sum_eq_single (nxt (!e) c)]
  · change (tallyAt (cell (nxt e (nxt (!e) c)) k) u n : CellTallies nD τ sig ℕ) (cell c k) i = _
    rw [nxt_nxt']
    unfold tallyAt
    rw [tallyOn_self]
  · intro d _ hd
    have hne : cell c k ≠ cell (nxt e d) k := fun h => hd (by rw [(cell_inj h).1, nxt_nxt])
    exact DFunLike.congr_fun (tallyAt_ne_cell (ι := u) (k := n) hne) i
  · exact fun h => absurd (Finset.mem_univ _) h

/-- The credits of a sum of debts. -/
theorem cred_sum (S : Finset ℕ) (f : ℕ → Dev nD → CellTallies nD τ sig ℕ) (c : Dev nD) :
    (Pipeline.launchCred (fun d => ∑ i ∈ S, f i d) c : sProp 𝕄) ⊢ bigSep S fun i => Pipeline.launchCred (f i) c := by
  classical
  induction S using Finset.induction_on with
  | empty => iintro -; rw [bigSep_empty]; iempintro
  | insert a S ha ih =>
    rw [BI.bigSep_insert ha, show (fun d => ∑ i ∈ insert a S, f i d) = fun d => f a d + ∑ i ∈ S, f i d from funext fun d => Finset.sum_insert ha,
      Pipeline.launchCred_add (f a)]
    exact sep_mono_right ih

/-- What a device is owed of arrivals at a hop, -/
def rcs (c : Dev nD) (i : Nat) : sProp 𝕄 := iprop(rc false 0 c i ∗ rc true 0 c i ∗ rc false 1 c i ∗ rc true 1 c i)

/-- and of credits. -/
def ccs (c : Dev nD) (i : Nat) : sProp 𝕄 := iprop(cred (tallyAt (cC false c) (2 * i + 11) 1) ∗ cred (tallyAt (cC true c) (2 * i + 11) 1))

/-- The credits of one hop. -/
theorem cred_hop (c : Dev nD) (i : Nat) :
    (Pipeline.launchCred (fun d => sO i d + cO i d) c : sProp 𝕄) ⊢ iprop(rcs c i ∗ if 1 ≤ i ∧ i ≤ 59 then ccs c i else iprop(emp)) := by
  have h1 : (Pipeline.launchCred (sO i) c : sProp 𝕄) ⊢ rcs c i := by
    unfold sO
    rw [Pipeline.launchCred_add (fun d => tS false i 0 d + tS true i 0 d + tS false i 1 d), Pipeline.launchCred_add (fun d => tS false i 0 d + tS true i 0 d),
      Pipeline.launchCred_add (fun d => tS false i 0 d)]
    unfold rcs rc tS
    iintro ⟨⟨⟨H0, H1⟩, H2⟩, H3⟩
    isplitl [H0]; · iapply (cred_one false); iexact H0
    isplitl [H1]; · iapply (cred_one true); iexact H1
    isplitl [H2]; · iapply (cred_one false); iexact H2
    iapply (cred_one true); iexact H3
  have h2 : (Pipeline.launchCred (cO i) c : sProp 𝕄) ⊢ if 1 ≤ i ∧ i ≤ 59 then ccs c i else iprop(emp) := by
    by_cases h : 1 ≤ i ∧ i ≤ 59
    · rw [if_pos h, show (cO i : Dev nD → CellTallies nD τ sig ℕ) = fun d => tC false i d + tC true i d from funext fun d => if_pos h,
        Pipeline.launchCred_add (fun d => tC false i d)]
      unfold ccs tC
      iintro ⟨H0, H1⟩
      isplitl [H0]; · iapply (cred_one true); iexact H0
      iapply (cred_one false); iexact H1
    · rw [if_neg h]
      iintro -
      iempintro
  rw [Pipeline.launchCred_add (sO i)]
  iintro ⟨H1, H2⟩
  isplitl [H1]; · iapply h1; iexact H1
  iapply h2; iexact H2

/-- The credits of one direction. -/
def creds (d : Bool) (c : Dev nD) : sProp 𝕄 :=
  iprop((bigSep (Finset.Ico 0 62) (rc d 0 c) ∗ bigSep (Finset.Ico 0 62) (rc d 1 c)) ∗ crds d c)

/-- The credits of all hops. -/
theorem ccs_all (c : Dev nD) :
    (bigSep (Finset.Ico 0 62) fun i => (if 1 ≤ i ∧ i ≤ 59 then ccs c i else iprop(emp) : sProp 𝕄)) ⊢ iprop(crds false c ∗ crds true c) := by
  have hs : (Finset.Ico 0 59).map (addRightEmbedding 1) ⊆ Finset.Ico 0 62 := by
    rw [Finset.map_add_right_Ico]
    exact Finset.Ico_subset_Ico (by decide) (by decide)
  refine (bigSep_subset hs).trans ?_
  rw [BI.bigSep_map]
  have he : (bigSep (Finset.Ico 0 59) fun i => (if 1 ≤ i + 1 ∧ i + 1 ≤ 59 then ccs c (i + 1) else iprop(emp) : sProp 𝕄))
      = bigSep (Finset.Ico 0 59) fun i => iprop(cred (tallyAt (cC false c) (2 * i + 13) 1) ∗ cred (tallyAt (cC true c) (2 * i + 13) 1)) :=
    bigSep_congr fun i hi => by
      have := (Finset.mem_Ico.mp hi).2
      rw [if_pos ⟨by omega, by omega⟩]
      rfl
  refine (Entails.of_eq he).trans ?_
  unfold crds
  exact Entails.of_eq (BI.bigSep_sep _ _ _)

/-- What the launch credits a device, cell by cell. -/
theorem creds_all (c : Dev nD) :
    (Pipeline.launchCred O₀ c : sProp 𝕄) ⊢ iprop(creds false c ∗ creds true c ∗ cred (tallyAt (cell c .bar) 1 2)) := by
  have hrem : (Pipeline.launchCred (rem 0) c : sProp 𝕄) ⊢ iprop((bigSep (Finset.Ico 0 62) (rcs c)) ∗ bigSep (Finset.Ico 0 62) fun i => if 1 ≤ i ∧ i ≤ 59 then ccs c i else iprop(emp)) := by
    refine (cred_sum (Finset.Ico 0 62) (fun i d => sO i d + cO i d) c).trans ?_
    refine (bigSep_mono fun i _ => cred_hop c i).trans ?_
    exact Entails.of_eq (BI.bigSep_sep _ _ _)
  have hrcs : (bigSep (Finset.Ico 0 62) (rcs c) : sProp 𝕄)
      ⊢ iprop(bigSep (Finset.Ico 0 62) (rc false 0 c) ∗ bigSep (Finset.Ico 0 62) (rc true 0 c) ∗ bigSep (Finset.Ico 0 62) (rc false 1 c) ∗ bigSep (Finset.Ico 0 62) (rc true 1 c)) := by
    unfold rcs
    rw [bigSep_sep', bigSep_sep', bigSep_sep']
  have hbar : (iprop(cred (tallyAt (cell c .bar) 1 1) ∗ cred (tallyAt (cell c .bar) 1 1)) : sProp 𝕄) ⊢ cred (tallyAt (cell c .bar) 1 2) := by
    refine (cred_add _ _).2.trans (Entails.of_eq (congrArg _ ?_))
    exact tallyAt_add _ _ 1 1
  unfold O₀
  rw [Pipeline.launchCred_add (fun d => rem 0 d + tB true d), Pipeline.launchCred_add (fun d => rem 0 d)]
  unfold tB
  iintro ⟨⟨Hr, H1⟩, H2⟩
  ihave Hr := hrem $$ Hr
  icases Hr with ⟨Hr, Hc⟩
  ihave Hr := hrcs $$ Hr
  icases Hr with ⟨R0, R1, R2, R3⟩
  ihave Hc := (ccs_all c) $$ Hc
  icases Hc with ⟨C0, C1⟩
  unfold creds
  isplitl [R0 R2 C0]
  · isplitl [R0 R2]
    · isplitl [R0] <;> iassumption
    iexact C0
  isplitl [R1 R3 C1]
  · isplitl [R1 R3]
    · isplitl [R1] <;> iassumption
    iexact C1
  iapply hbar
  isplitl [H1]
  · iapply (cred_one true); iexact H1
  · iapply (cred_one false); iexact H2

end Cert.KernelIdeal.Gen

end
-- ==== Proof.Edge.lean ====
/- What a device enters the kernel's body with, and what it leaves with. -/
module

public import proofs.«01_k».proof.Proof.Fund

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig ℕ (Elt F) ℕ UU ℕ

variable {B : Blocks F} {N : Names} {c : Dev nD}

instance slotS_storable (k : Key) : Storable (upEmb (τ := τ)) (slotS k : sProp 𝕄) := by unfold slotS; infer_instance

/-- A cell at its first round. -/
def atR (g : GSem nD τ sig) : sProp 𝕄 := iprop(atPos ER g 0 ∅ 0 ∗ reached ER g 0)

/-- The rights to open a direction's cells; those cells open; their semaphores at zero. -/
def opens (d : Bool) (c : Dev nD) : sProp 𝕄 := bigSep Finset.univ fun k : SK => openTok ER (cell c (k.kind d))
def cells (d : Bool) (c : Dev nD) : sProp 𝕄 := bigSep Finset.univ fun k : SK => atR (cell c (k.kind d))
def sems (d : Bool) (c : Dev nD) : sProp 𝕄 := bigSep Finset.univ fun k : SK => semVal (cell c (k.kind d)) 0

/-- Open a direction's cells. -/
theorem open_cells (d : Bool) : iprop(Ctx B N ∗ opens d c ∗ sems d c) ⊢ (|={Set.univ}=> cells d c : sProp 𝕄) := by
  have h : ∀ k ∈ (Finset.univ : Finset SK), iprop(Ctx B N ∗ (openTok ER (cell c (k.kind d)) ∗ semVal (cell c (k.kind d)) 0))
      ⊢ (|={Set.univ}=> atR (cell c (k.kind d)) : sProp 𝕄) := by
    intro k _
    unfold atR
    iintro ⟨#HC, H⟩
    iapply (Rounds.cell_open ER (Rd B) (g := cell c (k.kind d)) (Set.mem_univ (N.cell (cell c (k.kind d)))))
    isplitr; · iapply (ctx_cell B N c (k.kind d)); iexact HC
    iexact H
  unfold opens sems cells
  iintro ⟨#HC, Ho, Hs⟩
  iapply (bigSep_fupd Finset.univ fun k : SK => atR (cell c (k.kind d)))
  iapply (bigSep_with_persistent h)
  isplitr; · iexact HC
  iapply bigSep_pair
  isplitl [Ho] <;> iassumption

/-! ## Entering -/

/-- Before any hop a send semaphore has nothing in flight. -/
theorem winS_zero (d : Bool) (j : Fin 2) : (bigSep Finset.univ fun s : Fin 4 => atR (cell c (.snd d s j)) : sProp 𝕄) ⊢ WinS d j c 0 := by
  rw [bigSep_four]
  exact Entails.of_eq rfl

/-- Before any hop a receive semaphore has nothing in flight. -/
theorem winR_zero (d : Bool) (j : Fin 2) : (bigSep Finset.univ fun s : Fin 4 => atR (cell c (.rcv d s j)) : sProp 𝕄) ⊢ WinR d j c 0 := by
  rw [bigSep_four]
  have h : iprop(atR (cell c (.rcv d 1 j)) ∗ atR (cell c (.rcv d 2 j)) ∗ atR (cell c (.rcv d 3 j)) ∗ atR (cell c (.rcv d 0 j))) ⊢ (WinR d j c 0 : sProp 𝕄) :=
    Entails.of_eq rfl
  iintro ⟨H0, H1, H2, H3⟩
  iapply h
  isplitl [H1]; · iexact H1
  isplitl [H2]; · iexact H2
  isplitl [H3] <;> iassumption

/-- A direction's buffer, slot by slot. -/
theorem comm_split (d : Bool) : (anyv (c : Thread nD τ) (KA.comm d).view : sProp 𝕄)
    ⊢ iprop(anyv (c : Thread nD τ) (SV d 0) ∗ (anyv (c : Thread nD τ) (PV d 1 0) ∗ anyv (c : Thread nD τ) (PV d 1 1))
      ∗ (anyv (c : Thread nD τ) (PV d 2 0) ∗ anyv (c : Thread nD τ) (PV d 2 1)) ∗ (anyv (c : Thread nD τ) (PV d 3 0) ∗ anyv (c : Thread nD τ) (PV d 3 1))) := by
  have h := tilesSlot.any_split (F := F) (t := (c : Thread nD τ)) (v := (KA.comm d).view)
  rw [bigSep_four] at h
  have hh : ∀ s : Fin 4, (anyv (c : Thread nD τ) (SV d s) : sProp 𝕄) ⊢ iprop(anyv (c : Thread nD τ) (PV d s 0) ∗ anyv (c : Thread nD τ) (PV d s 1)) :=
    fun s => (slotHalves s).any_split (c := (c : Thread nD τ)) (v := (KA.comm d).view)
  iintro H
  ihave H := h $$ H
  icases H with ⟨H0, H1, H2, H3⟩
  isplitl [H0]; · iexact H0
  isplitl [H1]; · iapply (hh 1); iexact H1
  isplitl [H2]; · iapply (hh 2); iexact H2
  iapply (hh 3); iexact H3

/-- What a direction needs of the memory. -/
def memD (d : Bool) (c : Dev nD) : sProp 𝕄 :=
  iprop(anyv (c : Thread nD τ) (KA.comm d).view ∗ (anyv (c : Thread nD τ) (TV (stg d 0)) ∗ anyv (c : Thread nD τ) (TV (stg d 1)))
    ∗ bigSep (Finset.Ico 0 32) fun t => anyv (c : Thread nD τ) (OV d c t))

/-- A direction begins. -/
theorem entD_intro (d : Bool) : iprop(cells d c ∗ toks d c ∗ slots d c ∗ creds d c ∗ memD d c)
    ⊢ (iprop(EntD d c ∗ dutyTok ER (cell (nxt d c) .bar) 0 (nB d)) : sProp 𝕄) := by
  unfold cells toks slots creds memD
  rw [bigSep_SK, bigSep_four (Φ := fun s : Fin 4 => Release.readerAt EL (c, d, s) 0)]
  simp only [SK.kind]
  iintro ⟨⟨Hcr, ⟨S0, S1⟩, ⟨R0, R1⟩, O0, O1⟩, ⟨Tb, Tc, ⟨T0, T1⟩, To⟩, ⟨⟨L0, L1, L2, L3⟩, Hw⟩, ⟨⟨C0, C1⟩, Cc⟩, Hm, ⟨M0, M1⟩, Mo⟩
  ihave Hm := (comm_split (c := c) d) $$ Hm
  icases Hm with ⟨P0, ⟨P1, P1'⟩, ⟨P2, P2'⟩, P3, P3'⟩
  ihave S0 := (winS_zero (c := c) d 0) $$ S0
  ihave S1 := (winS_zero (c := c) d 1) $$ S1
  ihave R0 := (winR_zero (c := c) d 0) $$ R0
  ihave R1 := (winR_zero (c := c) d 1) $$ R1
  unfold atR
  icases Hcr with ⟨Ha, Hr⟩
  icases O0 with ⟨O0, O0'⟩
  icases O1 with ⟨O1, O1'⟩
  isplitr [Tb]
  · unfold EntD EntP
    isplitl [S0 S1 R0 R1 T0 T1 C0 C1]
    · isplitl [S0 R0 T0 C0]
      · isplitl [S0]; · iexact S0
        isplitl [R0]; · iexact R0
        isplitl [T0] <;> iassumption
      · isplitl [S1]; · iexact S1
        isplitl [R1]; · iexact R1
        isplitl [T1] <;> iassumption
    isplitl [P0 L0]
    · isplitl [P0]; · iexact P0
      iexact L0
    isplitl [P1 P1' P2 P2' P3 P3' L1 L2 L3]
    · isplitl [P1 P1' L1]
      · rw [show (stk d c 1 : sProp 𝕄) = iprop(anyv (c : Thread nD τ) (PV d 1 0) ∗ anyv (c : Thread nD τ) (PV d 1 1) ∗ Release.readerAt EL (c, d, 1) 0) from rfl]
        isplitl [P1]; · iexact P1
        isplitl [P1'] <;> iassumption
      isplitl [P2 P2' L2]
      · rw [show (stk d c 2 : sProp 𝕄) = iprop(anyv (c : Thread nD τ) (PV d 2 0) ∗ anyv (c : Thread nD τ) (PV d 2 1) ∗ Release.readerAt EL (c, d, 2) 0) from rfl]
        isplitl [P2]; · iexact P2
        isplitl [P2'] <;> iassumption
      · rw [show (stk d c 3 : sProp 𝕄) = iprop(anyv (c : Thread nD τ) (PV d 3 0) ∗ anyv (c : Thread nD τ) (PV d 3 1) ∗ Release.readerAt EL (c, d, 3) 0) from rfl]
        isplitl [P3]; · iexact P3
        isplitl [P3'] <;> iassumption
    isplitl [Hw]; · iexact Hw
    isplitl [Ha Hr Cc]
    · isplitl [Ha]; · iexact Ha
      isplitl [Hr]; · iexact Hr
      iexact Cc
    isplitl [Tc]; · iexact Tc
    unfold OI idle tok
    isplitl [O0 O0' O1 O1' M0 M1]
    · isplitl [O0 O0' M0]
      · isplitl [O0]; · iexact O0
        isplitl [O0']; · iexact O0'
        iexact M0
      · isplitl [O1]; · iexact O1
        isplitl [O1']; · iexact O1'
        iexact M1
    rw [bigSep_sep']
    isplitl [To]; · iexact To
    iexact Mo
  iexact Tb

/-- The memory a device works in. -/
def mem (c : Dev nD) : sProp 𝕄 :=
  iprop((anyv (c : Thread nD τ) (KA.comm false).view ∗ anyv (c : Thread nD τ) (KA.comm true).view)
    ∗ anyv (c : Thread nD τ) KA.lp.view ∗ anyv (c : Thread nD τ) KA.stage.view)

/-- The staging buffer is its four slots. -/
theorem stage_split : (anyv (c : Thread nD τ) KA.stage.view : sProp 𝕄)
    ⊢ iprop((anyv (c : Thread nD τ) (TV (stg false 0)) ∗ anyv (c : Thread nD τ) (TV (stg false 1)))
      ∗ (anyv (c : Thread nD τ) (TV (stg true 0)) ∗ anyv (c : Thread nD τ) (TV (stg true 1)))) := by
  have h := tilesSlot.any_split (F := F) (t := (c : Thread nD τ)) (v := KA.stage.view)
  rw [bigSep_four] at h
  iintro H
  ihave H := h $$ H
  icases H with ⟨H0, H1, H2, H3⟩
  isplitl [H0 H2]
  · isplitl [H0]; · iexact H0
    iexact H2
  · isplitl [H1]; · iexact H1
    iexact H3

/-- The partial products' tiles, direction by direction. -/
theorem lp_eq : (bigSep Finset.univ fun p : Fin 2 × Bool => anyv (c : Thread nD τ) (LV p.1 p.2) : sProp 𝕄) = iprop(lpAny c 0 ∗ lpAny c 1) := by
  rw [BI.bigSep_univ_prod, BI.bigSep_fin_two, bigSep_dir, bigSep_dir]
  rfl

/-- The result's rows, store by store. -/
theorem out_eq : (bigSep Finset.univ fun p : Bool × Fin 32 => anyv (c : Thread nD τ) (KA.out.view.slice (rOut (Wc c) p.1 p.2)) : sProp 𝕄)
    = iprop((bigSep (Finset.Ico 0 32) fun t => anyv (c : Thread nD τ) (OV false c t)) ∗ bigSep (Finset.Ico 0 32) fun t => anyv (c : Thread nD τ) (OV true c t)) := by
  have e : ∀ (d : Bool) (t : Fin 32), (anyv (c : Thread nD τ) (KA.out.view.slice (rOut (Wc c) d t)) : sProp 𝕄) = anyv (c : Thread nD τ) (OV d c t.val) := by
    intro d t
    have ht : f32 t.val = t := Fin.ext (Nat.mod_eq_of_lt t.isLt)
    unfold OV Args.outM
    rw [ht]
    rfl
  rw [BI.bigSep_univ_prod, bigSep_dir, ← bigSep_upto 32 fun t => anyv (c : Thread nD τ) (OV false c t), ← bigSep_upto 32 fun t => anyv (c : Thread nD τ) (OV true c t),
    bigSep_congr fun t _ => e false t, bigSep_congr fun t _ => e true t]

/-- What a device holds before it starts. -/
def Start (B : Blocks F) (c : Dev nD) : sProp 𝕄 :=
  iprop(((cells false c ∗ toks false c ∗ slots false c ∗ creds false c) ∗ (cells true c ∗ toks true c ∗ slots true c ∗ creds true c))
    ∗ (reached ER (cell (nxt false c) .bar) 0 ∗ reached ER (cell (nxt true c) .bar) 0)
    ∗ (cred (tallyAt (cell c .bar) 1 2) ∗ atPos ER (cell c .bar) 0 ∅ 0) ∗ XW B c ∗ mem c ∗ anyv (c : Thread nD τ) KA.out.view ∗ ow c (O₀ c))

/-- What a device enters with is what the first step asks for. -/
theorem start_pre : (Start B c : sProp 𝕄) ⊢ Pre B c := by
  have hl := tilesLp.any_split (F := F) (t := (c : Thread nD τ)) (v := KA.lp.view)
  have ho := (tilesOut c).any_split (F := F) (t := (c : Thread nD τ)) (v := KA.out.view)
  rw [lp_eq] at hl
  rw [out_eq] at ho
  unfold Start mem
  iintro ⟨⟨⟨A0, A1, A2, A3⟩, ⟨B0, B1, B2, B3⟩⟩, ⟨Rf, Rt⟩, Hbar, HXW, ⟨⟨Mf, Mt⟩, Ml, Ms⟩, Mo, Hw⟩
  ihave Ml := hl $$ Ml
  icases Ml with ⟨Ml0, Ml1⟩
  ihave Mo := ho $$ Mo
  icases Mo with ⟨Mo0, Mo1⟩
  ihave Ms := (stage_split (c := c)) $$ Ms
  icases Ms with ⟨Ms0, Ms1⟩
  ihave HF := (entD_intro (c := c) false) $$ [A0 A1 A2 A3 Mf Ms0 Mo0]
  · unfold memD
    isplitl [A0]; · iexact A0
    isplitl [A1]; · iexact A1
    isplitl [A2]; · iexact A2
    isplitl [A3]; · iexact A3
    isplitl [Mf]; · iexact Mf
    isplitl [Ms0] <;> iassumption
  ihave HT := (entD_intro (c := c) true) $$ [B0 B1 B2 B3 Mt Ms1 Mo1]
  · unfold memD
    isplitl [B0]; · iexact B0
    isplitl [B1]; · iexact B1
    isplitl [B2]; · iexact B2
    isplitl [B3]; · iexact B3
    isplitl [Mt]; · iexact Mt
    isplitl [Ms1] <;> iassumption
  icases HF with ⟨HF, DF⟩
  icases HT with ⟨HT, DT⟩
  unfold Pre Bar
  isplitl [HF HT]
  · isplitl [HF] <;> iassumption
  isplitl [DF DT Rf Rt]
  · isplitl [DF Rf]
    · isplitl [DF] <;> iassumption
    · isplitl [DT] <;> iassumption
  isplitl [Hbar]; · iexact Hbar
  isplitl [HXW]; · iexact HXW
  isplitl [Ml0]; · iexact Ml0
  isplitl [Ml1]; · iexact Ml1
  iexact Hw

/-! ## Leaving -/

/-- A cell with no further round gives its counter back at zero. -/
theorem close1 (k : Kind) (R : Nat) (h : ∀ r, R ≤ r → dutiesK k r = ∅) :
    iprop(Ctx B N ∗ atPos ER (cell c k) R ∅ 0) ⊢ (|={Set.univ}=> semVal (cell c k) 0 : sProp 𝕄) := by
  iintro ⟨#HC, Ha⟩
  iapply (Rounds.cell_close ER (Rd B) (g := cell c k) (κ := N.cell (cell c k)) (Set.mem_univ _) id (R := R) fun r hr => (Rd_duties B c k r).trans (h r hr))
  isplitr; · iapply (ctx_cell B N c k); iexact HC
  iexact Ha

/-- A send semaphore ends at zero. -/
theorem close_S (d : Bool) (j : Fin 2) :
    iprop(Ctx B N ∗ WinS d j c 62) ⊢ (|={Set.univ}=> bigSep Finset.univ fun s : Fin 4 => semVal (cell c (.snd d s j)) 0 : sProp 𝕄) := by
  have h : (WinS d j c 62 : sProp 𝕄) ⊢ iprop(atPos ER (cell c (.snd d 2 j)) 15 ∅ 0 ∗ atPos ER (cell c (.snd d 3 j)) 15 ∅ 0
      ∗ atPos ER (cell c (.snd d 0 j)) 16 ∅ 0 ∗ atPos ER (cell c (.snd d 1 j)) 16 ∅ 0) := by
    unfold WinS ws
    iintro ⟨⟨H0, -⟩, ⟨H1, -⟩, ⟨H2, -⟩, H3, -⟩
    isplitl [H0]; · iexact H0
    isplitl [H1]; · iexact H1
    isplitl [H2]; · iexact H2
    iexact H3
  have hd : ∀ (s : Fin 4) (R r : Nat), 62 ≤ 4 * R + s.val → R ≤ r → dutiesK (.snd d s j) r = ∅ := fun s R r h1 h2 => if_neg (by omega)
  rw [bigSep_four]
  iintro ⟨#HC, H⟩
  ihave H := h $$ H
  icases H with ⟨H2, H3, H0, H1⟩
  imod (close1 (B := B) (N := N) (c := c) (.snd d 0 j) 16 fun r => hd 0 16 r (by decide)) $$ [H0] with H0
  · isplitr; · iexact HC
    iexact H0
  imod (close1 (B := B) (N := N) (c := c) (.snd d 1 j) 16 fun r => hd 1 16 r (by decide)) $$ [H1] with H1
  · isplitr; · iexact HC
    iexact H1
  imod (close1 (B := B) (N := N) (c := c) (.snd d 2 j) 15 fun r => hd 2 15 r (by decide)) $$ [H2] with H2
  · isplitr; · iexact HC
    iexact H2
  imod (close1 (B := B) (N := N) (c := c) (.snd d 3 j) 15 fun r => hd 3 15 r (by decide)) $$ [H3] with H3
  · isplitr; · iexact HC
    iexact H3
  imodintro
  isplitl [H0]; · iexact H0
  isplitl [H1]; · iexact H1
  isplitl [H2] <;> iassumption

/-- A receive semaphore ends at zero. -/
theorem close_R (d : Bool) (j : Fin 2) :
    iprop(Ctx B N ∗ WinR d j c 62) ⊢ (|={Set.univ}=> bigSep Finset.univ fun s : Fin 4 => semVal (cell c (.rcv d s j)) 0 : sProp 𝕄) := by
  have h : (WinR d j c 62 : sProp 𝕄) ⊢ iprop(atPos ER (cell c (.rcv d 3 j)) 15 ∅ 0 ∗ atPos ER (cell c (.rcv d 0 j)) 15 ∅ 0
      ∗ atPos ER (cell c (.rcv d 1 j)) 16 ∅ 0 ∗ atPos ER (cell c (.rcv d 2 j)) 16 ∅ 0) := by
    unfold WinR wr
    iintro ⟨⟨H0, -⟩, ⟨H1, -⟩, ⟨H2, -⟩, H3, -⟩
    isplitl [H0]; · iexact H0
    isplitl [H1]; · iexact H1
    isplitl [H2]; · iexact H2
    iexact H3
  have hd : ∀ (s : Fin 4) (R r : Nat), 62 ≤ 4 * R + (s.val + 3) % 4 → R ≤ r → dutiesK (.rcv d s j) r = ∅ := fun s R r h1 h2 => if_neg (by omega)
  rw [bigSep_four]
  iintro ⟨#HC, H⟩
  ihave H := h $$ H
  icases H with ⟨H3, H0, H1, H2⟩
  imod (close1 (B := B) (N := N) (c := c) (.rcv d 0 j) 15 fun r => hd 0 15 r (by decide)) $$ [H0] with H0
  · isplitr; · iexact HC
    iexact H0
  imod (close1 (B := B) (N := N) (c := c) (.rcv d 1 j) 16 fun r => hd 1 16 r (by decide)) $$ [H1] with H1
  · isplitr; · iexact HC
    iexact H1
  imod (close1 (B := B) (N := N) (c := c) (.rcv d 2 j) 16 fun r => hd 2 16 r (by decide)) $$ [H2] with H2
  · isplitr; · iexact HC
    iexact H2
  imod (close1 (B := B) (N := N) (c := c) (.rcv d 3 j) 15 fun r => hd 3 15 r (by decide)) $$ [H3] with H3
  · isplitr; · iexact HC
    iexact H3
  imodintro
  isplitl [H0]; · iexact H0
  isplitl [H1]; · iexact H1
  isplitl [H2] <;> iassumption

/-- A credit semaphore ends at zero. -/
theorem close_C (d : Bool) : iprop(Ctx B N ∗ counted d c 59) ⊢ (|={Set.univ}=> semVal (cell c (.cred d)) 0 : sProp 𝕄) := by
  unfold counted
  iintro ⟨#HC, ⟨%T, %hT, Ha, -⟩⟩
  have hT' : T = Finset.range 59 := Finset.eq_of_subset_of_card_le hT.1 (by rw [Finset.card_range]; exact hT.2)
  imod (Rounds.fupd_skip ER (Rd B) (g := cell c (.cred d)) (κ := N.cell (cell c (.cred d))) (R := 0) (m := 59) (T := T)
    (by rw [hT', Rd_duties]; exact Finset.Subset.refl _) ((expect_eq B c (.cred d) 0).trans rfl).symm (Set.mem_univ _)) $$ [Ha] with ⟨Ha, -⟩
  · isplitr; · iapply (ctx_cell B N c (.cred d)); iexact HC
    iexact Ha
  iapply (close1 (B := B) (N := N) (c := c) (.cred d) 1 fun r hr => if_neg (by omega))
  isplitr; · iexact HC
  iexact Ha

/-- A store semaphore ends at zero, and its staging slot comes back. -/
theorem close_O (d : Bool) (t : Nat) (ht : 32 ≤ t) :
    iprop(Ctx B N ∗ idle d c t) ⊢ (|={Set.univ}=> (semVal (cell c (.sto (stg d t))) 0 ∗ anyv (c : Thread nD τ) (TV (stg d t))) : sProp 𝕄) := by
  unfold idle
  iintro ⟨#HC, Ha, -, Hm⟩
  imod (close1 (B := B) (N := N) (c := c) (.sto (stg d t)) (t / 2) fun r hr => if_neg (by omega)) $$ [Ha] with Ha
  · isplitr; · iexact HC
    iexact Ha
  imodintro
  isplitl [Ha] <;> iassumption

section glue
variable {s : Shape} {T α : Type} {R : T → Rect s}

/-- One family of values of the tiles'. -/
def Tiles.glue (H : Tiles R) (V : (a : T) → (R a).shape.Idx → α) (z : s.Idx) : α := V (H.cover z).choose (H.cover z).choose_spec.choose

/-- What is glued of tiles reads, at a tile's element, as that tile does. -/
theorem Tiles.glue_emb (H : Tiles R) (V : (a : T) → (R a).shape.Idx → α) (a : T) (x : (R a).shape.Idx) : H.glue V ((R a).emb x) = V a x := by
  have e : ∀ a' x', (R a').emb x' = (R a).emb x → V a' x' = V a x := by
    intro a' x' h
    obtain rfl := H.disj _ _ _ _ h
    rw [(R a').emb.injective h]
  exact e _ _ (H.cover ((R a).emb x)).choose_spec.choose_spec

end glue

/-- The whole result on a device. -/
def outX (B : Blocks F) (c : Dev nD) : S4096x8192.Idx → Elt F .f32 := (tilesOut c).glue fun p => outV B p.1 c p.2.val

/-- The stored rows of both directions are the whole result. -/
theorem out_join : iprop(bigSep (Finset.range 32) (fin B false c) ∗ bigSep (Finset.range 32) (fin B true c)) ⊢ (held (c : Thread nD τ) KA.out.view fullShare (outX B c) : sProp 𝕄) := by
  have e : ∀ (d : Bool) (t : Fin 32), (held (c : Thread nD τ) (KA.out.view.slice (rOut (Wc c) d t)) fullShare (outV B d c t.val) : sProp 𝕄) = fin B d c t.val := by
    intro d t
    have ht : f32 t.val = t := Fin.ext (Nat.mod_eq_of_lt t.isLt)
    unfold fin OV Args.outM
    rw [ht]
    rfl
  have h := (tilesOut c).join (F := F) (t := (c : Thread nD τ)) (v := KA.out.view) (q := fullShare) (fun i => outX B c i) (fun p => outV B p.1 c p.2.val) (outX B c)
    fun a x => (tilesOut c).glue_emb _ a x
  rw [BI.bigSep_univ_prod, bigSep_dir, bigSep_congr fun t _ => e false t, bigSep_congr fun t _ => e true t, bigSep_upto 32 (fin B false c), bigSep_upto 32 (fin B true c)] at h
  rw [Finset.range_eq_Ico]
  exact h

/-- The slots of a direction, all given back, are its whole buffer. -/
theorem comm_join (d : Bool) (f₀ : Buf (Elt F) ((KA.comm d).view.loc (c : Thread nD τ))) :
    iprop((anyv (c : Thread nD τ) (PV d (sl 62) 0) ∗ anyv (c : Thread nD τ) (PV d (sl 62) 1)) ∗ (Fr d 0 c 59 ∗ Fr d 1 c 59) ∗ (Fr d 0 c 60 ∗ Fr d 1 c 60) ∗ (Fr d 0 c 61 ∗ Fr d 1 c 61))
      ⊢ (anyv (c : Thread nD τ) (KA.comm d).view : sProp 𝕄) := by
  have h := tilesSlot.any_join (F := F) (t := (c : Thread nD τ)) (v := (KA.comm d).view) f₀
  rw [bigSep_four] at h
  have hh : ∀ s : Fin 4, iprop(anyv (c : Thread nD τ) (PV d s 0) ∗ anyv (c : Thread nD τ) (PV d s 1)) ⊢ (anyv (c : Thread nD τ) (SV d s) : sProp 𝕄) :=
    fun s => (slotHalves s).any_join (c := (c : Thread nD τ)) (v := (KA.comm d).view)
  unfold Fr
  iintro ⟨H2, H3, H0, H1⟩
  iapply h
  isplitl [H0]; · iapply (hh 0); iexact H0
  isplitl [H1]; · iapply (hh 1); iexact H1
  isplitl [H2]; · iapply (hh 2); iexact H2
  iapply (hh 3); iexact H3

/-- A direction ends. -/
theorem endD (d : Bool) : iprop(Ctx B N ∗ Last B d c ∗ OD B d c ∗ TSt d c 59)
    ⊢ (|={Set.univ}=> (sems d c ∗ (anyv (c : Thread nD τ) (PV d (sl 62) 0) ∗ anyv (c : Thread nD τ) (PV d (sl 62) 1))
      ∗ (anyv (c : Thread nD τ) (TV (stg d 0)) ∗ anyv (c : Thread nD τ) (TV (stg d 1))) ∗ bigSep (Finset.range 32) (fin B d c)) : sProp 𝕄) := by
  unfold Last Full OD TSt
  iintro ⟨#HC, ⟨⟨P0, S0, R0, -, -⟩, ⟨P1, S1, R1, -, -⟩⟩, ⟨⟨I0, I1⟩, Hf⟩, ⟨Hc, -⟩⟩
  imod (close_S (B := B) (N := N) (c := c) d 0) $$ [S0] with S0
  · isplitr; · iexact HC
    iexact S0
  imod (close_S (B := B) (N := N) (c := c) d 1) $$ [S1] with S1
  · isplitr; · iexact HC
    iexact S1
  imod (close_R (B := B) (N := N) (c := c) d 0) $$ [R0] with R0
  · isplitr; · iexact HC
    iexact R0
  imod (close_R (B := B) (N := N) (c := c) d 1) $$ [R1] with R1
  · isplitr; · iexact HC
    iexact R1
  imod (close_C (B := B) (N := N) (c := c) d) $$ [Hc] with Hc
  · isplitr; · iexact HC
    iexact Hc
  imod (close_O (B := B) (N := N) (c := c) d 32 (by decide)) $$ [I0] with ⟨I0, M0⟩
  · isplitr; · iexact HC
    iexact I0
  imod (close_O (B := B) (N := N) (c := c) d 33 (by decide)) $$ [I1] with ⟨I1, M1⟩
  · isplitr; · iexact HC
    iexact I1
  imodintro
  unfold sems
  rw [bigSep_SK]
  simp only [SK.kind]
  isplitl [S0 S1 R0 R1 Hc I0 I1]
  · isplitl [Hc]; · iexact Hc
    isplitl [S0 S1]
    · isplitl [S0]; · iexact S0
      iexact S1
    isplitl [R0 R1]
    · isplitl [R0]; · iexact R0
      iexact R1
    isplitl [I0]; · iexact I0
    iexact I1
  isplitl [P0 P1]
  · isplitl [P0]
    · iapply held_any; iexact P0
    · iapply held_any; iexact P1
  isplitl [M0 M1]
  · isplitl [M0]; · iexact M0
    iexact M1
  iexact Hf

/-- The four staging slots are the whole staging buffer. -/
theorem stage_join (f₀ : Buf (Elt F) (KA.stage.view.loc (c : Thread nD τ))) :
    iprop((anyv (c : Thread nD τ) (TV (stg false 0)) ∗ anyv (c : Thread nD τ) (TV (stg false 1)))
      ∗ (anyv (c : Thread nD τ) (TV (stg true 0)) ∗ anyv (c : Thread nD τ) (TV (stg true 1)))) ⊢ (anyv (c : Thread nD τ) KA.stage.view : sProp 𝕄) := by
  have h := tilesSlot.any_join (F := F) (t := (c : Thread nD τ)) (v := KA.stage.view) f₀
  rw [bigSep_four] at h
  iintro ⟨⟨H0, H2⟩, H1, H3⟩
  iapply h
  isplitl [H0]; · iexact H0
  isplitl [H1]; · iexact H1
  isplitl [H2]; · iexact H2
  iexact H3

/-- What a device holds once it is done. -/
def Done (B : Blocks F) (c : Dev nD) : sProp 𝕄 :=
  iprop((sems false c ∗ sems true c) ∗ semVal (cell c .bar) 0 ∗ XW B c ∗ mem c ∗ held (c : Thread nD τ) KA.out.view fullShare (outX B c) ∗ ow c 0)

/-- After the last step a device has every counter at zero and its whole result. -/
theorem post_done : iprop(Ctx B N ∗ Post B c) ⊢ (|={Set.univ}=> Done B c : sProp 𝕄) := by
  have hl := tilesLp.any_join (F := F) (t := (c : Thread nD τ)) (v := KA.lp.view) (fun i => lpV B false c 0 (fun x => ⟨0, by revert x; decide⟩))
  rw [lp_eq] at hl
  unfold Post Fr2 CT
  iintro ⟨#HC, ⟨Lf, Lt⟩, ⟨⟨F59, T59⟩, ⟨F60, T60⟩, ⟨F61, T61⟩⟩, ⟨Of, Ot⟩, ⟨⟨Tf, -⟩, ⟨Tt, -⟩⟩, Hb, HXW, Ml0, Ml1, Hw⟩
  imod (endD (B := B) (N := N) (c := c) false) $$ [Lf Of Tf] with ⟨Sf, Pf, Mf, Hf⟩
  · isplitr; · iexact HC
    isplitl [Lf]; · iexact Lf
    isplitl [Of] <;> iassumption
  imod (endD (B := B) (N := N) (c := c) true) $$ [Lt Ot Tt] with ⟨St, Pt, Mt, Ht⟩
  · isplitr; · iexact HC
    isplitl [Lt]; · iexact Lt
    isplitl [Ot] <;> iassumption
  imod (close1 (B := B) (N := N) (c := c) .bar 1 fun r hr => if_neg (by omega)) $$ [Hb] with Hb
  · isplitr; · iexact HC
    iexact Hb
  imodintro
  unfold Done mem
  isplitl [Sf St]
  · isplitl [Sf] <;> iassumption
  isplitl [Hb]; · iexact Hb
  isplitl [HXW]; · iexact HXW
  isplitl [Pf Pt F59 T59 F60 T60 F61 T61 Ml0 Ml1 Mf Mt]
  · isplitl [Pf Pt F59 T59 F60 T60 F61 T61]
    · isplitl [Pf F59 F60 F61]
      · iapply (comm_join (c := c) false (fun i => AV B false 0 c 0 (fun x => ⟨0, by revert x; decide⟩)))
        isplitl [Pf]; · iexact Pf
        isplitl [F59]; · iexact F59
        isplitl [F60] <;> iassumption
      · iapply (comm_join (c := c) true (fun i => AV B true 0 c 0 (fun x => ⟨0, by revert x; decide⟩)))
        isplitl [Pt]; · iexact Pt
        isplitl [T59]; · iexact T59
        isplitl [T60] <;> iassumption
    isplitl [Ml0 Ml1]
    · iapply hl
      isplitl [Ml0] <;> iassumption
    · iapply (stage_join (c := c) (fun i => lpV B false c 0 (fun x => ⟨0, by revert x; decide⟩)))
      isplitl [Mf] <;> iassumption
  isplitl [Hf Ht]
  · iapply out_join
    isplitl [Hf] <;> iassumption
  iexact Hw

end Cert.KernelIdeal.Gen

end
-- ==== Proof.Region.lean ====
/- The kernel's region: what a device holds before its one point and after it. -/
module

public import proofs.«01_k».proof.Proof.Edge
public import proofs.«01_k».proof.Proof.Equal
public import proofs.«01_k».proof.Proof.Gen.KernelIdeal.Frame
public import Idealize.ShloMosaic.Lib.Pipeline.Value

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig ℕ (Elt F) ℕ UU ℕ

variable {B : Blocks F} {N : Names} {c : Dev nD}

open Idealize.ShloMosaic.Pipeline (Dat Cfg Window BodyObligation)

variable (m : (ℓ : Loc nD τ sig) → Buf (Elt F) ℓ) (ρ : Dev nD → PrngReg) (c : Dev nD)

/-- The two factors' blocks, off the memory. -/
def blocks : Blocks F where
  x c := iblk m c 0 t0_0
  w c := iblk m c 1 t0_0

/-- A device's buffers before the region, and after it. -/
abbrev W₁ : Valuation τ sig (Elt F) := StableHlo.after hostOps0 (fun b => m (c, b))
def W₂ : Valuation τ sig (Elt F) := Function.update (W₁ m c) (Proc.devRef .tc main_v1) (outX (blocks m) c)

/-- After the region the result's array holds the result. -/
theorem W₂_out : W₂ m c (Proc.devRef .tc main_v1) = outX (blocks m) c := Function.update_self ..
/-- The others hold what they held. -/
theorem W₂_ne {b : DevRef τ sig} (h : b ≠ Proc.devRef .tc main_v1) : W₂ m c b = W₁ m c b := Function.update_of_ne h ..

/-- What a device keeps of one direction from the launch to the region. -/
def keep (d : Bool) : sProp 𝕄 := iprop(toks d c ∗ slots d c ∗ creds d c)

/-- What a device keeps of the barrier. -/
def keepBar : sProp 𝕄 :=
  iprop((reached ER (cell (nxt false c) .bar) 0 ∗ reached ER (cell (nxt true c) .bar) 0) ∗ (cred (tallyAt (cell c .bar) 1 2) ∗ atPos ER (cell c .bar) 0 ∅ 0))

/-- The cells and the slots, that every device may consult. -/
def recs (N : Names) : sProp 𝕄 :=
  iprop((∀ x : Dev nD × Kind, cellInv ER (Rd (blocks m)) (N.cell (cell x.1 x.2)) (cell x.1 x.2)) ∗ ∀ k : Key, Release.slotInv EL (N.slot k) k (slotS k))

instance recs_persistent (N : Names) : Persistent (recs m N : sProp 𝕄) := by unfold recs; infer_instance

def Tk : sProp 𝕄 := iprop((∃ N, recs m N) ∗ ((opens false c ∗ keep c false) ∗ (opens true c ∗ keep c true)) ∗ keepBar c)
def Xk : sProp 𝕄 := iprop((∃ N, Ctx (blocks m) N) ∗ ((cells false c ∗ keep c false) ∗ (cells true c ∗ keep c true)) ∗ keepBar c)
def Yk : sProp 𝕄 := semVal (cell c .bar) 0

/-- A device's own semaphores, one by one. -/
theorem ownSems_eq : (Pipeline.ownSems0 osem c : sProp 𝕄) = iprop(sems false c ∗ sems true c) := by
  unfold Pipeline.ownSems0
  rw [BI.bigSep_univ_prod, bigSep_dir]
  rfl

/-- Every own semaphore, at zero, is opened for the protocol. -/
theorem open_all : iprop(Tk m c ∗ Pipeline.ownSems0 osem c ∗ levAts LL lv) ⊢ (|={Set.univ}=> Xk m c : sProp 𝕄) := by
  rw [ownSems_eq]
  unfold Tk Xk
  iintro ⟨⟨⟨%N, #HR⟩, ⟨⟨Of, Kf⟩, ⟨Ot, Kt⟩⟩, Hb⟩, ⟨Sf, St⟩, #HL⟩
  have hC : iprop(recs m N ∗ levAts LL lv) ⊢ (Ctx (blocks m) N : sProp 𝕄) := by
    unfold recs Ctx
    iintro ⟨⟨H1, H2⟩, H3⟩
    isplitl [H3]; · iexact H3
    isplitl [H1]; · iexact H1
    iexact H2
  ihave #HC := hC $$ []
  · isplitr; · iexact HR
    iexact HL
  imod (open_cells (B := blocks m) (N := N) (c := c) false) $$ [Of Sf] with Cf
  · isplitr; · iexact HC
    isplitl [Of]; · iexact Of
    iexact Sf
  imod (open_cells (B := blocks m) (N := N) (c := c) true) $$ [Ot St] with Ct
  · isplitr; · iexact HC
    isplitl [Ot]; · iexact Ot
    iexact St
  imodintro
  isplitr; · iexists N; iexact HC
  isplitr [Hb]
  · isplitl [Cf Kf]
    · isplitl [Cf]; · iexact Cf
      iexact Kf
    · isplitl [Ct]; · iexact Ct
      iexact Kt
  iexact Hb

/-- The invariant before the point, and after it. -/
def Φ₀ : sProp 𝕄 := iprop(Xk m c ∗ mem c ∗ anyv (c : Thread nD τ) KA.out.view ∗ ∃ r, prngReg c r)
def Φ₁ : sProp 𝕄 :=
  iprop((sems false c ∗ sems true c) ∗ semVal (cell c .bar) 0 ∗ mem c ∗ held (c : Thread nD τ) KA.out.view fullShare (outX (blocks m) c) ∗ ∃ r, prngReg c r)

/-- The region's data: the arrays as found, the blocks left as fetched. -/
def dat : Dat τ (Elt F) ℕ ℕ UU ℕ cfg0 c where
  A w := V m c (Pipeline.arrRef spec0 w)
  after
    | 0 => fun t => iblk m c 0 t
    | 1 => fun t => iblk m c 1 t
    | 2 => fun t => iblk m c 2 t
    | 3 => fun t => iblk m c 3 t
    | ⟨_ + 4, h⟩ => absurd h (Nat.not_lt.2 (Nat.le_add_left _ _))
  Φ t := if t.val = 0 then Φ₀ m c else Φ₁ m c
  q _ := fullShare
  owed t := if t.val = 0 then O₀ c else 0

/-- The body finds the left factor's block in its window. -/
theorem before_0 (d) : (dat m c).before 0 t0_0 d = (blocks m).x c :=
  ((dat m c).before_in_eq_fetched 0 rfl (fun _ => rfl) (fun _ _ _ => rfl) (fun t => rfl) t0_0 d).trans rfl
/-- And the right factor's. -/
theorem before_1 (d) : (dat m c).before 1 t0_0 d = (blocks m).w c :=
  ((dat m c).before_in_eq_fetched 1 rfl (fun _ => rfl) (fun _ _ _ => rfl) (fun t => rfl) t0_0 d).trans rfl

/-- The first constant is the table of places. -/
theorem V_pos : W₁ m c (Proc.devRef .tc main_c) = posV := by
  unfold W₁
  rw [StableHlo.after_cons, StableHlo.after_cons, StableHlo.after_nil, StableHlo.nullary_result_ne _ _ _ _ (by decide), StableHlo.nullary_result]
  rfl
/-- The second is the table of the ring. -/
theorem V_ring : W₁ m c (Proc.devRef .tc main_c_0) = ringV := by
  unfold W₁
  rw [StableHlo.after_cons, StableHlo.after_cons, StableHlo.after_nil, StableHlo.nullary_result]
  rfl

/-- The third window's block is the table of places. -/
theorem pos_eq : iblk m c 2 t0_0 = posV := by
  rw [← V_pos m c]
  funext i
  refine congrArg (W₁ m c (Proc.devRef .tc main_c)) (funext fun a => Fin.ext ?_)
  fin_cases a
  exact Pipeline.Window.rect_emb_val_of_index_zero (win0 2) t0_0 0 rfl i
/-- The fourth window's block is the table of the ring. -/
theorem ring_eq : iblk m c 3 t0_0 = ringV := by
  rw [← V_ring m c]
  funext i
  refine congrArg (W₁ m c (Proc.devRef .tc main_c_0)) (funext fun a => Fin.ext ?_)
  fin_cases a
  exact Pipeline.Window.rect_emb_val_of_index_zero (win0 3) t0_0 0 rfl i

/-- The body finds the table of places in its window. -/
theorem before_2 (d) : (dat m c).before 2 t0_0 d = posV :=
  ((dat m c).before_in_eq_fetched 2 rfl (fun _ => rfl) (fun _ _ _ => rfl) (fun t => rfl) t0_0 d).trans (pos_eq m c)
/-- And the table of the ring. -/
theorem before_3 (d) : (dat m c).before 3 t0_0 d = ringV :=
  ((dat m c).before_in_eq_fetched 3 rfl (fun _ => rfl) (fun _ _ _ => rfl) (fun t => rfl) t0_0 d).trans (ring_eq m c)

/-- The body of a device, from its holdings at launch to the result. -/
theorem body_run : iprop(Φ₀ m c ∗ ow c (O₀ c) ∗ XW (blocks m) c ∗ held (c : Thread nD τ) KA.pos.view fullShare posV ∗ held (c : Thread nD τ) KA.ring.view fullShare ringV)
    ⊢ Wp c (spine KA) fun _ => iprop(Φ₁ m c ∗ ow c 0 ∗ XW (blocks m) c ∗ held (c : Thread nD τ) KA.pos.view fullShare posV ∗ held (c : Thread nD τ) KA.ring.view fullShare ringV) := by
  unfold spine Φ₀ Xk keepBar keep
  rw [Wp_bind]
  iintro ⟨⟨⟨⟨%N, #HC⟩, ⟨⟨Cf, Kf⟩, ⟨Ct, Kt⟩⟩, Hr, Hb⟩, Hm, Ho, Hp⟩, Hw, HX, HP, HR⟩
  iapply words_step
  isplitl [HP]; · iexact HP
  isplitl [HR]; · iexact HR
  iintro ⟨HP, HR⟩
  iapply (wp_fupd _ _)
  iapply (main_step (B := blocks m) (N := N) (c := c) _)
  isplitr; · iexact HC
  isplitl [Cf Kf Ct Kt Hr Hb HX Hm Ho Hw]
  · iapply start_pre
    unfold Start
    isplitl [Cf Kf Ct Kt]
    · isplitl [Cf Kf]
      · isplitl [Cf]; · iexact Cf
        iexact Kf
      · isplitl [Ct]; · iexact Ct
        iexact Kt
    isplitl [Hr]; · iexact Hr
    isplitl [Hb]; · iexact Hb
    isplitl [HX]; · iexact HX
    isplitl [Hm]; · iexact Hm
    isplitl [Ho]; · iexact Ho
    iexact Hw
  iintro HQ
  imod (post_done (B := blocks m) (N := N) (c := c)) $$ [HQ] with HD
  · isplitr; · iexact HC
    iexact HQ
  unfold Done Φ₁
  icases HD with ⟨Hs, Hbar, HX, Hm, Ho, Hw⟩
  imodintro
  isplitl [Hs Hbar Hm Ho Hp]
  · isplitl [Hs]; · iexact Hs
    isplitl [Hbar]; · iexact Hbar
    isplitl [Hm]; · iexact Hm
    isplitl [Ho]; · iexact Ho
    iexact Hp
  isplitl [Hw]; · iexact Hw
  isplitl [HX]; · iexact HX
  isplitl [HP]; · iexact HP
  iexact HR

/-- Nothing of the pipeline is owed before its point. -/
theorem owed_first : (dat m c).owed t0_0.castSucc = O₀ c := by
  show (if (t0_0.castSucc : Fin (cfg0.N + 1)).val = 0 then O₀ c else 0) = O₀ c; exact if_pos rfl
/-- The body's debts are the protocol's. -/
theorem owed_zero : (dat m c).owed 0 = O₀ c := by
  show (if ((0 : Fin (cfg0.N + 1)).val = 0) then O₀ c else 0) = O₀ c; exact if_pos rfl
/-- Nothing is owed after it. -/
theorem owed_last : (dat m c).owed (Fin.last _) = 0 := by
  show (if (Fin.last cfg0.N).val = 0 then O₀ c else 0) = 0
  rw [Fin.val_last, if_neg (by rw [show cfg0.N = 1 from N_0]; decide)]

/-- A device's debts, as the pipeline states them. -/
theorem owesAt_intro (t : Fin (cfg0.N + 1)) (O : CellTallies nD τ sig ℕ) (h0 : (dat m c).owed t = O) :
    (ow c O : sProp 𝕄) ⊢ ((dat m c).owesAt 0 t : sProp 𝕄) := by
  unfold ow Dat.owesAt Pipeline.owesWithin Dat.bound
  rw [h0, show (dat m c).recorded t = Set.univ from rfl]
  iintro ⟨%W, HO⟩
  iexists W
  isplitr; · ipureintro; exact fun _ _ => Or.inl trivial
  iexact HO

/-- And back. -/
theorem owesAt_elim (t : Fin (cfg0.N + 1)) (O : CellTallies nD τ sig ℕ) (h0 : (dat m c).owed t = O) :
    ((dat m c).owesAt 0 t : sProp 𝕄) ⊢ (ow c O : sProp 𝕄) := by
  unfold ow Dat.owesAt Pipeline.owesWithin
  rw [h0]
  iintro ⟨%W, -, HO⟩; iexists W; iexact HO

/-- The staging buffers are the body's arguments. -/
theorem own_x (X) : (owns (c : Thread nD τ) (st0_0 t0_0) fullShare X : sProp 𝕄) = held (c : Thread nD τ) KA.x.view fullShare X := rfl
/-- The right factor's window, as the body's argument. -/
theorem own_w (X) : (owns (c : Thread nD τ) (st0_1 t0_0) fullShare X : sProp 𝕄) = held (c : Thread nD τ) KA.w.view fullShare X := rfl
/-- The table of places' window, as the body's argument. -/
theorem own_pos (X) : (owns (c : Thread nD τ) (st0_2 t0_0) fullShare X : sProp 𝕄) = held (c : Thread nD τ) KA.pos.view fullShare X := rfl
/-- The table of the ring's window, as the body's argument. -/
theorem own_ring (X) : (owns (c : Thread nD τ) (st0_3 t0_0) fullShare X : sProp 𝕄) = held (c : Thread nD τ) KA.ring.view fullShare X := rfl

/-- The body's windows after its run hold what they held. -/
theorem after_run : iprop(Φ₁ m c ∗ ow c 0 ∗ XW (blocks m) c ∗ held (c : Thread nD τ) KA.pos.view fullShare posV ∗ held (c : Thread nD τ) KA.ring.view fullShare ringV)
    ⊢ iprop(Φ₁ m c ∗ (dat m c).owesAt 0 t0_0.succ
      ∗ owns c (st0_0 t0_0) fullShare ((dat m c).after 0 t0_0) ∗ owns c (st0_1 t0_0) fullShare ((dat m c).after 1 t0_0)
      ∗ owns c (st0_2 t0_0) fullShare ((dat m c).after 2 t0_0) ∗ owns c (st0_3 t0_0) fullShare ((dat m c).after 3 t0_0)) := by
  have e2 : (dat m c).after 2 t0_0 = posV := pos_eq m c
  have e3 : (dat m c).after 3 t0_0 = ringV := ring_eq m c
  have e0 : (dat m c).after 0 t0_0 = (blocks m).x c := rfl
  have e1 : (dat m c).after 1 t0_0 = (blocks m).w c := rfl
  rw [e0, e1, e2, e3, own_x, own_w, own_pos, own_ring]
  unfold XW
  iintro ⟨HΦ, HO, ⟨H0, H1⟩, H2, H3⟩
  isplitl [HΦ]; · iexact HΦ
  isplitl [HO]; · iapply (owesAt_intro m c t0_0.succ 0 (owed_last m c)); iexact HO
  isplitl [H0]; · iexact H0
  isplitl [H1]; · iexact H1
  isplitl [H2]; · iexact H2
  iexact H3

/-- A run's outcome may be weakened. -/
theorem Wp_mono {α : Type} (p : BodyProg F α) {Q Q' : α → sProp 𝕄} (h : ∀ a, Q a ⊢ Q' a) : Wp c p Q ⊢ Wp c p Q' := wp_mono _ _ _ h

/-- The body's windows before its run. -/
theorem before_run : iprop(Φ₀ m c ∗ (dat m c).owesAt 0 t0_0.castSucc
      ∗ (∃ d, owns c (st0_0 t0_0) fullShare ((dat m c).before 0 t0_0 d)) ∗ (∃ d, owns c (st0_1 t0_0) fullShare ((dat m c).before 1 t0_0 d))
      ∗ (∃ d, owns c (st0_2 t0_0) fullShare ((dat m c).before 2 t0_0 d)) ∗ (∃ d, owns c (st0_3 t0_0) fullShare ((dat m c).before 3 t0_0 d)))
    ⊢ iprop(Φ₀ m c ∗ ow c (O₀ c) ∗ XW (blocks m) c ∗ held (c : Thread nD τ) KA.pos.view fullShare posV ∗ held (c : Thread nD τ) KA.ring.view fullShare ringV) := by
  have h0 (d) : (owns c (st0_0 t0_0) fullShare ((dat m c).before 0 t0_0 d) : sProp 𝕄) ⊢ held (c : Thread nD τ) KA.x.view fullShare ((blocks m).x c) :=
    Entails.of_eq (by rw [before_0, own_x])
  have h1 (d) : (owns c (st0_1 t0_0) fullShare ((dat m c).before 1 t0_0 d) : sProp 𝕄) ⊢ held (c : Thread nD τ) KA.w.view fullShare ((blocks m).w c) :=
    Entails.of_eq (by rw [before_1, own_w])
  have h2 (d) : (owns c (st0_2 t0_0) fullShare ((dat m c).before 2 t0_0 d) : sProp 𝕄) ⊢ held (c : Thread nD τ) KA.pos.view fullShare posV :=
    Entails.of_eq (by rw [before_2, own_pos])
  have h3 (d) : (owns c (st0_3 t0_0) fullShare ((dat m c).before 3 t0_0 d) : sProp 𝕄) ⊢ held (c : Thread nD τ) KA.ring.view fullShare ringV :=
    Entails.of_eq (by rw [before_3, own_ring])
  iintro ⟨HΦ, HO, ⟨%d0, H0⟩, ⟨%d1, H1⟩, ⟨%d2, H2⟩, ⟨%d3, H3⟩⟩
  unfold XW
  isplitl [HΦ]; · iexact HΦ
  isplitl [HO]; · iapply (owesAt_elim m c t0_0.castSucc (O₀ c) (owed_first m c)); iexact HO
  isplitl [H0 H1]
  · isplitl [H0]; · iapply (h0 d0); iexact H0
    iapply (h1 d1); iexact H1
  isplitl [H2]; · iapply (h2 d2); iexact H2
  iapply (h3 d3); iexact H3

set_option maxRecDepth 20000 in
/-- What the pipeline asks of the body. -/
theorem body_ok : BodyObligation (dat m c) defs₀ 𝒱₀ 0 Set.univ := fun t => by
  obtain rfl := fin_N0 t
  rw [bigSep_W0, bigSep_W0]
  rw [show (dat m c).Φ t0_0.castSucc = Φ₀ m c from rfl, show (dat m c).Φ t0_0.succ = Φ₁ m c from rfl]
  have hb : (defs₀ (F := F)) .tc cfg0.body (cfg0.bodyArgs t0_0 (cfg0.slots t0_0)) = spine KA := body_eq ..
  rw [hb]
  refine (before_run m c).trans ?_
  have hr := body_run m c
  generalize spine (F := F) KA = p at hr ⊢
  refine hr.trans ?_
  exact Wp_mono c p fun _ => after_run m c

/-! ## The region of the program -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

/-- The pipeline's part of the ghost state at launch. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that a device owes at launch is owed above the staging waits. -/
theorem above_O₀ : Above 0 (O₀ c) :=
  above_add (above_add (above_rem (by decide)) (above_tally (by decide) (by decide))) (above_tally (by decide) (by decide))

/-- A whole buffer, held. -/
theorem held_whole (b : Ref sig .tc) (X : b.ty.Contents (Elt F)) :
    (held (c : Thread nD τ) (Memref.whole b).view fullShare X : sProp 𝕄) = iprop(((c : Thread nD τ).loc b) ↦{fullShare} X) := by
  have h₁ : (held (c : Thread nD τ) (Memref.whole b).view fullShare X : sProp 𝕄) ⊢ iprop(((c : Thread nD τ).loc b) ↦{fullShare} X) := by
    unfold held
    iintro ⟨%f, %hf, H⟩
    obtain rfl : f = X := hf
    rw [show (Memref.whole b).view.set = Finset.univ from View.set_whole b]
    iexact H
  have h₂ : iprop(((c : Thread nD τ).loc b) ↦{fullShare} X) ⊢ (held (c : Thread nD τ) (Memref.whole b).view fullShare X : sProp 𝕄) := by
    unfold held
    iintro H
    iexists X
    isplitr; · ipureintro; rfl
    rw [show (Memref.whole b).view.set = Finset.univ from View.set_whole b]
    iexact H
  exact equiv_iff.mp ⟨h₁, h₂⟩

/-- A whole buffer held with some contents. -/
theorem anyv_whole (b : Ref sig .tc) :
    (anyv (c : Thread nD τ) (Memref.whole b).view : sProp 𝕄) = iprop(∃ f : Buf (Elt F) ((c : Thread nD τ).loc b), ((c : Thread nD τ).loc b) ↦{fullShare} f) := by
  unfold anyv
  rw [show (Memref.whole b).view.set = Finset.univ from View.set_whole b]

/-- The one buffer the body addresses itself. -/
abbrev outS : Finset (DevRef τ sig) := {Proc.devRef .tc main_v1}

/-- The result's array, held whole. -/
theorem out_held (W : Valuation τ sig (Elt F)) (X : S4096x8192.Idx → Elt F .f32) (h : W (Proc.devRef .tc main_v1) = X) :
    (StableHlo.held (c.tc : Thread nD τ) outS W : sProp 𝕄) = held (c : Thread nD τ) KA.out.view fullShare X := by
  subst h
  unfold StableHlo.held
  rw [BI.bigSep_singleton]
  exact (held_whole c main_v1 _).symm

/-- The scratch buffers are the body's own. -/
theorem mem_eq : (Pipeline.scopedRest (Ix := ℕ) (Name := ℕ) (U := UU) (Lvl := ℕ) (Val := Elt F) (Pipeline.pin (pcfgs (F := F)) adm 0).spec c : sProp 𝕄)
    ⊢ mem c := by
  refine (Entails.of_eq (scopedRest0_eq c)).trans ?_
  rw [← anyv_whole, ← anyv_whole, ← anyv_whole, ← anyv_whole]
  unfold mem
  iintro ⟨H0, H1, H2, H3⟩
  isplitl [H0 H1]
  · isplitl [H0]; · iexact H0
    iexact H1
  isplitl [H2]; · iexact H2
  iexact H3

/-- The scratch buffers come back. -/
theorem mem_back : (mem c : sProp 𝕄)
    ⊢ Pipeline.scopedRest (Ix := ℕ) (Name := ℕ) (U := UU) (Lvl := ℕ) (Val := Elt F) (Pipeline.pin (pcfgs (F := F)) adm 0).spec c := by
  refine (show (mem c : sProp 𝕄) ⊢ _ from ?_).trans (Entails.of_eq (scopedRest0_eq c).symm)
  rw [← anyv_whole, ← anyv_whole, ← anyv_whole, ← anyv_whole]
  unfold mem
  iintro ⟨⟨H0, H1⟩, H2, H3⟩
  isplitl [H0]; · iexact H0
  isplitl [H1]; · iexact H1
  isplitl [H2]; · iexact H2
  iexact H3

/-- What the region takes from the launch. -/
theorem enter : iprop(Pipeline.scopedRest (Pipeline.pin (pcfgs (F := F)) adm 0).spec c ∗ (∃ r, prngReg c r) ∗ StableHlo.held (c.tc : Thread nD τ) outS (W₁ m c) ∗ Xk m c)
    ⊢ (pdats m 0 c).Φ 0 := by
  rw [show (pdats m 0 c).Φ 0 = Φ₀ m c from rfl, out_held c (W₁ m c) _ rfl]
  unfold Φ₀
  iintro ⟨Hm, Hp, Ho, HX⟩
  isplitl [HX]; · iexact HX
  isplitl [Hm]; · iapply mem_eq; iexact Hm
  isplitl [Ho]; · iapply held_any; iexact Ho
  iexact Hp

/-- What the region leaves. -/
theorem exit : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) outS (W₂ m c)
      ∗ Pipeline.ownSems0 osem c ∗ Yk c) := by
  rw [show (pdats m 0 c).Φ (Fin.last _) = Φ₁ m c from rfl, ownSems_eq, out_held c (W₂ m c) _ (W₂_out m c)]
  unfold Φ₁ Yk
  iintro ⟨Hs, Hb, Hm, Ho, Hp⟩
  isplitl [Hm]; · iapply mem_back; iexact Hm
  isplitl [Hp]; · iexact Hp
  isplitl [Ho]; · iexact Ho
  isplitl [Hs]; · iexact Hs
  iexact Hb

/-- The result's array is none of the windows'. -/
theorem arr_ne (w : Fin cfg0.W) : Proc.devRef (τ := τ) .tc (Pipeline.arrRef spec0 w) ≠ Proc.devRef .tc main_v1 := by
  revert w; decide

/-- The windows' arrays stay as they were. -/
theorem arr_kept (w : Fin cfg0.W) (n : Nat) : (dat m c).arrAt w n = W₁ m c (Proc.devRef .tc (Pipeline.arrRef spec0 w)) := by
  have h : (cfg0.win w).isOut = false := by revert w; decide
  exact (dat m c).arrAt_in w h n

/-- Every debt lies above the pipeline's waits. -/
theorem cutD (t : Fin (cfg0.N + 1)) (g : GSem nD τ sig) (i : ℕ) (h : 0 < (dat m c).owed t g i) : i ∈ LL g ∧ (0 : ℕ) < lv g i := by
  have e : (dat m c).owed t = if t.val = 0 then O₀ c else 0 := rfl
  rw [e] at h
  split at h
  · exact above_O₀ c g i h
  · exact absurd h (Nat.lt_irrefl 0)

set_option backward.isDefEq.respectTransparency.types false in
/-- The region, from the launch's dealings to the result. -/
def reg : Pipeline.RegionSeg (pcfgs (F := F)) adm (pdats m) 0 defs₀ 𝒱₀ LL lv 0 :=
  Pipeline.RegionSeg.ofTalk (pcfgs (F := F)) adm (pdats m) 0 defs₀ 𝒱₀ LL lv 0 osem osem_facts
    outS outS (Finset.Subset.refl _) kitP rfl (fun c => (body_ok m c).loose)
    (fun _ => 0) O₀ (fun c => (owed_zero m c).trans (zero_add _).symm) (owed_last m) (fun _ => rfl) (fun _ w => by show (if _ then fullShare else fullShare) = fullShare; exact ite_self _)
    (W₁ m) (W₂ m) (fun _ b hb => absurd hb (by rw [Finset.sdiff_self]; exact Finset.notMem_empty b))
    (Tk m) Yk (Xk m) Yk (open_all m) (enter m) (exit m)
    (fun c => by iintro H; imodintro; iexact H)
    (fun _ => 0)
    ⟨fun c w s => by rw [LL_tc]; exact Finset.mem_range.mpr (by decide), fun c w s => Nat.le_refl 0, fun c t g i h => cutD m c t g i h⟩
    (fun _ => iprop(emp))
    (fun c w => rfl) (fun c w => (arr_kept m c w _).trans (W₂_ne m c (arr_ne w)).symm)

end Cert.KernelIdeal.Gen

end
-- ==== Proof.Run.lean ====
/- The launch: the ghost state dealt to the devices; the run of the whole program. -/
module

public import proofs.«01_k».proof.Proof.Region

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig ℕ (Elt F) ℕ UU ℕ

variable {B : Blocks F} {N : Names} {c : Dev nD}

open Idealize.ShloMosaic.Pipeline (Dat Cfg Window BodyObligation)

variable (m : (ℓ : Loc nD τ sig) → Buf (Elt F) ℓ) (ρ : Dev nD → PrngReg) (c : Dev nD)

/-! ## A device's arrays -/

abbrev pt (c : Dev nD) (b : Ref sig .tc) (f : Buf (Elt F) ((c : Thread nD τ).loc b)) : sProp 𝕄 := iprop(((c : Thread nD τ).loc b) ↦{fullShare} f)

def bufs : Finset (DevRef τ sig) := (StableHlo.tcRefs τ sig).filter fun b => ¬ b.isScoped

/-- The launch's arrays, as one holding. -/
theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The arrays, one by one. -/
theorem bufs_eq (W : Valuation τ sig (Elt F)) : (StableHlo.held (c : Thread nD τ) bufs W : sProp 𝕄)
    = iprop(pt c main_arg0 (W main_arg0) ∗ pt c main_arg1 (W main_arg1) ∗ pt c main_c (W main_c) ∗ pt c main_c_0 (W main_c_0) ∗ pt c main_v1 (W main_v1)) := by
  unfold StableHlo.held
  rw [bigSep_eq_bigSepL_of_eq [Proc.devRef .tc main_arg0, Proc.devRef .tc main_arg1, Proc.devRef .tc main_c, Proc.devRef .tc main_c_0, Proc.devRef .tc main_v1]
    (by decide) (by decide)]
  rfl

/-- The windows' arrays, one by one. -/
theorem arrs_eq (W : Valuation τ sig (Elt F)) :
    (StableHlo.held (c.tc : Thread nD τ) (Pipeline.arrRefs (τ := τ) (pcfgs (F := F) 0).spec) W : sProp 𝕄)
      = iprop(pt c main_arg0 (W main_arg0) ∗ pt c main_arg1 (W main_arg1) ∗ pt c main_c (W main_c) ∗ pt c main_c_0 (W main_c_0)) := by
  unfold StableHlo.held
  rw [bigSep_eq_bigSepL_of_eq [Proc.devRef .tc main_arg0, Proc.devRef .tc main_arg1, Proc.devRef .tc main_c, Proc.devRef .tc main_c_0]
    (show Pipeline.arrRefs (τ := τ) spec0 = _ from by decide) (by decide)]
  rfl

/-- The result's array alone. -/
theorem out_pt (W : Valuation τ sig (Elt F)) : (StableHlo.held (c.tc : Thread nD τ) outS W : sProp 𝕄) = pt c main_v1 (W main_v1) := by
  unfold StableHlo.held
  rw [BI.bigSep_singleton]

/-- The only semaphore that outlives the region is the barrier's. -/
theorem unscopedSems_eq : (unscopedSems0 c : sProp 𝕄) = semVal (cell c .bar) 0 := by
  unfold unscopedSems0
  rw [show (Finset.univ.filter fun sm : SemLoc sig => ¬ sm.isScoped .tc) = {Kind.sem .bar} from by decide, BI.bigSep_singleton]
  rfl

/-- The same, of a semaphore. -/
theorem unscoped_eq : ∀ sm : SemLoc sig, sm.isScoped .tc = false → sm = Kind.sem .bar := by decide

/-! ## The program's segments -/

/-- What rides beside the arrays up to the region. -/
def Ride : sProp 𝕄 := iprop(Tk m c ∗ (∃ r, prngReg c r) ∗ ow c (O₀ c))

/-- The constants are among the arrays. -/
theorem hostOps0_bufs : (hostOps0 : List (HloOp τ sig (Elt F))).Forall fun op => op.bufs ⊆ bufs :=
  ⟨show ({Proc.devRef .tc main_c} : Finset (DevRef τ sig)) ⊆ bufs by decide, show ({Proc.devRef .tc main_c_0} : Finset (DevRef τ sig)) ⊆ bufs by decide⟩

/-- The two constants, made. -/
def seg0 : Pipeline.HostSeg (Name := ℕ) (U := UU) (pcfgs (F := F)) defs₀ 𝒱₀ LL lv :=
  Pipeline.HostSeg.ofOps _ _ _ _ _ bufs hostOps0 (List.forall_iff_forall_mem.mp hostOps0_bufs) (List.forall_iff_forall_mem.mp hostOps0_fresh) (fun c b => m (c, b)) (Ride m)

set_option backward.isDefEq.respectTransparency.types false in
/-- What the constants leave is what the region takes. -/
theorem reg_pre : iprop(StableHlo.held (c : Thread nD τ) bufs (W₁ m c) ∗ Ride m c) ⊢ (reg m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) outS (W₁ m c) ∗ emp) ∗ Tk m c ∗ ∃ Wd, owes (c : Thread nD τ) (0 + O₀ c) Wd)
  rw [arrs_eq, out_pt, bufs_eq, zero_add]
  unfold Ride ow
  iintro ⟨⟨H0, H1, H2, H3, H4⟩, HT, Hp, HO⟩
  isplitl [H0 H1 H2 H3]
  · isplitl [H0]; · iexact H0
    isplitl [H1]; · iexact H1
    isplitl [H2]; · iexact H2
    iexact H3
  isplitl [Hp]; · iexact Hp
  isplitl [H4]
  · isplitl [H4]; · iexact H4
    iempintro
  isplitl [HT]; · iexact HT
  iexact HO

set_option backward.isDefEq.respectTransparency.types false in
/-- What the region leaves, with no debt. -/
theorem reg_post : (reg m).post c
    ⊢ iprop((StableHlo.held (c : Thread nD τ) bufs (W₂ m c) ∗ semVal (cell c .bar) 0) ∗ ∃ W, owes (c : Thread nD τ) (0 : CellTallies nD τ sig ℕ) W) := by
  show iprop(StableHlo.held (c.tc : Thread nD τ) (Pipeline.arrRefs (τ := τ) (pcfgs (F := F) 0).spec) (W₂ m c) ∗ (∃ r, prngReg c r)
    ∗ (StableHlo.held (c.tc : Thread nD τ) outS (W₂ m c) ∗ emp) ∗ Yk c ∗ ∃ Wd, owes (c : Thread nD τ) (0 : CellTallies nD τ sig ℕ) Wd) ⊢ _
  rw [arrs_eq, out_pt, bufs_eq]
  unfold Yk
  iintro ⟨⟨H0, H1, H2, H3⟩, -, ⟨H4, -⟩, Hb, HO⟩
  isplitr [HO]
  · isplitr [Hb]
    · isplitl [H0]; · iexact H0
      isplitl [H1]; · iexact H1
      isplitl [H2]; · iexact H2
      isplitl [H3]; · iexact H3
      iexact H4
    iexact Hb
  iexact HO

/-- The program, as its segments. -/
def segs : List (Pipeline.Seg (pcfgs (F := F)) adm (pdats m) 0 defs₀ 𝒱₀ LL lv) := [.host (seg0 m), .region (reg m)]

/-! ## The launch -/

def barEmb : Dev nD ↪ GSem nD τ sig := ⟨fun c => cell c .bar, fun _ _ h => (cell_inj h).1⟩
def ownEmb : Dev nD × Bool × SK ↪ GSem nD τ sig :=
  ⟨fun x => cell x.1 (x.2.2.kind x.2.1), fun x y h => by
    obtain ⟨h1, h2⟩ := cell_inj h
    obtain ⟨h3, h4⟩ := kind_inj h2
    exact Prod.ext h1 (Prod.ext h3 h4)⟩

/-- The cells of the barrier; the cells of the kernel's own semaphores. -/
abbrev barCells : Finset (GSem nD τ sig) := Finset.univ.map barEmb
abbrev ownCells : Finset (GSem nD τ sig) := Finset.univ.map ownEmb

/-- The barriers are none of the other cells. -/
theorem cells_disjoint : Disjoint barCells ownCells := by
  rw [Finset.disjoint_left]
  rintro g h₁ h₂
  obtain ⟨c, -, rfl⟩ := Finset.mem_map.mp h₁
  obtain ⟨x, -, h⟩ := Finset.mem_map.mp h₂
  exact kind_ne_bar _ _ (cell_inj h).2

/-- Every kind is the barrier or an own semaphore. -/
theorem kind_cover (k : Kind) : k = .bar ∨ ∃ d x, SK.kind d x = k := by
  rcases k with _ | d | ⟨d, s, j⟩ | ⟨d, s, j⟩ | i
  · exact .inl rfl
  · exact .inr ⟨d, .inl (), rfl⟩
  · exact .inr ⟨d, .inr (.inl (j, s)), rfl⟩
  · exact .inr ⟨d, .inr (.inr (.inl (j, s))), rfl⟩
  · have h : ∀ i : Fin 4, ∃ d, ∃ p : Fin 2, stg d p.val = i := by decide
    obtain ⟨d, p, h⟩ := h i
    exact .inr ⟨d, .inr (.inr (.inr p)), congrArg Kind.sto h⟩

/-- Every cell is among those funded at launch. -/
theorem cell_mem (c : Dev nD) (k : Kind) : cell c k ∈ barCells ∪ ownCells := by
  rcases kind_cover k with rfl | ⟨d, x, rfl⟩
  · exact Finset.mem_union_left _ (Finset.mem_map_of_mem barEmb (Finset.mem_univ c))
  · exact Finset.mem_union_right _ (Finset.mem_map_of_mem ownEmb (Finset.mem_univ (c, d, x)))

/-- The launch element. -/
def u₀ : UU :=
  (initOf (Pipeline.cells (Pipeline.pin (pcfgs (F := F)) adm) cellOf_inj) (Pipeline.launchToks (Pipeline.pin (pcfgs (F := F)) adm) cellOf_inj),
    (launchOf barCells ownCells allToks, Release.initSlots Finset.univ 16))

/-- All of a resource on one device. -/
def onDev (c₀ : Dev nD) (X : sProp 𝕄) (c : Dev nD) : sProp 𝕄 := if c = c₀ then X else iprop(emp)

/-- Something held on one device, as a product over all. -/
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

/-- The protocol's share of the launch element. -/
def G : Dev nD → sProp 𝕄 :=
  onDev 0 iprop(BI.own (ER (launchOf barCells ownCells allToks)) ∗ BI.own (EL (Release.initSlots Finset.univ 16)))

/-- The ghost state at launch is valid, and splits. -/
theorem launch_own : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ G) := by
  unfold u₀ G
  rw [bigSep_onDev]
  iintro Hu
  ihave H := (ownU_pair _ _) $$ Hu
  icases H with ⟨HP, HX⟩
  ihave HX := (own_pair_emb _ _ _) $$ HX
  imodintro
  isplitl [HP]; · iexact HP
  iexact HX

/-- A device's own share: its place at the barrier, its rights to open, its duties, its slots. -/
def own₀ : sProp 𝕄 :=
  iprop(atPos ER (cell c .bar) 0 ∅ 0 ∗ (opens false c ∗ opens true c) ∗ (toks false c ∗ toks true c) ∗ (slots false c ∗ slots true c))

/-- What of a device's launch holdings is not the protocol's. -/
def bundle : sProp 𝕄 :=
  iprop(StableHlo.held (c : Thread nD τ) bufs (fun b => m (c, b)) ∗ (creds false c ∗ creds true c ∗ cred (tallyAt (cell c .bar) 1 2))
    ∗ owes (c : Thread nD τ) (O₀ c) ∅ ∗ ∃ r, prngReg c r)

/-- What every device may consult. -/
def shared (N : Names) : sProp 𝕄 := iprop(recs m N ∗ ∀ c : Dev nD, reached ER (cell c .bar) 0)

instance shared_persistent (N : Names) : Persistent (shared m N : sProp 𝕄) := by unfold shared; infer_instance

abbrev T₀ : sProp 𝕄 := iprop(StableHlo.held (c : Thread nD τ) bufs (fun b => m (c, b)) ∗ Ride m c)
abbrev Tₙ : sProp 𝕄 := iprop(StableHlo.held (c : Thread nD τ) bufs (W₂ m c) ∗ semVal (cell c .bar) 0)

/-- A device's holdings at launch are what its run starts with. -/
theorem T₀_intro (N : Names) : iprop(shared m N ∗ (own₀ c ∗ bundle m c)) ⊢ T₀ m c := by
  have hr (c' : Dev nD) : (shared m N : sProp 𝕄) ⊢ reached ER (cell c' .bar) 0 := by
    unfold shared
    iintro ⟨-, H⟩
    iapply (forall_elim (Φ := fun c : Dev nD => reached ER (cell c .bar) 0) c') $$ H
  have hN : (shared m N : sProp 𝕄) ⊢ recs m N := by
    unfold shared
    iintro ⟨H, -⟩
    iexact H
  unfold own₀ bundle T₀ Ride Tk keepBar keep ow
  iintro ⟨#HS, ⟨Ha, ⟨Of, Ot⟩, ⟨Tf, Tt⟩, ⟨Sf, St⟩⟩, Hh, ⟨Cf, Ct, Cb⟩, HO, Hp⟩
  isplitl [Hh]; · iexact Hh
  isplitr [HO Hp]
  · isplitr; · iexists N; iapply hN; iexact HS
    isplitr [Ha Cb]
    · isplitl [Of Tf Sf Cf]
      · isplitl [Of]; · iexact Of
        isplitl [Tf]; · iexact Tf
        isplitl [Sf]; · iexact Sf
        iexact Cf
      · isplitl [Ot]; · iexact Ot
        isplitl [Tt]; · iexact Tt
        isplitl [St]; · iexact St
        iexact Ct
    isplitr
    · isplitr
      · iapply (hr (nxt false c)); iexact HS
      · iapply (hr (nxt true c)); iexact HS
    isplitl [Cb]; · iexact Cb
    iexact Ha
  isplitl [Hp]; · iexact Hp
  iexists ∅
  iexact HO

/-- The names of the invariants. -/
def names (κ : GSem nD τ sig → ℕ) (ιs : Key → ℕ) : Names := ⟨κ, ιs⟩

/-- The invariants are what every device may consult. -/
theorem shared_intro (κ : GSem nD τ sig → ℕ) (ιs : Key → ℕ) :
    iprop((bigSep (barCells ∪ ownCells) fun g => cellInv ER (Rd (blocks m)) (κ g) g) ∗ (bigSep barCells fun g => reached ER g 0)
      ∗ bigSep Finset.univ fun k : Key => Release.slotInv EL (ιs k) k (slotS k)) ⊢ (shared m (names κ ιs) : sProp 𝕄) := by
  have h1 (x : Dev nD × Kind) : (bigSep (barCells ∪ ownCells) fun g => (cellInv ER (Rd (blocks m)) (κ g) g : sProp 𝕄))
      ⊢ cellInv ER (Rd (blocks m)) (κ (cell x.1 x.2)) (cell x.1 x.2) := bigSep_elim (cell_mem x.1 x.2)
  have h2 (c : Dev nD) : (bigSep barCells fun g => (reached ER g 0 : sProp 𝕄)) ⊢ reached ER (cell c .bar) 0 :=
    bigSep_elim (Finset.mem_map_of_mem barEmb (Finset.mem_univ c))
  have h3 (k : Key) : (bigSep Finset.univ fun k : Key => (Release.slotInv EL (ιs k) k (slotS k) : sProp 𝕄)) ⊢ Release.slotInv EL (ιs k) k (slotS k) :=
    bigSep_elim (Finset.mem_univ k)
  unfold shared recs names
  iintro ⟨#H1, #H2, #H3⟩
  isplitr
  · isplitr
    · iintro %x
      iapply (h1 x); iexact H1
    · iintro %k
      iapply (h3 k); iexact H3
  · iintro %c'
    iapply (h2 c'); iexact H2

/-- The launch deals every device its share. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts LL lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp 𝕄) := by
    rw [show unscopedBufs c (fun b => m ((c : Thread nD τ).loc b)) = StableHlo.held (c : Thread nD τ) bufs (fun b => m (c, b)) from unscopedBufs_held c (fun b => m (c, b)),
      unscopedSems_eq]
    unfold bundle
    iintro ⟨Hh, Hus, HO, Hcr, Hp, HG⟩
    ihave Hc := (creds_all (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c .bar) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (BI.bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => iprop(opens false c ∗ opens true c)) :=
    Entails.of_eq (by
      rw [BI.bigSep_map, BI.bigSep_univ_prod]
      refine bigSep_congr fun c _ => ?_
      rw [BI.bigSep_univ_prod, bigSep_dir]
      rfl)
  have hslot : iprop((bigSep Finset.univ fun c : Dev nD => iprop((bigSep Finset.univ fun s : Fin 4 => Release.readerAt EL (c, false, s) 0)
        ∗ bigSep Finset.univ fun s : Fin 4 => Release.readerAt EL (c, true, s) 0)) ∗ bigSep Finset.univ fun c : Dev nD => iprop(wts false c 0 ∗ wts true c 0))
      ⊢ (bigSep Finset.univ fun c : Dev nD => iprop(slots false c ∗ slots true c) : sProp 𝕄) := by
    rw [← bigSep_sep']
    refine bigSep_mono fun c _ => ?_
    unfold slots
    refine (show (_ : sProp 𝕄) ⊢ _ from ?_)
    iintro ⟨⟨Rf, Rt⟩, Wf, Wt⟩
    isplitl [Rf Wf]
    · isplitl [Rf]; · iexact Rf
      iexact Wf
    · isplitl [Rt]; · iexact Rt
      iexact Wt
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c .bar) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ iprop(BI.own (ER (launchOf barCells ownCells allToks)) ∗ BI.own (EL (Release.initSlots Finset.univ 16))) from
    Entails.of_eq (bigSep_onDev (F := F) 0 _)) $$ HG
  icases Hu with ⟨Hu, Hl⟩
  imod (Rounds.fund_launch ER (Rd (blocks m)) cells_disjoint (fun g _ h => h) allToks) $$ [Hv Hu] with ⟨%κ, -, #Hinv, #Hr, Hat, Hopen, Htok⟩
  · isplitl [Hv]
    · iapply hv $$ Hv
    · iexact Hu
  imod (Release.slots_init EL (Finset.univ : Finset Key) 16 slotS) $$ Hl with ⟨%ιs, -, #Hsl, Hrd, Hwt⟩
  imodintro
  iapply (bigSep_with_persistent (R := shared m (names κ ιs)) (Φ := fun c => iprop(own₀ c ∗ bundle m c)) fun c _ => T₀_intro m c (names κ ιs))
  isplitr
  · iapply (shared_intro m κ ιs)
    isplitr; · iexact Hinv
    isplitr; · iexact Hr
    iexact Hsl
  iapply bigSep_pair
  isplitr [HB]
  · unfold own₀
    iapply bigSep_pair; isplitl [Hat]; · iapply hat $$ Hat
    iapply bigSep_pair; isplitl [Hopen]; · iapply hopen $$ Hopen
    iapply bigSep_pair; isplitl [Htok]; · iapply (toks_eq (F := F)) $$ Htok
    iapply hslot
    isplitl [Hrd]; · iapply (Entails.of_eq (readers_eq (F := F))) $$ Hrd
    iapply (writes_eq (F := F)) $$ Hwt
  · iexact HB

/-- Only the TensorCores' cells have levels. -/
theorem LL_ne (g : GSem nD τ sig) (h : g.1.2 ≠ .tc) : LL g = ∅ := if_neg h

set_option backward.isDefEq.respectTransparency.types false in
/-- The run: from any memory, every device's arrays stay as they were, its result is what the protocol makes of the
    blocks, and every counter is at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outX (blocks m) c) ∧ r.2.sem = fun _ => 0) :=
  Pipeline.θ_run_regions_kit_sems (pcfgs (F := F)) adm (pdats m) 0 cellOf_inj EP defs₀ 𝒱₀ LL lv m ρ main (segs m)
    (fun c Q => by rw [main_segs adm (pdats m) 0 𝒱₀ LL lv (seg0 m) (reg m) rfl c]; exact BI.Entails.refl _)
    (by simp only [segs, Pipeline.Seg.pipes_host, Pipeline.Seg.pipes_region, Pipeline.Seg.pipes_nil]; decide)
    (O₀ := O₀) (hL := LL_ne) (G := G) (u₀ := u₀)
    (hu₀ := launch_own)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = W₂ m c main_arg0
        ∧ s.mem ((Memref.whole main_arg1).view.loc (c : Thread nD τ)) = W₂ m c main_arg1
        ∧ s.mem ((Memref.whole main_v1).view.loc (c : Thread nD τ)) = W₂ m c main_v1)
      ∧ s.sem (cell c .bar) = 0)
    (hfin := fun c s' => by
      dsimp only [Tₙ]; rw [bufs_eq]
      iintro ⟨⟨⟨H0, H1, -, -, H4⟩, Hb⟩, HSI⟩
      icombine HSI H0 gives %h0
      icombine HSI H1 gives %h1
      icombine HSI H4 gives %h4
      icombine HSI Hb gives %hb
      imodintro
      isplitr
      · ipureintro
        exact ⟨⟨Buf.eq_of_forall_mem_univ h0, Buf.eq_of_forall_mem_univ h1, Buf.eq_of_forall_mem_univ h4⟩, by simpa using hb⟩
      iexact HSI)
    (hQ := fun s h hs => ⟨fun c => by
        obtain ⟨⟨h0, h1, h4⟩, -⟩ := h c
        rw [W₂_ne m c (by decide)] at h0 h1
        rw [W₂_out] at h4
        exact ⟨h0.trans (V_main_arg0 m c), h1.trans (V_main_arg1 m c), h4⟩,
      sem_eq_zero hs fun c sm hsm => by
        obtain rfl := unscoped_eq sm hsm
        exact (h c).2⟩)

end Cert.KernelIdeal.Gen

end
-- ==== Proof.Same.lean ====
/- The kernel as printed and the idealized one have the same text. -/
module

public import proofs.«01_k».proof.Defs
public import proofs.«01_k».proof.Proof.Gen.Kernel.Frame
public import proofs.«01_k».proof.Proof.Run

@[expose] public section

noncomputable section

namespace Cert.Proof

open Idealize.ShloMosaic Idealize.SL.Sem

section
variable (arg0 : Memref Cert.Kernel.sig .tc .vmem Cert.Kernel.S4096x128 .bf16) (harg0 : arg0.IsWhole) (arg1 : Memref Cert.Kernel.sig .tc .vmem Cert.Kernel.S128x8192 .bf16) (harg1 : arg1.IsWhole) (arg2 : Memref Cert.Kernel.sig .tc .smem Cert.Kernel.S32 .i32) (harg2 : arg2.IsWhole) (arg3 : Memref Cert.Kernel.sig .tc .smem Cert.Kernel.S32 .i32) (harg3 : arg3.IsWhole) (arg4 : Memref Cert.Kernel.sig .tc .hbm Cert.Kernel.S4096x8192 .f32) (harg4 : arg4.IsWhole) (arg5 : Memref Cert.Kernel.sig .tc .vmem Cert.Kernel.S4x64x8192 .bf16) (harg5 : arg5.IsWhole) (arg6 : Memref Cert.Kernel.sig .tc .vmem Cert.Kernel.S4x64x8192 .bf16) (harg6 : arg6.IsWhole) (arg7 : DmaSems Cert.Kernel.sig Cert.Kernel.S4x2) (arg8 : DmaSems Cert.Kernel.sig Cert.Kernel.S4x2) (arg9 : DmaSems Cert.Kernel.sig Cert.Kernel.S4x2) (arg10 : DmaSems Cert.Kernel.sig Cert.Kernel.S4x2) (arg11 : Sems Cert.Kernel.sig Cert.Kernel.S_) (arg12 : Sems Cert.Kernel.sig Cert.Kernel.S_) (arg13 : DmaSems Cert.Kernel.sig Cert.Kernel.S4) (arg14 : Memref Cert.Kernel.sig .tc .vmem Cert.Kernel.S2x2x64x8192 .f32) (harg14 : arg14.IsWhole) (arg15 : Memref Cert.Kernel.sig .tc .vmem Cert.Kernel.S4x64x8192 .f32) (harg15 : arg15.IsWhole)

set_option maxRecDepth 100000 in
set_option maxHeartbeats 0 in
/-- The two bodies are the same text. -/
theorem same_body : Cert.Kernel.cc0__body (F := Bits) arg0 harg0 arg1 harg1 arg2 harg2 arg3 harg3 arg4 harg4 arg5 harg5 arg6 harg6 arg7 arg8 arg9 arg10 arg11 arg12 arg13 arg14 harg14 arg15 harg15 = Cert.KernelIdeal.cc0__body (F := Bits) arg0 harg0 arg1 harg1 arg2 harg2 arg3 harg3 arg4 harg4 arg5 harg5 arg6 harg6 arg7 arg8 arg9 arg10 arg11 arg12 arg13 arg14 harg14 arg15 harg15 := rfl

end

set_option maxRecDepth 100000 in
set_option maxHeartbeats 0 in
/-- So are their tables. -/
theorem same_defs₀ : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => exact same_body ..

set_option maxRecDepth 100000 in
set_option maxHeartbeats 0 in
/-- And those with the pipelines. -/
theorem same_defs : Cert.Kernel.defs (F := Bits) = Cert.KernelIdeal.defs (F := Bits) :=
  congrArg (Pipeline.defs (Cert.KernelIdeal.pcfgs (F := Bits))) same_defs₀

/-- The kernel as printed, at the bits: the same text as the idealized one, so the same run with its values dropped. -/
theorem frame_kernel : Cert.quiescent_Kernel := fun m ρ _ => by
  rw [same_defs]
  exact (θ_run Cert.KernelIdeal.defs _ _).mono (fun _ h => ⟨fun c => ⟨(h.1 c).1, (h.1 c).2.1⟩, h.2⟩) (Cert.KernelIdeal.Gen.run_main (F := Bits) m ρ)

end Cert.Proof

end
-- ==== Proof.Value.lean ====
/- The values over the extended reals: what the ring adds up is the whole product. -/
module

public import proofs.«01_k».proof.Proof.Run
public import Idealize.ShloMosaic.Lib.Pointwise
public import Idealize.ShloMosaic.Lib.Layout
public import Idealize.ShloMosaic.Lib.Pipeline.ValueKit.Acc

@[expose] public section

noncomputable section

namespace Cert.KernelIdeal.Gen

open Idealize.ShloMosaic Idealize.ShloMosaic.TcCoe

/-- A hop's product, at an element. -/
theorem pay5_apply (a : Vec Ideal S64x128 .bf16) (b : Vec Ideal S128x8192 .bf16) (i : S1x1x64x8192.Idx) :
    k0_pay5 a b i = ∑ l : Fin 128, a (ix2 (i 2) l) * b (ix2 l (i 3)) := by
  pointwise [k0_pay5]

/-- The upper half of a device's own product, at an element. -/
theorem pay3_apply (a : Vec Ideal S128x128 .bf16) (b : Vec Ideal S128x8192 .bf16) (i : S1x64x8192.Idx) (h : (i 1).val < 128) :
    k0_pay3 (k0_pay2 a b) i = ∑ l : Fin 128, a (ix2 ⟨(i 1).val, h⟩ l) * b (ix2 l (i 2)) := by
  pointwise [k0_pay3, k0_pay2, k0_pay1]

/-- The lower half of a device's own product, at an element. -/
theorem pay4_apply (a : Vec Ideal S128x128 .bf16) (b : Vec Ideal S128x8192 .bf16) (i : S1x64x8192.Idx) (h : 64 + (i 1).val < 128) :
    k0_pay4 (k0_pay1 a b) i = ∑ l : Fin 128, a (ix2 ⟨64 + (i 1).val, h⟩ l) * b (ix2 l (i 2)) := by
  pointwise [k0_pay4, k0_pay1]

/-- The addition of a piece, at an element. -/
theorem payAdd_apply (a : Vec Ideal S1x32x8192 .bf16) (b : Vec Ideal S1x1x32x8192 .f32) (i : S1x32x8192.Idx) :
    payAdd a b i = a i + b (ix4 0 0 (i 1) (i 2)) := by
  pointwise [payAdd, k0_pay13]

/-- What a store makes of a slot, at an element. -/
theorem pay240_apply (a : Vec Ideal S1x64x8192 .bf16) (i : S64x8192.Idx) :
    shapeCast S64x8192 (k0_pay240 a) squeezes_S1x64x8192_S64x8192.numel_eq i = max (a (ix3 0 (i 0) (i 1))) 0 := by
  pointwise [k0_pay240]

variable (B : Blocks Ideal)

/-- Device `c`'s part of the product's element at row `r` (of the rows modulo their number) and column `j`. -/
def PP (c : Dev nD) (r : ℕ) (j : Fin 8192) : Ideal .f32 :=
  ∑ l : Fin 128, B.x c (ix2 ⟨r % 4096, Nat.mod_lt _ (by decide)⟩ l) * B.w c (ix2 l j)

/-- The right block is read as it is. -/
theorem wRead_apply (c : Dev nD) (l : Fin 128) (j : Fin 8192) : wRead B c (ix2 l j) = B.w c (ix2 l j) := by
  refine congrArg (B.w c) (funext fun a => Fin.ext ?_)
  match a with
  | ⟨0, _⟩ => change 0 + 1 * l.val = l.val; omega
  | ⟨1, _⟩ => change 0 + 1 * j.val = j.val; omega

/-- There are two halves. -/
theorem dn_lt : ∀ d : Bool, dn d < 2 := by decide

/-- There are 32 chunks. -/
theorem chX_lt (d : Bool) (c : Dev nD) (n : Nat) : chX d c n < 32 := by
  cases d <;> exact Nat.mod_lt _ (by decide)

/-- The partial product of the chunk that arrives at hop `n`. -/
theorem lpV_apply (d : Bool) (c : Dev nD) (n : Nat) (hn : n < 31) (i : S1x1x64x8192.Idx) :
    lpV B d c n i = PP B c (128 * chX d c n + 64 * dn d + (i 2).val) (i 3) := by
  unfold lpV
  rw [pay5_apply]
  refine Finset.sum_congr rfl fun l _ => congrArg₂ (· * ·) (congrArg (B.x c) (funext fun a => Fin.ext ?_)) (wRead_apply B c l (i 3))
  have h2 : (i 2).val < 64 := (i 2).isLt
  have hd := dn_lt d
  have hc := chX_lt d c n
  match a with
  | ⟨0, _⟩ =>
    change offX (Wc c) d (f31 n) 0 + 1 * (i 2).val = (128 * chX d c n + 64 * dn d + (i 2).val) % 4096
    rw [offX_row, show (f31 n).val = n from Nat.mod_eq_of_lt hn, Nat.mod_eq_of_lt (by omega)]
    omega
  | ⟨1, _⟩ =>
    change offX (Wc c) d (f31 n) 1 + 1 * l.val = l.val
    rw [offX_col]
    omega

/-- What a device starts a direction with is its part of its own chunk. -/
theorem initV_apply (c : Dev nD) (d : Bool) (i : S1x64x8192.Idx) :
    initV B c d i = PP B c (128 * posn c + 64 * dn d + (i 1).val) (i 2) := by
  have h1 : (i 1).val < 64 := (i 1).isLt
  have hp := posn_lt c
  have key (r : Fin 128) (l : Fin 128) :
      B.x c ((rX0 (Wc c)).emb (ix2 r l)) = B.x c (ix2 ⟨(128 * posn c + r.val) % 4096, Nat.mod_lt _ (by decide)⟩ l) := by
    refine congrArg (B.x c) (funext fun a => Fin.ext ?_)
    have hr := r.isLt
    match a with
    | ⟨0, _⟩ =>
      change k0_off4 (Wc c).v4 0 + 1 * r.val = (128 * posn c + r.val) % 4096
      rw [offX0_row, Nat.mod_eq_of_lt (by omega)]
      omega
    | ⟨1, _⟩ =>
      change k0_off4 (Wc c).v4 1 + 1 * l.val = l.val
      rw [offX0_col]
      omega
  cases d
  · change k0_pay3 (k0_pay2 _ _) i = _
    rw [pay3_apply _ _ _ (by omega)]
    exact Finset.sum_congr rfl fun l _ => congrArg₂ (· * ·) (key ⟨(i 1).val, by omega⟩ l) (wRead_apply B c l (i 2))
  · change k0_pay4 (k0_pay1 _ _) i = _
    rw [pay4_apply _ _ _ (by omega)]
    refine (Finset.sum_congr rfl fun l _ => congrArg₂ (· * ·) (key ⟨64 + (i 1).val, by omega⟩ l) (wRead_apply B c l (i 2))).trans ?_
    change PP B c (128 * posn c + (64 + (i 1).val)) (i 2) = PP B c (128 * posn c + 64 * 1 + (i 1).val) (i 2)
    rw [Nat.mul_one, Nat.add_assoc]

/-- The device `n` steps back along a direction. -/
def bk (d : Bool) (n : Nat) (c : Dev nD) : Dev nD := (nxt (!d))^[n] c

/-- No step back. -/
theorem bk_zero (d : Bool) (c : Dev nD) : bk d 0 c = c := rfl
/-- One more step back. -/
theorem bk_succ (d : Bool) (n : Nat) (c : Dev nD) : bk d (n + 1) c = bk d n (nxt (!d) c) := rfl

/-- Its place. -/
theorem posn_bk (d : Bool) (n : Nat) : ∀ c : Dev nD, posn (bk d n c) = (posn c + (if d then 1 else 31) * n) % 32 := by
  induction n with
  | zero => intro c; have := posn_lt c; rw [bk_zero, Nat.mul_zero, Nat.add_zero, Nat.mod_eq_of_lt this]
  | succ n ih =>
    intro c
    rw [bk_succ, ih]
    cases d
    · simp only [Bool.not_false, posn_left, Bool.false_eq_true, if_false]; omega
    · simp only [Bool.not_true, posn_right, if_true]; omega

/-- The chunk a device sends at hop `k`. -/
def chA (d : Bool) (c : Dev nD) (k : Nat) : Nat :=
  match d with
  | false => (posn c + 32 - k) % 32
  | true => (posn c + k) % 32

/-- A device starts with its own chunk. -/
theorem chA_zero (d : Bool) (c : Dev nD) : chA d c 0 = posn c := by
  have := posn_lt c
  cases d
  · change (posn c + 32 - 0) % 32 = posn c; omega
  · change (posn c + 0) % 32 = posn c; omega

/-- What comes from behind is the chunk sent on. -/
theorem chA_nxt (d : Bool) (c : Dev nD) (k : Nat) (hk : k < 32) : chA d (nxt (!d) c) k = chA d c (k + 1) := by
  cases d
  · change (posn (nxt true c) + 32 - k) % 32 = (posn c + 32 - (k + 1)) % 32
    rw [posn_left]; omega
  · change (posn (nxt false c) + k) % 32 = (posn c + (k + 1)) % 32
    rw [posn_right]; omega

/-- The partial product a hop adds is of the chunk sent on. -/
theorem chX_chA (d : Bool) (c : Dev nD) (k : Nat) (hk : k < 31) : chX d c k = chA d c (k + 1) := by
  cases d
  · change (posn c + 63 - k % 31) % 32 = (posn c + 32 - (k + 1)) % 32; omega
  · change (posn c + 1 + k % 31) % 32 = (posn c + (k + 1)) % 32; omega

/-- Up to the last addition, what a device sends is the sum of the parts of the devices behind it. -/
theorem AV_sum (d : Bool) (k : Nat) : ∀ (c : Dev nD) (j : Fin 2) (i : S1x32x8192.Idx), k ≤ 31 →
    AV B d k c j i = ∑ m ∈ Finset.range (k + 1), PP B (bk d m c) (128 * chA d c k + 64 * dn d + (32 * j.val + (i 1).val)) (i 2) := by
  induction k with
  | zero =>
    intro c j i _
    rw [Finset.sum_range_one, bk_zero, chA_zero]
    exact initV_apply B c d (gP j i)
  | succ k ih =>
    intro c j i hk
    have h : AV B d (k + 1) c j = payAdd (AV B d k (nxt (!d) c) j) (fun i => lpV B d c k (gL j i)) := by
      rw [AV, if_pos (by omega)]
    rw [h, payAdd_apply, ih _ _ _ (by omega), Finset.sum_range_succ' _ (k + 1), lpV_apply B d c k (by omega), chX_chA d c k (by omega), chA_nxt d c k (by omega)]
    rfl

/-- After it, the pieces go round as they are. -/
theorem AV_late (d : Bool) (t : Nat) : ∀ (c : Dev nD) (j : Fin 2), AV B d (t + 31) c j = AV B d 31 (bk d t c) j := by
  induction t with
  | zero => intro c j; rw [bk_zero, Nat.zero_add]
  | succ t ih =>
    intro c j
    rw [bk_succ, ← ih, show t + 1 + 31 = (t + 31) + 1 by omega, AV, if_neg (by omega)]

/-- The chunk complete when store `t` reads it is the one that the store writes. -/
theorem chA_late (d : Bool) (c : Dev nD) (t : Fin 32) : chA d (bk d t.val c) 31 = chO d c t.val := by
  have ht := t.isLt
  cases d
  · change (posn (bk false t.val c) + 32 - 31) % 32 = (posn c + 33 - t.val % 32) % 32
    rw [posn_bk, if_neg (by decide)]; omega
  · change (posn (bk true t.val c) + 31) % 32 = (posn c + 31 + t.val) % 32
    rw [posn_bk, if_pos rfl]; omega

/-- Once round the ring is every device. -/
theorem sum_ring (d : Bool) (c : Dev nD) (f : Dev nD → Ideal .f32) : ∑ m ∈ Finset.range 32, f (bk d m c) = ∑ c', f c' := by
  rw [Finset.sum_range]
  refine Fintype.sum_bijective (fun m : Fin 32 => bk d m.val c) (Finite.injective_iff_bijective.mp fun a b h => ?_) _ _ fun _ => rfl
  have h' := congrArg posn h
  simp only [posn_bk] at h'
  have ha := a.isLt
  have hb := b.isLt
  refine Fin.ext ?_
  cases d
  · rw [if_neg (by decide)] at h'; omega
  · rw [if_pos rfl] at h'; omega

/-- What a store writes. -/
theorem outV_apply (d : Bool) (c : Dev nD) (t : Fin 32) (i : S64x8192.Idx) :
    outV B d c t.val i = max (∑ c', PP B c' (128 * chO d c t.val + 64 * dn d + (i 0).val) (i 1)) 0 := by
  have h0 : (i 0).val < 64 := (i 0).isLt
  refine (pay240_apply (joinP (AV B d (t.val + 31) c)) i).trans ?_
  refine congrArg (max · 0) ?_
  unfold joinP
  rw [AV_late]
  refine (AV_sum B _ _ _ _ _ (le_refl 31)).trans ?_
  rw [chA_late]
  refine (sum_ring d (bk d t.val c) fun c' => PP B c' (128 * chO d c t.val + 64 * dn d + (32 * ((i 0).val / 32) + (i 0).val % 32)) (i 1)).trans ?_
  rw [Nat.div_add_mod]

/-- The whole result: the parts of all devices summed, and the negative ones cut off. -/
theorem outX_apply (c : Dev nD) (r : Fin 4096) (j : Fin 8192) : outX B c (ix2 r j) = max (∑ c', PP B c' r.val j) 0 := by
  obtain ⟨⟨d, t⟩, x, h⟩ := (tilesOut c).cover (ix2 r j)
  have e0 := congrArg (fun i : S4096x8192.Idx => (i 0).val) h
  have e1 := congrArg (fun i : S4096x8192.Idx => (i 1).val) h
  change offOut (Wc c) d t 0 + 1 * (x 0).val = r.val at e0
  change offOut (Wc c) d t 1 + 1 * (x 1).val = j.val at e1
  rw [offOut_row] at e0
  rw [offOut_col] at e1
  rw [← h]
  refine ((tilesOut c).glue_emb _ (d, t) x).trans ?_
  refine (outV_apply B d c t x).trans ?_
  rw [← e0, Nat.one_mul]
  refine congrArg (max · 0) (Finset.sum_congr rfl fun c' _ => congrArg (PP B c' _) (Fin.ext ?_))
  change (x 1).val = j.val
  omega

variable (m : (ℓ : Loc nD τ sig) → Buf (Elt Ideal) ℓ)

/-- The blocks are what the arguments hold. -/
theorem blocks_x (c : Dev nD) : (blocks m).x c = m ((c : Thread nD τ).loc main_arg0) := by
  refine Eq.trans ?_ (V_main_arg0 m c)
  funext i
  refine congrArg (W₁ m c (Proc.devRef .tc main_arg0)) (funext fun a => Fin.ext ?_)
  match a with
  | ⟨0, _⟩ => exact Pipeline.Window.rect_emb_val_of_index_zero (win0 0) t0_0 0 rfl i
  | ⟨1, _⟩ => exact Pipeline.Window.rect_emb_val_of_index_zero (win0 0) t0_0 1 rfl i

/-- So is the right factor's block. -/
theorem blocks_w (c : Dev nD) : (blocks m).w c = m ((c : Thread nD τ).loc main_arg1) := by
  refine Eq.trans ?_ (V_main_arg1 m c)
  funext i
  refine congrArg (W₁ m c (Proc.devRef .tc main_arg1)) (funext fun a => Fin.ext ?_)
  match a with
  | ⟨0, _⟩ => exact Pipeline.Window.rect_emb_val_of_index_zero (win0 1) t0_0 0 rfl i
  | ⟨1, _⟩ => exact Pipeline.Window.rect_emb_val_of_index_zero (win0 1) t0_0 1 rfl i

/-- When the arguments are blocks of two whole factors, the parts add up to the element of the whole product. -/
theorem sum_PP (X : (⟨2, ![4096, 4096]⟩ : Shape).Idx → Elt Ideal .bf16) (W : (⟨2, ![4096, 8192]⟩ : Shape).Idx → Elt Ideal .bf16)
    (hx : ∀ c : Dev nD, m ((c : Thread nD τ).loc main_arg0) = Layout.block ⟨2, ![4096, 128]⟩ ⟨2, ![4096, 4096]⟩ 1 32 c X)
    (hw : ∀ c : Dev nD, m ((c : Thread nD τ).loc main_arg1) = Layout.block ⟨2, ![128, 8192]⟩ ⟨2, ![4096, 8192]⟩ 0 32 c W)
    (r : Fin 4096) (j : Fin 8192) :
    ∑ c, PP (blocks m) c r.val j = (∑ k : Fin 4096, X (ix2 r k) * W (ix2 k j) : Ideal .f32) := by
  have hr := r.isLt
  have e (c : Dev nD) (l : Fin 128) (h : c.val * 128 + l.val < 4096) :
      (blocks m).x c (ix2 ⟨r.val % 4096, Nat.mod_lt _ (by decide)⟩ l) = X (ix2 r ⟨c.val * 128 + l.val, h⟩)
      ∧ (blocks m).w c (ix2 l j) = W (ix2 ⟨c.val * 128 + l.val, h⟩ j) := by
    rw [blocks_x, blocks_w, hx, hw, Layout.block_apply, Layout.block_apply]
    constructor
    · refine congrArg X (funext fun a => Fin.ext ?_)
      match a with
      | ⟨0, _⟩ => exact Nat.mod_eq_of_lt hr
      | ⟨1, _⟩ => rfl
    · refine congrArg W (funext fun a => Fin.ext ?_)
      match a with
      | ⟨0, _⟩ => rfl
      | ⟨1, _⟩ => rfl
  let g : ℕ → Ideal .f32 := fun n => X (ix2 r ⟨n % 4096, Nat.mod_lt _ (by decide)⟩) * W (ix2 ⟨n % 4096, Nat.mod_lt _ (by decide)⟩ j)
  have h1 : ∑ c : Fin 32, ∑ l : Fin 128, g (c.val * 128 + l.val) = ∑ k : Fin (32 * 128), g k.val := Fin.sum_univ_univ_mul_add 32 128 g
  refine Eq.trans (Finset.sum_congr rfl fun c _ => Finset.sum_congr rfl fun l _ => ?_) (h1.trans (Finset.sum_congr rfl fun k _ => ?_))
  · have hl := l.isLt
    have hc : c.val < 32 := c.isLt
    have h : c.val * 128 + l.val < 4096 := by omega
    rw [(e c l h).1, (e c l h).2]
    simp only [g, Nat.mod_eq_of_lt h]
  · have hk : k.val < 4096 := k.isLt
    simp only [g, Nat.mod_eq_of_lt hk]

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealized kernel's frame: the run with its values dropped. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Gen.run_main (F := Ideal) m ρ)

/-- The reference's frame. It has no semaphore, so its counters are all zero. -/
theorem frame_referenceIdeal : Cert.quiescent_ReferenceIdeal := fun m ρ _ =>
  (θ_run Cert.ReferenceIdeal.defs _ _).mono (fun _ h => ⟨fun c => (h c).2, funext fun g => by obtain ⟨_, s | s⟩ := g <;> exact s.elim0⟩)
    (Cert.ReferenceIdeal.Value.run (F := Ideal) m ρ)

/-- The reference's result, element by element. -/
theorem ref_apply (X : FVec Ideal Cert.ReferenceIdeal.S4096x4096 .bf16) (W : FVec Ideal Cert.ReferenceIdeal.S4096x8192 .bf16) (r : Fin 4096) (j : Fin 8192) :
    maximumf (extf .f32 (truncf .bf16 (Host.dotGeneral Cert.ReferenceIdeal.dot_S4096x4096_S4096x8192_S4096x8192_1_0_0_1_n_n none
        (extf .f32 X Cert.ReferenceIdeal.Facts₀.bitsLt_bf16_f32) (extf .f32 W Cert.ReferenceIdeal.Facts₀.bitsLt_bf16_f32)) Cert.ReferenceIdeal.Facts₀.bitsLt_bf16_f32)
        Cert.ReferenceIdeal.Facts₀.bitsLt_bf16_f32)
      (broadcastInDim Cert.ReferenceIdeal.S4096x8192 ![] Cert.ReferenceIdeal.Facts₀.bcast_S_S4096x8192 (constant Cert.ReferenceIdeal.S_ .f32 0x00000000#32)) (ix2 r j)
      = max (∑ k : Fin 4096, X (ix2 r k) * W (ix2 k j)) 0 := by
  pointwise

/-- Over the extended reals every device ends with the whole of the reference's result. -/
theorem algebraic : Cert.algebraic_KernelIdeal_ReferenceIdeal := fun m ρ m' ρ' _ h => by
  refine ⟨_, (θ_run Cert.KernelIdeal.defs _ _).mono (fun _ hr c => ⟨(hr.1 c).2.2.trans ?_, (hr.1 c).1, (hr.1 c).2.1⟩) (Cert.KernelIdeal.Gen.run_main (F := Ideal) m ρ),
    (θ_run Cert.ReferenceIdeal.defs _ _).mono (fun _ hr => hr 0) (Cert.ReferenceIdeal.Value.run (F := Ideal) m' ρ')⟩
  funext i
  rw [show i = ix2 (i 0) (i 1) from (ix2_eta i).symm]
  refine (Cert.KernelIdeal.Gen.outX_apply _ c (i 0) (i 1)).trans (Eq.trans ?_ (ref_apply _ _ (i 0) (i 1)).symm)
  exact congrArg (max · 0) (Cert.KernelIdeal.Gen.sum_PP m _ _ (fun c => (h c).1) (fun c => (h c).2) (i 0) (i 1))

/-- All the claims of this certificate. -/
theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
